-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  IdealRules.named_const.Statement Cert.KernelIdeal.κ "scale_log2e" .f32 0x3E38AA3B#32 (((8 * (Real.log 2))⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v46_7)) (v2 : (c : Dev Cert.KernelIdeal.nD) → Buf (Elt Ideal) ((c.tc : Thread Cert.KernelIdeal.nD Cert.KernelIdeal.τ).loc Cert.KernelIdeal.main_v46_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v46_7) = v1 c
          ∧ r.2.mem ((c.tc : Thread Cert.KernelIdeal.nD Cert.KernelIdeal.τ).loc Cert.KernelIdeal.main_v46_8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)) (v2 : (c : Dev Cert.Kernel2Ideal.nD) → Buf (Elt Ideal) ((c.tc : Thread Cert.Kernel2Ideal.nD Cert.Kernel2Ideal.τ).loc Cert.Kernel2Ideal.main_v14_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_v14_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_v48) = v1 c
          ∧ r.2.mem ((c.tc : Thread Cert.Reference2Ideal.nD Cert.Reference2Ideal.τ).loc Cert.Reference2Ideal.main_v49) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v35_0)) (v1 : (c : Dev Cert.Kernel5Ideal.nD) → Buf (Elt Ideal) ((c.tc : Thread Cert.Kernel5Ideal.nD Cert.Kernel5Ideal.τ).loc Cert.Kernel5Ideal.main_v35_1)) (v2 : (c : Dev Cert.Kernel5Ideal.nD) → Buf (Elt Ideal) ((c.tc : Thread Cert.Kernel5Ideal.nD Cert.Kernel5Ideal.τ).loc Cert.Kernel5Ideal.main_v35_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v35_0) = v0 c
          ∧ r.2.mem ((c.tc : Thread Cert.Kernel5Ideal.nD Cert.Kernel5Ideal.τ).loc Cert.Kernel5Ideal.main_v35_1) = v1 c
          ∧ r.2.mem ((c.tc : Thread Cert.Kernel5Ideal.nD Cert.Kernel5Ideal.τ).loc Cert.Kernel5Ideal.main_v35_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_v37) = v1 c
          ∧ r.2.mem ((c.tc : Thread Cert.Reference5Ideal.nD Cert.Reference5Ideal.τ).loc Cert.Reference5Ideal.main_v39) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S4x4096x1024 : Shape := ⟨3, ![4, 4096, 1024]⟩
abbrev S4x1024 : Shape := ⟨2, ![4, 1024]⟩
abbrev S1x1024 : Shape := ⟨2, ![1, 1024]⟩
abbrev S1x1024x4360 : Shape := ⟨3, ![1, 1024, 4360]⟩
abbrev S1x8 : Shape := ⟨2, ![1, 8]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4x1024 : S_.BroadcastsInDim S4x1024 (![] : Fin 0 → Fin S4x1024.rank)
  reducesTo_S4x1024_S_d0_1 : S4x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x4360 : S_.BroadcastsInDim S1x1024x4360 (![] : Fin 0 → Fin S1x1024x4360.rank)
  reducesTo_S1x1024x4360_S_d0_1_2 : S1x1024x4360.ReducesTo [0, 1, 2] S_
  bcast_S_S1x8 : S_.BroadcastsInDim S1x8 (![] : Fin 0 → Fin S1x8.rank)
  reducesTo_S1x8_S_d0_1 : S1x8.ReducesTo [0, 1] S_

variable [Facts]

def fn_part1 {F : FTy → Type} [FloatOps F] (main_arg4 : FVec F S1x1024x4360 .f32) (main_arg5 : FVec F S1x8 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024x4360 .f32 := Host.absf main_arg4
  let main_cst_6 : FVec F S_ .f32 := constant S_ .f32 0x7F800000#32
  let main_v20 : FVec F S1x1024x4360 .f32 := broadcastInDim S1x1024x4360 ![] bcast_S_S1x1024x4360 main_cst_6
  let main_v21 : IVec S1x1024x4360 1 := cmpf .olt main_v19 main_v20
  let main_c_7 : IVec S_ 1 := constantI S_ 1 1#1
  let main_v22 : IVec S_ 1 := (fun x v => Host.reduce IntOp.andi x v reducesTo_S1x1024x4360_S_d0_1_2 h_S_) main_v21 main_c_7
  let main_v23 : IVec S_ 1 := andi main_v18 main_v22
  let main_v24 : FVec F S1x8 .f32 := Host.absf main_arg5
  let main_cst_8 : FVec F S_ .f32 := constant S_ .f32 0x7F800000#32
  let main_v25 : FVec F S1x8 .f32 := broadcastInDim S1x8 ![] bcast_S_S1x8 main_cst_8
  let main_v26 : IVec S1x8 1 := cmpf .olt main_v24 main_v25
  let main_c_9 : IVec S_ 1 := constantI S_ 1 1#1
  let main_v27 : IVec S_ 1 := (fun x v => Host.reduce IntOp.andi x v reducesTo_S1x8_S_d0_1 h_S_) main_v26 main_c_9
  let main_v28 : IVec S_ 1 := andi main_v23 main_v27
  main_v28

def fn {F : FTy → Type} [FloatOps F] (main_arg0 : FVec F S4x4096x1024 .f32) (main_arg1 : FVec F S4x1024 .f32) (main_arg2 : FVec F S4x1024 .f32) (main_arg3 : FVec F S1x1024 .f32) (main_arg4 : FVec F S1x1024x4360 .f32) (main_arg5 : FVec F S1x8 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x1024 .f32 := Host.absf main_arg1
  let main_cst_0 : FVec F S_ .f32 := constant S_ .f32 0x7F800000#32
  let main_v5 : FVec F S4x1024 .f32 := broadcastInDim S4x1024 ![] bcast_S_S4x1024 main_cst_0
  let main_v6 : IVec S4x1024 1 := cmpf .olt main_v4 main_v5
  let main_c_1 : IVec S_ 1 := constantI S_ 1 1#1
  let main_v7 : IVec S_ 1 := (fun x v => Host.reduce IntOp.andi x v reducesTo_S4x1024_S_d0_1 h_S_) main_v6 main_c_1
  let main_v8 : IVec S_ 1 := andi main_v3 main_v7
  let main_v9 : FVec F S4x1024 .f32 := Host.absf main_arg2
  let main_cst_2 : FVec F S_ .f32 := constant S_ .f32 0x7F800000#32
  let main_v10 : FVec F S4x1024 .f32 := broadcastInDim S4x1024 ![] bcast_S_S4x1024 main_cst_2
  let main_v11 : IVec S4x1024 1 := cmpf .olt main_v9 main_v10
  let main_c_3 : IVec S_ 1 := constantI S_ 1 1#1
  let main_v12 : IVec S_ 1 := (fun x v => Host.reduce IntOp.andi x v reducesTo_S4x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_v13 main_v16
-- ==== Kernel.lean ====
abbrev S4x4096x1024 : Shape := ⟨3, ![4, 4096, 1024]⟩
abbrev S4x1024 : Shape := ⟨2, ![4, 1024]⟩
abbrev S1x1024 : Shape := ⟨2, ![1, 1024]⟩
abbrev S1x1024x4360 : Shape := ⟨3, ![1, 1024, 4360]⟩
abbrev S1x8 : Shape := ⟨2, ![1, 8]⟩
abbrev S3x128x1024 : Shape := ⟨3, ![3, 128, 1024]⟩
abbrev S_ : Shape := ⟨0, ![]⟩
abbrev S16384x1024 : Shape := ⟨2, ![16384, 1024]⟩
abbrev S4x1x1024 : Shape := ⟨3, ![4, 1, 1024]⟩
abbrev S1024x4360 : Shape := ⟨2, ![1024, 4360]⟩
abbrev S1024x512 : Shape := ⟨2, ![1024, 512]⟩
abbrev S512x1024 : Shape := ⟨2, ![512, 1024]⟩
abbrev S1024x128 : Shape := ⟨2, ![1024, 128]⟩
abbrev S1024x2x64 : Shape := ⟨3, ![1024, 2, 64]⟩
abbrev S1024x2x128 : Shape := ⟨3, ![1024, 2, 128]⟩
abbrev S1024x256 : Shape := ⟨2, ![1024, 256]⟩
abbrev S128x1024 : Shape := ⟨2, ![128, 1024]⟩
abbrev S8x64x1024 : Shape := ⟨3, ![8, 64, 1024]⟩
abbrev S8x128x1024 : Shape := ⟨3, ![8, 128, 1024]⟩
abbrev S1024x1024 : Shape := ⟨2, ![1024, 1024]⟩
abbrev S1024x8x64 : Shape := ⟨3, ![1024, 8, 64]⟩
abbrev S1024x8x128 : Shape := ⟨3, ![1024, 8, 128]⟩
abbrev S1024x8 : Shape := ⟨2, ![1024, 8]⟩
abbrev S1024x2048 : Shape := ⟨2, ![1024, 2048]⟩
abbrev S1024 : Shape := ⟨1, ![1024]⟩
abbrev S8x64x16384 : Shape := ⟨3, ![8, 64, 16384]⟩
abbrev S16384x256 : Shape := ⟨2, ![16384, 256]⟩
abbrev S128x16384 : Shape := ⟨2, ![128, 16384]⟩
abbrev S8x128x16384 : Shape := ⟨3, ![8, 128, 16384]⟩
abbrev S64x512x256 : Shape := ⟨3, ![64, 512, 256]⟩
abbrev S16384x128 : Shape := ⟨2, ![16384, 128]⟩
abbrev S1x1x1024 : Shape := ⟨3, ![1, 1, 1024]⟩
abbrev S8x64x512 : Shape := ⟨3, ![8, 64, 512]⟩
abbrev S512x256 : Shape := ⟨2, ![512, 256]⟩
abbrev S128x512 : Shape := ⟨2, ![128, 512]⟩
abbrev S8x128x512 : Shape := ⟨3, ![8, 128, 512]⟩
abbrev S2x512x256 : Shape := ⟨3, ![2, 512, 256]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S1x512x256 : Shape := ⟨3, ![1, 512, 256]⟩
abbrev S512x2048 : Shape := ⟨2, ![512, 2048]⟩
abbrev S8 : Shape := ⟨1, ![8]⟩
abbrev S128 : Shape := ⟨1, ![128]⟩
abbrev S1x128 : Shape := ⟨2, ![1, 128]⟩
abbrev S4x4096x128 : Shape := ⟨3, ![4, 4096, 128]⟩
abbrev S1x4096x128 : Shape := ⟨3, ![1, 4096, 128]⟩
abbrev S4096x1024 : Shape := ⟨2, ![4096, 1024]⟩
abbrev S4096x128 : Shape := ⟨2, ![4096, 128]⟩
abbrev S1x128x1024 : Shape := ⟨3, ![1, 128, 1024]⟩
abbrev S16384x512 : Shape := ⟨2, ![16384, 512]⟩
abbrev S16x512x256 : Shape := ⟨3, ![16, 512, 256]⟩
abbrev S8x512 : Shape := ⟨2, ![8, 512]⟩
abbrev S256x128 : Shape := ⟨2, ![256, 128]⟩
abbrev S1x128x512 : Shape := ⟨3, ![1, 128, 512]⟩
abbrev S256x512 : Shape := ⟨2, ![256, 512]⟩
abbrev S1x512 : Shape := ⟨2, ![1, 512]⟩
abbrev S1x64x256 : Shape := ⟨3, ![1, 64, 256]⟩
abbrev S64x256 : Shape := ⟨2, ![64, 256]⟩
abbrev S64x512 : Shape := ⟨2, ![64, 512]⟩

abbrev nBuf : Space → Nat
  | .hbm => 83
  | .vmem => 52
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024, .f32⟩
  | .hbm, ⟨3, _⟩ => ⟨S1x1024, .f32⟩
  | .hbm, ⟨4, _⟩ => ⟨S1x1024x4360, .f32⟩
  | .hbm, ⟨5, _⟩ => ⟨S1x8, .f32⟩
  | .hbm, ⟨6, _⟩ => ⟨S3x128x1024, .i32⟩
  | .hbm, ⟨7, _⟩ => ⟨S3x128x1024, .i32⟩
  | .hbm, ⟨8, _⟩ => ⟨S3x128x1024, .i32⟩
  | .hbm, ⟨9, _⟩ => ⟨S_, .i32⟩
  | .hbm, ⟨10, _⟩ => ⟨S3x128x1024, .i32⟩
  | .hbm, ⟨11, _⟩ => ⟨S3x128x1024, .i32⟩
  | .hbm, ⟨12, _⟩ => ⟨S_, .i32⟩
  | .hbm, ⟨13, _⟩ => ⟨S3x128x1024, .i32⟩
  | .hbm, ⟨14, _⟩ => ⟨S3x128x1024, .i32⟩
  | .hbm, ⟨15, _⟩ => ⟨S3x128x1024, .i32⟩
  | .hbm, ⟨16, _⟩ => ⟨S3x128x1024, .i1⟩
  | .hbm, ⟨17, _⟩ => ⟨S_, .f32⟩
  | .hbm, ⟨18, _⟩ => ⟨S_, .f32⟩
  | .hbm, ⟨19, _⟩ => ⟨S3x128x1024, .f32⟩
  | .hbm, ⟨20, _⟩ => ⟨S3x128x1024, .f32⟩
  | .hbm, ⟨21, _⟩ => ⟨S3x128x1024, .f32⟩
  | .hbm, ⟨22, _⟩ => ⟨S3x128x1024, .bf16⟩
  | .hbm, ⟨23, _⟩ => ⟨S16384x1024, .f32⟩
  | .hbm, ⟨24, _⟩ => ⟨S4x1x1024, .f32⟩
  | .hbm, ⟨25, _⟩ => ⟨S4x1x1024, .f32⟩
  | .hbm, ⟨26, _⟩ => ⟨S1024x4360, .f32⟩
  | .hbm, ⟨27, _⟩ => ⟨S1024x512, .f32⟩
  | .hbm, ⟨28, _⟩ => ⟨S512x1024, .f32⟩
  | .hbm, ⟨29, _⟩ => ⟨S512x1024, .bf16⟩
  | .hbm, ⟨30, _⟩ => ⟨S1024x128, .f32⟩
  | .hbm, ⟨31, _⟩ => ⟨S1024x2x64, .f32⟩
  | .hbm, ⟨32, _⟩ => ⟨S_, .i32⟩
  | .hbm, ⟨33, _⟩ => ⟨S_, .f32⟩
  | .hbm, ⟨34, _⟩ => ⟨S1024x2x128, .f32⟩
  | .hbm, ⟨35, _⟩ => ⟨S1024x256, .f32⟩
  | .hbm, ⟨36, _⟩ => ⟨S1024x256, .bf16⟩
  | .hbm, ⟨37, _⟩ => ⟨S1024x128, .f32⟩
  | .hbm, ⟨38, _⟩ => ⟨S128x1024, .f32⟩
  | .hbm, ⟨39, _⟩ => ⟨S128x1024, .bf16⟩
  | .hbm, ⟨40, _⟩ => ⟨S1024x512, .f32⟩
  | .hbm, ⟨41, _⟩ => ⟨S512x1024, .f32⟩
  | .hbm, ⟨42, _⟩ => ⟨S8x64x1024, .f32⟩
  | .hbm, ⟨43, _⟩ => ⟨S_, .i32⟩
  | .hbm, ⟨44, _⟩ => ⟨S_, .f32⟩
  | .hbm, ⟨45, _⟩ => ⟨S8x128x1024, .f32⟩
  | .hbm, ⟨46, _⟩ => ⟨S1024x1024, .f32⟩
  | .hbm, ⟨47, _⟩ => ⟨S1024x1024, .bf16⟩
  | .hbm, ⟨48, _⟩ => ⟨S1024x512, .f32⟩
  | .hbm, ⟨49, _⟩ => ⟨S1024x8x64, .f32⟩
  | .hbm, ⟨50, _⟩ => ⟨S_, .i32⟩
  | .hbm, ⟨51, _⟩ => ⟨S_, .f32⟩
  | .hbm, ⟨52, _⟩ => ⟨S1024x8x128, .f32⟩
  | .hbm, ⟨53, _⟩ => ⟨S1024x1024, .f32⟩
  | .hbm, ⟨54, _⟩ => ⟨S1024x1024, .bf16⟩
  | .hbm, ⟨55, _⟩ => ⟨S1024x512, .f32⟩
  | .hbm, ⟨56, _⟩ => ⟨S512x1024, .f32⟩
  | .hbm, ⟨57, _⟩ => ⟨S512x1024, .bf16⟩
  | .hbm, ⟨58, _⟩ => ⟨S1024x8, .f32⟩
  | .hbm, ⟨59, _⟩ => ⟨S_, .i32⟩
  | .hbm, ⟨60, _⟩ => ⟨S_, .f32⟩
  | .hbm, ⟨61, _⟩ => ⟨S1024x128, .f32⟩
  | .hbm, ⟨62, _⟩ => ⟨S1024x2048, .f32⟩
  | .hbm, ⟨63, _⟩ => ⟨S1024x2048, .bf16⟩
  | .hbm, ⟨64, _⟩ => ⟨S1024, .f32⟩
  | .hbm, ⟨65, _⟩ => ⟨S1x1024, .f32⟩
  | .hbm, ⟨66, _⟩ => ⟨S8x64x16384, .bf16⟩
  | .hbm, ⟨67, _⟩ => ⟨S16384x256, .bf16⟩
  | .hbm, ⟨68, _⟩ => ⟨S128x16384, .bf16⟩
  | .hbm, ⟨69, _⟩ => ⟨S8x128x16384, .bf16⟩
  | .hbm, ⟨70, _⟩ => ⟨S16384x1024, .bf16⟩
  | .hbm, ⟨71, _⟩ => ⟨S64x512x256, .bf16⟩
  | .hbm, ⟨72, _⟩ => ⟨S16384x128, .f32⟩
  | .hbm, ⟨73, _⟩ => ⟨S16384x1024, .bf16⟩
  | .hbm, ⟨74, _⟩ => ⟨S16384x1024, .bf16⟩
  | .hbm, ⟨75, _⟩ => ⟨S8, .f32⟩
  | .hbm, ⟨76, _⟩ => ⟨S_, .i32⟩
  | .hbm, ⟨77, _⟩ => ⟨S_, .f32⟩
  | .hbm, ⟨78, _⟩ => ⟨S128, .f32⟩
  | .hbm, ⟨79, _⟩ => ⟨S1x128, .f32⟩
  | .hbm, ⟨80, _⟩ => ⟨S4x4096x128, .f32⟩
  | .hbm, ⟨81, _⟩ => ⟨S16384x1024, .bf16⟩
  | .hbm, ⟨82, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x1024, .bf16⟩
  | .local _ .vmem, ⟨8, _⟩ => ⟨S1024x256, .bf16⟩
  | .local _ .vmem, ⟨9, _⟩ => ⟨S128x1024, .bf16⟩
  | .local _ .vmem, ⟨10, _⟩ => ⟨S1024x1024, .bf16⟩
  | .local _ .vmem, ⟨11, _⟩ => ⟨S1024x1024, .bf16⟩
  | .local _ .vmem, ⟨12, _⟩ => ⟨S512x1024, .bf16⟩
  | .local _ .vmem, ⟨13, _⟩ => ⟨S1024x128, .f32⟩
  | .local _ .vmem, ⟨14, _⟩ => ⟨S1024x2048, .bf16⟩
  | .local _ .vmem, ⟨15, _⟩ => ⟨S8x64x512, .bf16⟩
  | .local _ .vmem, ⟨16, _⟩ => ⟨S8x64x512, .bf16⟩
  | .local _ .vmem, ⟨17, _⟩ => ⟨S512x256, .bf16⟩
  | .local _ .vmem, ⟨18, _⟩ => ⟨S512x256, .bf16⟩
  | .local _ .vmem, ⟨19, _⟩ => ⟨S128x512, .bf16⟩
  | .local _ .vmem, ⟨20, _⟩ => ⟨S128x512, .bf16⟩
  | .local _ .vmem, ⟨21, _⟩ => ⟨S8x128x512, .bf16⟩
  | .local _ .vmem, ⟨22, _⟩ => ⟨S8x128x512, .bf16⟩
  | .local _ .vmem, ⟨23, _⟩ => ⟨S512x1024, .bf16⟩
  | .local _ .vmem, ⟨24, _⟩ => ⟨S512x1024, .bf16⟩
  | .local _ .vmem, ⟨25, _⟩ => ⟨S2x512x256, .bf16⟩
  | .local _ .vmem, ⟨26, _⟩ => ⟨S2x512x256, .bf16⟩
  | .local _ .vmem, ⟨27, _⟩ => ⟨S512x128, .f32⟩
  | .local _ .vmem, ⟨28, _⟩ => ⟨S512x128, .f32⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S1x4096x128, .f32⟩
  | .local _ .vmem, ⟨34, _⟩ => ⟨S1x4096x128, .f32⟩
  | .local _ .vmem, ⟨35, _⟩ => ⟨S1x128, .f32⟩
  | .local _ .vmem, ⟨36, _⟩ => ⟨S4096x1024, .bf16⟩
  | .local _ .vmem, ⟨37, _⟩ => ⟨S4096x1024, .bf16⟩
  | .local _ .vmem, ⟨38, _⟩ => ⟨S3x128x1024, .bf16⟩
  | .local _ .vmem, ⟨39, _⟩ => ⟨S4096x1024, .bf16⟩
  | .local _ .vmem, ⟨40, _⟩ => ⟨S4096x1024, .bf16⟩
  | .local _ .vmem, ⟨41, _⟩ => ⟨S8x128x512, .bf16⟩
  | .local _ .vmem, ⟨42, _⟩ => ⟨S8x128x512, .bf16⟩
  | .local _ .vmem, ⟨43, _⟩ => ⟨S4096x1024, .bf16⟩
  | .local _ .vmem, ⟨44, _⟩ => ⟨S4096x1024, .bf16⟩
  | .local _ .vmem, ⟨45, _⟩ => ⟨S16x512x256, .bf16⟩
  | .local _ .vmem, ⟨46, _⟩ => ⟨S16x512x256, .bf16⟩
  | .local _ .vmem, ⟨47, _⟩ => ⟨S512x512, .bf16⟩
  | .local _ .vmem, ⟨48, _⟩ => ⟨S512x512, .bf16⟩
  | .local _ .vmem, ⟨49, _⟩ => ⟨S8x512, .f32⟩
  | .local _ .vmem, ⟨50, _⟩ => ⟨S8x512, .f32⟩
  | .local _ .vmem, ⟨51, _⟩ => ⟨S512x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_call1_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_3 : Ref sig .tc := ⟨.hbm, 43, rfl⟩
abbrev main_call2_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_call3_v0 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_5 : Ref sig .tc := ⟨.hbm, 59, rfl⟩
abbrev main_call4_v0 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46_0 : Ref sig .tc := ⟨.hbm, 66, rfl⟩
abbrev main_v46_1 : Ref sig .tc := ⟨.hbm, 67, rfl⟩
abbrev main_v46_2 : Ref sig .tc := ⟨.hbm, 68, rfl⟩
abbrev main_v46_3 : Ref sig .tc := ⟨.hbm, 69, rfl⟩
abbrev main_v46_4 : Ref sig .tc := ⟨.hbm, 70, rfl⟩
abbrev main_v46_5 : Ref sig .tc := ⟨.hbm, 71, rfl⟩
abbrev main_v46_6 : Ref sig .tc := ⟨.hbm, 72, rfl⟩
abbrev main_v46_7 : Ref sig .tc := ⟨.hbm, 73, rfl⟩
abbrev main_v46_8 : Ref sig .tc := ⟨.hbm, 74, rfl⟩
abbrev main_v47 : Ref sig .tc := ⟨.hbm, 75, rfl⟩
abbrev main_c_6 : Ref sig .tc := ⟨.hbm, 76, rfl⟩
abbrev main_call5_v0 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc1_stg0_0 : Ref sig .tc := ⟨.vmem, 33, rfl⟩
abbrev cc1_stg0_1 : Ref sig .tc := ⟨.vmem, 34, rfl⟩
abbrev cc1_stg1_0 : Ref sig .tc := ⟨.vmem, 35, rfl⟩
abbrev cc1_stg2_0 : Ref sig .tc := ⟨.vmem, 36, rfl⟩
abbrev cc1_stg2_1 : Ref sig .tc := ⟨.vmem, 37, rfl⟩
abbrev cc1_stg3_0 : Ref sig .tc := ⟨.vmem, 38, rfl⟩
abbrev cc1_stg4_0 : Ref sig .tc := ⟨.vmem, 39, rfl⟩
abbrev cc1_stg4_1 : Ref sig .tc := ⟨.vmem, 40, rfl⟩
abbrev cc2_stg0_0 : Ref sig .tc := ⟨.vmem, 41, rfl⟩
abbrev cc2_stg0_1 : Ref sig .tc := ⟨.vmem, 42, rfl⟩
abbrev cc2_stg1_0 : Ref sig .tc := ⟨.vmem, 43, rfl⟩
abbrev cc2_stg1_1 : Ref sig .tc := ⟨.vmem, 44, rfl⟩
abbrev cc2_stg2_0 : Ref sig .tc := ⟨.vmem, 45, rfl⟩
abbrev cc2_stg2_1 : Ref sig .tc := ⟨.vmem, 46, rfl⟩
abbrev cc2_stg3_0 : Ref sig .tc := ⟨.vmem, 47, rfl⟩
abbrev cc2_stg3_1 : Ref sig .tc := ⟨.vmem, 48, rfl⟩
abbrev cc2_scratch0 : Ref sig .tc := ⟨.vmem, 49, rfl⟩
abbrev cc2_scratch1 : Ref sig .tc := ⟨.vmem, 50, rfl⟩
abbrev cc2_scratch2 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc1_sem0_0 : DmaSem sig := 33
abbrev cc1_sem0_1 : DmaSem sig := 34
abbrev cc1_sem1_0 : DmaSem sig := 35
abbrev cc1_sem2_0 : DmaSem sig := 36
abbrev cc1_sem2_1 : DmaSem sig := 37
abbrev cc1_sem3_0 : DmaSem sig := 38
abbrev cc1_sem4_0 : DmaSem sig := 39
abbrev cc1_sem4_1 : DmaSem sig := 40
abbrev cc2_sem0_0 : DmaSem sig := 41
abbrev cc2_sem0_1 : DmaSem sig := 42
abbrev cc2_sem1_0 : DmaSem sig := 43
abbrev cc2_sem1_1 : DmaSem sig := 44
abbrev cc2_sem2_0 : DmaSem sig := 45
abbrev cc2_sem2_1 : DmaSem sig := 46
abbrev cc2_sem3_0 : DmaSem sig := 47
abbrev cc2_sem3_1 : DmaSem sig := 48

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S8x64x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x128x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x128x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4096x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![4, 8], ![false, false]⟩

@[reducible] def k2_t1_loop (i : grid2.Coords) : Scf.Loop 32 :=
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_8 : BitVec 32 := 1#32
  ⟨c0_i32_7, v17, c1_i32_8⟩
def k2_mult1 (i : grid2.Coords) (k2_t1 : Fin (k2_t1_loop i).trips) : BitVec 32 :=
  let c0_i32_7 : BitVec 32 := 0#32
  let c1_i32_8 : BitVec 32 := 1#32
  let arg9 : BitVec 32 := Scf.iv c0_i32_7 c1_i32_8 k2_t1
  let c256_i32_402 : BitVec 32 := 256#32
  let v720 : BitVec 32 := Scalar.muli arg9 c256_i32_402
  v720
def k2_off1 (i : grid2.Coords) (k2_t1 : Fin (k2_t1_loop i).trips) : Fin 2 → Nat :=
  let c0_i32_7 : BitVec 32 := 0#32
  let c1_i32_8 : BitVec 32 := 1#32
  let arg9 : BitVec 32 := Scf.iv c0_i32_7 c1_i32_8 k2_t1
  let c256_i32_402 : BitVec 32 := 256#32
  let v720 : BitVec 32 := Scalar.muli arg9 c256_i32_402
  let v721 : BitVec 32 := v720
  let v722 : Index := Scalar.indexCast v721
  let c0_403 : Index := 0#32
  ![v722.toNat, 0]
def k2_off2 (i : grid2.Coords) (k2_t1 : Fin (k2_t1_loop i).trips) : Fin 2 → Nat :=
  let c0_i32_7 : BitVec 32 := 0#32
  let c1_i32_8 : BitVec 32 := 1#32
  let arg9 : BitVec 32 := Scf.iv c0_i32_7 c1_i32_8 k2_t1
  let c256_i32_402 : BitVec 32 := 256#32
  let v720 : BitVec 32 := Scalar.muli arg9 c256_i32_402
  let v721 : BitVec 32 := v720
  let v728 : Index := Scalar.indexCast v721
  let c128_408 : Index := 128#32
  ![v728.toNat, 128]
def k2_off3 (i : grid2.Coords) (k2_t1 : Fin (k2_t1_loop i).trips) : Fin 2 → Nat :=
  let c0_i32_7 : BitVec 32 := 0#32
  let c1_i32_8 : BitVec 32 := 1#32
  let arg9 : BitVec 32 := Scf.iv c0_i32_7 c1_i32_8 k2_t1
  let c256_i32_402 : BitVec 32 := 256#32
  let v720 : BitVec 32 := Scalar.muli arg9 c256_i32_402
  let v721 : BitVec 32 := v720
  let v755 : Index := Scalar.indexCast v721
  let c256_423 : Index := 256#32
  ![v755.toNat, 256]
def k2_off4 (i : grid2.Coords) (k2_t1 : Fin (k2_t1_loop i).trips) : Fin 3 → Nat :=
  let c0_i32_7 : BitVec 32 := 0#32
  let c1_i32_8 : BitVec 32 := 1#32
  let arg9 : BitVec 32 := Scf.iv c0_i32_7 c1_i32_8 k2_t1
  let v781 : Index := Scalar.indexCast arg9
  let c0_438 : Index := 0#32
  let c0_439 : Index := 0#32
  ![v781.toNat, 0, 0]
def k2_off5 (i : grid2.Coords) (k2_t1 : Fin (k2_t1_loop i).trips) : Fin 2 → Nat :=
  let c0_i32_7 : BitVec 32 := 0#32
  let c1_i32_8 : BitVec 32 := 1#32
  let arg9 : BitVec 32 := Scf.iv c0_i32_7 c1_i32_8 k2_t1
  let c256_i32_402 : BitVec 32 := 256#32
  let v720 : BitVec 32 := Scalar.muli arg9 c256_i32_402
  let v721 : BitVec 32 := v720
  let v793 : Index := Scalar.indexCast v721
  let c384_445 : Index := 384#32
  ![v793.toNat, 384]
def k2_off6 (i : grid2.Coords) (k2_t1 : Fin (k2_t1_loop i).trips) : Fin 3 → Nat :=
  let c0_i32_7 : BitVec 32 := 0#32
  let c1_i32_8 : BitVec 32 := 1#32
  let arg9 : BitVec 32 := Scf.iv c0_i32_7 c1_i32_8 k2_t1
  let v819 : Index := Scalar.indexCast arg9
  let c64_460 : Index := 64#32
  let c0_461 : Index := 0#32
  ![v819.toNat, 64, 0]
def k2_off7 (i : grid2.Coords) (k2_t1 : Fin (k2_t1_loop i).trips) : Fin 2 → Nat :=
  let c0_i32_7 : BitVec 32 := 0#32
  let c1_i32_8 : BitVec 32 := 1#32
  let arg9 : BitVec 32 := Scf.iv c0_i32_7 c1_i32_8 k2_t1
  let c256_i32_402 : BitVec 32 := 256#32
  let v720 : BitVec 32 := Scalar.muli arg9 c256_i32_402
  let v721 : BitVec 32 := v720
  let v831 : Index := Scalar.indexCast v721
  let c512_467 : Index := 512#32
  ![v831.toNat, 512]
def k2_off8 (i : grid2.Coords) (k2_t1 : Fin (k2_t1_loop i).trips) : Fin 3 → Nat :=
  let c0_i32_7 : BitVec 32 := 0#32
  let c1_i32_8 : BitVec 32 := 1#32
  let arg9 : BitVec 32 := Scf.iv c0_i32_7 c1_i32_8 k2_t1
  let v857 : Index := Scalar.indexCast arg9
  let c128_482 : Index := 128#32
  let c0_483 : Index := 0#32
  ![v857.toNat, 128, 0]
def k2_off9 (i : grid2.Coords) (k2_t1 : Fin (k2_t1_loop i).trips) : Fin 2 → Nat :=
  let c0_i32_7 : BitVec 32 := 0#32
  let c1_i32_8 : BitVec 32 := 1#32
  let arg9 : BitVec 32 := Scf.iv c0_i32_7 c1_i32_8 k2_t1
  let c256_i32_402 : BitVec 32 := 256#32
  let v720 : BitVec 32 := Scalar.muli arg9 c256_i32_402
  let v721 : BitVec 32 := v720
  let v869 : Index := Scalar.indexCast v721
  let c640_489 : Index := 640#32
  ![v869.toNat, 640]
def k2_off10 (i : grid2.Coords) (k2_t1 : Fin (k2_t1_loop i).trips) : Fin 3 → Nat :=
  let c0_i32_7 : BitVec 32 := 0#32
  let c1_i32_8 : BitVec 32 := 1#32
  let arg9 : BitVec 32 := Scf.iv c0_i32_7 c1_i32_8 k2_t1
  let v895 : Index := Scalar.indexCast arg9
  let c192_504 : Index := 192#32
  let c0_505 : Index := 0#32
  ![v895.toNat, 192, 0]
def k2_off11 (i : grid2.Coords) (k2_t1 : Fin (k2_t1_loop i).trips) : Fin 2 → Nat :=
  let c0_i32_7 : BitVec 32 := 0#32
  let c1_i32_8 : BitVec 32 := 1#32
  let arg9 : BitVec 32 := Scf.iv c0_i32_7 c1_i32_8 k2_t1
  let c256_i32_402 : BitVec 32 := 256#32
  let v720 : BitVec 32 := Scalar.muli arg9 c256_i32_402
  let v721 : BitVec 32 := v720
  let v907 : Index := Scalar.indexCast v721
  let c768_511 : Index := 768#32
  ![v907.toNat, 768]
def k2_off12 (i : grid2.Coords) (k2_t1 : Fin (k2_t1_loop i).trips) : Fin 3 → Nat :=
  let c0_i32_7 : BitVec 32 := 0#32
  let c1_i32_8 : BitVec 32 := 1#32
  let arg9 : BitVec 32 := Scf.iv c0_i32_7 c1_i32_8 k2_t1
  let v933 : Index := Scalar.indexCast arg9
  let c256_526 : Index := 256#32
  let c0_527 : Index := 0#32
  ![v933.toNat, 256, 0]
def k2_off13 (i : grid2.Coords) (k2_t1 : Fin (k2_t1_loop i).trips) : Fin 2 → Nat :=
  let c0_i32_7 : BitVec 32 := 0#32
  let c1_i32_8 : BitVec 32 := 1#32
  let arg9 : BitVec 32 := Scf.iv c0_i32_7 c1_i32_8 k2_t1
  let c256_i32_402 : BitVec 32 := 256#32
  let v720 : BitVec 32 := Scalar.muli arg9 c256_i32_402
  let v721 : BitVec 32 := v720
  let v945 : Index := Scalar.indexCast v721
  let c896_533 : Index := 896#32
  ![v945.toNat, 896]
def k2_off14 (i : grid2.Coords) (k2_t1 : Fin (k2_t1_loop i).trips) : Fin 3 → Nat :=
  let c0_i32_7 : BitVec 32 := 0#32
  let c1_i32_8 : BitVec 32 := 1#32
  let arg9 : BitVec 32 := Scf.iv c0_i32_7 c1_i32_8 k2_t1
  let v971 : Index := Scalar.indexCast arg9
  let c320_548 : Index := 320#32
  let c0_549 : Index := 0#32
  ![v971.toNat, 320, 0]
def k2_off15 (i : grid2.Coords) (k2_t1 : Fin (k2_t1_loop i).trips) : Fin 3 → Nat :=
  let c0_i32_7 : BitVec 32 := 0#32
  let c1_i32_8 : BitVec 32 := 1#32
  let arg9 : BitVec 32 := Scf.iv c0_i32_7 c1_i32_8 k2_t1
  let v1003 : Index := Scalar.indexCast arg9
  let c384_565 : Index := 384#32
  let c0_566 : Index := 0#32
  ![v1003.toNat, 384, 0]
def k2_off16 (i : grid2.Coords) (k2_t1 : Fin (k2_t1_loop i).trips) : Fin 3 → Nat :=
  let c0_i32_7 : BitVec 32 := 0#32
  let c1_i32_8 : BitVec 32 := 1#32
  let arg9 : BitVec 32 := Scf.iv c0_i32_7 c1_i32_8 k2_t1
  let v1015 : Index := Scalar.indexCast arg9
  let c448_572 : Index := 448#32
  let c0_573 : Index := 0#32
  ![v1015.toNat, 448, 0]
@[reducible] def k2_t2_loop (i : grid2.Coords) : Scf.Loop 32 :=
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let v14 : BitVec 32 := Scalar.addi c0_i32_7 v13
  let c1_i32_9 : BitVec 32 := 1#32
  ⟨v17, v14, c1_i32_9⟩
def k2_mult2 (i : grid2.Coords) (k2_t2 : Fin (k2_t2_loop i).trips) : BitVec 32 :=
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg9 : BitVec 32 := Scf.iv v17 c1_i32_9 k2_t2
  let c256_i32_402 : BitVec 32 := 256#32
  let v720 : BitVec 32 := Scalar.muli arg9 c256_i32_402
  v720
def k2_off17 (i : grid2.Coords) (k2_t2 : Fin (k2_t2_loop i).trips) : Fin 2 → Nat :=
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg9 : BitVec 32 := Scf.iv v17 c1_i32_9 k2_t2
  let c256_i32_402 : BitVec 32 := 256#32
  let v720 : BitVec 32 := Scalar.muli arg9 c256_i32_402
  let v721 : BitVec 32 := v720
  let v722 : Index := Scalar.indexCast v721
  let c0_403 : Index := 0#32
  ![v722.toNat, 0]
def k2_off18 (i : grid2.Coords) (k2_t2 : Fin (k2_t2_loop i).trips) : Fin 2 → Nat :=
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg9 : BitVec 32 := Scf.iv v17 c1_i32_9 k2_t2
  let c256_i32_402 : BitVec 32 := 256#32
  let v720 : BitVec 32 := Scalar.muli arg9 c256_i32_402
  let v721 : BitVec 32 := v720
  let v728 : Index := Scalar.indexCast v721
  let c128_408 : Index := 128#32
  ![v728.toNat, 128]
def k2_off19 (i : grid2.Coords) (k2_t2 : Fin (k2_t2_loop i).trips) : Fin 2 → Nat :=
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg9 : BitVec 32 := Scf.iv v17 c1_i32_9 k2_t2
  let c256_i32_402 : BitVec 32 := 256#32
  let v720 : BitVec 32 := Scalar.muli arg9 c256_i32_402
  let v721 : BitVec 32 := v720
  let v755 : Index := Scalar.indexCast v721
  let c256_423 : Index := 256#32
  ![v755.toNat, 256]
def k2_off20 (i : grid2.Coords) (k2_t2 : Fin (k2_t2_loop i).trips) : Fin 3 → Nat :=
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg9 : BitVec 32 := Scf.iv v17 c1_i32_9 k2_t2
  let v781 : Index := Scalar.indexCast arg9
  let c0_438 : Index := 0#32
  let c0_439 : Index := 0#32
  ![v781.toNat, 0, 0]
def k2_off21 (i : grid2.Coords) (k2_t2 : Fin (k2_t2_loop i).trips) : Fin 2 → Nat :=
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg9 : BitVec 32 := Scf.iv v17 c1_i32_9 k2_t2
  let c256_i32_402 : BitVec 32 := 256#32
  let v720 : BitVec 32 := Scalar.muli arg9 c256_i32_402
  let v721 : BitVec 32 := v720
  let v793 : Index := Scalar.indexCast v721
  let c384_445 : Index := 384#32
  ![v793.toNat, 384]
def k2_off22 (i : grid2.Coords) (k2_t2 : Fin (k2_t2_loop i).trips) : Fin 3 → Nat :=
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg9 : BitVec 32 := Scf.iv v17 c1_i32_9 k2_t2
  let v819 : Index := Scalar.indexCast arg9
  let c64_460 : Index := 64#32
  let c0_461 : Index := 0#32
  ![v819.toNat, 64, 0]
def k2_off23 (i : grid2.Coords) (k2_t2 : Fin (k2_t2_loop i).trips) : Fin 2 → Nat :=
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg9 : BitVec 32 := Scf.iv v17 c1_i32_9 k2_t2
  let c256_i32_402 : BitVec 32 := 256#32
  let v720 : BitVec 32 := Scalar.muli arg9 c256_i32_402
  let v721 : BitVec 32 := v720
  let v831 : Index := Scalar.indexCast v721
  let c512_467 : Index := 512#32
  ![v831.toNat, 512]
def k2_off24 (i : grid2.Coords) (k2_t2 : Fin (k2_t2_loop i).trips) : Fin 3 → Nat :=
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg9 : BitVec 32 := Scf.iv v17 c1_i32_9 k2_t2
  let v857 : Index := Scalar.indexCast arg9
  let c128_482 : Index := 128#32
  let c0_483 : Index := 0#32
  ![v857.toNat, 128, 0]
def k2_off25 (i : grid2.Coords) (k2_t2 : Fin (k2_t2_loop i).trips) : Fin 2 → Nat :=
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg9 : BitVec 32 := Scf.iv v17 c1_i32_9 k2_t2
  let c256_i32_402 : BitVec 32 := 256#32
  let v720 : BitVec 32 := Scalar.muli arg9 c256_i32_402
  let v721 : BitVec 32 := v720
  let v869 : Index := Scalar.indexCast v721
  let c640_489 : Index := 640#32
  ![v869.toNat, 640]
def k2_off26 (i : grid2.Coords) (k2_t2 : Fin (k2_t2_loop i).trips) : Fin 3 → Nat :=
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg9 : BitVec 32 := Scf.iv v17 c1_i32_9 k2_t2
  let v895 : Index := Scalar.indexCast arg9
  let c192_504 : Index := 192#32
  let c0_505 : Index := 0#32
  ![v895.toNat, 192, 0]
def k2_off27 (i : grid2.Coords) (k2_t2 : Fin (k2_t2_loop i).trips) : Fin 2 → Nat :=
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg9 : BitVec 32 := Scf.iv v17 c1_i32_9 k2_t2
  let c256_i32_402 : BitVec 32 := 256#32
  let v720 : BitVec 32 := Scalar.muli arg9 c256_i32_402
  let v721 : BitVec 32 := v720
  let v907 : Index := Scalar.indexCast v721
  let c768_511 : Index := 768#32
  ![v907.toNat, 768]
def k2_off28 (i : grid2.Coords) (k2_t2 : Fin (k2_t2_loop i).trips) : Fin 3 → Nat :=
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg9 : BitVec 32 := Scf.iv v17 c1_i32_9 k2_t2
  let v933 : Index := Scalar.indexCast arg9
  let c256_526 : Index := 256#32
  let c0_527 : Index := 0#32
  ![v933.toNat, 256, 0]
def k2_off29 (i : grid2.Coords) (k2_t2 : Fin (k2_t2_loop i).trips) : Fin 2 → Nat :=
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg9 : BitVec 32 := Scf.iv v17 c1_i32_9 k2_t2
  let c256_i32_402 : BitVec 32 := 256#32
  let v720 : BitVec 32 := Scalar.muli arg9 c256_i32_402
  let v721 : BitVec 32 := v720
  let v945 : Index := Scalar.indexCast v721
  let c896_533 : Index := 896#32
  ![v945.toNat, 896]
def k2_off30 (i : grid2.Coords) (k2_t2 : Fin (k2_t2_loop i).trips) : Fin 3 → Nat :=
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg9 : BitVec 32 := Scf.iv v17 c1_i32_9 k2_t2
  let v971 : Index := Scalar.indexCast arg9
  let c320_548 : Index := 320#32
  let c0_549 : Index := 0#32
  ![v971.toNat, 320, 0]
def k2_off31 (i : grid2.Coords) (k2_t2 : Fin (k2_t2_loop i).trips) : Fin 3 → Nat :=
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg9 : BitVec 32 := Scf.iv v17 c1_i32_9 k2_t2
  let v1003 : Index := Scalar.indexCast arg9
  let c384_565 : Index := 384#32
  let c0_566 : Index := 0#32
  ![v1003.toNat, 384, 0]
def k2_off32 (i : grid2.Coords) (k2_t2 : Fin (k2_t2_loop i).trips) : Fin 3 → Nat :=
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg9 : BitVec 32 := Scf.iv v17 c1_i32_9 k2_t2
  let v1015 : Index := Scalar.indexCast arg9
  let c448_572 : Index := 448#32
  let c0_573 : Index := 0#32
  ![v1015.toNat, 448, 0]
def k2_mult3 (i : grid2.Coords) : BitVec 32 :=
  let arg1 : BitVec 32 := BitVec.ofNat 32 (i 1).val
  let c2_i32_10 : BitVec 32 := 2#32
  let v18 : BitVec 32 := Scalar.muli arg1 c2_i32_10
  let c0_i32_11 : BitVec 32 := 0#32
  let v19 : BitVec 32 := Scalar.addi v18 c0_i32_11
  let c256_i32 : BitVec 32 := 256#32
  let v20 : BitVec 32 := Scalar.muli v19 c256_i32
  v20
def k2_off33 (i : grid2.Coords) (c0_i32_11 : BitVec 32) : Fin 2 → Nat :=
  let arg1 : BitVec 32 := BitVec.ofNat 32 (i 1).val
  let c2_i32_10 : BitVec 32 := 2#32
  let v18 : BitVec 32 := Scalar.muli arg1 c2_i32_10
  let v19 : BitVec 32 := Scalar.addi v18 c0_i32_11
  let c256_i32 : BitVec 32 := 256#32
  let v20 : BitVec 32 := Scalar.muli v19 c256_i32
  let v21 : BitVec 32 := v20
  let v31 : Index := Scalar.indexCast v21
  let c0_13 : Index := 0#32
  ![v31.toNat, 0]
def k2_off34 (i : grid2.Coords) (c0_i32_11 : BitVec 32) : Fin 2 → Nat :=
  let arg1 : BitVec 32 := BitVec.ofNat 32 (i 1).val
  let c2_i32_10 : BitVec 32 := 2#32
  let v18 : BitVec 32 := Scalar.muli arg1 c2_i32_10
  let v19 : BitVec 32 := Scalar.addi v18 c0_i32_11
  let c256_i32 : BitVec 32 := 256#32
  let v20 : BitVec 32 := Scalar.muli v19 c256_i32
  let v21 : BitVec 32 := v20
  let v37 : Index := Scalar.indexCast v21
  let c128 : Index := 128#32
  ![v37.toNat, 128]
def k2_off35 (i : grid2.Coords) (c0_i32_11 : BitVec 32) : Fin 2 → Nat :=
  let arg1 : BitVec 32 := BitVec.ofNat 32 (i 1).val
  let c2_i32_10 : BitVec 32 := 2#32
  let v18 : BitVec 32 := Scalar.muli arg1 c2_i32_10
  let v19 : BitVec 32 := Scalar.addi v18 c0_i32_11
  let c256_i32 : BitVec 32 := 256#32
  let v20 : BitVec 32 := Scalar.muli v19 c256_i32
  let v21 : BitVec 32 := v20
  let v66 : Index := Scalar.indexCast v21
  let c256 : Index := 256#32
  ![v66.toNat, 256]
def k2_off36 (i : grid2.Coords) (c0_i32_11 : BitVec 32) : Fin 3 → Nat :=
  let arg1 : BitVec 32 := BitVec.ofNat 32 (i 1).val
  let c2_i32_10 : BitVec 32 := 2#32
  let v18 : BitVec 32 := Scalar.muli arg1 c2_i32_10
  let v19 : BitVec 32 := Scalar.addi v18 c0_i32_11
  let v94 : Index := Scalar.indexCast v19
  let c0_46 : Index := 0#32
  let c0_47 : Index := 0#32
  ![v94.toNat, 0, 0]
def k2_off37 (i : grid2.Coords) (c0_i32_11 : BitVec 32) : Fin 2 → Nat :=
  let arg1 : BitVec 32 := BitVec.ofNat 32 (i 1).val
  let c2_i32_10 : BitVec 32 := 2#32
  let v18 : BitVec 32 := Scalar.muli arg1 c2_i32_10
  let v19 : BitVec 32 := Scalar.addi v18 c0_i32_11
  let c256_i32 : BitVec 32 := 256#32
  let v20 : BitVec 32 := Scalar.muli v19 c256_i32
  let v21 : BitVec 32 := v20
  let v106 : Index := Scalar.indexCast v21
  let c384 : Index := 384#32
  ![v106.toNat, 384]
def k2_off38 (i : grid2.Coords) (c0_i32_11 : BitVec 32) : Fin 3 → Nat :=
  let arg1 : BitVec 32 := BitVec.ofNat 32 (i 1).val
  let c2_i32_10 : BitVec 32 := 2#32
  let v18 : BitVec 32 := Scalar.muli arg1 c2_i32_10
  let v19 : BitVec 32 := Scalar.addi v18 c0_i32_11
  let v134 : Index := Scalar.indexCast v19
  let c64 : Index := 64#32
  let c0_67 : Index := 0#32
  ![v134.toNat, 64, 0]
def k2_off39 (i : grid2.Coords) (c0_i32_11 : BitVec 32) : Fin 2 → Nat :=
  let arg1 : BitVec 32 := BitVec.ofNat 32 (i 1).val
  let c2_i32_10 : BitVec 32 := 2#32
  let v18 : BitVec 32 := Scalar.muli arg1 c2_i32_10
  let v19 : BitVec 32 := Scalar.addi v18 c0_i32_11
  let c256_i32 : BitVec 32 := 256#32
  let v20 : BitVec 32 := Scalar.muli v19 c256_i32
  let v21 : BitVec 32 := v20
  let v146 : Index := Scalar.indexCast v21
  let c512 : Index := 512#32
  ![v146.toNat, 512]
def k2_off40 (i : grid2.Coords) (c0_i32_11 : BitVec 32) : Fin 3 → Nat :=
  let arg1 : BitVec 32 := BitVec.ofNat 32 (i 1).val
  let c2_i32_10 : BitVec 32 := 2#32
  let v18 : BitVec 32 := Scalar.muli arg1 c2_i32_10
  let v19 : BitVec 32 := Scalar.addi v18 c0_i32_11
  let v174 : Index := Scalar.indexCast v19
  let c128_87 : Index := 128#32
  let c0_88 : Index := 0#32
  ![v174.toNat, 128, 0]
def k2_off41 (i : grid2.Coords) (c0_i32_11 : BitVec 32) : Fin 2 → Nat :=
  let arg1 : BitVec 32 := BitVec.ofNat 32 (i 1).val
  let c2_i32_10 : BitVec 32 := 2#32
  let v18 : BitVec 32 := Scalar.muli arg1 c2_i32_10
  let v19 : BitVec 32 := Scalar.addi v18 c0_i32_11
  let c256_i32 : BitVec 32 := 256#32
  let v20 : BitVec 32 := Scalar.muli v19 c256_i32
  let v21 : BitVec 32 := v20
  let v186 : Index := Scalar.indexCast v21
  let c640 : Index := 640#32
  ![v186.toNat, 640]
def k2_off42 (i : grid2.Coords) (c0_i32_11 : BitVec 32) : Fin 3 → Nat :=
  let arg1 : BitVec 32 := BitVec.ofNat 32 (i 1).val
  let c2_i32_10 : BitVec 32 := 2#32
  let v18 : BitVec 32 := Scalar.muli arg1 c2_i32_10
  let v19 : BitVec 32 := Scalar.addi v18 c0_i32_11
  let v214 : Index := Scalar.indexCast v19
  let c192 : Index := 192#32
  let c0_108 : Index := 0#32
  ![v214.toNat, 192, 0]
def k2_off43 (i : grid2.Coords) (c0_i32_11 : BitVec 32) : Fin 2 → Nat :=
  let arg1 : BitVec 32 := BitVec.ofNat 32 (i 1).val
  let c2_i32_10 : BitVec 32 := 2#32
  let v18 : BitVec 32 := Scalar.muli arg1 c2_i32_10
  let v19 : BitVec 32 := Scalar.addi v18 c0_i32_11
  let c256_i32 : BitVec 32 := 256#32
  let v20 : BitVec 32 := Scalar.muli v19 c256_i32
  let v21 : BitVec 32 := v20
  let v226 : Index := Scalar.indexCast v21
  let c768 : Index := 768#32
  ![v226.toNat, 768]
def k2_off44 (i : grid2.Coords) (c0_i32_11 : BitVec 32) : Fin 3 → Nat :=
  let arg1 : BitVec 32 := BitVec.ofNat 32 (i 1).val
  let c2_i32_10 : BitVec 32 := 2#32
  let v18 : BitVec 32 := Scalar.muli arg1 c2_i32_10
  let v19 : BitVec 32 := Scalar.addi v18 c0_i32_11
  let v254 : Index := Scalar.indexCast v19
  let c256_128 : Index := 256#32
  let c0_129 : Index := 0#32
  ![v254.toNat, 256, 0]
def k2_off45 (i : grid2.Coords) (c0_i32_11 : BitVec 32) : Fin 2 → Nat :=
  let arg1 : BitVec 32 := BitVec.ofNat 32 (i 1).val
  let c2_i32_10 : BitVec 32 := 2#32
  let v18 : BitVec 32 := Scalar.muli arg1 c2_i32_10
  let v19 : BitVec 32 := Scalar.addi v18 c0_i32_11
  let c256_i32 : BitVec 32 := 256#32
  let v20 : BitVec 32 := Scalar.muli v19 c256_i32
  let v21 : BitVec 32 := v20
  let v266 : Index := Scalar.indexCast v21
  let c896 : Index := 896#32
  ![v266.toNat, 896]
def k2_off46 (i : grid2.Coords) (c0_i32_11 : BitVec 32) : Fin 3 → Nat :=
  let arg1 : BitVec 32 := BitVec.ofNat 32 (i 1).val
  let c2_i32_10 : BitVec 32 := 2#32
  let v18 : BitVec 32 := Scalar.muli arg1 c2_i32_10
  let v19 : BitVec 32 := Scalar.addi v18 c0_i32_11
  let v294 : Index := Scalar.indexCast v19
  let c320 : Index := 320#32
  let c0_149 : Index := 0#32
  ![v294.toNat, 320, 0]
def k2_off47 (i : grid2.Coords) (c0_i32_11 : BitVec 32) : Fin 3 → Nat :=
  let arg1 : BitVec 32 := BitVec.ofNat 32 (i 1).val
  let c2_i32_10 : BitVec 32 := 2#32
  let v18 : BitVec 32 := Scalar.muli arg1 c2_i32_10
  let v19 : BitVec 32 := Scalar.addi v18 c0_i32_11
  let v328 : Index := Scalar.indexCast v19
  let c384_166 : Index := 384#32
  let c0_167 : Index := 0#32
  ![v328.toNat, 384, 0]
def k2_off48 (i : grid2.Coords) (c0_i32_11 : BitVec 32) : Fin 3 → Nat :=
  let arg1 : BitVec 32 := BitVec.ofNat 32 (i 1).val
  let c2_i32_10 : BitVec 32 := 2#32
  let v18 : BitVec 32 := Scalar.muli arg1 c2_i32_10
  let v19 : BitVec 32 := Scalar.addi v18 c0_i32_11
  let v340 : Index := Scalar.indexCast v19
  let c448 : Index := 448#32
  let c0_173 : Index := 0#32
  ![v340.toNat, 448, 0]
def k2_mult4 (i : grid2.Coords) : BitVec 32 :=
  let arg1 : BitVec 32 := BitVec.ofNat 32 (i 1).val
  let c2_i32_179 : BitVec 32 := 2#32
  let v351 : BitVec 32 := Scalar.muli arg1 c2_i32_179
  let c1_i32_180 : BitVec 32 := 1#32
  let v352 : BitVec 32 := Scalar.addi v351 c1_i32_180
  let c256_i32_181 : BitVec 32 := 256#32
  let v353 : BitVec 32 := Scalar.muli v352 c256_i32_181
  v353
def cc2_transform_0 (i : grid2.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage2_0 : Fin 2 → Memref sig .tc .vmem S8x128x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S16x512x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S512x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "scale_log2e" => some (((8 * (Real.log 2))⁻¹ : ℝ) : EReal)
  | _ => none
-- ==== ReferenceIdeal.lean ====
abbrev S4x4096x1024 : Shape := ⟨3, ![4, 4096, 1024]⟩
abbrev S4x1024 : Shape := ⟨2, ![4, 1024]⟩
abbrev S1x1024 : Shape := ⟨2, ![1, 1024]⟩
abbrev S1x1024x4360 : Shape := ⟨3, ![1, 1024, 4360]⟩
abbrev S1x8 : Shape := ⟨2, ![1, 8]⟩
abbrev S_ : Shape := ⟨0, ![]⟩
abbrev S4x4096 : Shape := ⟨2, ![4, 4096]⟩
abbrev S4x4096x1 : Shape := ⟨3, ![4, 4096, 1]⟩
abbrev S1024 : Shape := ⟨1, ![1024]⟩
abbrev S1x1x1024 : Shape := ⟨3, ![1, 1, 1024]⟩
abbrev S4x1x1024 : Shape := ⟨3, ![4, 1, 1024]⟩
abbrev S1024x4360 : Shape := ⟨2, ![1024, 4360]⟩
abbrev S4x4096x4360 : Shape := ⟨3, ![4, 4096, 4360]⟩
abbrev S4x4096x512 : Shape := ⟨3, ![4, 4096, 512]⟩
abbrev S4x4096x128 : Shape := ⟨3, ![4, 4096, 128]⟩
abbrev S4x4096x8 : Shape := ⟨3, ![4, 4096, 8]⟩
abbrev S8 : Shape := ⟨1, ![8]⟩
abbrev S1x1x8 : Shape := ⟨3, ![1, 1, 8]⟩
abbrev S4x4096x8x64 : Shape := ⟨4, ![4, 4096, 8, 64]⟩
abbrev S4x8x4096 : Shape := ⟨3, ![4, 8, 4096]⟩
abbrev S4x8x4096x4096 : Shape := ⟨4, ![4, 8, 4096, 4096]⟩
abbrev S4x8x4096x1 : Shape := ⟨4, ![4, 8, 4096, 1]⟩
abbrev S4x8x1x4096 : Shape := ⟨4, ![4, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S4x8x64x4096 : Shape := ⟨4, ![4, 8, 64, 4096]⟩
abbrev S16384x512 : Shape := ⟨2, ![16384, 512]⟩
abbrev S16384x1024 : Shape := ⟨2, ![16384, 1024]⟩

abbrev nBuf : Space → Nat
  | .hbm => 130
  | .vmem => 0
  | .smem => 0
  | _ => 0

abbrev hbmTy0_0 (i : Nat) : BufTy := match i % 128 with
  | 0 => ⟨S4x4096x1024, .f32⟩
  | 1 => ⟨S4x1024, .f32⟩
  | 2 => ⟨S4x1024, .f32⟩
  | 3 => ⟨S1x1024, .f32⟩
  | 4 => ⟨S1x1024x4360, .f32⟩
  | 5 => ⟨S1x8, .f32⟩
  | 6 => ⟨S4x4096x1024, .f32⟩
  | 7 => ⟨S_, .f32⟩
  | 8 => ⟨S4x4096, .f32⟩
  | 9 => ⟨S4x4096x1, .f32⟩
  | 10 => ⟨S_, .f32⟩
  | 11 => ⟨S4x4096x1, .f32⟩
  | 12 => ⟨S4x4096x1, .f32⟩
  | 13 => ⟨S_, .f32⟩
  | 14 => ⟨S4x4096x1, .f32⟩
  | 15 => ⟨S4x4096x1, .f32⟩
  | 16 => ⟨S4x4096x1, .f32⟩
  | 17 => ⟨S4x4096x1024, .f32⟩
  | 18 => ⟨S4x4096x1024, .f32⟩
  | 19 => ⟨S1024, .f32⟩
  | 20 => ⟨S1x1x1024, .f32⟩
  | 21 => ⟨S4x4096x1024, .f32⟩
  | 22 => ⟨S4x4096x1024, .f32⟩
  | 23 => ⟨S4x1x1024, .f32⟩
  | 24 => ⟨S_, .f32⟩
  | 25 => ⟨S4x1x1024, .f32⟩
  | 26 => ⟨S4x1x1024, .f32⟩
  | 27 => ⟨S4x4096x1024, .f32⟩
  | 28 => ⟨S4x4096x1024, .f32⟩
  | 29 => ⟨S4x1x1024, .f32⟩
  | 30 => ⟨S4x4096x1024, .f32⟩
  | 31 => ⟨S4x4096x1024, .f32⟩
  | 32 => ⟨S1024x4360, .f32⟩
  | 33 => ⟨S4x4096x4360, .f32⟩
  | 34 => ⟨S4x4096x512, .f32⟩
  | 35 => ⟨S4x4096x128, .f32⟩
  | 36 => ⟨S4x4096x128, .f32⟩
  | 37 => ⟨S4x4096x512, .f32⟩
  | 38 => ⟨S4x4096x512, .f32⟩
  | 39 => ⟨S4x4096x512, .f32⟩
  | 40 => ⟨S4x4096x8, .f32⟩
  | 41 => ⟨S4x4096x1024, .f32⟩
  | 42 => ⟨S4x4096x1024, .f32⟩
  | 43 => ⟨S8, .f32⟩
  | 44 => ⟨S1x1x8, .f32⟩
  | 45 => ⟨S4x4096x8, .f32⟩
  | 46 => ⟨S4x4096x8, .f32⟩
  | 47 => ⟨S4x4096x8, .f32⟩
  | 48 => ⟨S_, .f32⟩
  | 49 => ⟨S4x4096x8, .f32⟩
  | 50 => ⟨S4x4096x8, .f32⟩
  | 51 => ⟨S4x4096x8, .f32⟩
  | 52 => ⟨S4x4096x8, .f32⟩
  | 53 => ⟨S4x4096x8, .i1⟩
  | 54 => ⟨S4x4096x8, .f32⟩
  | 55 => ⟨S4x4096x8, .f32⟩
  | 56 => ⟨S4x4096x8, .f32⟩
  | 57 => ⟨S4x4096x8, .f32⟩
  | 58 => ⟨S4x4096x8, .f32⟩
  | 59 => ⟨S4x4096x8, .f32⟩
  | 60 => ⟨S4x4096x8, .f32⟩
  | 61 => ⟨S4x4096x8, .f32⟩
  | 62 => ⟨S4x4096x8, .f32⟩
  | 63 => ⟨S4x4096x8x64, .f32⟩
  | 64 => ⟨S4x4096x8x64, .f32⟩
  | 65 => ⟨S4x4096x8x64, .f32⟩
  | 66 => ⟨S_, .f32⟩
  | 67 => ⟨S_, .f32⟩
  | 68 => ⟨S4x4096x8, .f32⟩
  | 69 => ⟨S4x8x4096, .f32⟩
  | 70 => ⟨S4x8x4096x4096, .f32⟩
  | 71 => ⟨S_, .f32⟩
  | 72 => ⟨S4x8x4096x4096, .f32⟩
  | 73 => ⟨S4x8x4096x4096, .f32⟩
  | 74 => ⟨S4x8x4096x1, .f32⟩
  | 75 => ⟨S4x8x4096x4096, .f32⟩
  | 76 => ⟨S4x8x4096x4096, .f32⟩
  | 77 => ⟨S4x8x1x4096, .f32⟩
  | 78 => ⟨S4x8x4096x4096, .f32⟩
  | 79 => ⟨S4x8x4096x4096, .f32⟩
  | 80 => ⟨S4096, .i32⟩
  | 81 => ⟨S1x4096, .i32⟩
  | 82 => ⟨S4096x1, .i32⟩
  | 83 => ⟨S4096x4096, .i32⟩
  | 84 => ⟨S4096x4096, .i32⟩
  | 85 => ⟨S4096x4096, .i1⟩
  | 86 => ⟨S1x1x4096x4096, .i1⟩
  | 87 => ⟨S_, .f32⟩
  | 88 => ⟨S_, .f32⟩
  | 89 => ⟨S4x8x4096x4096, .i1⟩
  | 90 => ⟨S4x8x4096x4096, .f32⟩
  | 91 => ⟨S4x8x4096x4096, .f32⟩
  | 92 => ⟨S_, .f32⟩
  | 93 => ⟨S4x8x4096, .f32⟩
  | 94 => ⟨S_, .f32⟩
  | 95 => ⟨S4x8x4096, .f32⟩
  | 96 => ⟨S4x8x4096, .f32⟩
  | 97 => ⟨S4x8x4096x1, .f32⟩
  | 98 => ⟨S4x8x4096x4096, .f32⟩
  | 99 => ⟨S4x8x4096x4096, .f32⟩
  | 100 => ⟨S4x8x4096x4096, .f32⟩
  | 101 => ⟨S_, .f32⟩
  | 102 => ⟨S4x8x4096, .f32⟩
  | 103 => ⟨S4x8x4096x1, .f32⟩
  | 104 => ⟨S4x8x4096x4096, .f32⟩
  | 105 => ⟨S4x8x4096x4096, .f32⟩
  | 106 => ⟨S4x8x64x4096, .f32⟩
  | 107 => ⟨S4x4096x8x64, .f32⟩
  | 108 => ⟨S16384x512, .f32⟩
  | 109 => ⟨S4x4096x1024, .f32⟩
  | 110 => ⟨S4x4096x1024, .f32⟩
  | 111 => ⟨S_, .f32⟩
  | 112 => ⟨S4x4096x1024, .f32⟩
  | 113 => ⟨S4x4096x1024, .f32⟩
  | 114 => ⟨S_, .f32⟩
  | 115 => ⟨S4x4096x1024, .f32⟩
  | 116 => ⟨S4x4096x1024, .f32⟩
  | 117 => ⟨S16384x1024, .f32⟩
  | 118 => ⟨S4x4096x1024, .f32⟩
  | 119 => ⟨S4x4096x1024, .f32⟩
  | 120 => ⟨S_, .f32⟩
  | 121 => ⟨S4x4096x1024, .f32⟩
  | 122 => ⟨S4x4096x1024, .f32⟩
  | 123 => ⟨S_, .f32⟩
  | 124 => ⟨S4x4096x1024, .f32⟩
  | 125 => ⟨S4x4096x1024, .f32⟩
  | 126 => ⟨S16384x1024, .f32⟩
  | 127 => ⟨S16384x512, .bf16⟩
  | _ => ⟨S4x4096x1024, .f32⟩

abbrev hbmTy0_1 (i : Nat) : BufTy := match i % 128 with
  | 0 => ⟨S16384x1024, .bf16⟩
  | 1 => ⟨S16384x1024, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_call0_v0 : Ref sig .tc := ⟨.hbm, 47, rfl⟩
abbrev main_call0_call0_cst : Ref sig .tc := ⟨.hbm, 48, rfl⟩
abbrev main_call0_call0_v0 : Ref sig .tc := ⟨.hbm, 49, rfl⟩
abbrev main_call0_call0_v1 : Ref sig .tc := ⟨.hbm, 50, rfl⟩
abbrev main_call0_call0_v2 : Ref sig .tc := ⟨.hbm, 51, rfl⟩
abbrev main_call0_call0_v3 : Ref sig .tc := ⟨.hbm, 52, rfl⟩
abbrev main_call0_call0_v4 : Ref sig .tc := ⟨.hbm, 53, rfl⟩
abbrev main_call0_call0_v5 : Ref sig .tc := ⟨.hbm, 54, rfl⟩
abbrev main_call0_call0_v6 : Ref sig .tc := ⟨.hbm, 55, rfl⟩
abbrev main_call0_call0_v7 : Ref sig .tc := ⟨.hbm, 56, rfl⟩
abbrev main_call0_call0_v8 : Ref sig .tc := ⟨.hbm, 57, rfl⟩
abbrev main_call0_call0_v9 : Ref sig .tc := ⟨.hbm, 58, rfl⟩
abbrev main_call0_call0_v10 : Ref sig .tc := ⟨.hbm, 59, rfl⟩
abbrev main_call0_call0_v11 : Ref sig .tc := ⟨.hbm, 60, rfl⟩
abbrev main_call0_v1 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_call1_call0_cst : Ref sig .tc := ⟨.hbm, 66, rfl⟩
abbrev main_call1_call0_v0 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_3 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_4 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_v59 : Ref sig .tc := ⟨.hbm, 91, rfl⟩
abbrev main_cst_5 : Ref sig .tc := ⟨.hbm, 92, rfl⟩
abbrev main_v60 : Ref sig .tc := ⟨.hbm, 93, rfl⟩
abbrev main_cst_6 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_7 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_8 : Ref sig .tc := ⟨.hbm, 111, rfl⟩
abbrev main_v76 : Ref sig .tc := ⟨.hbm, 112, rfl⟩
abbrev main_v77 : Ref sig .tc := ⟨.hbm, 113, rfl⟩
abbrev main_cst_9 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_10 : Ref sig .tc := ⟨.hbm, 120, rfl⟩
abbrev main_v83 : Ref sig .tc := ⟨.hbm, 121, rfl⟩
abbrev main_v84 : Ref sig .tc := ⟨.hbm, 122, rfl⟩
abbrev main_cst_11 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩

abbrev nD : Nat := 1
abbrev τ : Topo := Topo.v7x

variable {F : FTy → Type} [FloatOps F]
-- ==== Kernel2.lean ====
abbrev S4x4096x1024 : Shape := ⟨3, ![4, 4096, 1024]⟩
abbrev S16384x512 : Shape := ⟨2, ![16384, 512]⟩
abbrev S16384x1024 : Shape := ⟨2, ![16384, 1024]⟩
abbrev S4x1024 : Shape := ⟨2, ![4, 1024]⟩
abbrev S1x1024 : Shape := ⟨2, ![1, 1024]⟩
abbrev S1x512x1024 : Shape := ⟨3, ![1, 512, 1024]⟩
abbrev S1x1024x1024 : Shape := ⟨3, ![1, 1024, 1024]⟩
abbrev S4x1x1024 : Shape := ⟨3, ![4, 1, 1024]⟩
abbrev S1024 : Shape := ⟨1, ![1024]⟩
abbrev S512x1024 : Shape := ⟨2, ![512, 1024]⟩
abbrev S1024x1024 : Shape := ⟨2, ![1024, 1024]⟩
abbrev S1024x16384 : Shape := ⟨2, ![1024, 16384]⟩
abbrev S512x512 : Shape := ⟨2, ![512, 512]⟩
abbrev S1x1x1024 : Shape := ⟨3, ![1, 1, 1024]⟩
abbrev S1024x512 : Shape := ⟨2, ![1024, 512]⟩
abbrev S512 : Shape := ⟨1, ![512]⟩
abbrev S512x1 : Shape := ⟨2, ![512, 1]⟩

abbrev nBuf : Space → Nat
  | .hbm => 30
  | .vmem => 27
  | .smem => 0
  | _ => 0

abbrev bufTy : (tb : Table) → Fin (tcTables nBuf tb) → BufTy
  | .hbm, ⟨0, _⟩ => ⟨S4x4096x1024, .f32⟩
  | .hbm, ⟨1, _⟩ => ⟨S16384x512, .bf16⟩
  | .hbm, ⟨2, _⟩ => ⟨S16384x512, .bf16⟩
  | .hbm, ⟨3, _⟩ => ⟨S16384x1024, .bf16⟩
  | .hbm, ⟨4, _⟩ => ⟨S16384x1024, .bf16⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S1x1024, .f32⟩
  | .hbm, ⟨9, _⟩ => ⟨S1x512x1024, .f32⟩
  | .hbm, ⟨10, _⟩ => ⟨S1x512x1024, .f32⟩
  | .hbm, ⟨11, _⟩ => ⟨S1x1024x1024, .f32⟩
  | .hbm, ⟨12, _⟩ => ⟨S1x1024x1024, .f32⟩
  | .hbm, ⟨13, _⟩ => ⟨S16384x1024, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S1024, .f32⟩
  | .hbm, ⟨18, _⟩ => ⟨S1x1024, .f32⟩
  | .hbm, ⟨19, _⟩ => ⟨S512x1024, .f32⟩
  | .hbm, ⟨20, _⟩ => ⟨S512x1024, .bf16⟩
  | .hbm, ⟨21, _⟩ => ⟨S512x1024, .f32⟩
  | .hbm, ⟨22, _⟩ => ⟨S512x1024, .bf16⟩
  | .hbm, ⟨23, _⟩ => ⟨S1024x1024, .f32⟩
  | .hbm, ⟨24, _⟩ => ⟨S1024x1024, .bf16⟩
  | .hbm, ⟨25, _⟩ => ⟨S1024x1024, .f32⟩
  | .hbm, ⟨26, _⟩ => ⟨S1024x1024, .bf16⟩
  | .hbm, ⟨27, _⟩ => ⟨S16384x1024, .f32⟩
  | .hbm, ⟨28, _⟩ => ⟨S1024x16384, .bf16⟩
  | .hbm, ⟨29, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S1024x1024, .bf16⟩
  | .local _ .vmem, ⟨21, _⟩ => ⟨S512x1024, .f32⟩
  | .local _ .vmem, ⟨22, _⟩ => ⟨S512x1024, .f32⟩
  | .local _ .vmem, ⟨23, _⟩ => ⟨S1024x512, .bf16⟩
  | .local _ .vmem, ⟨24, _⟩ => ⟨S1024x512, .bf16⟩
  | .local _ .vmem, ⟨25, _⟩ => ⟨S512x1024, .f32⟩
  | .local _ .vmem, ⟨26, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev main_v14_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S4x4096x1024 : Shape := ⟨3, ![4, 4096, 1024]⟩
abbrev S16384x512 : Shape := ⟨2, ![16384, 512]⟩
abbrev S16384x1024 : Shape := ⟨2, ![16384, 1024]⟩
abbrev S4x1024 : Shape := ⟨2, ![4, 1024]⟩
abbrev S1x1024 : Shape := ⟨2, ![1, 1024]⟩
abbrev S1x512x1024 : Shape := ⟨3, ![1, 512, 1024]⟩
abbrev S1x1024x1024 : Shape := ⟨3, ![1, 1024, 1024]⟩
abbrev S4x4096x512 : Shape := ⟨3, ![4, 4096, 512]⟩
abbrev S512x1024 : Shape := ⟨2, ![512, 1024]⟩
abbrev S4x1x1024 : Shape := ⟨3, ![4, 1, 1024]⟩
abbrev S1024x1024 : Shape := ⟨2, ![1024, 1024]⟩
abbrev S_ : Shape := ⟨0, ![]⟩
abbrev S4x4096 : Shape := ⟨2, ![4, 4096]⟩
abbrev S4x4096x1 : Shape := ⟨3, ![4, 4096, 1]⟩
abbrev S1024 : Shape := ⟨1, ![1024]⟩
abbrev S1x1x1024 : Shape := ⟨3, ![1, 1, 1024]⟩
abbrev S1024x16384 : Shape := ⟨2, ![1024, 16384]⟩

abbrev nBuf : Space → Nat
  | .hbm => 67
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16384x512, .bf16⟩
  | .hbm, ⟨2, _⟩ => ⟨S16384x512, .bf16⟩
  | .hbm, ⟨3, _⟩ => ⟨S16384x1024, .bf16⟩
  | .hbm, ⟨4, _⟩ => ⟨S16384x1024, .bf16⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S1x1024, .f32⟩
  | .hbm, ⟨9, _⟩ => ⟨S1x512x1024, .f32⟩
  | .hbm, ⟨10, _⟩ => ⟨S1x512x1024, .f32⟩
  | .hbm, ⟨11, _⟩ => ⟨S1x1024x1024, .f32⟩
  | .hbm, ⟨12, _⟩ => ⟨S1x1024x1024, .f32⟩
  | .hbm, ⟨13, _⟩ => ⟨S16384x512, .f32⟩
  | .hbm, ⟨14, _⟩ => ⟨S4x4096x512, .f32⟩
  | .hbm, ⟨15, _⟩ => ⟨S16384x512, .f32⟩
  | .hbm, ⟨16, _⟩ => ⟨S4x4096x512, .f32⟩
  | .hbm, ⟨17, _⟩ => ⟨S16384x1024, .f32⟩
  | .hbm, ⟨18, _⟩ => ⟨S4x4096x1024, .f32⟩
  | .hbm, ⟨19, _⟩ => ⟨S16384x1024, .f32⟩
  | .hbm, ⟨20, _⟩ => ⟨S4x4096x1024, .f32⟩
  | .hbm, ⟨21, _⟩ => ⟨S512x1024, .f32⟩
  | .hbm, ⟨22, _⟩ => ⟨S4x4096x1024, .f32⟩
  | .hbm, ⟨23, _⟩ => ⟨S4x4096x1024, .f32⟩
  | .hbm, ⟨24, _⟩ => ⟨S512x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4x1x1024, .f32⟩
  | .hbm, ⟨29, _⟩ => ⟨S1024x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S_, .f32⟩
  | .hbm, ⟨42, _⟩ => ⟨S4x4096x1, .f32⟩
  | .hbm, ⟨43, _⟩ => ⟨S4x4096x1, .f32⟩
  | .hbm, ⟨44, _⟩ => ⟨S4x4096x1, .f32⟩
  | .hbm, ⟨45, _⟩ => ⟨S4x4096x1024, .f32⟩
  | .hbm, ⟨46, _⟩ => ⟨S4x4096x1024, .f32⟩
  | .hbm, ⟨47, _⟩ => ⟨S1024, .f32⟩
  | .hbm, ⟨48, _⟩ => ⟨S1x1x1024, .f32⟩
  | .hbm, ⟨49, _⟩ => ⟨S4x4096x1024, .f32⟩
  | .hbm, ⟨50, _⟩ => ⟨S4x4096x1024, .f32⟩
  | .hbm, ⟨51, _⟩ => ⟨S4x1x1024, .f32⟩
  | .hbm, ⟨52, _⟩ => ⟨S_, .f32⟩
  | .hbm, ⟨53, _⟩ => ⟨S4x1x1024, .f32⟩
  | .hbm, ⟨54, _⟩ => ⟨S4x1x1024, .f32⟩
  | .hbm, ⟨55, _⟩ => ⟨S4x4096x1024, .f32⟩
  | .hbm, ⟨56, _⟩ => ⟨S4x4096x1024, .f32⟩
  | .hbm, ⟨57, _⟩ => ⟨S4x1x1024, .f32⟩
  | .hbm, ⟨58, _⟩ => ⟨S4x4096x1024, .f32⟩
  | .hbm, ⟨59, _⟩ => ⟨S4x4096x1024, .f32⟩
  | .hbm, ⟨60, _⟩ => ⟨S1024x1024, .f32⟩
  | .hbm, ⟨61, _⟩ => ⟨S4x4096x1024, .f32⟩
  | .hbm, ⟨62, _⟩ => ⟨S16384x1024, .f32⟩
  | .hbm, ⟨63, _⟩ => ⟨S16384x1024, .f32⟩
  | .hbm, ⟨64, _⟩ => ⟨S1024x16384, .f32⟩
  | .hbm, ⟨65, _⟩ => ⟨S1024x16384, .bf16⟩
  | .hbm, ⟨66, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst : Ref sig .tc := ⟨.hbm, 35, rfl⟩
abbrev main_v22 : Ref sig .tc := ⟨.hbm, 36, rfl⟩
abbrev main_v23 : Ref sig .tc := ⟨.hbm, 37, rfl⟩
abbrev main_cst_0 : Ref sig .tc := ⟨.hbm, 38, rfl⟩
abbrev main_v24 : Ref sig .tc := ⟨.hbm, 39, rfl⟩
abbrev main_v25 : Ref sig .tc := ⟨.hbm, 40, rfl⟩
abbrev main_cst_1 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_2 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Kernel3.lean ====
abbrev S16384x1024 : Shape := ⟨2, ![16384, 1024]⟩
abbrev S1024x16384 : Shape := ⟨2, ![1024, 16384]⟩
abbrev S4x1024 : Shape := ⟨2, ![4, 1024]⟩
abbrev S1024 : Shape := ⟨1, ![1024]⟩
abbrev S4x1x1024 : Shape := ⟨3, ![4, 1, 1024]⟩
abbrev S1x1024 : Shape := ⟨2, ![1, 1024]⟩
abbrev S512x1024 : Shape := ⟨2, ![512, 1024]⟩
abbrev S1024x512 : Shape := ⟨2, ![1024, 512]⟩
abbrev S1x1x1024 : Shape := ⟨3, ![1, 1, 1024]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024x16384, .f32⟩
  | .hbm, ⟨2, _⟩ => ⟨S4x1024, .f32⟩
  | .hbm, ⟨3, _⟩ => ⟨S1024, .f32⟩
  | .hbm, ⟨4, _⟩ => ⟨S4x1x1024, .f32⟩
  | .hbm, ⟨5, _⟩ => ⟨S1x1024, .f32⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S16384x1024 : Shape := ⟨2, ![16384, 1024]⟩
abbrev S1024x16384 : Shape := ⟨2, ![1024, 16384]⟩
abbrev S4x1024 : Shape := ⟨2, ![4, 1024]⟩
abbrev S1024 : Shape := ⟨1, ![1024]⟩
abbrev S4x4096x1024 : Shape := ⟨3, ![4, 4096, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x16384, .f32⟩
  | .hbm, ⟨2, _⟩ => ⟨S4x1024, .f32⟩
  | .hbm, ⟨3, _⟩ => ⟨S1024, .f32⟩
  | .hbm, ⟨4, _⟩ => ⟨S4x4096x1024, .f32⟩
  | .hbm, ⟨5, _⟩ => ⟨S4x1x1024, .f32⟩
  | .hbm, ⟨6, _⟩ => ⟨S16384x1024, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1, .f32⟩
  | .hbm, ⟨22, _⟩ => ⟨S4x4096x1024, .f32⟩
  | .hbm, ⟨23, _⟩ => ⟨S4x4096x1024, .f32⟩
  | .hbm, ⟨24, _⟩ => ⟨S1x1x1024, .f32⟩
  | .hbm, ⟨25, _⟩ => ⟨S4x4096x1024, .f32⟩
  | .hbm, ⟨26, _⟩ => ⟨S4x4096x1024, .f32⟩
  | .hbm, ⟨27, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel4.lean ====
abbrev S4x1024 : Shape := ⟨2, ![4, 1024]⟩
abbrev S1x1024x6144 : Shape := ⟨3, ![1, 1024, 6144]⟩
abbrev S1x6144 : Shape := ⟨2, ![1, 6144]⟩
abbrev S1024x6144 : Shape := ⟨2, ![1024, 6144]⟩
abbrev S6144 : Shape := ⟨1, ![6144]⟩
abbrev S4x6144 : Shape := ⟨2, ![4, 6144]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1x1024x6144, .f32⟩
  | .hbm, ⟨2, _⟩ => ⟨S1x6144, .f32⟩
  | .hbm, ⟨3, _⟩ => ⟨S1024x6144, .f32⟩
  | .hbm, ⟨4, _⟩ => ⟨S6144, .f32⟩
  | .hbm, ⟨5, _⟩ => ⟨S1x6144, .f32⟩
  | .hbm, ⟨6, _⟩ => ⟨S4x6144, .f32⟩
  | .local _ .vmem, ⟨0, _⟩ => ⟨S4x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S4x1024 : Shape := ⟨2, ![4, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S4x6144 : Shape := ⟨2, ![4, 6144]⟩
abbrev S6144 : Shape := ⟨1, ![6144]⟩

abbrev nBuf : Space → Nat
  | .hbm => 18
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1x1024x6144, .f32⟩
  | .hbm, ⟨2, _⟩ => ⟨S1x6144, .f32⟩
  | .hbm, ⟨3, _⟩ => ⟨S4x1024, .f32⟩
  | .hbm, ⟨4, _⟩ => ⟨S4x1024, .f32⟩
  | .hbm, ⟨5, _⟩ => ⟨S_, .f32⟩
  | .hbm, ⟨6, _⟩ => ⟨S4x1024, .f32⟩
  | .hbm, ⟨7, _⟩ => ⟨S4x1024, .f32⟩
  | .hbm, ⟨8, _⟩ => ⟨S_, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S1024x6144, .f32⟩
  | .hbm, ⟨13, _⟩ => ⟨S4x6144, .f32⟩
  | .hbm, ⟨14, _⟩ => ⟨S6144, .f32⟩
  | .hbm, ⟨15, _⟩ => ⟨S1x6144, .f32⟩
  | .hbm, ⟨16, _⟩ => ⟨S4x6144, .f32⟩
  | .hbm, ⟨17, _⟩ => ⟨S4x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel5.lean ====
abbrev S4x4096x1024 : Shape := ⟨3, ![4, 4096, 1024]⟩
abbrev S4x1024 : Shape := ⟨2, ![4, 1024]⟩
abbrev S1x1024 : Shape := ⟨2, ![1, 1024]⟩
abbrev S1x1024x4360 : Shape := ⟨3, ![1, 1024, 4360]⟩
abbrev S16384x1024 : Shape := ⟨2, ![16384, 1024]⟩
abbrev S4x1x1024 : Shape := ⟨3, ![4, 1, 1024]⟩
abbrev S1024x4360 : Shape := ⟨2, ![1024, 4360]⟩
abbrev S1024x512 : Shape := ⟨2, ![1024, 512]⟩
abbrev S512x1024 : Shape := ⟨2, ![512, 1024]⟩
abbrev S1024x128 : Shape := ⟨2, ![1024, 128]⟩
abbrev S1024x2x64 : Shape := ⟨3, ![1024, 2, 64]⟩
abbrev S_ : Shape := ⟨0, ![]⟩
abbrev S1024x2x128 : Shape := ⟨3, ![1024, 2, 128]⟩
abbrev S1024x256 : Shape := ⟨2, ![1024, 256]⟩
abbrev S128x1024 : Shape := ⟨2, ![128, 1024]⟩
abbrev S8x64x1024 : Shape := ⟨3, ![8, 64, 1024]⟩
abbrev S8x128x1024 : Shape := ⟨3, ![8, 128, 1024]⟩
abbrev S1024x1024 : Shape := ⟨2, ![1024, 1024]⟩
abbrev S1024x8x64 : Shape := ⟨3, ![1024, 8, 64]⟩
abbrev S1024x8x128 : Shape := ⟨3, ![1024, 8, 128]⟩
abbrev S1024x8 : Shape := ⟨2, ![1024, 8]⟩
abbrev S1024x2048 : Shape := ⟨2, ![1024, 2048]⟩
abbrev S1024 : Shape := ⟨1, ![1024]⟩
abbrev S8x64x16384 : Shape := ⟨3, ![8, 64, 16384]⟩
abbrev S16384x256 : Shape := ⟨2, ![16384, 256]⟩
abbrev S128x16384 : Shape := ⟨2, ![128, 16384]⟩
abbrev S8x128x16384 : Shape := ⟨3, ![8, 128, 16384]⟩
abbrev S64x512x256 : Shape := ⟨3, ![64, 512, 256]⟩
abbrev S16384x128 : Shape := ⟨2, ![16384, 128]⟩
abbrev S1x1x1024 : Shape := ⟨3, ![1, 1, 1024]⟩
abbrev S8x64x512 : Shape := ⟨3, ![8, 64, 512]⟩
abbrev S512x256 : Shape := ⟨2, ![512, 256]⟩
abbrev S128x512 : Shape := ⟨2, ![128, 512]⟩
abbrev S8x128x512 : Shape := ⟨3, ![8, 128, 512]⟩
abbrev S2x512x256 : Shape := ⟨3, ![2, 512, 256]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S1x512x256 : Shape := ⟨3, ![1, 512, 256]⟩
abbrev S512x2048 : Shape := ⟨2, ![512, 2048]⟩

abbrev nBuf : Space → Nat
  | .hbm => 57
  | .vmem => 33
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024, .f32⟩
  | .hbm, ⟨3, _⟩ => ⟨S1x1024, .f32⟩
  | .hbm, ⟨4, _⟩ => ⟨S1x1024x4360, .f32⟩
  | .hbm, ⟨5, _⟩ => ⟨S16384x1024, .f32⟩
  | .hbm, ⟨6, _⟩ => ⟨S4x1x1024, .f32⟩
  | .hbm, ⟨7, _⟩ => ⟨S4x1x1024, .f32⟩
  | .hbm, ⟨8, _⟩ => ⟨S1024x4360, .f32⟩
  | .hbm, ⟨9, _⟩ => ⟨S1024x512, .f32⟩
  | .hbm, ⟨10, _⟩ => ⟨S512x1024, .f32⟩
  | .hbm, ⟨11, _⟩ => ⟨S512x1024, .bf16⟩
  | .hbm, ⟨12, _⟩ => ⟨S1024x128, .f32⟩
  | .hbm, ⟨13, _⟩ => ⟨S1024x2x64, .f32⟩
  | .hbm, ⟨14, _⟩ => ⟨S_, .i32⟩
  | .hbm, ⟨15, _⟩ => ⟨S_, .f32⟩
  | .hbm, ⟨16, _⟩ => ⟨S1024x2x128, .f32⟩
  | .hbm, ⟨17, _⟩ => ⟨S1024x256, .f32⟩
  | .hbm, ⟨18, _⟩ => ⟨S1024x256, .bf16⟩
  | .hbm, ⟨19, _⟩ => ⟨S1024x128, .f32⟩
  | .hbm, ⟨20, _⟩ => ⟨S128x1024, .f32⟩
  | .hbm, ⟨21, _⟩ => ⟨S128x1024, .bf16⟩
  | .hbm, ⟨22, _⟩ => ⟨S1024x512, .f32⟩
  | .hbm, ⟨23, _⟩ => ⟨S512x1024, .f32⟩
  | .hbm, ⟨24, _⟩ => ⟨S8x64x1024, .f32⟩
  | .hbm, ⟨25, _⟩ => ⟨S_, .i32⟩
  | .hbm, ⟨26, _⟩ => ⟨S_, .f32⟩
  | .hbm, ⟨27, _⟩ => ⟨S8x128x1024, .f32⟩
  | .hbm, ⟨28, _⟩ => ⟨S1024x1024, .f32⟩
  | .hbm, ⟨29, _⟩ => ⟨S1024x1024, .bf16⟩
  | .hbm, ⟨30, _⟩ => ⟨S1024x512, .f32⟩
  | .hbm, ⟨31, _⟩ => ⟨S1024x8x64, .f32⟩
  | .hbm, ⟨32, _⟩ => ⟨S_, .i32⟩
  | .hbm, ⟨33, _⟩ => ⟨S_, .f32⟩
  | .hbm, ⟨34, _⟩ => ⟨S1024x8x128, .f32⟩
  | .hbm, ⟨35, _⟩ => ⟨S1024x1024, .f32⟩
  | .hbm, ⟨36, _⟩ => ⟨S1024x1024, .bf16⟩
  | .hbm, ⟨37, _⟩ => ⟨S1024x512, .f32⟩
  | .hbm, ⟨38, _⟩ => ⟨S512x1024, .f32⟩
  | .hbm, ⟨39, _⟩ => ⟨S512x1024, .bf16⟩
  | .hbm, ⟨40, _⟩ => ⟨S1024x8, .f32⟩
  | .hbm, ⟨41, _⟩ => ⟨S_, .i32⟩
  | .hbm, ⟨42, _⟩ => ⟨S_, .f32⟩
  | .hbm, ⟨43, _⟩ => ⟨S1024x128, .f32⟩
  | .hbm, ⟨44, _⟩ => ⟨S1024x2048, .f32⟩
  | .hbm, ⟨45, _⟩ => ⟨S1024x2048, .bf16⟩
  | .hbm, ⟨46, _⟩ => ⟨S1024, .f32⟩
  | .hbm, ⟨47, _⟩ => ⟨S1x1024, .f32⟩
  | .hbm, ⟨48, _⟩ => ⟨S8x64x16384, .bf16⟩
  | .hbm, ⟨49, _⟩ => ⟨S16384x256, .bf16⟩
  | .hbm, ⟨50, _⟩ => ⟨S128x16384, .bf16⟩
  | .hbm, ⟨51, _⟩ => ⟨S8x128x16384, .bf16⟩
  | .hbm, ⟨52, _⟩ => ⟨S16384x1024, .bf16⟩
  | .hbm, ⟨53, _⟩ => ⟨S64x512x256, .bf16⟩
  | .hbm, ⟨54, _⟩ => ⟨S16384x128, .f32⟩
  | .hbm, ⟨55, _⟩ => ⟨S16384x1024, .bf16⟩
  | .hbm, ⟨56, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x1024, .bf16⟩
  | .local _ .vmem, ⟨8, _⟩ => ⟨S1024x256, .bf16⟩
  | .local _ .vmem, ⟨9, _⟩ => ⟨S128x1024, .bf16⟩
  | .local _ .vmem, ⟨10, _⟩ => ⟨S1024x1024, .bf16⟩
  | .local _ .vmem, ⟨11, _⟩ => ⟨S1024x1024, .bf16⟩
  | .local _ .vmem, ⟨12, _⟩ => ⟨S512x1024, .bf16⟩
  | .local _ .vmem, ⟨13, _⟩ => ⟨S1024x128, .f32⟩
  | .local _ .vmem, ⟨14, _⟩ => ⟨S1024x2048, .bf16⟩
  | .local _ .vmem, ⟨15, _⟩ => ⟨S8x64x512, .bf16⟩
  | .local _ .vmem, ⟨16, _⟩ => ⟨S8x64x512, .bf16⟩
  | .local _ .vmem, ⟨17, _⟩ => ⟨S512x256, .bf16⟩
  | .local _ .vmem, ⟨18, _⟩ => ⟨S512x256, .bf16⟩
  | .local _ .vmem, ⟨19, _⟩ => ⟨S128x512, .bf16⟩
  | .local _ .vmem, ⟨20, _⟩ => ⟨S128x512, .bf16⟩
  | .local _ .vmem, ⟨21, _⟩ => ⟨S8x128x512, .bf16⟩
  | .local _ .vmem, ⟨22, _⟩ => ⟨S8x128x512, .bf16⟩
  | .local _ .vmem, ⟨23, _⟩ => ⟨S512x1024, .bf16⟩
  | .local _ .vmem, ⟨24, _⟩ => ⟨S512x1024, .bf16⟩
  | .local _ .vmem, ⟨25, _⟩ => ⟨S2x512x256, .bf16⟩
  | .local _ .vmem, ⟨26, _⟩ => ⟨S2x512x256, .bf16⟩
  | .local _ .vmem, ⟨27, _⟩ => ⟨S512x128, .f32⟩
  | .local _ .vmem, ⟨28, _⟩ => ⟨S512x128, .f32⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_0 : Ref sig .tc := ⟨.hbm, 25, rfl⟩
abbrev main_call1_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_1 : Ref sig .tc := ⟨.hbm, 32, rfl⟩
abbrev main_call2_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_2 : Ref sig .tc := ⟨.hbm, 41, rfl⟩
abbrev main_call3_v0 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35_0 : Ref sig .tc := ⟨.hbm, 48, rfl⟩
abbrev main_v35_1 : Ref sig .tc := ⟨.hbm, 49, rfl⟩
abbrev main_v35_2 : Ref sig .tc := ⟨.hbm, 50, rfl⟩
abbrev main_v35_3 : Ref sig .tc := ⟨.hbm, 51, rfl⟩
abbrev main_v35_4 : Ref sig .tc := ⟨.hbm, 52, rfl⟩
abbrev main_v35_5 : Ref sig .tc := ⟨.hbm, 53, rfl⟩
abbrev main_v35_6 : Ref sig .tc := ⟨.hbm, 54, rfl⟩
abbrev main_v35_7 : Ref sig .tc := ⟨.hbm, 55, rfl⟩
abbrev main_v35_8 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S8x64x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x128x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference5Ideal.lean ====
abbrev S4x4096x1024 : Shape := ⟨3, ![4, 4096, 1024]⟩
abbrev S4x1024 : Shape := ⟨2, ![4, 1024]⟩
abbrev S1x1024 : Shape := ⟨2, ![1, 1024]⟩
abbrev S1x1024x4360 : Shape := ⟨3, ![1, 1024, 4360]⟩
abbrev S_ : Shape := ⟨0, ![]⟩
abbrev S4x4096 : Shape := ⟨2, ![4, 4096]⟩
abbrev S4x4096x1 : Shape := ⟨3, ![4, 4096, 1]⟩
abbrev S1024 : Shape := ⟨1, ![1024]⟩
abbrev S1x1x1024 : Shape := ⟨3, ![1, 1, 1024]⟩
abbrev S4x1x1024 : Shape := ⟨3, ![4, 1, 1024]⟩
abbrev S1024x4360 : Shape := ⟨2, ![1024, 4360]⟩
abbrev S4x4096x4360 : Shape := ⟨3, ![4, 4096, 4360]⟩
abbrev S4x4096x768 : Shape := ⟨3, ![4, 4096, 768]⟩
abbrev S4x4096x512 : Shape := ⟨3, ![4, 4096, 512]⟩
abbrev S4x4096x128 : Shape := ⟨3, ![4, 4096, 128]⟩
abbrev S16384x8x64 : Shape := ⟨3, ![16384, 8, 64]⟩
abbrev S16384x2x64 : Shape := ⟨3, ![16384, 2, 64]⟩
abbrev S16384x2x128 : Shape := ⟨3, ![16384, 2, 128]⟩
abbrev S16384x256 : Shape := ⟨2, ![16384, 256]⟩
abbrev S16384x128 : Shape := ⟨2, ![16384, 128]⟩
abbrev S8x64x16384 : Shape := ⟨3, ![8, 64, 16384]⟩
abbrev S128x16384 : Shape := ⟨2, ![128, 16384]⟩

abbrev nBuf : Space → Nat
  | .hbm => 52
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024, .f32⟩
  | .hbm, ⟨3, _⟩ => ⟨S1x1024, .f32⟩
  | .hbm, ⟨4, _⟩ => ⟨S1x1024x4360, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1024, .f32⟩
  | .hbm, ⟨19, _⟩ => ⟨S1x1x1024, .f32⟩
  | .hbm, ⟨20, _⟩ => ⟨S4x4096x1024, .f32⟩
  | .hbm, ⟨21, _⟩ => ⟨S4x4096x1024, .f32⟩
  | .hbm, ⟨22, _⟩ => ⟨S4x1x1024, .f32⟩
  | .hbm, ⟨23, _⟩ => ⟨S_, .f32⟩
  | .hbm, ⟨24, _⟩ => ⟨S4x1x1024, .f32⟩
  | .hbm, ⟨25, _⟩ => ⟨S4x1x1024, .f32⟩
  | .hbm, ⟨26, _⟩ => ⟨S4x4096x1024, .f32⟩
  | .hbm, ⟨27, _⟩ => ⟨S4x4096x1024, .f32⟩
  | .hbm, ⟨28, _⟩ => ⟨S4x1x1024, .f32⟩
  | .hbm, ⟨29, _⟩ => ⟨S4x4096x1024, .f32⟩
  | .hbm, ⟨30, _⟩ => ⟨S4x4096x1024, .f32⟩
  | .hbm, ⟨31, _⟩ => ⟨S1024x4360, .f32⟩
  | .hbm, ⟨32, _⟩ => ⟨S4x4096x4360, .f32⟩
  | .hbm, ⟨33, _⟩ => ⟨S4x4096x768, .f32⟩
  | .hbm, ⟨34, _⟩ => ⟨S4x4096x512, .f32⟩
  | .hbm, ⟨35, _⟩ => ⟨S4x4096x128, .f32⟩
  | .hbm, ⟨36, _⟩ => ⟨S4x4096x128, .f32⟩
  | .hbm, ⟨37, _⟩ => ⟨S_, .f32⟩
  | .hbm, ⟨38, _⟩ => ⟨S4x4096x512, .f32⟩
  | .hbm, ⟨39, _⟩ => ⟨S4x4096x512, .f32⟩
  | .hbm, ⟨40, _⟩ => ⟨S16384x8x64, .f32⟩
  | .hbm, ⟨41, _⟩ => ⟨S16384x2x64, .f32⟩
  | .hbm, ⟨42, _⟩ => ⟨S_, .i32⟩
  | .hbm, ⟨43, _⟩ => ⟨S_, .f32⟩
  | .hbm, ⟨44, _⟩ => ⟨S16384x2x128, .f32⟩
  | .hbm, ⟨45, _⟩ => ⟨S16384x256, .f32⟩
  | .hbm, ⟨46, _⟩ => ⟨S16384x128, .f32⟩
  | .hbm, ⟨47, _⟩ => ⟨S8x64x16384, .f32⟩
  | .hbm, ⟨48, _⟩ => ⟨S8x64x16384, .bf16⟩
  | .hbm, ⟨49, _⟩ => ⟨S16384x256, .bf16⟩
  | .hbm, ⟨50, _⟩ => ⟨S128x16384, .f32⟩
  | .hbm, ⟨51, _⟩ => ⟨S128x16384, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c : Ref sig .tc := ⟨.hbm, 42, rfl⟩
abbrev main_call0_v0 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Proof.IInproj.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

/-!
The input projection call of the idealized kernel: its windows, its triple at a grid point, its proof data.
-/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

section Regions
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S512x1024 := Rect.unit (s := S512x1024) ![0, 0] S512x1024.size inb_S512x1024_S512x1024_0_0
abbrev r0_1 : Rect S1x1024 := Rect.unit (s := S1x1024) ![0, 0] S1x1024.size inb_S1x1024_S1x1024_0_0
abbrev r0_2 : Rect S1x1x1024 := Rect.unit (s := S1x1x1024) ![0, 0, 0] S1x1x1024.size inb_S1x1x1024_S1x1x1024_0_0_0
abbrev r0_3 : Rect S8x64x512 := Rect.unit (s := S8x64x512) ![0, 0, 0] S8x64x512.size inb_S8x64x512_S8x64x512_0_0_0
abbrev r0_4 : Rect S1024x256 := Rect.unit (s := S1024x256) ![0, 0] S1024x256.size inb_S1024x256_S1024x256_0_0
abbrev r0_5 : Rect S512x256 := Rect.unit (s := S512x256) ![0, 0] S512x256.size inb_S512x256_S512x256_0_0
abbrev r0_6 : Rect S128x1024 := Rect.unit (s := S128x1024) ![0, 0] S128x1024.size inb_S128x1024_S128x1024_0_0
abbrev r0_7 : Rect S128x512 := Rect.unit (s := S128x512) ![0, 0] S128x512.size inb_S128x512_S128x512_0_0
abbrev r0_8 : Rect S1024x1024 := Rect.unit (s := S1024x1024) ![0, 0] S1024x1024.size inb_S1024x1024_S1024x1024_0_0
abbrev r0_9 : Rect S8x128x512 := Rect.unit (s := S8x128x512) ![0, 0, 0] S8x128x512.size inb_S8x128x512_S8x128x512_0_0_0
abbrev r0_10 : Rect S2x512x256 := Rect.unit (s := S2x512x256) ![0, 0, 0] S1x512x256.size inb_S2x512x256_S1x512x256_0_0_0
abbrev r0_11 : Rect S2x512x256 := Rect.unit (s := S2x512x256) ![1, 0, 0] S1x512x256.size inb_S2x512x256_S1x512x256_1_0_0
abbrev r0_12 : Rect S1024x128 := Rect.unit (s := S1024x128) ![0, 0] S1024x128.size inb_S1024x128_S1024x128_0_0
abbrev r0_13 : Rect S512x128 := Rect.unit (s := S512x128) ![0, 0] S512x128.size inb_S512x128_S512x128_0_0
abbrev r0_14 : Rect S1024x2048 := Rect.unit (s := S1024x2048) ![0, 0] S1024x2048.size inb_S1024x2048_S1024x2048_0_0

def k0_pay21 (x0 : Vec F S512x1024 .f32) (x1 : Vec F S1x1024 .f32) (x2 : Vec F S1x1x1024 .f32) (x3 : Vec F S1x1x1024 .f32) (x4 : Vec F S512x1024 .bf16) (x5 : Vec F S1024x256 .bf16) (x6 : Vec F S128x1024 .bf16) (x7 : Vec F S1024x1024 .bf16) (x8 : Vec F S1024x1024 .bf16) (x9 : Vec F S512x1024 .bf16) (x10 : Vec F S1024x128 .f32) (x11 : Vec F S1024x2048 .bf16) : FVec F S512x1024 .bf16 :=
  k0_pay5 (View.ld x0 r0_0) (View.ld x1 r0_1) (View.ld x2 r0_2) (View.ld x3 r0_2) -- `v26`
def k0_pay22 (x0 : Vec F S512x1024 .f32) (x1 : Vec F S1x1024 .f32) (x2 : Vec F S1x1x1024 .f32) (x3 : Vec F S1x1x1024 .f32) (x4 : Vec F S512x1024 .bf16) (x5 : Vec F S1024x256 .bf16) (x6 : Vec F S128x1024 .bf16) (x7 : Vec F S1024x1024 .bf16) (x8 : Vec F S1024x1024 .bf16) (x9 : Vec F S512x1024 .bf16) (x10 : Vec F S1024x128 .f32) (x11 : Vec F S1024x2048 .bf16) : FVec F S1024x512 .bf16 :=
  k0_pay6 (View.ld x0 r0_0) (View.ld x1 r0_1) (View.ld x2 r0_2) (View.ld x3 r0_2) -- `v28`
def k0_pay23 (x0 : Vec F S512x1024 .f32) (x1 : Vec F S1x1024 .f32) (x2 : Vec F S1x1x1024 .f32) (x3 : Vec F S1x1x1024 .f32) (x4 : Vec F S512x1024 .bf16) (x5 : Vec F S1024x256 .bf16) (x6 : Vec F S128x1024 .bf16) (x7 : Vec F S1024x1024 .bf16) (x8 : Vec F S1024x1024 .bf16) (x9 : Vec F S512x1024 .bf16) (x10 : Vec F S1024x128 .f32) (x11 : Vec F S1024x2048 .bf16) : FVec F S512x2048 .f32 :=
  constant S512x2048 .f32 0x00000000#32 -- `cst_60`
def k0_pay24 (x0 : Vec F S512x1024 .f32) (x1 : Vec F S1x1024 .f32) (x2 : Vec F S1x1x1024 .f32) (x3 : Vec F S1x1x1024 .f32) (x4 : Vec F S512x1024 .bf16) (x5 : Vec F S1024x256 .bf16) (x6 : Vec F S128x1024 .bf16) (x7 : Vec F S1024x1024 .bf16) (x8 : Vec F S1024x1024 .bf16) (x9 : Vec F S512x1024 .bf16) (x10 : Vec F S1024x128 .f32) (x11 : Vec F S1024x2048 .bf16) : FVec F S1024x2048 .bf16 :=
  k0_pay20 (View.ld x11 r0_14) -- `v101`

def out0_12 (x0 : Vec F S512x1024 .f32) (x1 : Vec F S1x1024 .f32) (x2 : Vec F S1x1x1024 .f32) (x3 : Vec F S1x1x1024 .f32) (x4 : Vec F S512x1024 .bf16) (x5 : Vec F S1024x256 .bf16) (x6 : Vec F S128x1024 .bf16) (x7 : Vec F S1024x1024 .bf16) (x8 : Vec F S1024x1024 .bf16) (x9 : Vec F S512x1024 .bf16) (x10 : Vec F S1024x128 .f32) (x11 : Vec F S1024x2048 .bf16) : Vec F S8x64x512 .bf16 :=
  View.canon [⟨r0_3, k0_pay7 (View.ld x0 r0_0) (View.ld x1 r0_1) (View.ld x2 r0_2) (View.ld x3 r0_2) (View.ld x4 r0_0)⟩]

theorem cover0_12 (p0 : Vec F S8x64x512 .bf16) (y : S8x64x512.Idx) :
    ∃ pc ∈ ([⟨r0_3, p0⟩] : List (View.Piece (Elt F) S8x64x512 .bf16)), y ∈ pc.1.set :=
  View.cover_of_tiled [⟨r0_3, p0⟩] S8x64x512.size (by rfl) y

def out0_13 (x0 : Vec F S512x1024 .f32) (x1 : Vec F S1x1024 .f32) (x2 : Vec F S1x1x1024 .f32) (x3 : Vec F S1x1x1024 .f32) (x4 : Vec F S512x1024 .bf16) (x5 : Vec F S1024x256 .bf16) (x6 : Vec F S128x1024 .bf16) (x7 : Vec F S1024x1024 .bf16) (x8 : Vec F S1024x1024 .bf16) (x9 : Vec F S512x1024 .bf16) (x10 : Vec F S1024x128 .f32) (x11 : Vec F S1024x2048 .bf16) : Vec F S512x256 .bf16 :=
  View.canon [⟨r0_5, k0_pay8 (k0_pay21 x0 x1 x2 x3 x4 x5 x6 x7 x8 x9 x10 x11) (View.ld x5 r0_4)⟩]

theorem cover0_13 (p0 : Vec F S512x256 .bf16) (y : S512x256.Idx) :
    ∃ pc ∈ ([⟨r0_5, p0⟩] : List (View.Piece (Elt F) S512x256 .bf16)), y ∈ pc.1.set :=
  View.cover_of_tiled [⟨r0_5, p0⟩] S512x256.size (by rfl) y

def out0_14 (x0 : Vec F S512x1024 .f32) (x1 : Vec F S1x1024 .f32) (x2 : Vec F S1x1x1024 .f32) (x3 : Vec F S1x1x1024 .f32) (x4 : Vec F S512x1024 .bf16) (x5 : Vec F S1024x256 .bf16) (x6 : Vec F S128x1024 .bf16) (x7 : Vec F S1024x1024 .bf16) (x8 : Vec F S1024x1024 .bf16) (x9 : Vec F S512x1024 .bf16) (x10 : Vec F S1024x128 .f32) (x11 : Vec F S1024x2048 .bf16) : Vec F S128x512 .bf16 :=
  View.canon [⟨r0_7, k0_pay9 (k0_pay22 x0 x1 x2 x3 x4 x5 x6 x7 x8 x9 x10 x11) (View.ld x6 r0_6)⟩]

theorem cover0_14 (p0 : Vec F S128x512 .bf16) (y : S128x512.Idx) :
    ∃ pc ∈ ([⟨r0_7, p0⟩] : List (View.Piece (Elt F) S128x512 .bf16)), y ∈ pc.1.set :=
  View.cover_of_tiled [⟨r0_7, p0⟩] S128x512.size (by rfl) y

def out0_15 (x0 : Vec F S512x1024 .f32) (x1 : Vec F S1x1024 .f32) (x2 : Vec F S1x1x1024 .f32) (x3 : Vec F S1x1x1024 .f32) (x4 : Vec F S512x1024 .bf16) (x5 : Vec F S1024x256 .bf16) (x6 : Vec F S128x1024 .bf16) (x7 : Vec F S1024x1024 .bf16) (x8 : Vec F S1024x1024 .bf16) (x9 : Vec F S512x1024 .bf16) (x10 : Vec F S1024x128 .f32) (x11 : Vec F S1024x2048 .bf16) : Vec F S8x128x512 .bf16 :=
  View.canon [⟨r0_9, k0_pay14 (k0_pay10 (k0_pay22 x0 x1 x2 x3 x4 x5 x6 x7 x8 x9 x10 x11) (View.ld x7 r0_8)) k0_pay12 k0_pay13⟩]

theorem cover0_15 (p0 : Vec F S8x128x512 .bf16) (y : S8x128x512.Idx) :
    ∃ pc ∈ ([⟨r0_9, p0⟩] : List (View.Piece (Elt F) S8x128x512 .bf16)), y ∈ pc.1.set :=
  View.cover_of_tiled [⟨r0_9, p0⟩] S8x128x512.size (by rfl) y

def out0_16 (x0 : Vec F S512x1024 .f32) (x1 : Vec F S1x1024 .f32) (x2 : Vec F S1x1x1024 .f32) (x3 : Vec F S1x1x1024 .f32) (x4 : Vec F S512x1024 .bf16) (x5 : Vec F S1024x256 .bf16) (x6 : Vec F S128x1024 .bf16) (x7 : Vec F S1024x1024 .bf16) (x8 : Vec F S1024x1024 .bf16) (x9 : Vec F S512x1024 .bf16) (x10 : Vec F S1024x128 .f32) (x11 : Vec F S1024x2048 .bf16) : Vec F S512x1024 .bf16 :=
  View.canon [⟨r0_0, k0_pay15 (k0_pay21 x0 x1 x2 x3 x4 x5 x6 x7 x8 x9 x10 x11) (View.ld x8 r0_8)⟩]

theorem cover0_16 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

def out0_17 (x0 : Vec F S512x1024 .f32) (x1 : Vec F S1x1024 .f32) (x2 : Vec F S1x1x1024 .f32) (x3 : Vec F S1x1x1024 .f32) (x4 : Vec F S512x1024 .bf16) (x5 : Vec F S1024x256 .bf16) (x6 : Vec F S128x1024 .bf16) (x7 : Vec F S1024x1024 .bf16) (x8 : Vec F S1024x1024 .bf16) (x9 : Vec F S512x1024 .bf16) (x10 : Vec F S1024x128 .f32) (x11 : Vec F S1024x2048 .bf16) : Vec F S2x512x256 .bf16 :=
  View.canon [⟨r0_11, k0_pay18 (k0_pay22 x0 x1 x2 x3 x4 x5 x6 x7 x8 x9 x10 x11) (View.ld x9 r0_0)⟩,
    ⟨r0_10, k0_pay17 (k0_pay22 x0 x1 x2 x3 x4 x5 x6 x7 x8 x9 x10 x11) (View.ld x9 r0_0)⟩]

theorem cover0_17 (p0 : Vec F S1x512x256 .bf16) (p1 : Vec F S1x512x256 .bf16) (y : S2x512x256.Idx) :
    ∃ pc ∈ ([⟨r0_11, p0⟩, ⟨r0_10, p1⟩] : List (View.Piece (Elt F) S2x512x256 .bf16)), y ∈ pc.1.set :=
  View.cover_of_tiled [⟨r0_11, p0⟩, ⟨r0_10, p1⟩] S1x512x256.size (by rfl) y

def out0_18 (x0 : Vec F S512x1024 .f32) (x1 : Vec F S1x1024 .f32) (x2 : Vec F S1x1x1024 .f32) (x3 : Vec F S1x1x1024 .f32) (x4 : Vec F S512x1024 .bf16) (x5 : Vec F S1024x256 .bf16) (x6 : Vec F S128x1024 .bf16) (x7 : Vec F S1024x1024 .bf16) (x8 : Vec F S1024x1024 .bf16) (x9 : Vec F S512x1024 .bf16) (x10 : Vec F S1024x128 .f32) (x11 : Vec F S1024x2048 .bf16) : Vec F S512x128 .f32 :=
  View.canon [⟨r0_13, k0_pay19 (k0_pay4 (View.ld x0 r0_0) (View.ld x1 r0_1) (View.ld x2 r0_2) (View.ld x3 r0_2)) (View.ld x10 r0_12)⟩]

theorem cover0_18 (p0 : Vec F S512x128 .f32) (y : S512x128.Idx) :
    ∃ pc ∈ ([⟨r0_13, p0⟩] : List (View.Piece (Elt F) S512x128 .f32)), y ∈ pc.1.set :=
  View.cover_of_tiled [⟨r0_13, p0⟩] S512x128.size (by rfl) y

def out0_19 (x0 : Vec F S512x1024 .f32) (x1 : Vec F S1x1024 .f32) (x2 : Vec F S1x1x1024 .f32) (x3 : Vec F S1x1x1024 .f32) (x4 : Vec F S512x1024 .bf16) (x5 : Vec F S1024x256 .bf16) (x6 : Vec F S128x1024 .bf16) (x7 : Vec F S1024x1024 .bf16) (x8 : Vec F S1024x1024 .bf16) (x9 : Vec F S512x1024 .bf16) (x10 : Vec F S1024x128 .f32) (x11 : Vec F S1024x2048 .bf16) : Vec F S512x1024 .bf16 :=
  View.canon [⟨r0_0, k0_pay2 (k0_pay21 x0 x1 x2 x3 x4 x5 x6 x7 x8 x9 x10 x11) (k0_pay24 x0 x1 x2 x3 x4 x5 x6 x7 x8 x9 x10 x11) (k0_pay23 x0 x1 x2 x3 x4 x5 x6 x7 x8 x9 x10 x11)⟩]

theorem cover0_19 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

def out0_20 (x0 : Vec F S512x1024 .f32) (x1 : Vec F S1x1024 .f32) (x2 : Vec F S1x1x1024 .f32) (x3 : Vec F S1x1x1024 .f32) (x4 : Vec F S512x1024 .bf16) (x5 : Vec F S1024x256 .bf16) (x6 : Vec F S128x1024 .bf16) (x7 : Vec F S1024x1024 .bf16) (x8 : Vec F S1024x1024 .bf16) (x9 : Vec F S512x1024 .bf16) (x10 : Vec F S1024x128 .f32) (x11 : Vec F S1024x2048 .bf16) : Vec F S512x1024 .bf16 :=
  View.canon [⟨r0_0, k0_pay3 (k0_pay21 x0 x1 x2 x3 x4 x5 x6 x7 x8 x9 x10 x11) (k0_pay24 x0 x1 x2 x3 x4 x5 x6 x7 x8 x9 x10 x11) (k0_pay23 x0 x1 x2 x3 x4 x5 x6 x7 x8 x9 x10 x11)⟩]

theorem cover0_20 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

set_option maxHeartbeats 1000000 in
theorem sound_kernel0 (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S512x1024 .bf16) (harg5 : arg5.IsWhole) (arg6 : Memref sig .tc .vmem S1024x256 .bf16) (harg6 : arg6.IsWhole) (arg7 : Memref sig .tc .vmem S128x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S512x1024 .bf16) (harg10 : arg10.IsWhole) (arg11 : Memref sig .tc .vmem S1024x128 .f32) (harg11 : arg11.IsWhole) (arg12 : Memref sig .tc .vmem S1024x2048 .bf16) (harg12 : arg12.IsWhole) (arg13 : Memref sig .tc .vmem S8x64x512 .bf16) (harg13 : arg13.IsWhole) (arg14 : Memref sig .tc .vmem S512x256 .bf16) (harg14 : arg14.IsWhole) (arg15 : Memref sig .tc .vmem S128x512 .bf16) (harg15 : arg15.IsWhole) (arg16 : Memref sig .tc .vmem S8x128x512 .bf16) (harg16 : arg16.IsWhole) (arg17 : Memref sig .tc .vmem S512x1024 .bf16) (harg17 : arg17.IsWhole) (arg18 : Memref sig .tc .vmem S2x512x256 .bf16) (harg18 : arg18.IsWhole) (arg19 : Memref sig .tc .vmem S512x128 .f32) (harg19 : arg19.IsWhole) (arg20 : Memref sig .tc .vmem S512x1024 .bf16) (harg20 : arg20.IsWhole) (arg21 : Memref sig .tc .vmem S512x1024 .bf16) (harg21 : arg21.IsWhole)
    (x0 : Vec F S512x1024 .f32) (x1 : Vec F S1x1024 .f32) (x2 : Vec F S1x1x1024 .f32) (x3 : Vec F S1x1x1024 .f32) (x4 : Vec F S512x1024 .bf16) (x5 : Vec F S1024x256 .bf16) (x6 : Vec F S128x1024 .bf16) (x7 : Vec F S1024x1024 .bf16) (x8 : Vec F S1024x1024 .bf16) (x9 : Vec F S512x1024 .bf16) (x10 : Vec F S1024x128 .f32) (x11 : Vec F S1024x2048 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out0_12 x0 x1 x2 x3 x4 x5 x6 x7 x8 x9 x10 x11) ∗ owns (c : Thread nD τ) arg14 fullShare (out0_13 x0 x1 x2 x3 x4 x5 x6 x7 x8 x9 x10 x11) ∗ owns (c : Thread nD τ) arg15 fullShare (out0_14 x0 x1 x2 x3 x4 x5 x6 x7 x8 x9 x10 x11) ∗ owns (c : Thread nD τ) arg16 fullShare (out0_15 x0 x1 x2 x3 x4 x5 x6 x7 x8 x9 x10 x11) ∗ owns (c : Thread nD τ) arg17 fullShare (out0_16 x0 x1 x2 x3 x4 x5 x6 x7 x8 x9 x10 x11) ∗ owns (c : Thread nD τ) arg18 fullShare (out0_17 x0 x1 x2 x3 x4 x5 x6 x7 x8 x9 x10 x11) ∗ owns (c : Thread nD τ) arg19 fullShare (out0_18 x0 x1 x2 x3 x4 x5 x6 x7 x8 x9 x10 x11) ∗ owns (c : Thread nD τ) arg20 fullShare (out0_19 x0 x1 x2 x3 x4 x5 x6 x7 x8 x9 x10 x11) ∗ owns (c : Thread nD τ) arg21 fullShare (out0_20 x0 x1 x2 x3 x4 x5 x6 x7 x8 x9 x10 x11)) -∗ K ⟨⟩))
      ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_inproj_eq_skeleton]; unfold cc0_inproj_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    refine (View.read_writes_eq_canon _ _ _ (cover0_12 _)).trans ?_
    rfl
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _ _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  iexists _; isplitr
  swap; · iexact H20
  ipureintro
  refine (View.read_writes_eq_canon _ _ _ (cover0_20 _)).trans ?_
  rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨13, _⟩ => out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨16, _⟩ => out0_16 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨17, _⟩ => out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨18, _⟩ => out0_18 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨19, _⟩ => out0_19 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨20, _⟩ => out0_20 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨_ + 21, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_13 (c : Dev nD) (t : Fin cfg0.N) : (dat0 V c).after 13 t = out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_14 (c : Dev nD) (t : Fin cfg0.N) : (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_15 (c : Dev nD) (t : Fin cfg0.N) : (dat0 V c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_16 (c : Dev nD) (t : Fin cfg0.N) : (dat0 V c).after 16 t = out0_16 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_17 (c : Dev nD) (t : Fin cfg0.N) : (dat0 V c).after 17 t = out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_18 (c : Dev nD) (t : Fin cfg0.N) : (dat0 V c).after 18 t = out0_18 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_19 (c : Dev nD) (t : Fin cfg0.N) : (dat0 V c).after 19 t = out0_19 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_20 (c : Dev nD) (t : Fin cfg0.N) : (dat0 V c).after 20 t = out0_20 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel0 c Set.univ (grid0.coords t) _ _ _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

theorem defs₀_row0 (t : Fin cfg0.N) :
    defs₀ (F := F) .tc cfg0.body (cfg0.bodyArgs t (cfg0.slots t)) = bodyAt0 t := by
  unfold defs₀; rw [Defs.onTc_tc]

set_option maxHeartbeats 4000000 in
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Run

end
-- ==== Proof.ICalls.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

/-!
The forget-gate and attention calls of the idealized kernel: their windows, their triples at a grid point, their proof data.
-/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

section Regions
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1x4096x128 := Rect.unit (s := S1x4096x128) ![0, 0, 0] S1x4096x128.size inb_S1x4096x128_S1x4096x128_0_0_0
abbrev r1_1 : Rect S1x128 := Rect.unit (s := S1x128) ![0, 0] S1x128.size inb_S1x128_S1x128_0_0
abbrev r1_2 : Rect S3x128x1024 := Rect.unit (s := S3x128x1024) ![0, 0, 0] S1x128x1024.size inb_S3x128x1024_S1x128x1024_0_0_0
abbrev r1_3 : Rect S3x128x1024 := Rect.unit (s := S3x128x1024) ![1, 0, 0] S1x128x1024.size inb_S3x128x1024_S1x128x1024_1_0_0
abbrev r1_4 : Rect S3x128x1024 := Rect.unit (s := S3x128x1024) ![2, 0, 0] S1x128x1024.size inb_S3x128x1024_S1x128x1024_2_0_0
abbrev r1_5 : Rect S4096x1024 := Rect.unit (s := S4096x1024) ![0, 0] S4096x1024.size inb_S4096x1024_S4096x1024_0_0

def k1_pay7 (x0 : Vec F S1x4096x128 .f32) (x1 : Vec F S1x128 .f32) (x2 : Vec F S4096x1024 .bf16) (x3 : Vec F S3x128x1024 .bf16) : IVec S4096x128 32 :=
  iota .tc S4096x128 32 [0] iota_S4096x128_d0_w32 -- `v20`
def k1_pay8 (x0 : Vec F S1x4096x128 .f32) (x1 : Vec F S1x128 .f32) (x2 : Vec F S4096x1024 .bf16) (x3 : Vec F S3x128x1024 .bf16) : FVec F S4096x128 .f32 :=
  k1_pay1 (View.ld x0 r1_0) (View.ld x1 r1_1) -- `v38`

def out1_4 (x0 : Vec F S1x4096x128 .f32) (x1 : Vec F S1x128 .f32) (x2 : Vec F S4096x1024 .bf16) (x3 : Vec F S3x128x1024 .bf16) : Vec F S4096x1024 .bf16 :=
  View.canon [⟨r1_5, k1_pay6 (k1_pay7 x0 x1 x2 x3) (k1_pay2 (k1_pay7 x0 x1 x2 x3) (k1_pay8 x0 x1 x2 x3) 8#32) (k1_pay3 (k1_pay7 x0 x1 x2 x3) (k1_pay8 x0 x1 x2 x3) 8#32) (k1_pay4 (k1_pay7 x0 x1 x2 x3)) (k1_pay5 (F := F)) (View.ld x3 r1_2) (View.ld x3 r1_3) (View.ld x3 r1_4) (View.ld x2 r1_5)⟩]

theorem cover1_4 (p0 : Vec F S4096x1024 .bf16) (y : S4096x1024.Idx) :
    ∃ pc ∈ ([⟨r1_5, p0⟩] : List (View.Piece (Elt F) S4096x1024 .bf16)), y ∈ pc.1.set :=
  View.cover_of_tiled [⟨r1_5, p0⟩] S4096x1024.size (by rfl) y

set_option maxHeartbeats 1000000 in
theorem sound_kernel1 (c : Dev nD) (E : Set ℕ) (i : grid1.Coords) (arg1 : Memref sig .tc .vmem S1x4096x128 .f32) (harg1 : arg1.IsWhole) (arg2 : Memref sig .tc .vmem S1x128 .f32) (harg2 : arg2.IsWhole) (arg3 : Memref sig .tc .vmem S4096x1024 .bf16) (harg3 : arg3.IsWhole) (arg4 : Memref sig .tc .vmem S3x128x1024 .bf16) (harg4 : arg4.IsWhole) (arg5 : Memref sig .tc .vmem S4096x1024 .bf16) (harg5 : arg5.IsWhole)
    (x0 : Vec F S1x4096x128 .f32) (x1 : Vec F S1x128 .f32) (x2 : Vec F S4096x1024 .bf16) (x3 : Vec F S3x128x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1_kf i arg1 harg1 arg2 harg2 arg3 harg3 arg4 harg4 arg5 harg5) K := by
  simp only [cc1_kf_eq_skeleton]; unfold cc1_kf_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover1_4 _)).trans ?_
  rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev VO2_3 : View sig .tc .vmem S512x512 .bf16 := (Memref.whole cc2_stg3_0 : Memref sig .tc .vmem S512x512 .bf16).view
abbrev ms2_0 (t : Fin cfg2.N) : Memref sig .tc .vmem S8x128x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S16x512x256 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x512 .bf16 := win2_3.stage (cfg2.slots t 3)
abbrev hs2_3 (t : Fin cfg2.N) : (ms2_3 t).IsWhole := hstage2_3 ((cfg2.slots t 3).cast nbuf2_3)
abbrev scM2_0 : Memref sig .tc .vmem S8x512 .f32 := Memref.whole cc2_scratch0
abbrev scM2_1 : Memref sig .tc .vmem S8x512 .f32 := Memref.whole cc2_scratch1
abbrev scM2_2 : Memref sig .tc .vmem S512x512 .f32 := Memref.whole cc2_scratch2

theorem scopedRest2_flat (c : Dev nD) :
    (Pipeline.scopedRest spec2 c : sProp 𝕄)
      = iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ (∃ f : Buf (Elt F) ((c : Thread nD τ).loc cc2_scratch2), ((c : Thread nD τ).loc cc2_scratch2) ↦{fullShare} f) ∗ Pipeline.scopedRestBut spec2 c [cc2_scratch0, cc2_scratch1, cc2_scratch2]) := by
  have assoc : ∀ P Q R : sProp 𝕄, iprop((P ∗ Q) ∗ R) = iprop(P ∗ Q ∗ R) :=
    fun _ _ _ => Idealize.SL.BI.Entails.antisymm Idealize.SL.BI.sep_assoc Idealize.SL.BI.sep_assoc'
  rw [scopedRest2_split, assoc, assoc]

theorem PhiA2_eq (c : Dev nD) :
    (Pipeline.ΦA spec2 c : sProp 𝕄)
      = iprop(iprop((∃ d, owns (c : Thread nD τ) scM2_0 fullShare d) ∗ (∃ d, owns (c : Thread nD τ) scM2_1 fullShare d) ∗ (∃ d, owns (c : Thread nD τ) scM2_2 fullShare d) ∗ Pipeline.scopedRestBut spec2 c [cc2_scratch0, cc2_scratch1, cc2_scratch2]) ∗ (∃ r, prngReg c r)) := by
  unfold Pipeline.ΦA; rw [scopedRest2_flat]; simp only [scM2_0, scM2_1, scM2_2, owns_whole]; try rfl
set_option maxHeartbeats 1756000 in
noncomputable def kernelRun2_A (c : Dev nD) (i : grid2.Coords) (arg2 : Memref sig .tc .vmem S8x128x512 .bf16) (harg2 : arg2.IsWhole) (arg3 : Memref sig .tc .vmem S4096x1024 .bf16) (harg3 : arg3.IsWhole) (arg4 : Memref sig .tc .vmem S16x512x256 .bf16) (harg4 : arg4.IsWhole) (arg5 : Memref sig .tc .vmem S512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole)
    (x0 : Vec F S8x128x512 .bf16) (x1 : Vec F S4096x1024 .bf16) (x2 : Vec F S16x512x256 .bf16) :
    { L3 : List (View.Piece (Elt F) S512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc2_fox i arg2 harg2 arg3 harg3 arg4 harg4 arg5 harg5 arg6 harg6 arg7 harg7 arg8 harg8) K } := by
  refine ⟨?_, fun E K => ?run⟩
  case run =>
    simp only [cc2_fox_eq_skeleton]; unfold cc2_fox_skel
    simp only [k2_part17_eq_skeleton, k2_part18_eq_skeleton, k2_part19_eq_skeleton, k2_part20_eq_skeleton, k2_part21_eq_skeleton, k2_part22_eq_skeleton, k2_part23_eq_skeleton, k2_part24_eq_skeleton, k2_part25_eq_skeleton, k2_part26_eq_skeleton, k2_part27_eq_skeleton, k2_part28_eq_skeleton, k2_part29_eq_skeleton, k2_part30_eq_skeleton, k2_part31_eq_skeleton, k2_part32_eq_skeleton, k2_part33_eq_skeleton, k2_part34_eq_skeleton, k2_part35_eq_skeleton, k2_part36_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

theorem cover2_A_3 (c : Dev nD) (i : grid2.Coords) (arg2 : Memref sig .tc .vmem S8x128x512 .bf16) (harg2 : arg2.IsWhole) (arg3 : Memref sig .tc .vmem S4096x1024 .bf16) (harg3 : arg3.IsWhole) (arg4 : Memref sig .tc .vmem S16x512x256 .bf16) (harg4 : arg4.IsWhole) (arg5 : Memref sig .tc .vmem S512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole)
    (x0 : Vec F S8x128x512 .bf16) (x1 : Vec F S4096x1024 .bf16) (x2 : Vec F S16x512x256 .bf16) (y : S512x512.Idx) :
    ∃ pc ∈ (kernelRun2_A c i arg2 harg2 arg3 harg3 arg4 harg4 arg5 harg5 arg6 harg6 arg7 harg7 arg8 harg8 x0 x1 x2).1, y ∈ pc.1.set :=
  View.cover_of_tiledL (kernelRun2_A c i arg2 harg2 arg3 harg3 arg4 harg4 arg5 harg5 arg6 harg6 arg7 harg7 arg8 harg8 x0 x1 x2).1 S512x512.size (by sl_kernel_rfl) y

def out2_A_3 (c : Dev nD) (i : grid2.Coords) (arg2 : Memref sig .tc .vmem S8x128x512 .bf16) (harg2 : arg2.IsWhole) (arg3 : Memref sig .tc .vmem S4096x1024 .bf16) (harg3 : arg3.IsWhole) (arg4 : Memref sig .tc .vmem S16x512x256 .bf16) (harg4 : arg4.IsWhole) (arg5 : Memref sig .tc .vmem S512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole)
    (x0 : Vec F S8x128x512 .bf16) (x1 : Vec F S4096x1024 .bf16) (x2 : Vec F S16x512x256 .bf16) : Vec F S512x512 .bf16 :=
  VO2_3.read (Elt F) (VO2_3.writes (Elt F) VO2_3.junk (kernelRun2_A c i arg2 harg2 arg3 harg3 arg4 harg4 arg5 harg5 arg6 harg6 arg7 harg7 arg8 harg8 x0 x1 x2).1)

def outsAt2 (c : Dev nD) (t : Fin cfg2.N) : Vec F S512x512 .bf16 :=
  out2_A_3 c (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _) (iblk2 V c 0 t) (iblk2 V c 1 t) (iblk2 V c 2 t)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  rw [show (dat2 V c).Φ t.castSucc = Pipeline.ΦA spec2 c from rfl, PhiA2_eq]
  unfold outsAt2
  unfold out2_A_3
  iintro ⟨⟨⟨HS0, HS1, HS2, HR3⟩, Hg⟩, Ho, ⟨%d0, H0⟩, ⟨%d1, H1⟩, ⟨%d2, H2⟩, ⟨%d3, H3⟩⟩
  iapply ((kernelRun2_A c (grid2.coords t) _ _ _ _ _ _ _ _ _ _ _ _ _ _ (iblk2 V c 0 t) (iblk2 V c 1 t) (iblk2 V c 2 t)).2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, ⟨%e3, H3⟩, HS0, HS1, HS2⟩
  isplitl [HS0 HS1 HS2 HR3 Hg]
  · isplitl [HS0 HS1 HS2 HR3]
    · isplitl [HS0]
      · iexact HS0
      isplitl [HS1]
      · iexact HS1
      isplitl [HS2]
      · iexact HS2
      iexact HR3
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover2_A_3 c _ _ _ _ _ _ _ _ _ _ _ _ _ _ _ _ _ _)

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Run

end
-- ==== Proof.IRun.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.IInproj
public import proofs.«01_k».proof.Proof.ICalls

/-!
The whole run of the idealized kernel: the contents at each boundary and the end of every execution.
-/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5]

theorem hostOps0_fresh : (hostOps0 : List (HloOp τ sig (Elt F))).Forall fun op => op.fresh = ∅ := by
  simp only [List.Forall]; repeat' constructor
abbrev hostOps0_W : List (Ref sig .tc) := [main_v0, main_v1, main_v2, main_c, main_v3, main_v4, main_c_0, main_v5, main_v6, main_v7, main_v8, main_cst, main_cst_1]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps0_1_fresh : (hostOps0_1 : List (HloOp τ sig (Elt F))).Forall fun op => op.fresh = ∅ := by
  simp only [List.Forall]; repeat' constructor
abbrev hostOps0_1_W : List (Ref sig .tc) := [main_call0_v0, main_call0_v1, main_v9]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_1_args : ∀ a ∈ argRefs, a ∉ hostOps0_1_W := ListAll.forall_mem_of_all_decide (by decide +kernel)

theorem hostOps0_2_fresh : (hostOps0_2 : List (HloOp τ sig (Elt F))).Forall fun op => op.fresh = ∅ := by
  simp only [List.Forall]; repeat' constructor
abbrev hostOps0_2_W : List (Ref sig .tc) := [main_v10, main_v11, main_v12, main_v13, main_v14, main_v15, main_v16, main_v17, main_v18, main_v19, main_c_2]
theorem hostOps0_2_writes : (hostOps0_2 : List (HloOp τ sig (Elt F))).Forall fun op => op.writes ⊆ (hostOps0_2_W.map (Proc.devRef (τ := τ) .tc)).toFinset :=
  StableHlo.forall_writes_sub_of_map rfl
theorem hostOps0_2_args : ∀ a ∈ argRefs, a ∉ hostOps0_2_W := ListAll.forall_mem_of_all_decide (by decide +kernel)

theorem hostOps0_3_fresh : (hostOps0_3 : List (HloOp τ sig (Elt F))).Forall fun op => op.fresh = ∅ := by
  simp only [List.Forall]; repeat' constructor
abbrev hostOps0_3_W : List (Ref sig .tc) := [main_call1_v0, main_v20]
theorem hostOps0_3_writes : (hostOps0_3 : List (HloOp τ sig (Elt F))).Forall fun op => op.writes ⊆ (hostOps0_3_W.map (Proc.devRef (τ := τ) .tc)).toFinset :=
  StableHlo.forall_writes_sub_of_map rfl
theorem hostOps0_3_args : ∀ a ∈ argRefs, a ∉ hostOps0_3_W := ListAll.forall_mem_of_all_decide (by decide +kernel)

theorem hostOps0_4_fresh : (hostOps0_4 : List (HloOp τ sig (Elt F))).Forall fun op => op.fresh = ∅ := by
  simp only [List.Forall]; repeat' constructor
abbrev hostOps0_4_W : List (Ref sig .tc) := [main_v21, main_v22, main_v23, main_v24, main_v25, main_v26, main_v27, main_v28, main_c_3]
theorem hostOps0_4_writes : (hostOps0_4 : List (HloOp τ sig (Elt F))).Forall fun op => op.writes ⊆ (hostOps0_4_W.map (Proc.devRef (τ := τ) .tc)).toFinset :=
  StableHlo.forall_writes_sub_of_map rfl
theorem hostOps0_4_args : ∀ a ∈ argRefs, a ∉ hostOps0_4_W := ListAll.forall_mem_of_all_decide (by decide +kernel)

theorem hostOps0_5_fresh : (hostOps0_5 : List (HloOp τ sig (Elt F))).Forall fun op => op.fresh = ∅ := by
  simp only [List.Forall]; repeat' constructor
abbrev hostOps0_5_W : List (Ref sig .tc) := [main_call2_v0, main_v29]
theorem hostOps0_5_writes : (hostOps0_5 : List (HloOp τ sig (Elt F))).Forall fun op => op.writes ⊆ (hostOps0_5_W.map (Proc.devRef (τ := τ) .tc)).toFinset :=
  StableHlo.forall_writes_sub_of_map rfl
theorem hostOps0_5_args : ∀ a ∈ argRefs, a ∉ hostOps0_5_W := ListAll.forall_mem_of_all_decide (by decide +kernel)

theorem hostOps0_6_fresh : (hostOps0_6 : List (HloOp τ sig (Elt F))).Forall fun op => op.fresh = ∅ := by
  simp only [List.Forall]; repeat' constructor
abbrev hostOps0_6_W : List (Ref sig .tc) := [main_v30, main_v31, main_v32, main_v33, main_c_4]
theorem hostOps0_6_writes : (hostOps0_6 : List (HloOp τ sig (Elt F))).Forall fun op => op.writes ⊆ (hostOps0_6_W.map (Proc.devRef (τ := τ) .tc)).toFinset :=
  StableHlo.forall_writes_sub_of_map rfl
theorem hostOps0_6_args : ∀ a ∈ argRefs, a ∉ hostOps0_6_W := ListAll.forall_mem_of_all_decide (by decide +kernel)

theorem hostOps0_7_fresh : (hostOps0_7 : List (HloOp τ sig (Elt F))).Forall fun op => op.fresh = ∅ := by
  simp only [List.Forall]; repeat' constructor
abbrev hostOps0_7_W : List (Ref sig .tc) := [main_call3_v0, main_v34]
theorem hostOps0_7_writes : (hostOps0_7 : List (HloOp τ sig (Elt F))).Forall fun op => op.writes ⊆ (hostOps0_7_W.map (Proc.devRef (τ := τ) .tc)).toFinset :=
  StableHlo.forall_writes_sub_of_map rfl
theorem hostOps0_7_args : ∀ a ∈ argRefs, a ∉ hostOps0_7_W := ListAll.forall_mem_of_all_decide (by decide +kernel)

theorem hostOps0_8_fresh : (hostOps0_8 : List (HloOp τ sig (Elt F))).Forall fun op => op.fresh = ∅ := by
  simp only [List.Forall]; repeat' constructor
abbrev hostOps0_8_W : List (Ref sig .tc) := [main_v35, main_v36, main_v37, main_v38, main_v39, main_v40, main_c_5]
theorem hostOps0_8_writes : (hostOps0_8 : List (HloOp τ sig (Elt F))).Forall fun op => op.writes ⊆ (hostOps0_8_W.map (Proc.devRef (τ := τ) .tc)).toFinset :=
  StableHlo.forall_writes_sub_of_map rfl
theorem hostOps0_8_args : ∀ a ∈ argRefs, a ∉ hostOps0_8_W := ListAll.forall_mem_of_all_decide (by decide +kernel)

theorem hostOps0_9_fresh : (hostOps0_9 : List (HloOp τ sig (Elt F))).Forall fun op => op.fresh = ∅ := by
  simp only [List.Forall]; repeat' constructor
abbrev hostOps0_9_W : List (Ref sig .tc) := [main_call4_v0, main_v41]
theorem hostOps0_9_writes : (hostOps0_9 : List (HloOp τ sig (Elt F))).Forall fun op => op.writes ⊆ (hostOps0_9_W.map (Proc.devRef (τ := τ) .tc)).toFinset :=
  StableHlo.forall_writes_sub_of_map rfl
theorem hostOps0_9_args : ∀ a ∈ argRefs, a ∉ hostOps0_9_W := ListAll.forall_mem_of_all_decide (by decide +kernel)

theorem hostOps0_10_fresh : (hostOps0_10 : List (HloOp τ sig (Elt F))).Forall fun op => op.fresh = ∅ := by
  simp only [List.Forall]; repeat' constructor
abbrev hostOps0_10_W : List (Ref sig .tc) := [main_v42, main_v43, main_v44, main_v45]
theorem hostOps0_10_writes : (hostOps0_10 : List (HloOp τ sig (Elt F))).Forall fun op => op.writes ⊆ (hostOps0_10_W.map (Proc.devRef (τ := τ) .tc)).toFinset :=
  StableHlo.forall_writes_sub_of_map rfl
theorem hostOps0_10_args : ∀ a ∈ argRefs, a ∉ hostOps0_10_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v47, main_c_6]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps1_1_fresh : (hostOps1_1 : List (HloOp τ sig (Elt F))).Forall fun op => op.fresh = ∅ := by
  simp only [List.Forall]; repeat' constructor
abbrev hostOps1_1_W : List (Ref sig .tc) := [main_call5_v0, main_v48]
theorem hostOps1_1_writes : (hostOps1_1 : List (HloOp τ sig (Elt F))).Forall fun op => op.writes ⊆ (hostOps1_1_W.map (Proc.devRef (τ := τ) .tc)).toFinset :=
  StableHlo.forall_writes_sub_of_map rfl
theorem hostOps1_1_args : ∀ a ∈ argRefs, a ∉ hostOps1_1_W := ListAll.forall_mem_of_all_decide (by decide +kernel)

theorem hostOps1_2_fresh : (hostOps1_2 : List (HloOp τ sig (Elt F))).Forall fun op => op.fresh = ∅ := by
  simp only [List.Forall]; repeat' constructor
abbrev hostOps1_2_W : List (Ref sig .tc) := [main_v49, main_v50]
theorem hostOps1_2_writes : (hostOps1_2 : List (HloOp τ sig (Elt F))).Forall fun op => op.writes ⊆ (hostOps1_2_W.map (Proc.devRef (τ := τ) .tc)).toFinset :=
  StableHlo.forall_writes_sub_of_map rfl
theorem hostOps1_2_args : ∀ a ∈ argRefs, a ∉ hostOps1_2_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
abbrev W4 : Dev nD → Valuation τ sig (Elt F) := fun c => StableHlo.after hostOps0_3 (W3 m ρ c)
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
abbrev W5 : Dev nD → Valuation τ sig (Elt F) := fun c => StableHlo.after hostOps0_4 (W4 m ρ c)
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
abbrev W6 : Dev nD → Valuation τ sig (Elt F) := fun c => StableHlo.after hostOps0_5 (W5 m ρ c)
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
theorem W6_args (c : Dev nD) : ∀ a ∈ argRefs, W6 m ρ c (Proc.devRef .tc a) = m ((c : Thread nD τ).loc a) :=
  fun a ha => (W6_of m ρ c a (hostOps0_5_args a ha)).trans (W5_args m ρ c a ha)
abbrev W7 : Dev nD → Valuation τ sig (Elt F) := fun c => StableHlo.after hostOps0_6 (W6 m ρ c)
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
theorem W7_args (c : Dev nD) : ∀ a ∈ argRefs, W7 m ρ c (Proc.devRef .tc a) = m ((c : Thread nD τ).loc a) :=
  fun a ha => (W7_of m ρ c a (hostOps0_6_args a ha)).trans (W6_args m ρ c a ha)
abbrev W8 : Dev nD → Valuation τ sig (Elt F) := fun c => StableHlo.after hostOps0_7 (W7 m ρ c)
theorem W8_of (c : Dev nD) (r : Ref sig .tc) (h : r ∉ hostOps0_7_W) : W8 m ρ c (Proc.devRef .tc r) = W7 m ρ c (Proc.devRef .tc r) :=
  StableHlo.after_of_writes_sub hostOps0_7 _ hostOps0_7_writes h
theorem W8_args (c : Dev nD) : ∀ a ∈ argRefs, W8 m ρ c (Proc.devRef .tc a) = m ((c : Thread nD τ).loc a) :=
  fun a ha => (W8_of m ρ c a (hostOps0_7_args a ha)).trans (W7_args m ρ c a ha)
abbrev W9 : Dev nD → Valuation τ sig (Elt F) := fun c => StableHlo.after hostOps0_8 (W8 m ρ c)
theorem W9_of (c : Dev nD) (r : Ref sig .tc) (h : r ∉ hostOps0_8_W) : W9 m ρ c (Proc.devRef .tc r) = W8 m ρ c (Proc.devRef .tc r) :=
  StableHlo.after_of_writes_sub hostOps0_8 _ hostOps0_8_writes h
theorem W9_args (c : Dev nD) : ∀ a ∈ argRefs, W9 m ρ c (Proc.devRef .tc a) = m ((c : Thread nD τ).loc a) :=
  fun a ha => (W9_of m ρ c a (hostOps0_8_args a ha)).trans (W8_args m ρ c a ha)
abbrev W10 : Dev nD → Valuation τ sig (Elt F) := fun c => StableHlo.after hostOps0_9 (W9 m ρ c)
theorem W10_of (c : Dev nD) (r : Ref sig .tc) (h : r ∉ hostOps0_9_W) : W10 m ρ c (Proc.devRef .tc r) = W9 m ρ c (Proc.devRef .tc r) :=
  StableHlo.after_of_writes_sub hostOps0_9 _ hostOps0_9_writes h
theorem W10_args (c : Dev nD) : ∀ a ∈ argRefs, W10 m ρ c (Proc.devRef .tc a) = m ((c : Thread nD τ).loc a) :=
  fun a ha => (W10_of m ρ c a (hostOps0_9_args a ha)).trans (W9_args m ρ c a ha)
abbrev W11 : Dev nD → Valuation τ sig (Elt F) := fun c => StableHlo.after hostOps0_10 (W10 m ρ c)
theorem W11_of (c : Dev nD) (r : Ref sig .tc) (h : r ∉ hostOps0_10_W) : W11 m ρ c (Proc.devRef .tc r) = W10 m ρ c (Proc.devRef .tc r) :=
  StableHlo.after_of_writes_sub hostOps0_10 _ hostOps0_10_writes h
theorem W11_args (c : Dev nD) : ∀ a ∈ argRefs, W11 m ρ c (Proc.devRef .tc a) = m ((c : Thread nD τ).loc a) :=
  fun a ha => (W11_of m ρ c a (hostOps0_10_args a ha)).trans (W10_args m ρ c a ha)
abbrev V11 : (c : Dev nD) → (b : Ref sig .tc) → Buf (Elt F) ((c : Thread nD τ).loc b) := fun c b => W11 m ρ c b
def W12 (c : Dev nD) : Valuation τ sig (Elt F) :=
  Pipeline.withArrays spec0 c (W11 m ρ c) fun w => (dat0 (V11 m ρ) c).arrAt w cfg0.N
theorem W12_arr (c : Dev nD) (w : Fin cfg0.W) :
    W12 m ρ c (Proc.devRef .tc (Pipeline.arrRef spec0 w)) = (dat0 (V11 m ρ) c).arrAt w cfg0.N := by
  unfold W12; exact Pipeline.withArrays_arr spec0 launch0.win.arr_inj c _ _ w
theorem W12_of_ne (c : Dev nD) (b : Ref sig .tc) (hb : ∀ w, Pipeline.arrRef spec0 w ≠ b) :
    W12 m ρ c (Proc.devRef .tc b) = W11 m ρ c (Proc.devRef .tc b) := by
  unfold W12; exact Pipeline.withArrays_of_ne spec0 c _ _ b hb
theorem W12_of (c : Dev nD) (r : Ref sig .tc) (h : ∀ w : Fin cfg0.W, Pipeline.arrRef spec0 w = r → (cfg0.win w).isOut = false) :
    W12 m ρ c (Proc.devRef .tc r) = W11 m ρ c (Proc.devRef .tc r) := by
  by_cases hw : ∃ w : Fin cfg0.W, Pipeline.arrRef spec0 w = r
  · obtain ⟨w, rfl⟩ := hw
    exact (W12_arr m ρ c w).trans (((dat0 (V11 m ρ) c).arrAt_in w (h w rfl) _).trans (A_eq0 (V11 m ρ) c w))
  · exact W12_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W12_args (c : Dev nD) : ∀ a ∈ argRefs, W12 m ρ c (Proc.devRef .tc a) = m ((c : Thread nD τ).loc a) :=
  fun a ha => (W12_of m ρ c a (argsIn0 a ha)).trans (W11_args m ρ c a ha)
abbrev V12 : (c : Dev nD) → (b : Ref sig .tc) → Buf (Elt F) ((c : Thread nD τ).loc b) := fun c b => W12 m ρ c b
theorem hF0 (c : Dev nD) (w : Fin cfg0.W) : (dat0 (V11 m ρ) c).arrAt w cfg0.N = V12 m ρ c (Pipeline.arrRef spec0 w) :=
  (W12_arr m ρ c w).symm
theorem hrest0 (c : Dev nD) : ∀ b, b ∉ Finset.univ.image (Pipeline.arrRef spec0) → V12 m ρ c b = V11 m ρ c b :=
  fun b hb => W12_of_ne m ρ c b fun w e => hb (Finset.mem_image.mpr ⟨w, Finset.mem_univ _, e⟩)

abbrev W13 : Dev nD → Valuation τ sig (Elt F) := fun c => StableHlo.after hostOps1 (W12 m ρ c)
theorem W13_of (c : Dev nD) (r : Ref sig .tc) (h : r ∉ hostOps1_W) : W13 m ρ c (Proc.devRef .tc r) = W12 m ρ c (Proc.devRef .tc r) :=
  StableHlo.after_of_writes_sub hostOps1 _ hostOps1_writes h
theorem W13_args (c : Dev nD) : ∀ a ∈ argRefs, W13 m ρ c (Proc.devRef .tc a) = m ((c : Thread nD τ).loc a) :=
  fun a ha => (W13_of m ρ c a (hostOps1_args a ha)).trans (W12_args m ρ c a ha)
abbrev W14 : Dev nD → Valuation τ sig (Elt F) := fun c => StableHlo.after hostOps1_1 (W13 m ρ c)
theorem W14_of (c : Dev nD) (r : Ref sig .tc) (h : r ∉ hostOps1_1_W) : W14 m ρ c (Proc.devRef .tc r) = W13 m ρ c (Proc.devRef .tc r) :=
  StableHlo.after_of_writes_sub hostOps1_1 _ hostOps1_1_writes h
theorem W14_args (c : Dev nD) : ∀ a ∈ argRefs, W14 m ρ c (Proc.devRef .tc a) = m ((c : Thread nD τ).loc a) :=
  fun a ha => (W14_of m ρ c a (hostOps1_1_args a ha)).trans (W13_args m ρ c a ha)
abbrev W15 : Dev nD → Valuation τ sig (Elt F) := fun c => StableHlo.after hostOps1_2 (W14 m ρ c)
theorem W15_of (c : Dev nD) (r : Ref sig .tc) (h : r ∉ hostOps1_2_W) : W15 m ρ c (Proc.devRef .tc r) = W14 m ρ c (Proc.devRef .tc r) :=
  StableHlo.after_of_writes_sub hostOps1_2 _ hostOps1_2_writes h
theorem W15_args (c : Dev nD) : ∀ a ∈ argRefs, W15 m ρ c (Proc.devRef .tc a) = m ((c : Thread nD τ).loc a) :=
  fun a ha => (W15_of m ρ c a (hostOps1_2_args a ha)).trans (W14_args m ρ c a ha)
abbrev V15 : (c : Dev nD) → (b : Ref sig .tc) → Buf (Elt F) ((c : Thread nD τ).loc b) := fun c b => W15 m ρ c b
def W16 (c : Dev nD) : Valuation τ sig (Elt F) :=
  Pipeline.withArrays spec1 c (W15 m ρ c) fun w => (dat1 (V15 m ρ) c).arrAt w cfg1.N
theorem W16_arr (c : Dev nD) (w : Fin cfg1.W) :
    W16 m ρ c (Proc.devRef .tc (Pipeline.arrRef spec1 w)) = (dat1 (V15 m ρ) c).arrAt w cfg1.N := by
  unfold W16; exact Pipeline.withArrays_arr spec1 launch1.win.arr_inj c _ _ w
theorem W16_of_ne (c : Dev nD) (b : Ref sig .tc) (hb : ∀ w, Pipeline.arrRef spec1 w ≠ b) :
    W16 m ρ c (Proc.devRef .tc b) = W15 m ρ c (Proc.devRef .tc b) := by
  unfold W16; exact Pipeline.withArrays_of_ne spec1 c _ _ b hb
theorem W16_of (c : Dev nD) (r : Ref sig .tc) (h : ∀ w : Fin cfg1.W, Pipeline.arrRef spec1 w = r → (cfg1.win w).isOut = false) :
    W16 m ρ c (Proc.devRef .tc r) = W15 m ρ c (Proc.devRef .tc r) := by
  by_cases hw : ∃ w : Fin cfg1.W, Pipeline.arrRef spec1 w = r
  · obtain ⟨w, rfl⟩ := hw
    exact (W16_arr m ρ c w).trans (((dat1 (V15 m ρ) c).arrAt_in w (h w rfl) _).trans (A_eq1 (V15 m ρ) c w))
  · exact W16_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W16_args (c : Dev nD) : ∀ a ∈ argRefs, W16 m ρ c (Proc.devRef .tc a) = m ((c : Thread nD τ).loc a) :=
  fun a ha => (W16_of m ρ c a (argsIn1 a ha)).trans (W15_args m ρ c a ha)
abbrev V16 : (c : Dev nD) → (b : Ref sig .tc) → Buf (Elt F) ((c : Thread nD τ).loc b) := fun c b => W16 m ρ c b
theorem hF1 (c : Dev nD) (w : Fin cfg1.W) : (dat1 (V15 m ρ) c).arrAt w cfg1.N = V16 m ρ c (Pipeline.arrRef spec1 w) :=
  (W16_arr m ρ c w).symm
theorem hrest1 (c : Dev nD) : ∀ b, b ∉ Finset.univ.image (Pipeline.arrRef spec1) → V16 m ρ c b = V15 m ρ c b :=
  fun b hb => W16_of_ne m ρ c b fun w e => hb (Finset.mem_image.mpr ⟨w, Finset.mem_univ _, e⟩)

def W17 (c : Dev nD) : Valuation τ sig (Elt F) :=
  Pipeline.withArrays spec2 c (W16 m ρ c) fun w => (dat2 (V16 m ρ) c).arrAt w cfg2.N
theorem W17_arr (c : Dev nD) (w : Fin cfg2.W) :
    W17 m ρ c (Proc.devRef .tc (Pipeline.arrRef spec2 w)) = (dat2 (V16 m ρ) c).arrAt w cfg2.N := by
  unfold W17; exact Pipeline.withArrays_arr spec2 launch2.win.arr_inj c _ _ w
theorem W17_of_ne (c : Dev nD) (b : Ref sig .tc) (hb : ∀ w, Pipeline.arrRef spec2 w ≠ b) :
    W17 m ρ c (Proc.devRef .tc b) = W16 m ρ c (Proc.devRef .tc b) := by
  unfold W17; exact Pipeline.withArrays_of_ne spec2 c _ _ b hb
theorem W17_of (c : Dev nD) (r : Ref sig .tc) (h : ∀ w : Fin cfg2.W, Pipeline.arrRef spec2 w = r → (cfg2.win w).isOut = false) :
    W17 m ρ c (Proc.devRef .tc r) = W16 m ρ c (Proc.devRef .tc r) := by
  by_cases hw : ∃ w : Fin cfg2.W, Pipeline.arrRef spec2 w = r
  · obtain ⟨w, rfl⟩ := hw
    exact (W17_arr m ρ c w).trans (((dat2 (V16 m ρ) c).arrAt_in w (h w rfl) _).trans (A_eq2 (V16 m ρ) c w))
  · exact W17_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W17_args (c : Dev nD) : ∀ a ∈ argRefs, W17 m ρ c (Proc.devRef .tc a) = m ((c : Thread nD τ).loc a) :=
  fun a ha => (W17_of m ρ c a (argsIn2 a ha)).trans (W16_args m ρ c a ha)
abbrev V17 : (c : Dev nD) → (b : Ref sig .tc) → Buf (Elt F) ((c : Thread nD τ).loc b) := fun c b => W17 m ρ c b
theorem hF2 (c : Dev nD) (w : Fin cfg2.W) : (dat2 (V16 m ρ) c).arrAt w cfg2.N = V17 m ρ c (Pipeline.arrRef spec2 w) :=
  (W17_arr m ρ c w).symm
theorem hrest2 (c : Dev nD) : ∀ b, b ∉ Finset.univ.image (Pipeline.arrRef spec2) → V17 m ρ c b = V16 m ρ c b :=
  fun b hb => W17_of_ne m ρ c b fun w e => hb (Finset.mem_image.mpr ⟨w, Finset.mem_univ _, e⟩)

theorem W17_main_arg0 (c : Dev nD) : W17 m ρ c (Proc.devRef .tc main_arg0) = m ((c : Thread nD τ).loc main_arg0) :=
  W17_args m ρ c main_arg0 (by decide)
theorem W17_main_arg1 (c : Dev nD) : W17 m ρ c (Proc.devRef .tc main_arg1) = m ((c : Thread nD τ).loc main_arg1) :=
  W17_args m ρ c main_arg1 (by decide)
theorem W17_main_arg2 (c : Dev nD) : W17 m ρ c (Proc.devRef .tc main_arg2) = m ((c : Thread nD τ).loc main_arg2) :=
  W17_args m ρ c main_arg2 (by decide)
theorem W17_main_arg3 (c : Dev nD) : W17 m ρ c (Proc.devRef .tc main_arg3) = m ((c : Thread nD τ).loc main_arg3) :=
  W17_args m ρ c main_arg3 (by decide)
theorem W17_main_arg4 (c : Dev nD) : W17 m ρ c (Proc.devRef .tc main_arg4) = m ((c : Thread nD τ).loc main_arg4) :=
  W17_args m ρ c main_arg4 (by decide)
theorem W17_main_arg5 (c : Dev nD) : W17 m ρ c (Proc.devRef .tc main_arg5) = m ((c : Thread nD τ).loc main_arg5) :=
  W17_args m ρ c main_arg5 (by decide)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V11 m ρ) c
  | ⟨1, _⟩ => fun c => dat1 (V15 m ρ) c
  | ⟨2, _⟩ => fun c => dat2 (V16 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W17 m ρ c) ∗ ∃ r, prngReg c r)
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V11 m ρ) c).loose
  hwaits := Pipeline.hwaits_of_owed_zero _ _ _ _ L lv 0 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec0 c (V11 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V11 m ρ c) (A_eq0 (V11 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V11 m ρ c) (V12 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V15 m ρ) c).loose
  hwaits := Pipeline.hwaits_of_owed_zero _ _ _ _ L lv 1 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec1 c (V15 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V15 m ρ c) (A_eq1 (V15 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V15 m ρ c) (V16 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V16 m ρ) c).loose
  hwaits := Pipeline.hwaits_of_owed_zero _ _ _ _ L lv 2 fun _ _ => rfl
  pre c := iprop(StableHlo.held (c : Thread nD τ) (Pipeline.ucRefs τ sig) (W16 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V16 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V16 m ρ c) (A_eq2 (V16 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V16 m ρ c) (V17 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .region (reg0 m ρ),
    .host (hseg hostOps1 hostOps1_sub hostOps1_fresh (W12 m ρ)),
    .host (hseg hostOps1_1 hostOps1_1_sub hostOps1_1_fresh (W13 m ρ)),
    .host (hseg hostOps1_2 hostOps1_2_sub hostOps1_2_fresh (W14 m ρ)),
    .region (reg1 m ρ),
    .region (reg2 m ρ) ]
theorem main_run (c : Dev nD) : main (F := F) c = Pipeline.Seg.run (segs m ρ) := (main_chain c).trans (by chain_rfl)

theorem no_unscoped : ∀ sm : SemLoc sig, sm.isScoped .tc = true := by decide
set_option backward.isDefEq.respectTransparency.types false in
theorem ends : θ_run defs (onTc (τ := τ) (main (F := F))) ⟨m, fun _ => 0, ρ⟩ (fun r => (∀ c : Dev nD,
      ∀ b ∈ Pipeline.ucRefs τ sig, r.2.mem (((c : Thread nD τ)).1, b) = W17 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h hz => ⟨h, funext fun g => hz g (.inr (no_unscoped g.2))⟩)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun s h => ⟨fun c =>
      ⟨(h.1 c _ (mem_uc main_arg0 (by decide))).trans (W17_main_arg0 m ρ c),
       (h.1 c _ (mem_uc main_arg1 (by decide))).trans (W17_main_arg1 m ρ c),
       (h.1 c _ (mem_uc main_arg2 (by decide))).trans (W17_main_arg2 m ρ c),
       (h.1 c _ (mem_uc main_arg3 (by decide))).trans (W17_main_arg3 m ρ c),
       (h.1 c _ (mem_uc main_arg4 (by decide))).trans (W17_main_arg4 m ρ c),
       (h.1 c _ (mem_uc main_arg5 (by decide))).trans (W17_main_arg5 m ρ c)⟩, h.2⟩) (ends m ρ)

end Cert.KernelIdeal.Run

end
-- ==== Proof.Frames.lean ====
module

public import proofs.«01_k».proof.Defs
public import proofs.«01_k».proof.Proof.KRun
public import proofs.«01_k».proof.Proof.IRun
public import proofs.«01_k».proof.Proof.Gen.ReferenceIdeal
public import Idealize.ShloMosaic.Lib.Claim
public import Idealize.ShloMosaic.Lib.Quiescent

/-!
The frames of the three programs, and that the idealized kernel is the kernel with its three named constants.
-/

@[expose] public section

namespace Cert.Proof

open Idealize.ShloMosaic Idealize.SL.Sem

/-- The kernel at machine floats runs, leaves its arguments and its semaphores. -/
theorem frame_p : Cert.quiescent_Kernel (hKernel := Cert.Kernel.Gen.facts) := fun m ρ _ => Cert.Kernel.Run.frame m ρ

/-- The idealized kernel at the extended reals runs, leaves its arguments and its semaphores. -/
theorem frame_pi : Cert.quiescent_KernelIdeal (hKernelIdeal := Cert.KernelIdeal.Gen.facts) := fun m ρ _ => Cert.KernelIdeal.Run.frame m ρ

set_option maxHeartbeats 4000000 in
set_option maxRecDepth 16384 in
/-- The reference at the extended reals runs, leaves its arguments and its semaphores. -/
theorem frame_ri : Cert.quiescent_ReferenceIdeal (hReferenceIdeal := Cert.ReferenceIdeal.Gen.facts) := by
  intro m g _
  hlo_run
  · exact fun _ => ⟨trivial, trivial, trivial, trivial, trivial, trivial⟩
  · exact sem_eq_zero_of_no_sems (sig := Cert.ReferenceIdeal.sig) (by decide) _

/-- The three named constants have the values that the table gives them. -/
theorem preserves : Cert.preserves_Kernel_KernelIdeal :=
  ⟨IdealRules.named_const.statement Cert.KernelIdeal.κ "scale_log2e" .f32 0x3E38AA3B#32 (((8 * (Real.log 2))⁻¹ : ℝ) : EReal) rfl,
    IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl⟩

end Cert.Proof
end
-- ==== Proof.Flash.lean ====
module

public import Idealize.ShloMosaic.PureOps.Ideal
public import Idealize.ShloMosaic.Lib.Pipeline.ValueKit
public import Idealize.ShloMosaic.Lib.Pointwise

/-!
The softmax average taken block by block. `Seen` says what the running maximum, the running sum of
weights and the running weighted sum hold after the keys below `n`; `seen_step` is one more block.
-/

@[expose] public section

open Idealize Idealize.ShloMosaic

namespace Cert.Flash

/-- The keys below `n` that the query at position `q` may see. -/
def keys (n q : ℕ) : Finset ℕ := (Finset.range n).filter (· ≤ q)

theorem mem_keys {n q k : ℕ} : k ∈ keys n q ↔ k < n ∧ k ≤ q := by simp [keys]

theorem keys_zero (q : ℕ) : keys 0 q = ∅ := by simp [keys]

theorem keys_full {n q : ℕ} (h : q < n) : keys n q = Finset.range (q + 1) := by
  ext k; simp only [mem_keys, Finset.mem_range]; omega

/-- A sum over the keys of one more block. -/
theorem sum_keys_add (n q T : ℕ) (f : ℕ → ℝ) :
    ∑ k ∈ keys (n + T) q, f k = ∑ k ∈ keys n q, f k + ∑ i : Fin T, if n + i ≤ q then f (n + i) else 0 := by
  have e : ∀ m, ∑ k ∈ keys m q, f k = ∑ k ∈ Finset.range m, if k ≤ q then f k else 0 := fun m => by
    rw [keys, Finset.sum_filter]
  rw [e, e, Finset.sum_range_add, Fin.sum_univ_eq_sum_range (fun i => if n + i ≤ q then f (n + i) else 0) T]

/-- The score of a key, `⊥` where the query may not see it. -/
noncomputable def masked (σ : ℕ → ℝ) (q k : ℕ) : EReal := if k ≤ q then (σ k : EReal) else ⊥

/-- The running state after the keys below `n`. -/
def Seen (σ v : ℕ → ℝ) (q n : ℕ) (m l a : EReal) : Prop :=
  (n = 0 ∧ m = ⊥ ∧ l = 0 ∧ a = 0) ∨
    ∃ M : ℝ, m = M ∧ l = ((∑ k ∈ keys n q, (2 : ℝ) ^ (σ k - M) : ℝ) : EReal)
      ∧ a = ((∑ k ∈ keys n q, (2 : ℝ) ^ (σ k - M) * v k : ℝ) : EReal)

theorem coe_sum {ι : Type*} (s : Finset ι) (f : ι → ℝ) : ((∑ i ∈ s, f i : ℝ) : EReal) = ∑ i ∈ s, (f i : EReal) :=
  map_sum (⟨⟨(fun r : ℝ => (r : EReal)), EReal.coe_zero⟩, EReal.coe_add⟩ : ℝ →+ EReal) f s

theorem exp2_masked (σ : ℕ → ℝ) (q k : ℕ) (M : ℝ) :
    Ideal.exp2 (masked σ q k - (M : EReal)) = ((if k ≤ q then (2 : ℝ) ^ (σ k - M) else 0 : ℝ) : EReal) := by
  unfold masked
  split
  · rw [← EReal.coe_sub]; rfl
  · rw [EReal.bot_sub]; rfl

theorem exp2_sub (a b : ℝ) : Ideal.exp2 ((a : EReal) - (b : EReal)) = (((2 : ℝ) ^ (a - b) : ℝ) : EReal) := by
  rw [← EReal.coe_sub]; rfl

theorem exp2_bot_sub (b : ℝ) : Ideal.exp2 (⊥ - (b : EReal)) = 0 := by
  rw [EReal.bot_sub]; rfl

theorem pow_shift (a b s : ℝ) : (2 : ℝ) ^ (a - b) * (2 : ℝ) ^ (s - a) = (2 : ℝ) ^ (s - b) := by
  rw [← Real.rpow_add (by norm_num)]; congr 1; ring

/-- The supremum of finitely many scores, none `⊤`, one real. -/
theorem max_real {T : ℕ} (S : Fin T → EReal) (hS : ∀ i, S i ≠ ⊤) (m : EReal) (hm : m ≠ ⊤)
    (h : m ≠ ⊥ ∨ ∃ i, S i ≠ ⊥) : ∃ M : ℝ, max m (Finset.univ.sup S) = M := by
  have htop : max m (Finset.univ.sup S) ≠ ⊤ := by
    have : Finset.univ.sup S < ⊤ := (Finset.sup_lt_iff (by decide)).2 fun i _ => lt_top_iff_ne_top.2 (hS i)
    exact (max_lt (lt_top_iff_ne_top.2 hm) this).ne
  have hbot : max m (Finset.univ.sup S) ≠ ⊥ := by
    intro e
    rw [max_eq_bot] at e
    rcases h with h | ⟨i, hi⟩
    · exact h e.1
    · exact hi (le_bot_iff.1 (e.2 ▸ Finset.le_sup (f := S) (Finset.mem_univ i)))
  exact ⟨_, (EReal.coe_toReal htop hbot).symm⟩

theorem masked_ne_top (σ : ℕ → ℝ) (q k : ℕ) : masked σ q k ≠ ⊤ := by
  unfold masked; split
  · exact EReal.coe_ne_top _
  · exact bot_ne_top

/-- One block of keys more. -/
theorem seen_step {σ v : ℕ → ℝ} {q n T : ℕ} {m l a : EReal} (hT : 0 < T) (h : Seen σ v q n m l a) (hq : n ≤ q ∨ 0 < n)
    {S V : Fin T → EReal} (hS : ∀ i, S i = masked σ q (n + i)) (hV : ∀ i, V i = (v (n + i) : EReal))
    {m' l' a' : EReal} (hm' : m' = max m (Finset.univ.sup S))
    (hl' : l' = Ideal.exp2 (m - m') * l + ∑ i, Ideal.exp2 (S i - m'))
    (ha' : a' = Ideal.exp2 (m - m') * a + ∑ i, V i * Ideal.exp2 (S i - m')) :
    Seen σ v q (n + T) m' l' a' := by
  obtain rfl : S = fun i : Fin T => masked σ q (n + i) := funext hS
  obtain rfl : V = fun i : Fin T => (v (n + i) : EReal) := funext hV
  have hM : ∃ M : ℝ, m' = M := by
    rw [hm']
    refine max_real _ (fun i => masked_ne_top _ _ _) _ ?_ ?_
    · rcases h with ⟨-, rfl, -⟩ | ⟨M, rfl, -⟩
      · exact bot_ne_top
      · exact EReal.coe_ne_top _
    · rcases h with ⟨h0, -⟩ | ⟨M, rfl, -⟩
      · refine .inr ⟨⟨0, hT⟩, ?_⟩
        have : n + 0 ≤ q := by omega
        simp only [masked, this, if_true]; exact EReal.coe_ne_bot _
      · exact .inl (EReal.coe_ne_bot _)
  obtain ⟨M', hM'⟩ := hM
  refine .inr ⟨M', hM', ?_, ?_⟩
  · rw [hl', hM']
    simp only [exp2_masked]
    rw [← coe_sum, sum_keys_add]
    rcases h with ⟨rfl, rfl, rfl, rfl⟩ | ⟨M, rfl, rfl, rfl⟩
    · rw [mul_zero, zero_add, keys_zero, Finset.sum_empty, zero_add]
    · rw [exp2_sub, ← EReal.coe_mul, ← EReal.coe_add, Finset.mul_sum]
      simp only [pow_shift]
  · rw [ha', hM']
    simp only [exp2_masked, ← EReal.coe_mul]
    rw [← coe_sum, sum_keys_add]
    have e : ∀ i : Fin T, v (n + i) * (if n + (i : ℕ) ≤ q then (2 : ℝ) ^ (σ (n + i) - M') else 0)
        = if n + (i : ℕ) ≤ q then (2 : ℝ) ^ (σ (n + i) - M') * v (n + i) else 0 := fun i => by
      split
      · ring
      · ring
    simp only [e]
    rcases h with ⟨rfl, rfl, rfl, rfl⟩ | ⟨M, rfl, rfl, rfl⟩
    · rw [mul_zero, zero_add, keys_zero, Finset.sum_empty, zero_add]
    · rw [exp2_sub, ← EReal.coe_mul, ← EReal.coe_add, Finset.mul_sum]
      simp only [← mul_assoc, pow_shift]

/-- The weighted average of `v` with weights `exp τ` over the keys up to `q`. -/
noncomputable def avg (τ v : ℕ → ℝ) (q : ℕ) : ℝ :=
  (∑ k ∈ Finset.range (q + 1), Real.exp (τ k) * v k) / ∑ k ∈ Finset.range (q + 1), Real.exp (τ k)

theorem sum_exp_pos (τ : ℕ → ℝ) (q : ℕ) : 0 < ∑ k ∈ Finset.range (q + 1), Real.exp (τ k) :=
  Finset.sum_pos (fun _ _ => Real.exp_pos _) ⟨0, by simp⟩

/-- A common shift of the scores does not change the average. -/
theorem avg_shift (τ τ' v : ℕ → ℝ) (q : ℕ) (s : ℝ) (h : ∀ k, τ' k = τ k + s) : avg τ' v q = avg τ v q := by
  unfold avg
  have e : ∀ k, Real.exp (τ' k) = Real.exp s * Real.exp (τ k) := fun k => by rw [h, Real.exp_add]; ring
  simp only [e, mul_assoc]
  rw [← Finset.mul_sum, ← Finset.mul_sum, mul_div_mul_left _ _ (Real.exp_pos s).ne']

theorem rpow_two (x : ℝ) : (2 : ℝ) ^ x = Real.exp (Real.log 2 * x) := Real.rpow_def_of_pos (by norm_num) x

/-- The quotient at the end is the average. -/
theorem seen_div {σ τ v : ℕ → ℝ} {q n : ℕ} {m l a : EReal} (hn : q < n) (h : Seen σ v q n m l a)
    (hτ : ∀ k, τ k = Real.log 2 * σ k) : Ideal.div a l = (avg τ v q : EReal) := by
  rcases h with ⟨h0, -⟩ | ⟨M, rfl, rfl, rfl⟩
  · omega
  rw [keys_full hn]
  have e : ∀ k, (2 : ℝ) ^ (σ k - M) = Real.exp ((fun k => τ k + -(Real.log 2 * M)) k) := fun k => by
    rw [rpow_two]; congr 1; simp only [hτ]; ring
  simp only [e]
  rw [Ideal.div_coe (sum_exp_pos _ q).ne', ← EReal.coe_mul, mul_one_div]
  exact congrArg _ (avg_shift τ _ v q _ fun k => rfl)

/-- Doubling the window of a running sum. -/
theorem scan_double (x : ℕ → ℝ) (k s : ℕ) :
    (∑ i ∈ Finset.Ico (s + 1 - k) (s + 1), x i) + (if k ≤ s then ∑ i ∈ Finset.Ico (s - k + 1 - k) (s - k + 1), x i else 0)
      = ∑ i ∈ Finset.Ico (s + 1 - (k + k)) (s + 1), x i := by
  split
  · rename_i h
    rw [show s - k + 1 = s + 1 - k by omega, add_comm, show s + 1 - k - k = s + 1 - (k + k) by omega]
    exact Finset.sum_Ico_consecutive x (by omega) (by omega)
  · rename_i h
    rw [add_zero, show s + 1 - k = 0 by omega, show s + 1 - (k + k) = 0 by omega]

/-- The logarithm of the logistic function in two forms. -/
theorem log_sigmoid (z : ℝ) : min z 0 - Real.log (1 + Real.exp (-|z|)) = -Real.log (1 + Real.exp (-z)) := by
  rcases le_total 0 z with h | h
  · rw [min_eq_right h, abs_of_nonneg h, zero_sub]
  · rw [min_eq_left h, abs_of_nonpos h, neg_neg]
    have e : 1 + Real.exp (-z) = Real.exp (-z) * (1 + Real.exp z) := by
      rw [mul_add, mul_one, ← Real.exp_add]; simp [add_comm]
    rw [e, Real.log_mul (Real.exp_pos _).ne' (by positivity), Real.log_exp]
    ring

/-- The softmax average in its usual order: one real number subtracted from all scores, each weight divided. -/
theorem softmax_avg {N : ℕ} (τ v : ℕ → ℝ) (q : ℕ) (hq : q < N) (S V : Fin N → EReal)
    (hS : ∀ i, S i = masked τ q i) (hV : ∀ i, V i = (v i : EReal)) (m : EReal) (hM : ∃ M : ℝ, m = M) :
    ∑ i, Ideal.div (Ideal.exp (S i - m)) (∑ i, Ideal.exp (S i - m)) * V i = (avg τ v q : EReal) := by
  obtain ⟨M, hM⟩ := hM
  rw [hM]
  have e : ∀ i : Fin N, Ideal.exp (S i - (M : EReal)) = ((if (i : ℕ) ≤ q then Real.exp (τ i - M) else 0 : ℝ) : EReal) := fun i => by
    rw [hS]; unfold masked; split
    · rw [← EReal.coe_sub]; rfl
    · rw [EReal.bot_sub]; rfl
  have hsum : ∀ f : ℕ → ℝ, ∑ i : Fin N, (if (i : ℕ) ≤ q then f i else 0) = ∑ k ∈ Finset.range (q + 1), f k := fun f => by
    rw [Fin.sum_univ_eq_sum_range (fun i => if i ≤ q then f i else 0) N, ← Finset.sum_filter]
    congr 1; ext k; simp only [Finset.mem_filter, Finset.mem_range]; omega
  simp only [e, ← coe_sum, hV]
  rw [hsum fun k => Real.exp (τ k - M)]
  have hp := sum_exp_pos (fun k => τ k - M) q
  simp only [Ideal.div_coe hp.ne', ← EReal.coe_mul, ← coe_sum]
  rw [EReal.coe_eq_coe_iff, ← avg_shift τ (fun k => τ k - M) v q (-M) fun k => sub_eq_add_neg ..]
  unfold avg
  rw [Finset.sum_div, ← hsum fun k => Real.exp (τ k - M) * v k / ∑ k ∈ Finset.range (q + 1), Real.exp (τ k - M)]
  refine Finset.sum_congr rfl fun i _ => ?_
  split <;> ring

end Cert.Flash

end
-- ==== Proof.Spec.lean ====
module

public import Idealize.ShloMosaic.Lib.Pipeline.ValueKit
public import Idealize.ShloMosaic.Lib.Pointwise
public import Idealize.ShloMosaic.Lib.IdealHost
public import proofs.«01_k».proof.Proof.Flash

/-!
The layer's arrays as mathematics: the modulated norm of a token, its projection, and that both are
real when the arguments are.
-/

@[expose] public section
namespace Cert.Spec

open Idealize.ShloMosaic Idealize.ShloMosaic.TcCoe

/-- The modulated root-mean-square norm of one token. -/
noncomputable def hidden (x g sc sh : Fin 1024 → EReal) (j : Fin 1024) : EReal :=
  x j * Ideal.rsqrt (Ideal.div (∑ i, x i * x i) (Ideal.ofBits .f32 0x44800000#32) + Ideal.ofBits .f32 0x358637BD#32) * g j
    * (Ideal.ofBits .f32 0x3F800000#32 + sc j) + sh j

/-- A column of the input projection of one token. -/
noncomputable def proj (X : Vec Ideal ⟨3, ![4, 4096, 1024]⟩ .f32) (Sh Sc : Vec Ideal ⟨2, ![4, 1024]⟩ .f32) (G : Vec Ideal ⟨2, ![1, 1024]⟩ .f32)
    (W : Vec Ideal ⟨3, ![1, 1024, 4360]⟩ .f32) (b : Fin 4) (s : Fin 4096) (n : Fin 4360) : EReal :=
  ∑ j : Fin 1024, hidden (fun j => X (ix3 b s j)) (fun j => G (ix2 (0 : Fin 1) j)) (fun j => Sc (ix2 b j)) (fun j => Sh (ix2 b j)) j * W (ix3 (0 : Fin 1) j n)

theorem word_1024 : Ideal.ofBits .f32 0x44800000#32 = ((1024 : ℝ) : EReal) := by
  simp [Ideal.ofBits, Ideal.ieee, -EReal.coe_mul]; norm_num

theorem word_eps : ∃ e : ℝ, 0 < e ∧ Ideal.ofBits .f32 0x358637BD#32 = (e : EReal) := by
  refine ⟨_, ?_, by simp [Ideal.ofBits, Ideal.ieee, -EReal.coe_mul]; rfl⟩
  positivity

/-- The norm of a token is real when the arguments are. -/
theorem hidden_real (x g sc sh : Fin 1024 → EReal) (hx : ∀ j, ∃ r : ℝ, x j = r) (hg : ∀ j, ∃ r : ℝ, g j = r) (hsc : ∀ j, ∃ r : ℝ, sc j = r)
    (hsh : ∀ j, ∃ r : ℝ, sh j = r) (j : Fin 1024) : ∃ r : ℝ, hidden x g sc sh j = r := by
  choose xr hx using hx
  obtain ⟨gr, hg⟩ := hg j
  obtain ⟨scr, hsc⟩ := hsc j
  obtain ⟨shr, hsh⟩ := hsh j
  obtain ⟨e, he, hw⟩ := word_eps
  have hs : (∑ i, x i * x i : EReal) = ((∑ i, xr i * xr i : ℝ) : EReal) := by
    rw [Flash.coe_sum]
    exact Finset.sum_congr rfl fun i _ => by rw [hx, EReal.coe_mul]
  have hp : 0 < (∑ i, xr i * xr i) * (1 / 1024) + e := by
    have : 0 ≤ ∑ i, xr i * xr i := Finset.sum_nonneg fun i _ => mul_self_nonneg _
    positivity
  have hr : Ideal.rsqrt (((∑ i, xr i * xr i) * (1 / 1024) + e : ℝ) : EReal) = (((Real.sqrt ((∑ i, xr i * xr i) * (1 / 1024) + e))⁻¹ : ℝ) : EReal) := by
    show (if (∑ i, xr i * xr i) * (1 / 1024) + e < 0 then ⊥ else if (∑ i, xr i * xr i) * (1 / 1024) + e = 0 then ⊤
      else (((Real.sqrt ((∑ i, xr i * xr i) * (1 / 1024) + e))⁻¹ : ℝ) : EReal)) = _
    rw [if_neg hp.le.not_gt, if_neg hp.ne']
  unfold hidden
  refine ⟨xr j * (Real.sqrt ((∑ i, xr i * xr i) * (1 / 1024) + e))⁻¹ * gr * (1 + scr) + shr, ?_⟩
  rw [hs, word_1024, Ideal.div_coe (by norm_num), hw, ← EReal.coe_mul, ← EReal.coe_add, hr, hx, hg, hsc, hsh, Ideal.ofBits_one_f32, ← EReal.coe_one]
  simp only [EReal.coe_add, EReal.coe_mul]

/-- A column of the projection is real when the arguments are. -/
theorem proj_real (X : Vec Ideal ⟨3, ![4, 4096, 1024]⟩ .f32) (Sh Sc : Vec Ideal ⟨2, ![4, 1024]⟩ .f32) (G : Vec Ideal ⟨2, ![1, 1024]⟩ .f32)
    (W : Vec Ideal ⟨3, ![1, 1024, 4360]⟩ .f32) (hX : ∀ i, ∃ r : ℝ, (X i : EReal) = r) (hSh : ∀ i, ∃ r : ℝ, (Sh i : EReal) = r)
    (hSc : ∀ i, ∃ r : ℝ, (Sc i : EReal) = r) (hG : ∀ i, ∃ r : ℝ, (G i : EReal) = r) (hW : ∀ i, ∃ r : ℝ, (W i : EReal) = r)
    (b : Fin 4) (s : Fin 4096) (n : Fin 4360) : ∃ r : ℝ, proj X Sh Sc G W b s n = r := by
  choose H hH using hidden_real (fun j => X (ix3 b s j)) (fun j => G (ix2 (0 : Fin 1) j)) (fun j => Sc (ix2 b j)) (fun j => Sh (ix2 b j))
    (fun _ => hX _) (fun _ => hG _) (fun _ => hSc _) (fun _ => hSh _)
  choose Wr hW using hW
  refine ⟨∑ j, H j * Wr (ix3 (0 : Fin 1) j n), ?_⟩
  unfold proj
  rw [Flash.coe_sum]
  exact Finset.sum_congr rfl fun j _ => by rw [hH, hW, EReal.coe_mul]

/-- The log of the logistic function, as the kernel writes it. -/
noncomputable def lsig (z : ℝ) : ℝ := min z 0 - Real.log (1 + Real.exp (-|z|))

end Cert.Spec
end
-- ==== Proof.InVal.lean ====
module

public import proofs.«01_k».proof.Proof.IInproj
public import proofs.«01_k».proof.Proof.Spec
public import Idealize.ShloMosaic.Lib.Pointwise

/-!
What the input projection call writes, at an index.
-/

@[expose] public section
set_option maxHeartbeats 4000000
set_option maxRecDepth 16384
namespace Cert.KernelIdeal.In

open Idealize.ShloMosaic Idealize.ShloMosaic.TcCoe
open Cert.KernelIdeal Cert.KernelIdeal.Gen Cert.KernelIdeal.Run

/-- The modulated norm of a row of a tile. -/
noncomputable def row (x0 : Vec Ideal S512x1024 .f32) (x1 : Vec Ideal S1x1024 .f32) (x2 x3 : Vec Ideal S1x1x1024 .f32) (t : Fin 512) (j : Fin 1024) : EReal :=
  Spec.hidden (fun j => x0 (ix2 t j)) (fun j => x1 (ix2 (0 : Fin 1) j)) (fun j => x2 (ix3 (0 : Fin 1) (0 : Fin 1) j)) (fun j => x3 (ix3 (0 : Fin 1) (0 : Fin 1) j)) j

theorem pay4_at (x0 : Vec Ideal S512x1024 .f32) (x1 : Vec Ideal S1x1024 .f32) (x2 x3 : Vec Ideal S1x1x1024 .f32) (t : Fin 512) (j : Fin 1024) :
    (k0_pay4 x0 x1 x2 x3 (ix2 t j) : EReal) = row x0 x1 x2 x3 t j := by
  pointwise [k0_pay4, row, Spec.hidden]

theorem pay5_at (x0 : Vec Ideal S512x1024 .f32) (x1 : Vec Ideal S1x1024 .f32) (x2 x3 : Vec Ideal S1x1x1024 .f32) (t : Fin 512) (j : Fin 1024) :
    (k0_pay5 x0 x1 x2 x3 (ix2 t j) : EReal) = row x0 x1 x2 x3 t j := pay4_at x0 x1 x2 x3 t j

theorem pay6_at (x0 : Vec Ideal S512x1024 .f32) (x1 : Vec Ideal S1x1024 .f32) (x2 x3 : Vec Ideal S1x1x1024 .f32) (t : Fin 512) (j : Fin 1024) :
    (k0_pay6 x0 x1 x2 x3 (ix2 j t) : EReal) = row x0 x1 x2 x3 t j := by
  refine Eq.trans ?_ (pay4_at x0 x1 x2 x3 t j)
  generalize h : k0_pay4 x0 x1 x2 x3 = y
  unfold k0_pay6
  rw [h]
  pointwise

theorem pay10_at (v : FVec Ideal S1024x512 .bf16) (w : Vec Ideal S1024x1024 .bf16) (n : Fin 1024) (t : Fin 512) :
    (k0_pay10 v w (ix2 n t) : EReal) = (∑ j : Fin 1024, w (ix2 n j) * v (ix2 j t)) * (((8 * Real.log 2)⁻¹ : ℝ) : EReal) := by
  pointwise [k0_pay10]
  rfl

theorem pay15_at (v : FVec Ideal S512x1024 .bf16) (w : Vec Ideal S1024x1024 .bf16) (t : Fin 512) (n : Fin 1024) :
    (k0_pay15 v w (ix2 t n) : EReal) = ∑ j : Fin 1024, v (ix2 t j) * w (ix2 j n) := by
  pointwise [k0_pay15]

theorem pay16_at (v : FVec Ideal S1024x512 .bf16) (w : Vec Ideal S512x1024 .bf16) (n : Fin 512) (t : Fin 512) :
    (k0_pay16 v w (ix2 n t) : EReal) = ∑ j : Fin 1024, w (ix2 n j) * v (ix2 j t) := by
  pointwise [k0_pay16]

theorem pay17_at (v : FVec Ideal S1024x512 .bf16) (w : Vec Ideal S512x1024 .bf16) (n : Fin 512) (t : Fin 256) :
    (k0_pay17 v w (ix3 (0 : Fin 1) n t) : EReal) = ∑ j : Fin 1024, w (ix2 n j) * v (ix2 j (⟨t.val, by omega⟩ : Fin 512)) := by
  refine Eq.trans ?_ (pay16_at v w n ⟨t.val, by omega⟩)
  generalize h : k0_pay16 v w = y
  unfold k0_pay17
  rw [h]
  pointwise

theorem pay18_at (v : FVec Ideal S1024x512 .bf16) (w : Vec Ideal S512x1024 .bf16) (n : Fin 512) (t : Fin 256) :
    (k0_pay18 v w (ix3 (0 : Fin 1) n t) : EReal) = ∑ j : Fin 1024, w (ix2 n j) * v (ix2 j (⟨256 + t.val, by omega⟩ : Fin 512)) := by
  refine Eq.trans ?_ (pay16_at v w n ⟨256 + t.val, by omega⟩)
  generalize h : k0_pay16 v w = y
  unfold k0_pay18
  rw [h]
  pointwise

theorem pay19_at (v : FVec Ideal S512x1024 .f32) (w : Vec Ideal S1024x128 .f32) (t : Fin 512) (n : Fin 128) :
    (k0_pay19 v w (ix2 t n) : EReal) = ∑ j : Fin 1024, v (ix2 t j) * w (ix2 j n) := by
  pointwise [k0_pay19]

theorem pay1_at (v : FVec Ideal S512x1024 .bf16) (w : FVec Ideal S1024x2048 .bf16) (t : Fin 512) (n : Fin 2048) :
    (k0_pay1 v w (constant S512x2048 .f32 0x00000000#32) (ix2 t n) : EReal) = ∑ j : Fin 1024, v (ix2 t j) * w (ix2 j n) := by
  pointwise [k0_pay1]

theorem pay2_at (v : FVec Ideal S512x1024 .bf16) (w : FVec Ideal S1024x2048 .bf16) (t : Fin 512) (n : Fin 1024) :
    (k0_pay2 v w (constant S512x2048 .f32 0x00000000#32) (ix2 t n) : EReal) = Ideal.logistic (∑ j : Fin 1024, v (ix2 t j) * w (ix2 j (⟨n.val, by omega⟩ : Fin 2048))) := by
  rw [← pay1_at v w t ⟨n.val, by omega⟩]
  generalize h : k0_pay1 v w (constant S512x2048 .f32 0x00000000#32) = y
  unfold k0_pay2
  rw [h]
  pointwise

theorem pay3_at (v : FVec Ideal S512x1024 .bf16) (w : FVec Ideal S1024x2048 .bf16) (t : Fin 512) (n : Fin 1024) :
    (k0_pay3 v w (constant S512x2048 .f32 0x00000000#32) (ix2 t n) : EReal) = Ideal.logistic (∑ j : Fin 1024, v (ix2 t j) * w (ix2 j (⟨1024 + n.val, by omega⟩ : Fin 2048))) := by
  rw [← pay1_at v w t ⟨1024 + n.val, by omega⟩]
  generalize h : k0_pay1 v w (constant S512x2048 .f32 0x00000000#32) = y
  unfold k0_pay3
  rw [h]
  pointwise

/-- The two comparisons of a lane with the places of the gates, on the word of the lane. -/
def placeWord (n : BitVec 32) : BitVec 1 :=
  let v54 : BitVec 32 := Scalar.select (Scalar.cmpi .eq 128#32 0#32) 1#32 128#32
  let v56 : BitVec 32 := IntOp.remsi .vector n v54
  let v65 : BitVec 1 := IntOp.andi (IntOp.xori (IntOp.cmpi .slt v56 0#32) (Scalar.cmpi .slt v54 0#32)) (IntOp.cmpi .ne v56 0#32)
  let v68 : BitVec 32 := Scalar.select v65 (IntOp.addi v56 v54) v56
  IntOp.andi (IntOp.cmpi .sge v68 64#32) (IntOp.cmpi .slt v68 67#32)

theorem placeWord_eq : ∀ n : Fin 1024, placeWord (BitVec.ofNat 32 n.val) = BitVec.ofBool (decide (64 ≤ n.val % 128 ∧ n.val % 128 < 67)) := by
  decide +kernel

theorem places_at (n : Fin 1024) (t : Fin 512) :
    andi k0_pay12 k0_pay13 (ix2 n t) = BitVec.ofBool (decide (64 ≤ n.val % 128 ∧ n.val % 128 < 67)) := by
  refine Eq.trans ?_ (placeWord_eq n)
  have e : iota .tc S1024x512 32 [0] iota_S1024x512_d0_w32 (ix2 n t) = BitVec.ofNat 32 n.val := by pointwise
  rw [← e]
  rfl

theorem pay14_at (v : FVec Ideal S1024x512 .f32) (p q : IVec S1024x512 1) (h : Fin 8) (r : Fin 128) (t : Fin 512) :
    (k0_pay14 v p q (ix3 h r t) : EReal) = Scalar.select (andi p q (ix2 (⟨128 * h.val + r.val, by omega⟩ : Fin 1024) t)) (1 : EReal) (v (ix2 (⟨128 * h.val + r.val, by omega⟩ : Fin 1024) t)) := by
  pointwise [k0_pay14]
  exact congrArg (fun n : Fin 1024 => Scalar.select (andi p q (ix2 n t)) (1 : EReal) (v (ix2 n t)))
    (Fin.ext (by show h.val * 128 + r.val = 128 * h.val + r.val; omega))

end Cert.KernelIdeal.In
end
-- ==== Proof.InOut.lean ====
module

public import proofs.«01_k».proof.Proof.InVal

/-!
The blocks the input projection call writes, at an index, over the blocks it reads.
-/

@[expose] public section
set_option maxHeartbeats 4000000
set_option maxRecDepth 16384
namespace Cert.KernelIdeal.In

open Idealize.ShloMosaic Idealize.ShloMosaic.TcCoe
open Cert.KernelIdeal Cert.KernelIdeal.Gen Cert.KernelIdeal.Run

theorem emb_hi (n : Fin 512) (t : Fin 256) : r0_11.emb (ix3 (0 : Fin 1) n t : S1x512x256.Idx) = (ix3 (1 : Fin 2) n t : S2x512x256.Idx) := by
  funext a; refine Fin.ext ?_; fin_cases a
  · rfl
  · show 0 + 1 * n.val = n.val; omega
  · show 0 + 1 * t.val = t.val; omega

theorem emb_lo (n : Fin 512) (t : Fin 256) : r0_10.emb (ix3 (0 : Fin 1) n t : S1x512x256.Idx) = (ix3 (0 : Fin 2) n t : S2x512x256.Idx) := by
  funext a; refine Fin.ext ?_; fin_cases a
  · rfl
  · show 0 + 1 * n.val = n.val; omega
  · show 0 + 1 * t.val = t.val; omega

theorem lo_not_hi (n : Fin 512) (t : Fin 256) : (ix3 (0 : Fin 2) n t : S2x512x256.Idx) ∉ r0_11.set := fun h => by
  have : 1 ≤ 0 := (Rect.mem_set_unit.1 h (0 : Fin 3)).1
  omega

/-- A value of the first block is the one the first write left. -/
theorem canon_lo (w1 w0 : S1x512x256.Idx → Ideal .bf16) (n : Fin 512) (k : Fin 256) :
    View.canon (Val := Elt Ideal) (e := .bf16) [(⟨r0_11, w1⟩ : View.Piece (Elt Ideal) S2x512x256 .bf16), ⟨r0_10, w0⟩] (ix3 (0 : Fin 2) n k) = w0 (ix3 (0 : Fin 1) n k) := by
  have e := View.canon_cons_emb (Val := Elt Ideal) (e := .bf16) r0_10 w0 [] (ix3 (0 : Fin 1) n k)
  rw [emb_lo] at e
  exact (View.canon_cons_of_not_mem (⟨r0_11, w1⟩ : View.Piece (Elt Ideal) S2x512x256 .bf16) [⟨r0_10, w0⟩] (lo_not_hi n k)).trans e

/-- A value of the second block is the one the last write left. -/
theorem canon_hi (w1 w0 : S1x512x256.Idx → Ideal .bf16) (n : Fin 512) (k : Fin 256) :
    View.canon (Val := Elt Ideal) (e := .bf16) [(⟨r0_11, w1⟩ : View.Piece (Elt Ideal) S2x512x256 .bf16), ⟨r0_10, w0⟩] (ix3 (1 : Fin 2) n k) = w1 (ix3 (0 : Fin 1) n k) := by
  have e := View.canon_cons_emb (Val := Elt Ideal) (e := .bf16) r0_11 w1 [(⟨r0_10, w0⟩ : View.Piece (Elt Ideal) S2x512x256 .bf16)] (ix3 (0 : Fin 1) n k)
  rw [emb_hi] at e
  exact e

section Loads
variable (x0 : Vec Ideal S512x1024 .f32) (x1 : Vec Ideal S1x1024 .f32) (x2 : Vec Ideal S1x1x1024 .f32) (x3 : Vec Ideal S1x1x1024 .f32) (x4 : Vec Ideal S512x1024 .bf16) (x5 : Vec Ideal S1024x256 .bf16) (x6 : Vec Ideal S128x1024 .bf16) (x7 : Vec Ideal S1024x1024 .bf16) (x8 : Vec Ideal S1024x1024 .bf16) (x9 : Vec Ideal S512x1024 .bf16) (x10 : Vec Ideal S1024x128 .f32) (x11 : Vec Ideal S1024x2048 .bf16)

theorem v26_at (t : Fin 512) (j : Fin 1024) : (k0_pay21 x0 x1 x2 x3 x4 x5 x6 x7 x8 x9 x10 x11 (ix2 t j) : EReal) = row x0 x1 x2 x3 t j := by
  have l0 : View.ld x0 r0_0 = x0 := View.ld_unit_lit _ x0 (by decide)
  have l1 : View.ld x1 r0_1 = x1 := View.ld_unit_lit _ x1 (by decide)
  have l2 : View.ld x2 r0_2 = x2 := View.ld_unit_lit _ x2 (by decide)
  have l3 : View.ld x3 r0_2 = x3 := View.ld_unit_lit _ x3 (by decide)
  unfold k0_pay21
  rw [l0, l1, l2, l3]
  exact pay5_at x0 x1 x2 x3 t j

theorem v28_at (t : Fin 512) (j : Fin 1024) : (k0_pay22 x0 x1 x2 x3 x4 x5 x6 x7 x8 x9 x10 x11 (ix2 j t) : EReal) = row x0 x1 x2 x3 t j := by
  have l0 : View.ld x0 r0_0 = x0 := View.ld_unit_lit _ x0 (by decide)
  have l1 : View.ld x1 r0_1 = x1 := View.ld_unit_lit _ x1 (by decide)
  have l2 : View.ld x2 r0_2 = x2 := View.ld_unit_lit _ x2 (by decide)
  have l3 : View.ld x3 r0_2 = x3 := View.ld_unit_lit _ x3 (by decide)
  unfold k0_pay22
  rw [l0, l1, l2, l3]
  exact pay6_at x0 x1 x2 x3 t j

theorem v101_eq : k0_pay24 x0 x1 x2 x3 x4 x5 x6 x7 x8 x9 x10 x11 = x11 := by
  have l : View.ld x11 r0_14 = x11 := View.ld_unit_lit _ x11 (by decide)
  unfold k0_pay24 k0_pay20
  rw [l]
  exact shapeCast_self _ _

/-- The queries of a tile: scaled products, ones at the places of the gates. -/
theorem qt_at (h : Fin 8) (r : Fin 128) (t : Fin 512) :
    (out0_15 x0 x1 x2 x3 x4 x5 x6 x7 x8 x9 x10 x11 (ix3 h r t) : EReal)
      = if 64 ≤ r.val ∧ r.val < 67 then 1
        else (∑ j : Fin 1024, x7 (ix2 (⟨128 * h.val + r.val, by omega⟩ : Fin 1024) j) * row x0 x1 x2 x3 t j) * (((8 * Real.log 2)⁻¹ : ℝ) : EReal) := by
  have l : View.ld x7 r0_8 = x7 := View.ld_unit_lit _ x7 (by decide)
  have e : out0_15 x0 x1 x2 x3 x4 x5 x6 x7 x8 x9 x10 x11 = k0_pay14 (k0_pay10 (k0_pay22 x0 x1 x2 x3 x4 x5 x6 x7 x8 x9 x10 x11) (View.ld x7 r0_8)) k0_pay12 k0_pay13 :=
    View.canon_cons_unit_zero (S := S8x128x512) (funext fun a => by fin_cases a <;> rfl) _ _ _
  rw [e, l, pay14_at, places_at, pay10_at]
  simp only [v28_at]
  have hm : (128 * h.val + r.val) % 128 = r.val := by omega
  simp only [hm]
  by_cases hr : 64 ≤ r.val ∧ r.val < 67 <;> simp [hr, Scalar.select]

/-- The keys of a tile. -/
theorem kp_at (t : Fin 512) (n : Fin 1024) : (out0_16 x0 x1 x2 x3 x4 x5 x6 x7 x8 x9 x10 x11 (ix2 t n) : EReal) = ∑ j : Fin 1024, row x0 x1 x2 x3 t j * x8 (ix2 j n) := by
  have l : View.ld x8 r0_8 = x8 := View.ld_unit_lit _ x8 (by decide)
  have e : out0_16 x0 x1 x2 x3 x4 x5 x6 x7 x8 x9 x10 x11 = k0_pay15 (k0_pay21 x0 x1 x2 x3 x4 x5 x6 x7 x8 x9 x10 x11) (View.ld x8 r0_8) :=
    View.canon_cons_unit_zero (S := S512x1024) (funext fun a => by fin_cases a <;> rfl) _ _ _
  rw [e, l, pay15_at]
  simp only [v26_at]

/-- The gate inputs of a tile. -/
theorem fl_at (t : Fin 512) (n : Fin 128) : (out0_18 x0 x1 x2 x3 x4 x5 x6 x7 x8 x9 x10 x11 (ix2 t n) : EReal) = ∑ j : Fin 1024, row x0 x1 x2 x3 t j * x10 (ix2 j n) := by
  have l : View.ld x10 r0_12 = x10 := View.ld_unit_lit _ x10 (by decide)
  have l0 : View.ld x0 r0_0 = x0 := View.ld_unit_lit _ x0 (by decide)
  have l1 : View.ld x1 r0_1 = x1 := View.ld_unit_lit _ x1 (by decide)
  have l2 : View.ld x2 r0_2 = x2 := View.ld_unit_lit _ x2 (by decide)
  have l3 : View.ld x3 r0_2 = x3 := View.ld_unit_lit _ x3 (by decide)
  have e : out0_18 x0 x1 x2 x3 x4 x5 x6 x7 x8 x9 x10 x11 = k0_pay19 (k0_pay4 (View.ld x0 r0_0) (View.ld x1 r0_1) (View.ld x2 r0_2) (View.ld x3 r0_2)) (View.ld x10 r0_12) :=
    View.canon_cons_unit_zero (S := S512x128) (funext fun a => by fin_cases a <;> rfl) _ _ _
  rw [e, l, l0, l1, l2, l3, pay19_at]
  simp only [pay4_at]

/-- The first gates of a tile. -/
theorem ga_at (t : Fin 512) (n : Fin 1024) :
    (out0_19 x0 x1 x2 x3 x4 x5 x6 x7 x8 x9 x10 x11 (ix2 t n) : EReal) = Ideal.logistic (∑ j : Fin 1024, row x0 x1 x2 x3 t j * x11 (ix2 j (⟨n.val, by omega⟩ : Fin 2048))) := by
  have e : out0_19 x0 x1 x2 x3 x4 x5 x6 x7 x8 x9 x10 x11 = k0_pay2 (k0_pay21 x0 x1 x2 x3 x4 x5 x6 x7 x8 x9 x10 x11) (k0_pay24 x0 x1 x2 x3 x4 x5 x6 x7 x8 x9 x10 x11) (k0_pay23 x0 x1 x2 x3 x4 x5 x6 x7 x8 x9 x10 x11) :=
    View.canon_cons_unit_zero (S := S512x1024) (funext fun a => by fin_cases a <;> rfl) _ _ _
  rw [e, v101_eq]
  refine (pay2_at _ _ t n).trans ?_
  simp only [v26_at]

/-- The second gates of a tile. -/
theorem gb_at (t : Fin 512) (n : Fin 1024) :
    (out0_20 x0 x1 x2 x3 x4 x5 x6 x7 x8 x9 x10 x11 (ix2 t n) : EReal) = Ideal.logistic (∑ j : Fin 1024, row x0 x1 x2 x3 t j * x11 (ix2 j (⟨1024 + n.val, by omega⟩ : Fin 2048))) := by
  have e : out0_20 x0 x1 x2 x3 x4 x5 x6 x7 x8 x9 x10 x11 = k0_pay3 (k0_pay21 x0 x1 x2 x3 x4 x5 x6 x7 x8 x9 x10 x11) (k0_pay24 x0 x1 x2 x3 x4 x5 x6 x7 x8 x9 x10 x11) (k0_pay23 x0 x1 x2 x3 x4 x5 x6 x7 x8 x9 x10 x11) :=
    View.canon_cons_unit_zero (S := S512x1024) (funext fun a => by fin_cases a <;> rfl) _ _ _
  rw [e, v101_eq]
  refine (pay3_at _ _ t n).trans ?_
  simp only [v26_at]

/-- The values of a tile, in two blocks of keys. -/
theorem vt_at (b : Fin 2) (n : Fin 512) (k : Fin 256) :
    (out0_17 x0 x1 x2 x3 x4 x5 x6 x7 x8 x9 x10 x11 (ix3 b n k) : EReal) = ∑ j : Fin 1024, x9 (ix2 n j) * row x0 x1 x2 x3 (⟨256 * b.val + k.val, by omega⟩ : Fin 512) j := by
  have l : View.ld x9 r0_0 = x9 := View.ld_unit_lit _ x9 (by decide)
  unfold out0_17
  rw [l]
  match b with
  | 0 =>
    refine (canon_lo _ _ n k).trans ((pay17_at _ _ n k).trans ?_)
    simp only [v28_at]
    exact Finset.sum_congr rfl fun j _ => congrArg (fun t => x9 (ix2 n j) * row x0 x1 x2 x3 t j) (Fin.ext (by show k.val = 256 * 0 + k.val; omega))
  | 1 =>
    refine (canon_hi _ _ n k).trans ((pay18_at _ _ n k).trans ?_)
    simp only [v28_at]
    exact Finset.sum_congr rfl fun j _ => congrArg (fun t => x9 (ix2 n j) * row x0 x1 x2 x3 t j) (Fin.ext rfl)

end Loads

end Cert.KernelIdeal.In
end
-- ==== Proof.InBlk.lean ====
module

public import proofs.«01_k».proof.Proof.InOut
public import Idealize.ShloMosaic.Lib.Pipeline.ValueKit

/-!
The arrays of the input projection call, at an index, over the arrays it reads.
-/

@[expose] public section
set_option maxHeartbeats 2000000
set_option maxRecDepth 16384
namespace Cert.KernelIdeal.In

open Idealize.ShloMosaic Idealize.ShloMosaic.TcCoe Idealize.ShloMosaic.Tactic
open Idealize.ShloMosaic.Pipeline (Dat Cfg Window)
open Cert.KernelIdeal Cert.KernelIdeal.Gen Cert.KernelIdeal.Run

theorem idx : ∀ t : Fin cfg0.N, win0_0.index t = ![t.val, 0] ∧ win0_1.index t = ![0, 0] ∧ win0_2.index t = ![t.val / 8, 0, 0] ∧ win0_3.index t = ![t.val / 8, 0, 0]
    ∧ win0_7.index t = ![0, 0] ∧ win0_8.index t = ![0, 0] ∧ win0_9.index t = ![0, 0] ∧ win0_10.index t = ![0, 0] ∧ win0_11.index t = ![0, 0]
    ∧ win0_15.index t = ![0, 0, t.val] ∧ win0_16.index t = ![t.val, 0] ∧ win0_17.index t = ![t.val, 0, 0] ∧ win0_18.index t = ![t.val, 0]
    ∧ win0_19.index t = ![t.val, 0] ∧ win0_20.index t = ![t.val, 0] ∧ t.val < 32 :=
  (by decide +kernel : ∀ t : Fin grid0.N, _)

section Arrays
variable (V : (c : Dev nD) → (b : Ref sig .tc) → Buf (Elt Ideal) ((c : Thread nD τ).loc b)) (c : Dev nD) (t : Fin cfg0.N)

theorem blk7 : (iblk0 V c 7 t : FVec Ideal S1024x1024 .bf16) = V c main_v31 := by blk_ext! [iblk0, idx t]
theorem blk8 : (iblk0 V c 8 t : FVec Ideal S1024x1024 .bf16) = V c main_v36 := by blk_ext! [iblk0, idx t]
theorem blk9 : (iblk0 V c 9 t : FVec Ideal S512x1024 .bf16) = V c main_v39 := by blk_ext! [iblk0, idx t]
theorem blk10 : (iblk0 V c 10 t : FVec Ideal S1024x128 .f32) = V c main_v41 := by blk_ext! [iblk0, idx t]
theorem blk11 : (iblk0 V c 11 t : FVec Ideal S1024x2048 .bf16) = V c main_v43 := by blk_ext! [iblk0, idx t]

/-- The norm of a token over the arrays. -/
noncomputable def tok (x : FVec Ideal S16384x1024 .f32) (g : FVec Ideal S1x1024 .f32) (sc sh : FVec Ideal S4x1x1024 .f32) (n : Fin 16384) (j : Fin 1024) : EReal :=
  Spec.hidden (fun j => x (ix2 n j)) (fun j => g (ix2 (0 : Fin 1) j)) (fun j => sc (ix3 (⟨n.val / 4096, by omega⟩ : Fin 4) (0 : Fin 1) j))
    (fun j => sh (ix3 (⟨n.val / 4096, by omega⟩ : Fin 4) (0 : Fin 1) j)) j

theorem blk0 (u : Fin 512) (j : Fin 1024) (n : Fin 16384) (hn : n.val = 512 * t.val + u.val) :
    (iblk0 V c 0 t : FVec Ideal S512x1024 .f32) (ix2 u j) = (V c main_v11 : FVec Ideal S16384x1024 .f32) (ix2 n j) := by
  blk_ext [iblk0, idx t]
theorem blk1 (j : Fin 1024) :
    (iblk0 V c 1 t : FVec Ideal S1x1024 .f32) (ix2 (0 : Fin 1) j) = (V c main_v45 : FVec Ideal S1x1024 .f32) (ix2 (0 : Fin 1) j) := by
  blk_ext [iblk0, idx t]
theorem blk2 (j : Fin 1024) (b : Fin 4) (hb : b.val = t.val / 8) :
    (iblk0 V c 2 t : FVec Ideal S1x1x1024 .f32) (ix3 (0 : Fin 1) (0 : Fin 1) j) = (V c main_v13 : FVec Ideal S4x1x1024 .f32) (ix3 b (0 : Fin 1) j) := by
  blk_ext [iblk0, idx t]
theorem blk3 (j : Fin 1024) (b : Fin 4) (hb : b.val = t.val / 8) :
    (iblk0 V c 3 t : FVec Ideal S1x1x1024 .f32) (ix3 (0 : Fin 1) (0 : Fin 1) j) = (V c main_v12 : FVec Ideal S4x1x1024 .f32) (ix3 b (0 : Fin 1) j) := by
  blk_ext [iblk0, idx t]

theorem row_tok (u : Fin 512) (j : Fin 1024) (n : Fin 16384) (hn : n.val = 512 * t.val + u.val) :
    row (iblk0 V c 0 t) (iblk0 V c 1 t) (iblk0 V c 2 t) (iblk0 V c 3 t) u j = tok (V c main_v11) (V c main_v45) (V c main_v13) (V c main_v12) n j := by
  have e0 := fun j => blk0 V c t u j n hn
  have e1 := blk1 V c t
  have hb : n.val / 4096 = t.val / 8 := by have := u.isLt; omega
  have e2 := fun j => blk2 V c t j (⟨n.val / 4096, by omega⟩ : Fin 4) hb
  have e3 := fun j => blk3 V c t j (⟨n.val / 4096, by omega⟩ : Fin 4) hb
  unfold row tok
  rw [funext e0, funext e1, funext e2, funext e3]

end Arrays
end Cert.KernelIdeal.In
end
-- ==== Proof.InQ.lean ====
module

public import proofs.«01_k».proof.Proof.InOut
public import Idealize.ShloMosaic.Lib.Pipeline.ValueKit
public import proofs.«01_k».proof.Proof.InBlk

/-!
The arrays of the input projection call, at an index, over the arrays it reads.
-/

@[expose] public section
set_option maxHeartbeats 2000000
set_option maxRecDepth 16384
namespace Cert.KernelIdeal.In

open Idealize.ShloMosaic Idealize.ShloMosaic.TcCoe Idealize.ShloMosaic.Tactic
open Idealize.ShloMosaic.Pipeline (Dat Cfg Window)
open Cert.KernelIdeal Cert.KernelIdeal.Gen Cert.KernelIdeal.Run

/-- The queries. -/
noncomputable def qArr (x : FVec Ideal S16384x1024 .f32) (g : FVec Ideal S1x1024 .f32) (sc sh : FVec Ideal S4x1x1024 .f32) (w : FVec Ideal S1024x1024 .bf16) : FVec Ideal S8x128x16384 .bf16 :=
  fun i => if 64 ≤ (i 1).val ∧ (i 1).val < 67 then 1 else (∑ j : Fin 1024, w (ix2 (⟨128 * (i 0).val + (i 1).val, by have h0 : (i 0).val < 8 := (i 0).isLt; have h1 : (i 1).val < 128 := (i 1).isLt; omega⟩ : Fin 1024) j) * tok x g sc sh (i 2) j) * (((8 * Real.log 2)⁻¹ : ℝ) : EReal)

theorem q_core (x : FVec Ideal S16384x1024 .f32) (g : FVec Ideal S1x1024 .f32) (sc sh : FVec Ideal S4x1x1024 .f32) (x0 : Vec Ideal S512x1024 .f32) (x1 : Vec Ideal S1x1024 .f32) (x2 : Vec Ideal S1x1x1024 .f32) (x3 : Vec Ideal S1x1x1024 .f32) (x4 : Vec Ideal S512x1024 .bf16) (x5 : Vec Ideal S1024x256 .bf16) (x6 : Vec Ideal S128x1024 .bf16) (x7 : Vec Ideal S1024x1024 .bf16) (x8 : Vec Ideal S1024x1024 .bf16) (x9 : Vec Ideal S512x1024 .bf16) (x10 : Vec Ideal S1024x128 .f32) (x11 : Vec Ideal S1024x2048 .bf16) (w : FVec Ideal S1024x1024 .bf16)
    (u0 : Fin 8) (u1 : Fin 128) (u2 : Fin 512) (i0 : Fin 8) (i1 : Fin 128) (i2 : Fin 16384) (t : ℕ) (h0 : i0.val = u0.val) (h1 : i1.val = u1.val) (h2 : i2.val = 512 * t + u2.val)
    (e : ∀ j, row x0 x1 x2 x3 u2 j = tok x g sc sh i2 j) (hw : (x7 : FVec Ideal S1024x1024 .bf16) = w) :
    (out0_15 x0 x1 x2 x3 x4 x5 x6 x7 x8 x9 x10 x11 (ix3 u0 u1 u2) : EReal) = qArr x g sc sh w (ix3 i0 i1 i2) := by
  have e0 : i0 = u0 := Fin.ext h0
  have e1 : i1 = u1 := Fin.ext h1
  subst e0 e1
  refine (qt_at x0 x1 x2 x3 x4 x5 x6 x7 x8 x9 x10 x11 i0 i1 u2).trans ?_
  exact congrArg (fun s : EReal => if 64 ≤ i1.val ∧ i1.val < 67 then (1 : EReal) else s * (((8 * Real.log 2)⁻¹ : ℝ) : EReal))
    (Finset.sum_congr rfl fun j _ => congrArg₂ (fun a b : EReal => a * b) (congrFun hw (ix2 _ j)) (e j))

variable (V : (c : Dev nD) → (b : Ref sig .tc) → Buf (Elt Ideal) ((c : Thread nD τ).loc b)) (c : Dev nD) (t : Fin cfg0.N)

theorem q_point (y : S8x128x512.Idx) (i : S8x128x16384.Idx) (h0 : (i 0).val = (y 0).val) (h1 : (i 1).val = (y 1).val) (h2 : (i 2).val = 512 * t.val + (y 2).val) :
    (out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) y : EReal) = qArr (V c main_v11) (V c main_v45) (V c main_v13) (V c main_v12) (V c main_v31) i := by
  obtain ⟨u0, u1, u2, rfl⟩ : ∃ (u0 : Fin 8) (u1 : Fin 128) (u2 : Fin 512), y = ix3 u0 u1 u2 := ⟨y 0, y 1, y 2, by funext a; fin_cases a <;> rfl⟩
  obtain ⟨i0, i1, i2, rfl⟩ : ∃ (i0 : Fin 8) (i1 : Fin 128) (i2 : Fin 16384), i = ix3 i0 i1 i2 := ⟨i 0, i 1, i 2, by funext a; fin_cases a <;> rfl⟩
  have g0 : i2.val = 512 * t.val + u2.val := h2
  exact q_core _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) _ u0 u1 u2 i0 i1 i2 t.val h0 h1 h2 (fun j => row_tok V c t u2 j i2 g0) (blk7 V c t)

theorem q_final : (dat0 V c).arrAt 15 cfg0.N = qArr (V c main_v11) (V c main_v45) (V c main_v13) (V c main_v12) (V c main_v31) := by
  refine (dat0 V c).arrAt_eq_of_covers 15 _ (by decide +kernel) fun t _ y => ?_
  rw [after0_15]
  blk_simp
  exact q_point V c t y _ (by blk_simp [idx t]; try omega) (by blk_simp [idx t]; try omega) (by blk_simp [idx t]; try omega)

end Cert.KernelIdeal.In
end
-- ==== Proof.InK.lean ====
module

public import proofs.«01_k».proof.Proof.InOut
public import Idealize.ShloMosaic.Lib.Pipeline.ValueKit
public import proofs.«01_k».proof.Proof.InBlk

/-!
The arrays of the input projection call, at an index, over the arrays it reads.
-/

@[expose] public section
set_option maxHeartbeats 2000000
set_option maxRecDepth 16384
namespace Cert.KernelIdeal.In

open Idealize.ShloMosaic Idealize.ShloMosaic.TcCoe Idealize.ShloMosaic.Tactic
open Idealize.ShloMosaic.Pipeline (Dat Cfg Window)
open Cert.KernelIdeal Cert.KernelIdeal.Gen Cert.KernelIdeal.Run

/-- The keys. -/
noncomputable def kArr (x : FVec Ideal S16384x1024 .f32) (g : FVec Ideal S1x1024 .f32) (sc sh : FVec Ideal S4x1x1024 .f32) (w : FVec Ideal S1024x1024 .bf16) : FVec Ideal S16384x1024 .bf16 :=
  fun i => ∑ j : Fin 1024, tok x g sc sh (i 0) j * w (ix2 j (i 1))

theorem k_core (x : FVec Ideal S16384x1024 .f32) (g : FVec Ideal S1x1024 .f32) (sc sh : FVec Ideal S4x1x1024 .f32) (x0 : Vec Ideal S512x1024 .f32) (x1 : Vec Ideal S1x1024 .f32) (x2 : Vec Ideal S1x1x1024 .f32) (x3 : Vec Ideal S1x1x1024 .f32) (x4 : Vec Ideal S512x1024 .bf16) (x5 : Vec Ideal S1024x256 .bf16) (x6 : Vec Ideal S128x1024 .bf16) (x7 : Vec Ideal S1024x1024 .bf16) (x8 : Vec Ideal S1024x1024 .bf16) (x9 : Vec Ideal S512x1024 .bf16) (x10 : Vec Ideal S1024x128 .f32) (x11 : Vec Ideal S1024x2048 .bf16) (w : FVec Ideal S1024x1024 .bf16)
    (u0 : Fin 512) (u1 : Fin 1024) (i0 : Fin 16384) (i1 : Fin 1024) (t : ℕ) (h0 : i0.val = 512 * t + u0.val) (h1 : i1.val = u1.val)
    (e : ∀ j, row x0 x1 x2 x3 u0 j = tok x g sc sh i0 j) (hw : (x8 : FVec Ideal S1024x1024 .bf16) = w) :
    (out0_16 x0 x1 x2 x3 x4 x5 x6 x7 x8 x9 x10 x11 (ix2 u0 u1) : EReal) = kArr x g sc sh w (ix2 i0 i1) := by
  have e1 : i1 = u1 := Fin.ext h1
  subst e1
  refine (kp_at x0 x1 x2 x3 x4 x5 x6 x7 x8 x9 x10 x11 u0 i1).trans ?_
  exact Finset.sum_congr rfl fun j _ => congrArg₂ (fun a b : EReal => a * b) (e j) (congrFun hw (ix2 j _))

variable (V : (c : Dev nD) → (b : Ref sig .tc) → Buf (Elt Ideal) ((c : Thread nD τ).loc b)) (c : Dev nD) (t : Fin cfg0.N)

theorem k_point (y : S512x1024.Idx) (i : S16384x1024.Idx) (h0 : (i 0).val = 512 * t.val + (y 0).val) (h1 : (i 1).val = (y 1).val) :
    (out0_16 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) y : EReal) = kArr (V c main_v11) (V c main_v45) (V c main_v13) (V c main_v12) (V c main_v36) i := by
  obtain ⟨u0, u1, rfl⟩ : ∃ (u0 : Fin 512) (u1 : Fin 1024), y = ix2 u0 u1 := ⟨y 0, y 1, by funext a; fin_cases a <;> rfl⟩
  obtain ⟨i0, i1, rfl⟩ : ∃ (i0 : Fin 16384) (i1 : Fin 1024), i = ix2 i0 i1 := ⟨i 0, i 1, by funext a; fin_cases a <;> rfl⟩
  have g0 : i0.val = 512 * t.val + u0.val := h0
  exact k_core _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) _ u0 u1 i0 i1 t.val h0 h1 (fun j => row_tok V c t u0 j i0 g0) (blk8 V c t)

theorem k_final : (dat0 V c).arrAt 16 cfg0.N = kArr (V c main_v11) (V c main_v45) (V c main_v13) (V c main_v12) (V c main_v36) := by
  refine (dat0 V c).arrAt_eq_of_covers 16 _ (by decide +kernel) fun t _ y => ?_
  rw [after0_16]
  blk_simp
  exact k_point V c t y _ (by blk_simp [idx t]; try omega) (by blk_simp [idx t]; try omega)

end Cert.KernelIdeal.In
end
-- ==== Proof.InV.lean ====
module

public import proofs.«01_k».proof.Proof.InOut
public import Idealize.ShloMosaic.Lib.Pipeline.ValueKit
public import proofs.«01_k».proof.Proof.InBlk

/-!
The arrays of the input projection call, at an index, over the arrays it reads.
-/

@[expose] public section
set_option maxHeartbeats 2000000
set_option maxRecDepth 16384
namespace Cert.KernelIdeal.In

open Idealize.ShloMosaic Idealize.ShloMosaic.TcCoe Idealize.ShloMosaic.Tactic
open Idealize.ShloMosaic.Pipeline (Dat Cfg Window)
open Cert.KernelIdeal Cert.KernelIdeal.Gen Cert.KernelIdeal.Run

/-- The values, in blocks of keys. -/
noncomputable def vArr (x : FVec Ideal S16384x1024 .f32) (g : FVec Ideal S1x1024 .f32) (sc sh : FVec Ideal S4x1x1024 .f32) (w : FVec Ideal S512x1024 .bf16) : FVec Ideal S64x512x256 .bf16 :=
  fun i => ∑ j : Fin 1024, w (ix2 (i 1) j) * tok x g sc sh (⟨256 * (i 0).val + (i 2).val, by have h0 : (i 0).val < 64 := (i 0).isLt; have h1 : (i 2).val < 256 := (i 2).isLt; omega⟩ : Fin 16384) j

theorem v_core (x : FVec Ideal S16384x1024 .f32) (g : FVec Ideal S1x1024 .f32) (sc sh : FVec Ideal S4x1x1024 .f32) (x0 : Vec Ideal S512x1024 .f32) (x1 : Vec Ideal S1x1024 .f32) (x2 : Vec Ideal S1x1x1024 .f32) (x3 : Vec Ideal S1x1x1024 .f32) (x4 : Vec Ideal S512x1024 .bf16) (x5 : Vec Ideal S1024x256 .bf16) (x6 : Vec Ideal S128x1024 .bf16) (x7 : Vec Ideal S1024x1024 .bf16) (x8 : Vec Ideal S1024x1024 .bf16) (x9 : Vec Ideal S512x1024 .bf16) (x10 : Vec Ideal S1024x128 .f32) (x11 : Vec Ideal S1024x2048 .bf16) (w : FVec Ideal S512x1024 .bf16)
    (u0 : Fin 2) (u1 : Fin 512) (u2 : Fin 256) (i0 : Fin 64) (i1 : Fin 512) (i2 : Fin 256) (t : ℕ) (h0 : i0.val = 2 * t + u0.val) (h1 : i1.val = u1.val) (h2 : i2.val = u2.val)
    (e : ∀ j, row x0 x1 x2 x3 (⟨256 * u0.val + u2.val, by omega⟩ : Fin 512) j = tok x g sc sh (⟨256 * i0.val + i2.val, by omega⟩ : Fin 16384) j) (hw : (x9 : FVec Ideal S512x1024 .bf16) = w) :
    (out0_17 x0 x1 x2 x3 x4 x5 x6 x7 x8 x9 x10 x11 (ix3 u0 u1 u2) : EReal) = vArr x g sc sh w (ix3 i0 i1 i2) := by
  have e1 : i1 = u1 := Fin.ext h1
  subst e1
  refine (vt_at x0 x1 x2 x3 x4 x5 x6 x7 x8 x9 x10 x11 u0 i1 u2).trans ?_
  exact Finset.sum_congr rfl fun j _ => congrArg₂ (fun a b : EReal => a * b) (congrFun hw (ix2 i1 j)) (e j)

variable (V : (c : Dev nD) → (b : Ref sig .tc) → Buf (Elt Ideal) ((c : Thread nD τ).loc b)) (c : Dev nD) (t : Fin cfg0.N)

theorem v_point (y : S2x512x256.Idx) (i : S64x512x256.Idx) (h0 : (i 0).val = 2 * t.val + (y 0).val) (h1 : (i 1).val = (y 1).val) (h2 : (i 2).val = (y 2).val) :
    (out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) y : EReal) = vArr (V c main_v11) (V c main_v45) (V c main_v13) (V c main_v12) (V c main_v39) i := by
  obtain ⟨u0, u1, u2, rfl⟩ : ∃ (u0 : Fin 2) (u1 : Fin 512) (u2 : Fin 256), y = ix3 u0 u1 u2 := ⟨y 0, y 1, y 2, by funext a; fin_cases a <;> rfl⟩
  obtain ⟨i0, i1, i2, rfl⟩ : ∃ (i0 : Fin 64) (i1 : Fin 512) (i2 : Fin 256), i = ix3 i0 i1 i2 := ⟨i 0, i 1, i 2, by funext a; fin_cases a <;> rfl⟩
  have g0 : 256 * i0.val + i2.val = 512 * t.val + (256 * u0.val + u2.val) := by have a0 : i0.val = 2 * t.val + u0.val := h0; have a2 : i2.val = u2.val := h2; omega
  exact v_core _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) _ u0 u1 u2 i0 i1 i2 t.val h0 h1 h2 (fun j => row_tok V c t (⟨256 * u0.val + u2.val, by omega⟩ : Fin 512) j (⟨256 * i0.val + i2.val, by omega⟩ : Fin 16384) g0) (blk9 V c t)

theorem v_final : (dat0 V c).arrAt 17 cfg0.N = vArr (V c main_v11) (V c main_v45) (V c main_v13) (V c main_v12) (V c main_v39) := by
  refine (dat0 V c).arrAt_eq_of_covers 17 _ (by decide +kernel) fun t _ y => ?_
  rw [after0_17]
  blk_simp
  exact v_point V c t y _ (by blk_simp [idx t]; try omega) (by blk_simp [idx t]; try omega) (by blk_simp [idx t]; try omega)

end Cert.KernelIdeal.In
end
-- ==== Proof.InF.lean ====
module

public import proofs.«01_k».proof.Proof.InOut
public import Idealize.ShloMosaic.Lib.Pipeline.ValueKit
public import proofs.«01_k».proof.Proof.InBlk

/-!
The arrays of the input projection call, at an index, over the arrays it reads.
-/

@[expose] public section
set_option maxHeartbeats 2000000
set_option maxRecDepth 16384
namespace Cert.KernelIdeal.In

open Idealize.ShloMosaic Idealize.ShloMosaic.TcCoe Idealize.ShloMosaic.Tactic
open Idealize.ShloMosaic.Pipeline (Dat Cfg Window)
open Cert.KernelIdeal Cert.KernelIdeal.Gen Cert.KernelIdeal.Run

/-- The gate inputs. -/
noncomputable def fArr (x : FVec Ideal S16384x1024 .f32) (g : FVec Ideal S1x1024 .f32) (sc sh : FVec Ideal S4x1x1024 .f32) (w : FVec Ideal S1024x128 .f32) : FVec Ideal S16384x128 .f32 :=
  fun i => ∑ j : Fin 1024, tok x g sc sh (i 0) j * w (ix2 j (i 1))

theorem f_core (x : FVec Ideal S16384x1024 .f32) (g : FVec Ideal S1x1024 .f32) (sc sh : FVec Ideal S4x1x1024 .f32) (x0 : Vec Ideal S512x1024 .f32) (x1 : Vec Ideal S1x1024 .f32) (x2 : Vec Ideal S1x1x1024 .f32) (x3 : Vec Ideal S1x1x1024 .f32) (x4 : Vec Ideal S512x1024 .bf16) (x5 : Vec Ideal S1024x256 .bf16) (x6 : Vec Ideal S128x1024 .bf16) (x7 : Vec Ideal S1024x1024 .bf16) (x8 : Vec Ideal S1024x1024 .bf16) (x9 : Vec Ideal S512x1024 .bf16) (x10 : Vec Ideal S1024x128 .f32) (x11 : Vec Ideal S1024x2048 .bf16) (w : FVec Ideal S1024x128 .f32)
    (u0 : Fin 512) (u1 : Fin 128) (i0 : Fin 16384) (i1 : Fin 128) (t : ℕ) (h0 : i0.val = 512 * t + u0.val) (h1 : i1.val = u1.val)
    (e : ∀ j, row x0 x1 x2 x3 u0 j = tok x g sc sh i0 j) (hw : (x10 : FVec Ideal S1024x128 .f32) = w) :
    (out0_18 x0 x1 x2 x3 x4 x5 x6 x7 x8 x9 x10 x11 (ix2 u0 u1) : EReal) = fArr x g sc sh w (ix2 i0 i1) := by
  have e1 : i1 = u1 := Fin.ext h1
  subst e1
  refine (fl_at x0 x1 x2 x3 x4 x5 x6 x7 x8 x9 x10 x11 u0 i1).trans ?_
  exact Finset.sum_congr rfl fun j _ => congrArg₂ (fun a b : EReal => a * b) (e j) (congrFun hw (ix2 j _))

variable (V : (c : Dev nD) → (b : Ref sig .tc) → Buf (Elt Ideal) ((c : Thread nD τ).loc b)) (c : Dev nD) (t : Fin cfg0.N)

theorem f_point (y : S512x128.Idx) (i : S16384x128.Idx) (h0 : (i 0).val = 512 * t.val + (y 0).val) (h1 : (i 1).val = (y 1).val) :
    (out0_18 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) y : EReal) = fArr (V c main_v11) (V c main_v45) (V c main_v13) (V c main_v12) (V c main_v41) i := by
  obtain ⟨u0, u1, rfl⟩ : ∃ (u0 : Fin 512) (u1 : Fin 128), y = ix2 u0 u1 := ⟨y 0, y 1, by funext a; fin_cases a <;> rfl⟩
  obtain ⟨i0, i1, rfl⟩ : ∃ (i0 : Fin 16384) (i1 : Fin 128), i = ix2 i0 i1 := ⟨i 0, i 1, by funext a; fin_cases a <;> rfl⟩
  have g0 : i0.val = 512 * t.val + u0.val := h0
  exact f_core _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) _ u0 u1 i0 i1 t.val h0 h1 (fun j => row_tok V c t u0 j i0 g0) (blk10 V c t)

theorem f_final : (dat0 V c).arrAt 18 cfg0.N = fArr (V c main_v11) (V c main_v45) (V c main_v13) (V c main_v12) (V c main_v41) := by
  refine (dat0 V c).arrAt_eq_of_covers 18 _ (by decide +kernel) fun t _ y => ?_
  rw [after0_18]
  blk_simp
  exact f_point V c t y _ (by blk_simp [idx t]; try omega) (by blk_simp [idx t]; try omega)

end Cert.KernelIdeal.In
end
-- ==== Proof.InGa.lean ====
module

public import proofs.«01_k».proof.Proof.InOut
public import Idealize.ShloMosaic.Lib.Pipeline.ValueKit
public import proofs.«01_k».proof.Proof.InBlk

/-!
The arrays of the input projection call, at an index, over the arrays it reads.
-/

@[expose] public section
set_option maxHeartbeats 2000000
set_option maxRecDepth 16384
namespace Cert.KernelIdeal.In

open Idealize.ShloMosaic Idealize.ShloMosaic.TcCoe Idealize.ShloMosaic.Tactic
open Idealize.ShloMosaic.Pipeline (Dat Cfg Window)
open Cert.KernelIdeal Cert.KernelIdeal.Gen Cert.KernelIdeal.Run

/-- The first gates. -/
noncomputable def gaArr (x : FVec Ideal S16384x1024 .f32) (g : FVec Ideal S1x1024 .f32) (sc sh : FVec Ideal S4x1x1024 .f32) (w : FVec Ideal S1024x2048 .bf16) : FVec Ideal S16384x1024 .bf16 :=
  fun i => Ideal.logistic (∑ j : Fin 1024, tok x g sc sh (i 0) j * w (ix2 j (⟨(i 1).val, by have h1 : (i 1).val < 1024 := (i 1).isLt; omega⟩ : Fin 2048)))

theorem ga_core (x : FVec Ideal S16384x1024 .f32) (g : FVec Ideal S1x1024 .f32) (sc sh : FVec Ideal S4x1x1024 .f32) (x0 : Vec Ideal S512x1024 .f32) (x1 : Vec Ideal S1x1024 .f32) (x2 : Vec Ideal S1x1x1024 .f32) (x3 : Vec Ideal S1x1x1024 .f32) (x4 : Vec Ideal S512x1024 .bf16) (x5 : Vec Ideal S1024x256 .bf16) (x6 : Vec Ideal S128x1024 .bf16) (x7 : Vec Ideal S1024x1024 .bf16) (x8 : Vec Ideal S1024x1024 .bf16) (x9 : Vec Ideal S512x1024 .bf16) (x10 : Vec Ideal S1024x128 .f32) (x11 : Vec Ideal S1024x2048 .bf16) (w : FVec Ideal S1024x2048 .bf16)
    (u0 : Fin 512) (u1 : Fin 1024) (i0 : Fin 16384) (i1 : Fin 1024) (t : ℕ) (h0 : i0.val = 512 * t + u0.val) (h1 : i1.val = u1.val)
    (e : ∀ j, row x0 x1 x2 x3 u0 j = tok x g sc sh i0 j) (hw : (x11 : FVec Ideal S1024x2048 .bf16) = w) :
    (out0_19 x0 x1 x2 x3 x4 x5 x6 x7 x8 x9 x10 x11 (ix2 u0 u1) : EReal) = gaArr x g sc sh w (ix2 i0 i1) := by
  have e1 : i1 = u1 := Fin.ext h1
  subst e1
  refine (ga_at x0 x1 x2 x3 x4 x5 x6 x7 x8 x9 x10 x11 u0 i1).trans ?_
  exact congrArg Ideal.logistic (Finset.sum_congr rfl fun j _ => congrArg₂ (fun a b : EReal => a * b) (e j) (congrFun hw (ix2 j _)))

variable (V : (c : Dev nD) → (b : Ref sig .tc) → Buf (Elt Ideal) ((c : Thread nD τ).loc b)) (c : Dev nD) (t : Fin cfg0.N)

theorem ga_point (y : S512x1024.Idx) (i : S16384x1024.Idx) (h0 : (i 0).val = 512 * t.val + (y 0).val) (h1 : (i 1).val = (y 1).val) :
    (out0_19 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) y : EReal) = gaArr (V c main_v11) (V c main_v45) (V c main_v13) (V c main_v12) (V c main_v43) i := by
  obtain ⟨u0, u1, rfl⟩ : ∃ (u0 : Fin 512) (u1 : Fin 1024), y = ix2 u0 u1 := ⟨y 0, y 1, by funext a; fin_cases a <;> rfl⟩
  obtain ⟨i0, i1, rfl⟩ : ∃ (i0 : Fin 16384) (i1 : Fin 1024), i = ix2 i0 i1 := ⟨i 0, i 1, by funext a; fin_cases a <;> rfl⟩
  have g0 : i0.val = 512 * t.val + u0.val := h0
  exact ga_core _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) _ u0 u1 i0 i1 t.val h0 h1 (fun j => row_tok V c t u0 j i0 g0) (blk11 V c t)

theorem ga_final : (dat0 V c).arrAt 19 cfg0.N = gaArr (V c main_v11) (V c main_v45) (V c main_v13) (V c main_v12) (V c main_v43) := by
  refine (dat0 V c).arrAt_eq_of_covers 19 _ (by decide +kernel) fun t _ y => ?_
  rw [after0_19]
  blk_simp
  exact ga_point V c t y _ (by blk_simp [idx t]; try omega) (by blk_simp [idx t]; try omega)

end Cert.KernelIdeal.In
end
-- ==== Proof.InGb.lean ====
module

public import proofs.«01_k».proof.Proof.InOut
public import Idealize.ShloMosaic.Lib.Pipeline.ValueKit
public import proofs.«01_k».proof.Proof.InBlk

/-!
The arrays of the input projection call, at an index, over the arrays it reads.
-/

@[expose] public section
set_option maxHeartbeats 2000000
set_option maxRecDepth 16384
namespace Cert.KernelIdeal.In

open Idealize.ShloMosaic Idealize.ShloMosaic.TcCoe Idealize.ShloMosaic.Tactic
open Idealize.ShloMosaic.Pipeline (Dat Cfg Window)
open Cert.KernelIdeal Cert.KernelIdeal.Gen Cert.KernelIdeal.Run

/-- The second gates. -/
noncomputable def gbArr (x : FVec Ideal S16384x1024 .f32) (g : FVec Ideal S1x1024 .f32) (sc sh : FVec Ideal S4x1x1024 .f32) (w : FVec Ideal S1024x2048 .bf16) : FVec Ideal S16384x1024 .bf16 :=
  fun i => Ideal.logistic (∑ j : Fin 1024, tok x g sc sh (i 0) j * w (ix2 j (⟨1024 + (i 1).val, by have h1 : (i 1).val < 1024 := (i 1).isLt; omega⟩ : Fin 2048)))

theorem gb_core (x : FVec Ideal S16384x1024 .f32) (g : FVec Ideal S1x1024 .f32) (sc sh : FVec Ideal S4x1x1024 .f32) (x0 : Vec Ideal S512x1024 .f32) (x1 : Vec Ideal S1x1024 .f32) (x2 : Vec Ideal S1x1x1024 .f32) (x3 : Vec Ideal S1x1x1024 .f32) (x4 : Vec Ideal S512x1024 .bf16) (x5 : Vec Ideal S1024x256 .bf16) (x6 : Vec Ideal S128x1024 .bf16) (x7 : Vec Ideal S1024x1024 .bf16) (x8 : Vec Ideal S1024x1024 .bf16) (x9 : Vec Ideal S512x1024 .bf16) (x10 : Vec Ideal S1024x128 .f32) (x11 : Vec Ideal S1024x2048 .bf16) (w : FVec Ideal S1024x2048 .bf16)
    (u0 : Fin 512) (u1 : Fin 1024) (i0 : Fin 16384) (i1 : Fin 1024) (t : ℕ) (h0 : i0.val = 512 * t + u0.val) (h1 : i1.val = u1.val)
    (e : ∀ j, row x0 x1 x2 x3 u0 j = tok x g sc sh i0 j) (hw : (x11 : FVec Ideal S1024x2048 .bf16) = w) :
    (out0_20 x0 x1 x2 x3 x4 x5 x6 x7 x8 x9 x10 x11 (ix2 u0 u1) : EReal) = gbArr x g sc sh w (ix2 i0 i1) := by
  have e1 : i1 = u1 := Fin.ext h1
  subst e1
  refine (gb_at x0 x1 x2 x3 x4 x5 x6 x7 x8 x9 x10 x11 u0 i1).trans ?_
  exact congrArg Ideal.logistic (Finset.sum_congr rfl fun j _ => congrArg₂ (fun a b : EReal => a * b) (e j) (congrFun hw (ix2 j _)))

variable (V : (c : Dev nD) → (b : Ref sig .tc) → Buf (Elt Ideal) ((c : Thread nD τ).loc b)) (c : Dev nD) (t : Fin cfg0.N)

theorem gb_point (y : S512x1024.Idx) (i : S16384x1024.Idx) (h0 : (i 0).val = 512 * t.val + (y 0).val) (h1 : (i 1).val = (y 1).val) :
    (out0_20 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) y : EReal) = gbArr (V c main_v11) (V c main_v45) (V c main_v13) (V c main_v12) (V c main_v43) i := by
  obtain ⟨u0, u1, rfl⟩ : ∃ (u0 : Fin 512) (u1 : Fin 1024), y = ix2 u0 u1 := ⟨y 0, y 1, by funext a; fin_cases a <;> rfl⟩
  obtain ⟨i0, i1, rfl⟩ : ∃ (i0 : Fin 16384) (i1 : Fin 1024), i = ix2 i0 i1 := ⟨i 0, i 1, by funext a; fin_cases a <;> rfl⟩
  have g0 : i0.val = 512 * t.val + u0.val := h0
  exact gb_core _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) _ u0 u1 i0 i1 t.val h0 h1 (fun j => row_tok V c t u0 j i0 g0) (blk11 V c t)

theorem gb_final : (dat0 V c).arrAt 20 cfg0.N = gbArr (V c main_v11) (V c main_v45) (V c main_v13) (V c main_v12) (V c main_v43) := by
  refine (dat0 V c).arrAt_eq_of_covers 20 _ (by decide +kernel) fun t _ y => ?_
  rw [after0_20]
  blk_simp
  exact gb_point V c t y _ (by blk_simp [idx t]; try omega) (by blk_simp [idx t]; try omega)

end Cert.KernelIdeal.In
end
-- ==== Proof.Host.lean ====
module

public import proofs.«01_k».proof.Proof.Gen.KernelIdeal.Launch
public import Idealize.ShloMosaic.Lib.Pointwise
public import Idealize.ShloMosaic.Lib.KernelVsHost
public import Idealize.ShloMosaic.Lib.WordCmp
public import Idealize.ShloMosaic.Lib.IdealHost

/-!
The host's arrays at an index: the reshaped and padded weights, the padded bias, the placement table.
-/

@[expose] public section
set_option maxHeartbeats 4000000
set_option maxRecDepth 16384
namespace Cert.KernelIdeal.Host

open Idealize.ShloMosaic Idealize.ShloMosaic.TcCoe
open Cert.KernelIdeal Cert.KernelIdeal.Gen

/-- The filling of the host's pads. -/
noncomputable def fill : FVec Ideal S_ .f32 := sitofp .f32 (constantI S_ 32 0#32)

theorem fill_eq (i) : (fill i : EReal) = 0 := by
  show ((((0#32 : BitVec 32).toInt : ℝ)) : EReal) = 0
  simp

/-- The projection weights of the layer. -/
noncomputable def full (X : FVec Ideal S1x1024x4360 .f32) : FVec Ideal S1024x4360 .f32 := shapeCast S1024x4360 X shapeCasts_S1x1024x4360_S1024x4360

theorem full_at (X : FVec Ideal S1x1024x4360 .f32) (j : Fin 1024) (n : Fin 4360) : (full X (ix2 j n) : EReal) = X (ix3 (0 : Fin 1) j n) := by
  pointwise [full]

/-- The query weights turned, by head. -/
noncomputable def q3 (X : FVec Ideal S1x1024x4360 .f32) : FVec Ideal S8x64x1024 .f32 :=
  shapeCast S8x64x1024 (transpose S512x1024 [1, 0] (extractStridedSlice S1024x512 ![0, 768] (full X) slices_S1024x4360_S1024x512_0_768) transposes_S1024x512_S512x1024_1_0) shapeCasts_S512x1024_S8x64x1024

/-- The query weights, each head padded. -/
noncomputable def wq (X : FVec Ideal S1x1024x4360 .f32) : FVec Ideal S1024x1024 .bf16 :=
  truncf .bf16 (shapeCast S1024x1024 (pad S8x128x1024 ![0, 0, 0] ![0, 64, 0] ![0, 0, 0] (q3 X) fill pads_S8x64x1024_S8x128x1024_000_0640_000 h_S_) shapeCasts_S8x128x1024_S1024x1024) bitsLt_bf16_f32

/-- The key weights by head. -/
noncomputable def k3 (X : FVec Ideal S1x1024x4360 .f32) : FVec Ideal S1024x8x64 .f32 :=
  shapeCast S1024x8x64 (extractStridedSlice S1024x512 ![0, 1280] (full X) slices_S1024x4360_S1024x512_0_1280) shapeCasts_S1024x512_S1024x8x64

/-- The key weights, each head padded. -/
noncomputable def wk (X : FVec Ideal S1x1024x4360 .f32) : FVec Ideal S1024x1024 .bf16 :=
  truncf .bf16 (shapeCast S1024x1024 (pad S1024x8x128 ![0, 0, 0] ![0, 0, 64] ![0, 0, 0] (k3 X) fill pads_S1024x8x64_S1024x8x128_000_000_0640 h_S_) shapeCasts_S1024x8x128_S1024x1024) bitsLt_bf16_f32

/-- The value weights turned. -/
noncomputable def wv (X : FVec Ideal S1x1024x4360 .f32) : FVec Ideal S512x1024 .bf16 :=
  truncf .bf16 (transpose S512x1024 [1, 0] (extractStridedSlice S1024x512 ![0, 1792] (full X) slices_S1024x4360_S1024x512_0_1792) transposes_S1024x512_S512x1024_1_0) bitsLt_bf16_f32

/-- The forget weights padded to the lanes. -/
noncomputable def wf (X : FVec Ideal S1x1024x4360 .f32) : FVec Ideal S1024x128 .f32 :=
  pad S1024x128 ![0, 0] ![0, 120] ![0, 0] (extractStridedSlice S1024x8 ![0, 2304] (full X) slices_S1024x4360_S1024x8_0_2304) fill pads_S1024x8_S1024x128_000_01200 h_S_

/-- The gate weights. -/
noncomputable def wg (X : FVec Ideal S1x1024x4360 .f32) : FVec Ideal S1024x2048 .bf16 :=
  truncf .bf16 (extractStridedSlice S1024x2048 ![0, 2312] (full X) slices_S1024x4360_S1024x2048_0_2312) bitsLt_bf16_f32

/-- The bias padded to the lanes. -/
noncomputable def bpad (B : FVec Ideal S1x8 .f32) : FVec Ideal S1x128 .f32 :=
  shapeCast S1x128 (pad S128 ![0] ![120] ![0] (shapeCast S8 B shapeCasts_S1x8_S8) fill pads_S8_S128_01200 h_S_) shapeCasts_S128_S1x128

theorem q3_at (X : FVec Ideal S1x1024x4360 .f32) (h : Fin 8) (d : Fin 64) (j : Fin 1024) :
    (q3 X (ix3 h d j) : EReal) = X (ix3 (0 : Fin 1) j (⟨768 + (64 * h.val + d.val), by omega⟩ : Fin 4360)) := by
  refine Eq.trans ?_ (full_at X j _)
  generalize e : full X = Y
  unfold q3
  rw [e]
  pointwise
  exact congrArg (fun n => Y (ix2 j n)) (Fin.ext (by show 768 + (h.val * 64 + d.val) = 768 + (64 * h.val + d.val); omega))

theorem k3_at (X : FVec Ideal S1x1024x4360 .f32) (h : Fin 8) (d : Fin 64) (j : Fin 1024) :
    (k3 X (ix3 j h d) : EReal) = X (ix3 (0 : Fin 1) j (⟨1280 + (64 * h.val + d.val), by omega⟩ : Fin 4360)) := by
  refine Eq.trans ?_ (full_at X j _)
  generalize e : full X = Y
  unfold k3
  rw [e]
  pointwise
  exact congrArg (fun n => Y (ix2 j n)) (Fin.ext (by show 1280 + (h.val * 64 + d.val) = 1280 + (64 * h.val + d.val); omega))

theorem wv_at (X : FVec Ideal S1x1024x4360 .f32) (n : Fin 512) (j : Fin 1024) :
    (wv X (ix2 n j) : EReal) = X (ix3 (0 : Fin 1) j (⟨1792 + n.val, by omega⟩ : Fin 4360)) := by
  refine Eq.trans ?_ (full_at X j _)
  generalize e : full X = Y
  unfold wv
  rw [e]
  pointwise

theorem wg_at (X : FVec Ideal S1x1024x4360 .f32) (n : Fin 2048) (j : Fin 1024) :
    (wg X (ix2 j n) : EReal) = X (ix3 (0 : Fin 1) j (⟨2312 + n.val, by omega⟩ : Fin 4360)) := by
  refine Eq.trans ?_ (full_at X j _)
  generalize e : full X = Y
  unfold wg
  rw [e]
  pointwise

theorem wf_at (X : FVec Ideal S1x1024x4360 .f32) (n : Fin 128) (hn : n.val < 8) (j : Fin 1024) :
    (wf X (ix2 j n) : EReal) = X (ix3 (0 : Fin 1) j (⟨2304 + n.val, by omega⟩ : Fin 4360)) := by
  refine (pad_apply_of_inside ![0, 0] ![0, 120] ![0, 0] _ fill _ _ (ix2 j n) (ix2 j (⟨n.val, hn⟩ : Fin 8)) (fun a => by fin_cases a <;> simp [ix2])).trans ?_
  refine Eq.trans ?_ (full_at X j _)
  generalize full X = Y
  pointwise

theorem bpad_at (B : FVec Ideal S1x8 .f32) (n : Fin 128) (hn : n.val < 8) :
    (bpad B (ix2 (0 : Fin 1) n) : EReal) = B (ix2 (0 : Fin 1) (⟨n.val, hn⟩ : Fin 8)) := by
  have e : (pad S128 ![0] ![120] ![0] (shapeCast S8 B shapeCasts_S1x8_S8) fill pads_S8_S128_01200 h_S_ (ix1 n) : EReal) = shapeCast S8 B shapeCasts_S1x8_S8 (ix1 (⟨n.val, hn⟩ : Fin 8)) :=
    pad_apply_of_inside ![0] ![120] ![0] _ fill _ _ (ix1 n) (ix1 (⟨n.val, hn⟩ : Fin 8)) (fun a => by fin_cases a; simp [ix1])
  refine Eq.trans ?_ (e.trans (by pointwise))
  unfold bpad
  generalize pad S128 ![0] ![120] ![0] (shapeCast S8 B shapeCasts_S1x8_S8) fill pads_S8_S128_01200 h_S_ = Y
  pointwise

theorem wq_at (X : FVec Ideal S1x1024x4360 .f32) (h : Fin 8) (r : Fin 128) (j : Fin 1024) :
    (wq X (ix2 (⟨128 * h.val + r.val, by omega⟩ : Fin 1024) j) : EReal) = if r.val < 64 then X (ix3 (0 : Fin 1) j (⟨768 + (64 * h.val + r.val), by omega⟩ : Fin 4360)) else 0 := by
  have e : (pad S8x128x1024 ![0, 0, 0] ![0, 64, 0] ![0, 0, 0] (q3 X) fill pads_S8x64x1024_S8x128x1024_000_0640_000 h_S_ (ix3 h r j) : EReal)
      = if r.val < 64 then X (ix3 (0 : Fin 1) j (⟨768 + (64 * h.val + r.val), by omega⟩ : Fin 4360)) else 0 := by
    split
    · next hr => exact (pad_apply_of_inside ![0, 0, 0] ![0, 64, 0] ![0, 0, 0] _ fill _ _ (ix3 h r j) (ix3 h (⟨r.val, hr⟩ : Fin 64) j) (fun a => by fin_cases a <;> simp [ix3])).trans (q3_at X h _ j)
    · next hr => exact (pad_apply_of_not_inside (s := S8x64x1024) ![0, 0, 0] ![0, 64, 0] ![0, 0, 0] (q3 X) fill pads_S8x64x1024_S8x128x1024_000_0640_000 h_S_ (ix3 h r j) (1 : Fin 3) (fun hh => hr (by
        have h3 : (r.val - 0) / (0 + 1) < 64 := hh.2.2
        simpa using h3))).trans (fill_eq _)
  refine Eq.trans ?_ e
  unfold wq
  generalize pad S8x128x1024 ![0, 0, 0] ![0, 64, 0] ![0, 0, 0] (q3 X) fill pads_S8x64x1024_S8x128x1024_000_0640_000 h_S_ = Y
  pointwise

theorem wk_at (X : FVec Ideal S1x1024x4360 .f32) (h : Fin 8) (r : Fin 128) (j : Fin 1024) :
    (wk X (ix2 j (⟨128 * h.val + r.val, by omega⟩ : Fin 1024)) : EReal) = if r.val < 64 then X (ix3 (0 : Fin 1) j (⟨1280 + (64 * h.val + r.val), by omega⟩ : Fin 4360)) else 0 := by
  have e : (pad S1024x8x128 ![0, 0, 0] ![0, 0, 64] ![0, 0, 0] (k3 X) fill pads_S1024x8x64_S1024x8x128_000_000_0640 h_S_ (ix3 j h r) : EReal)
      = if r.val < 64 then X (ix3 (0 : Fin 1) j (⟨1280 + (64 * h.val + r.val), by omega⟩ : Fin 4360)) else 0 := by
    split
    · next hr => exact (pad_apply_of_inside ![0, 0, 0] ![0, 0, 64] ![0, 0, 0] _ fill _ _ (ix3 j h r) (ix3 j h (⟨r.val, hr⟩ : Fin 64)) (fun a => by fin_cases a <;> simp [ix3])).trans (k3_at X h _ j)
    · next hr => exact (pad_apply_of_not_inside (s := S1024x8x64) ![0, 0, 0] ![0, 0, 64] ![0, 0, 0] (k3 X) fill pads_S1024x8x64_S1024x8x128_000_000_0640 h_S_ (ix3 j h r) (2 : Fin 3) (fun hh => hr (by
        have h3 : (r.val - 0) / (0 + 1) < 64 := hh.2.2
        simpa using h3))).trans (fill_eq _)
  refine Eq.trans ?_ e
  unfold wk
  generalize pad S1024x8x128 ![0, 0, 0] ![0, 0, 64] ![0, 0, 0] (k3 X) fill pads_S1024x8x64_S1024x8x128_000_000_0640 h_S_ = Y
  pointwise

/-- The table that places the parts of a sum in a head's padding. -/
noncomputable def place : FVec Ideal S3x128x1024 .bf16 :=
  truncf .bf16 (select (cmpi .eq (iotaInDim S3x128x1024 32 2)
      (addi (addi (muli (iotaInDim S3x128x1024 32 1) (broadcastInDim S3x128x1024 ![] bcast_S_S3x128x1024 (constantI S_ 32 128#32)))
        (broadcastInDim S3x128x1024 ![] bcast_S_S3x128x1024 (constantI S_ 32 64#32))) (iotaInDim S3x128x1024 32 0)))
    (broadcastInDim S3x128x1024 ![] bcast_S_S3x128x1024 (constant S_ .f32 0x3F800000#32))
    (broadcastInDim S3x128x1024 ![] bcast_S_S3x128x1024 (constant S_ .f32 0x00000000#32))) bitsLt_bf16_f32

theorem place_at (p : Fin 3) (l : Fin 128) (c : Fin 1024) :
    (place (ix3 p l c) : EReal) = if l.val < 8 ∧ c.val = 128 * l.val + 64 + p.val then 1 else 0 := by
  have o0 : Ideal.ofBits .f32 0x00000000#32 = 0 := by simp [Ideal.ofBits, Ideal.ieee]
  have o1 : Ideal.ofBits .f32 0x3F800000#32 = 1 := Ideal.ofBits_one_f32
  have e : (place (ix3 p l c) : EReal) = Scalar.select (IntOp.cmpi .eq (BitVec.ofNat 32 c.val) (IntOp.addi (IntOp.addi (IntOp.muli (BitVec.ofNat 32 l.val) 128#32) 64#32) (BitVec.ofNat 32 p.val)))
      (Ideal.ofBits .f32 0x3F800000#32) (Ideal.ofBits .f32 0x00000000#32) := rfl
  have hw : IntOp.addi (IntOp.addi (IntOp.muli (BitVec.ofNat 32 l.val) 128#32) 64#32) (BitVec.ofNat 32 p.val) = BitVec.ofNat 32 (128 * l.val + 64 + p.val) := by
    show BitVec.ofNat 32 l.val * BitVec.ofNat 32 128 + BitVec.ofNat 32 64 + BitVec.ofNat 32 p.val = _
    rw [← BitVec.ofNat_mul, ← BitVec.ofNat_add, ← BitVec.ofNat_add, mul_comm]
  have hc : IntOp.cmpi .eq (BitVec.ofNat 32 c.val) (BitVec.ofNat 32 (128 * l.val + 64 + p.val)) = BitVec.ofBool (decide (l.val < 8 ∧ c.val = 128 * l.val + 64 + p.val)) := by
    show BitVec.ofBool (BitVec.ofNat 32 c.val == BitVec.ofNat 32 (128 * l.val + 64 + p.val)) = _
    congr 1
    rw [Bool.eq_iff_iff, beq_iff_eq, decide_eq_true_iff, ← BitVec.toNat_inj, BitVec.toNat_ofNat, BitVec.toNat_ofNat]
    have := l.isLt; have := c.isLt; have := p.isLt
    omega
  rw [e, hw, hc, o0, o1]
  by_cases h : l.val < 8 ∧ c.val = 128 * l.val + 64 + p.val <;> simp [h, Scalar.select]

end Cert.KernelIdeal.Host
end
-- ==== Proof.FoxPay.lean ====
module

public import proofs.«01_k».proof.Proof.Gen.KernelIdeal.Loops
public import Idealize.ShloMosaic.Lib.Pipeline.ValueKit
public import Idealize.ShloMosaic.Lib.Pointwise
public import Idealize.ShloMosaic.Lib.UnfoldOut

/-!
The arithmetic of one block of keys of the attention call, for one head: the scores, the new running
maximum, the new running sum and the new weighted sum, as functions of the loaded vectors, and what
each of them is at an index.
-/

@[expose] public section
set_option maxRecDepth 16384
set_option maxHeartbeats 4000000
namespace Cert.KernelIdeal.Fox

open Idealize.ShloMosaic Idealize.ShloMosaic.TcCoe Idealize.ShloMosaic.Tactic
open Cert.KernelIdeal.Gen

section Generic
variable {F : FTy → Type} [FloatOps F] [Named F]

/-- The scores of a block of keys. -/
noncomputable def scores (K : Vec F S256x128 .bf16) (Q : Vec F S1x128x512 .bf16) : FVec F S256x512 .f32 :=
  matmul dot_S256x128_S128x512_S256x512_1_0_0_1_n_n none (shapeCast S256x128 K shapeCasts_S256x128_S256x128 : FVec F S256x128 .bf16)
    (shapeCast S128x512 Q shapeCasts_S1x128x512_S128x512 : FVec F S128x512 .bf16) (constant S256x512 .f32 0x00000000#32)

/-- The new running maximum. -/
noncomputable def newMax (S : FVec F S256x512 .f32) (m : Vec F S1x512 .f32) : FVec F S1x512 .f32 :=
  maximumf m (shapeCast S1x512 (multiReduction .maximumf [0] S512 S 0xFF800000#32 reduces_S256x512_S512 (.inl rfl) rfl) shapeCasts_S512_S1x512)

/-- The factor the old sums are scaled by. -/
noncomputable def decay (S : FVec F S256x512 .f32) (m : Vec F S1x512 .f32) : FVec F S1x512 .f32 :=
  exp2 (subf m (newMax S m))

/-- The weights of the block's keys. -/
noncomputable def weights (S : FVec F S256x512 .f32) (m : Vec F S1x512 .f32) : FVec F S256x512 .f32 :=
  exp2 (subf S (broadcastTo S256x512 (newMax S m) broadcasts_S1x512_S256x512))

/-- The new running sum. -/
noncomputable def newSum (S : FVec F S256x512 .f32) (m l : Vec F S1x512 .f32) : FVec F S1x512 .f32 :=
  shapeCast S1x512 (addf (mulf (decay S m) l) (shapeCast S1x512
    (multiReduction .add [0] S512 (weights S m) 0x00000000#32 reduces_S256x512_S512 (.inl rfl) rfl) shapeCasts_S512_S1x512)) shapeCasts_S1x512_S1x512

/-- The new weighted sum. -/
noncomputable def newAcc (S : FVec F S256x512 .f32) (m : Vec F S1x512 .f32) (V : Vec F S1x64x256 .bf16) (a : Vec F S64x512 .f32) :
    FVec F S64x512 .f32 :=
  shapeCast S64x512 (addf (mulf (broadcastTo S64x512 (decay S m) broadcasts_S1x512_S64x512) a)
    (matmul dot_S64x256_S256x512_S64x512_1_0_0_1_n_n none (shapeCast S64x256 V shapeCasts_S1x64x256_S64x256 : FVec F S64x256 .bf16)
      (truncf .bf16 (weights S m) bitsLt_bf16_f32) (constant S64x512 .f32 0x00000000#32))) shapeCasts_S64x512_S64x512

end Generic

/-- The word of minus infinity. -/
theorem negInf_word : Ideal.ofBits FTy.f32 4286578688#32 = ⊥ := by
  simp [Ideal.ofBits, Ideal.ieee]

theorem scores_apply (K : Vec Ideal S256x128 .bf16) (Q : Vec Ideal S1x128x512 .bf16) (k : Fin 256) (q : Fin 512) :
    scores K Q (ix2 k q) = ∑ r : Fin 128, K (ix2 k r) * Q (ix3 (0 : Fin 1) r q) := by
  pointwise [scores]

theorem newMax_apply (S : FVec Ideal S256x512 .f32) (m : Vec Ideal S1x512 .f32) (q : Fin 512) :
    newMax S m (ix2 (0 : Fin 1) q) = max (m (ix2 (0 : Fin 1) q)) (Finset.univ.sup fun k : Fin 256 => S (ix2 k q)) := by
  pointwise [newMax]
  rw [show Ideal.ofBits FTy.f32 4286578688#32 = ⊥ from negInf_word]
  rfl

theorem decay_apply (S : FVec Ideal S256x512 .f32) (m : Vec Ideal S1x512 .f32) (q : Fin 512) :
    decay S m (ix2 (0 : Fin 1) q) = Ideal.exp2 (m (ix2 (0 : Fin 1) q) - newMax S m (ix2 (0 : Fin 1) q)) := by
  pointwise [decay]
  rfl

theorem weights_apply (S : FVec Ideal S256x512 .f32) (m : Vec Ideal S1x512 .f32) (k : Fin 256) (q : Fin 512) :
    weights S m (ix2 k q) = Ideal.exp2 (S (ix2 k q) - newMax S m (ix2 (0 : Fin 1) q)) := by
  pointwise [weights]
  rfl

theorem newSum_apply (S : FVec Ideal S256x512 .f32) (m l : Vec Ideal S1x512 .f32) (q : Fin 512) :
    newSum S m l (ix2 (0 : Fin 1) q) = decay S m (ix2 (0 : Fin 1) q) * l (ix2 (0 : Fin 1) q) + ∑ k : Fin 256, weights S m (ix2 k q) := by
  pointwise [newSum]

theorem newAcc_apply (S : FVec Ideal S256x512 .f32) (m : Vec Ideal S1x512 .f32) (V : Vec Ideal S1x64x256 .bf16) (a : Vec Ideal S64x512 .f32)
    (d : Fin 64) (q : Fin 512) :
    newAcc S m V a (ix2 d q) = decay S m (ix2 (0 : Fin 1) q) * a (ix2 d q) + ∑ k : Fin 256, V (ix3 (0 : Fin 1) d k) * weights S m (ix2 k q) := by
  pointwise [newAcc]

end Cert.KernelIdeal.Fox
end
-- ==== Proof.FoxBlock.lean ====
module

public import proofs.«01_k».proof.Proof.ICalls
public import proofs.«01_k».proof.Proof.FoxPay

/-!
The two blocks of keys on the diagonal, as the program stores them: head after head, one row of
maxima, one row of sums and one band of weighted sums.
-/

@[expose] public section
set_option maxRecDepth 16384
set_option maxHeartbeats 4000000
namespace Cert.KernelIdeal.Fox

open Idealize.ShloMosaic Idealize.ShloMosaic.TcCoe Idealize.ShloMosaic.Tactic
open Cert.KernelIdeal.Gen Cert.KernelIdeal.Run

variable {F : FTy → Type} [FloatOps F] [Named F] [∀ f, Nonempty (F f)]

/-- The row of head `h` in the maxima and in the sums. -/
abbrev rowR (h : Fin 8) : Rect S8x512 :=
  Rect.unit ![h.val, 0] S1x512.size (by
    intro a; fin_cases a
    · show h.val + 1 ≤ 8; omega
    · show 0 + 512 ≤ 512; omega)

/-- The band of head `h` in the weighted sums. -/
abbrev bandR (h : Fin 8) : Rect S512x512 :=
  Rect.unit ![64 * h.val, 0] S64x512.size (by
    intro a; fin_cases a
    · show 64 * h.val + 64 ≤ 512; omega
    · show 0 + 512 ≤ 512; omega)

/-- The stores made so far into the maxima, the sums and the weighted sums. -/
abbrev Stores (F : FTy → Type) : Type :=
  List (View.Piece (Elt F) S8x512 .f32) × List (View.Piece (Elt F) S8x512 .f32) × List (View.Piece (Elt F) S512x512 .f32)

/-- The stores of one head. -/
noncomputable def headStep (v6 v7 : View sig .tc .vmem S8x512 .f32) (v8 : View sig .tc .vmem S512x512 .f32) (h : Fin 8)
    (S : FVec F S256x512 .f32) (V : Vec F S1x64x256 .bf16) (st : Stores F) : Stores F :=
  (⟨rowR h, shapeCast S1x512 (newMax S (v6.readCov st.1 (rowR h).toLoadRect)) shapeCasts_S1x512_S1x512⟩ :: st.1,
    ⟨rowR h, newSum S (v6.readCov st.1 (rowR h).toLoadRect) (v7.readCov st.2.1 (rowR h).toLoadRect)⟩ :: st.2.1,
    ⟨bandR h, newAcc S (v6.readCov st.1 (rowR h).toLoadRect) V (v8.readCov st.2.2 (bandR h).toLoadRect)⟩ :: st.2.2)

/-- The scores with the keys after the query at minus infinity. -/
noncomputable def hidden (M : IVec S256x512 1) (S : FVec F S256x512 .f32) : FVec F S256x512 .f32 :=
  select M S (broadcast S256x512 (Named.named κ "mask" 0xF149F2CA#32 : F .f32))

theorem kOff_inb (n : Fin 8) (r : Fin 2) (h : Fin 8) (a : Fin 2) :
    (![(Scalar.indexCast (Scalar.muli (Scalar.addi (Scalar.muli (BitVec.ofNat 32 n.val) 2#32) (BitVec.ofNat 32 r.val)) 256#32) : BitVec 32).toNat, 128 * h.val] : Fin 2 → ℕ) a
      + S256x128.size a ≤ S4096x1024.size a := by
  revert n r h a; decide +kernel

theorem vOff_inb (n : Fin 8) (r : Fin 2) (h : Fin 8) (a : Fin 3) :
    (![(Scalar.indexCast (Scalar.addi (Scalar.muli (BitVec.ofNat 32 n.val) 2#32) (BitVec.ofNat 32 r.val)) : BitVec 32).toNat, 64 * h.val, 0] : Fin 3 → ℕ) a
      + S1x64x256.size a ≤ S16x512x256.size a := by
  revert n r h a; decide +kernel

theorem qOff_inb (h : Fin 8) (a : Fin 3) : (![h.val, 0, 0] : Fin 3 → ℕ) a + S1x128x512.size a ≤ S8x128x512.size a := by
  revert h a; decide +kernel

/-- The keys of diagonal block `r` of query tile `n`, head `h`. -/
noncomputable abbrev diagK (n : Fin 8) (r : Fin 2) (h : Fin 8) (arg3 : Memref sig .tc .vmem S4096x1024 .bf16) (X : BufTy.Contents (Elt F) arg3.view.ty) :
    Vec F S256x128 .bf16 :=
  View.readAt (Elt F) arg3.view (Rect.unit (s := S4096x1024) _ S256x128.size (kOff_inb n r h)).toLoadRect X

/-- The values of diagonal block `r` of query tile `n`, head `h`. -/
noncomputable abbrev diagV (n : Fin 8) (r : Fin 2) (h : Fin 8) (arg4 : Memref sig .tc .vmem S16x512x256 .bf16) (X : BufTy.Contents (Elt F) arg4.view.ty) :
    Vec F S1x64x256 .bf16 :=
  View.readAt (Elt F) arg4.view (Rect.unit (s := S16x512x256) _ S1x64x256.size (vOff_inb n r h)).toLoadRect X

/-- The queries of head `h`. -/
noncomputable abbrev headQ (h : Fin 8) (arg2 : Memref sig .tc .vmem S8x128x512 .bf16) (X : BufTy.Contents (Elt F) arg2.view.ty) :
    Vec F S1x128x512 .bf16 :=
  View.readAt (Elt F) arg2.view (Rect.unit (s := S8x128x512) _ S1x128x512.size (qOff_inb h)).toLoadRect X

/-- Which keys of diagonal block `r` a query of tile `n` sees. -/
def seenMask (n : Fin 8) (r : Fin 2) : IVec S256x512 1 :=
  cmpi .sle
    (addi (broadcast S256x512 (Scalar.muli (Scalar.addi (Scalar.muli (BitVec.ofNat 32 n.val) 2#32) (BitVec.ofNat 32 r.val)) 256#32)) (iota .tc S256x512 32 [0] iota_S256x512_d0_w32))
    (addi (broadcast S256x512 (Scalar.muli (BitVec.ofNat 32 n.val) 512#32)) (iota .tc S256x512 32 [1] iota_S256x512_d1_w32))

variable (c : Dev nD) (i : grid2.Coords) (arg2 : Memref sig .tc .vmem S8x128x512 .bf16) (harg2 : arg2.IsWhole) (arg3 : Memref sig .tc .vmem S4096x1024 .bf16) (harg3 : arg3.IsWhole) (arg4 : Memref sig .tc .vmem S16x512x256 .bf16) (harg4 : arg4.IsWhole) (arg5 : Memref sig .tc .vmem S512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole)
    (x0 : Vec F S8x128x512 .bf16) (x1 : Vec F S4096x1024 .bf16) (x2 : Vec F S16x512x256 .bf16)

/-- The stores of head `h` of diagonal block `r`. -/
noncomputable abbrev diagStep (r : Fin 2) (h : Fin 8) (st : Stores F) : Stores F :=
  headStep arg6.view arg7.view arg8.view h
    (hidden (seenMask (i 1) r) (scores (diagK (i 1) r h arg3 (harg3.unread x1)) (headQ h arg2 (harg2.unread x0))))
    (diagV (i 1) r h arg4 (harg4.unread x2)) st

/-- The stores that fill the three arrays before the loop. -/
noncomputable abbrev fillSt : Stores F := (kernelRun2_A.sl.HS0_1, kernelRun2_A.sl.HS1_1, kernelRun2_A.sl.HS2_1)

/-- The stores after the loop over the full blocks. -/
noncomputable def loopSt : Stores F :=
  let p := (pb_k2_t1 Variants.none c none i arg2 harg2 arg3 harg3 arg4 harg4 arg5 harg5 arg6 harg6 arg7 harg7 arg8 harg8 (harg2.unread x0) (harg3.unread x1) (harg4.unread x2) (arg6.view.writes (Elt F) arg6.view.junk kernelRun2_A.sl.HS0_1) (arg7.view.writes (Elt F) arg7.view.junk kernelRun2_A.sl.HS1_1) (arg8.view.writes (Elt F) arg8.view.junk kernelRun2_A.sl.HS2_1) (Scf.trips (k2_t1_loop i).lb (k2_t1_loop i).ub (k2_t1_loop i).st))
  (p.1 ++ fillSt.1, p.2.1 ++ fillSt.2.1, p.2.2 ++ fillSt.2.2)

/-- The stores after the second loop, which makes no trip. -/
noncomputable def loopSt' : Stores F :=
  let s := loopSt c i arg2 harg2 arg3 harg3 arg4 harg4 arg5 harg5 arg6 harg6 arg7 harg7 arg8 harg8 x0 x1 x2
  let p := (pb_k2_t2 Variants.none c none i arg2 harg2 arg3 harg3 arg4 harg4 arg5 harg5 arg6 harg6 arg7 harg7 arg8 harg8 (kernelRun2_A.sl.v17 i) (harg2.unread x0) (harg3.unread x1) (harg4.unread x2) (arg6.view.writes (Elt F) arg6.view.junk s.1) (arg7.view.writes (Elt F) arg7.view.junk s.2.1) (arg8.view.writes (Elt F) arg8.view.junk s.2.2) (Scf.trips (k2_t2_loop i).lb (k2_t2_loop i).ub (k2_t2_loop i).st))
  (p.1 ++ s.1, p.2.1 ++ s.2.1, p.2.2 ++ s.2.2)

theorem diag_0 : (kernelRun2_A.sl.HS0_2 c i arg2 harg2 arg3 harg3 arg4 harg4 arg5 harg5 arg6 harg6 arg7 harg7 arg8 harg8 x0 x1 x2, kernelRun2_A.sl.HS1_2 c i arg2 harg2 arg3 harg3 arg4 harg4 arg5 harg5 arg6 harg6 arg7 harg7 arg8 harg8 x0 x1 x2, kernelRun2_A.sl.HS2_2 c i arg2 harg2 arg3 harg3 arg4 harg4 arg5 harg5 arg6 harg6 arg7 harg7 arg8 harg8 x0 x1 x2)
    = diagStep i arg2 harg2 arg3 harg3 arg4 harg4 arg6 arg7 arg8 x0 x1 x2 0 1 (diagStep i arg2 harg2 arg3 harg3 arg4 harg4 arg6 arg7 arg8 x0 x1 x2 0 0 (loopSt' c i arg2 harg2 arg3 harg3 arg4 harg4 arg5 harg5 arg6 harg6 arg7 harg7 arg8 harg8 x0 x1 x2)) := rfl

theorem diag_1 : (kernelRun2_A.sl.HS0_3 c i arg2 harg2 arg3 harg3 arg4 harg4 arg5 harg5 arg6 harg6 arg7 harg7 arg8 harg8 x0 x1 x2, kernelRun2_A.sl.HS1_3 c i arg2 harg2 arg3 harg3 arg4 harg4 arg5 harg5 arg6 harg6 arg7 harg7 arg8 harg8 x0 x1 x2, kernelRun2_A.sl.HS2_3 c i arg2 harg2 arg3 harg3 arg4 harg4 arg5 harg5 arg6 harg6 arg7 harg7 arg8 harg8 x0 x1 x2)
    = diagStep i arg2 harg2 arg3 harg3 arg4 harg4 arg6 arg7 arg8 x0 x1 x2 0 2 (kernelRun2_A.sl.HS0_2 c i arg2 harg2 arg3 harg3 arg4 harg4 arg5 harg5 arg6 harg6 arg7 harg7 arg8 harg8 x0 x1 x2, kernelRun2_A.sl.HS1_2 c i arg2 harg2 arg3 harg3 arg4 harg4 arg5 harg5 arg6 harg6 arg7 harg7 arg8 harg8 x0 x1 x2, kernelRun2_A.sl.HS2_2 c i arg2 harg2 arg3 harg3 arg4 harg4 arg5 harg5 arg6 harg6 arg7 harg7 arg8 harg8 x0 x1 x2) := rfl

theorem diag_2 : (kernelRun2_A.sl.HS0_4 c i arg2 harg2 arg3 harg3 arg4 harg4 arg5 harg5 arg6 harg6 arg7 harg7 arg8 harg8 x0 x1 x2, kernelRun2_A.sl.HS1_4 c i arg2 harg2 arg3 harg3 arg4 harg4 arg5 harg5 arg6 harg6 arg7 harg7 arg8 harg8 x0 x1 x2, kernelRun2_A.sl.HS2_4 c i arg2 harg2 arg3 harg3 arg4 harg4 arg5 harg5 arg6 harg6 arg7 harg7 arg8 harg8 x0 x1 x2)
    = diagStep i arg2 harg2 arg3 harg3 arg4 harg4 arg6 arg7 arg8 x0 x1 x2 0 3 (kernelRun2_A.sl.HS0_3 c i arg2 harg2 arg3 harg3 arg4 harg4 arg5 harg5 arg6 harg6 arg7 harg7 arg8 harg8 x0 x1 x2, kernelRun2_A.sl.HS1_3 c i arg2 harg2 arg3 harg3 arg4 harg4 arg5 harg5 arg6 harg6 arg7 harg7 arg8 harg8 x0 x1 x2, kernelRun2_A.sl.HS2_3 c i arg2 harg2 arg3 harg3 arg4 harg4 arg5 harg5 arg6 harg6 arg7 harg7 arg8 harg8 x0 x1 x2) := rfl

theorem diag_3 : (kernelRun2_A.sl.HS0_5 c i arg2 harg2 arg3 harg3 arg4 harg4 arg5 harg5 arg6 harg6 arg7 harg7 arg8 harg8 x0 x1 x2, kernelRun2_A.sl.HS1_5 c i arg2 harg2 arg3 harg3 arg4 harg4 arg5 harg5 arg6 harg6 arg7 harg7 arg8 harg8 x0 x1 x2, kernelRun2_A.sl.HS2_5 c i arg2 harg2 arg3 harg3 arg4 harg4 arg5 harg5 arg6 harg6 arg7 harg7 arg8 harg8 x0 x1 x2)
    = diagStep i arg2 harg2 arg3 harg3 arg4 harg4 arg6 arg7 arg8 x0 x1 x2 0 4 (kernelRun2_A.sl.HS0_4 c i arg2 harg2 arg3 harg3 arg4 harg4 arg5 harg5 arg6 harg6 arg7 harg7 arg8 harg8 x0 x1 x2, kernelRun2_A.sl.HS1_4 c i arg2 harg2 arg3 harg3 arg4 harg4 arg5 harg5 arg6 harg6 arg7 harg7 arg8 harg8 x0 x1 x2, kernelRun2_A.sl.HS2_4 c i arg2 harg2 arg3 harg3 arg4 harg4 arg5 harg5 arg6 harg6 arg7 harg7 arg8 harg8 x0 x1 x2) := rfl

theorem diag_4 : (kernelRun2_A.sl.HS0_6 c i arg2 harg2 arg3 harg3 arg4 harg4 arg5 harg5 arg6 harg6 arg7 harg7 arg8 harg8 x0 x1 x2, kernelRun2_A.sl.HS1_6 c i arg2 harg2 arg3 harg3 arg4 harg4 arg5 harg5 arg6 harg6 arg7 harg7 arg8 harg8 x0 x1 x2, kernelRun2_A.sl.HS2_6 c i arg2 harg2 arg3 harg3 arg4 harg4 arg5 harg5 arg6 harg6 arg7 harg7 arg8 harg8 x0 x1 x2)
    = diagStep i arg2 harg2 arg3 harg3 arg4 harg4 arg6 arg7 arg8 x0 x1 x2 0 5 (kernelRun2_A.sl.HS0_5 c i arg2 harg2 arg3 harg3 arg4 harg4 arg5 harg5 arg6 harg6 arg7 harg7 arg8 harg8 x0 x1 x2, kernelRun2_A.sl.HS1_5 c i arg2 harg2 arg3 harg3 arg4 harg4 arg5 harg5 arg6 harg6 arg7 harg7 arg8 harg8 x0 x1 x2, kernelRun2_A.sl.HS2_5 c i arg2 harg2 arg3 harg3 arg4 harg4 arg5 harg5 arg6 harg6 arg7 harg7 arg8 harg8 x0 x1 x2) := rfl

theorem diag_5 : (kernelRun2_A.sl.HS0_7 c i arg2 harg2 arg3 harg3 arg4 harg4 arg5 harg5 arg6 harg6 arg7 harg7 arg8 harg8 x0 x1 x2, kernelRun2_A.sl.HS1_7 c i arg2 harg2 arg3 harg3 arg4 harg4 arg5 harg5 arg6 harg6 arg7 harg7 arg8 harg8 x0 x1 x2, kernelRun2_A.sl.HS2_7 c i arg2 harg2 arg3 harg3 arg4 harg4 arg5 harg5 arg6 harg6 arg7 harg7 arg8 harg8 x0 x1 x2)
    = diagStep i arg2 harg2 arg3 harg3 arg4 harg4 arg6 arg7 arg8 x0 x1 x2 0 6 (kernelRun2_A.sl.HS0_6 c i arg2 harg2 arg3 harg3 arg4 harg4 arg5 harg5 arg6 harg6 arg7 harg7 arg8 harg8 x0 x1 x2, kernelRun2_A.sl.HS1_6 c i arg2 harg2 arg3 harg3 arg4 harg4 arg5 harg5 arg6 harg6 arg7 harg7 arg8 harg8 x0 x1 x2, kernelRun2_A.sl.HS2_6 c i arg2 harg2 arg3 harg3 arg4 harg4 arg5 harg5 arg6 harg6 arg7 harg7 arg8 harg8 x0 x1 x2) := rfl

theorem diag_6 : (kernelRun2_A.sl.HS0_8 c i arg2 harg2 arg3 harg3 arg4 harg4 arg5 harg5 arg6 harg6 arg7 harg7 arg8 harg8 x0 x1 x2, kernelRun2_A.sl.HS1_8 c i arg2 harg2 arg3 harg3 arg4 harg4 arg5 harg5 arg6 harg6 arg7 harg7 arg8 harg8 x0 x1 x2, kernelRun2_A.sl.HS2_8 c i arg2 harg2 arg3 harg3 arg4 harg4 arg5 harg5 arg6 harg6 arg7 harg7 arg8 harg8 x0 x1 x2)
    = diagStep i arg2 harg2 arg3 harg3 arg4 harg4 arg6 arg7 arg8 x0 x1 x2 0 7 (kernelRun2_A.sl.HS0_7 c i arg2 harg2 arg3 harg3 arg4 harg4 arg5 harg5 arg6 harg6 arg7 harg7 arg8 harg8 x0 x1 x2, kernelRun2_A.sl.HS1_7 c i arg2 harg2 arg3 harg3 arg4 harg4 arg5 harg5 arg6 harg6 arg7 harg7 arg8 harg8 x0 x1 x2, kernelRun2_A.sl.HS2_7 c i arg2 harg2 arg3 harg3 arg4 harg4 arg5 harg5 arg6 harg6 arg7 harg7 arg8 harg8 x0 x1 x2) := rfl

theorem diag_7 : (kernelRun2_A.sl.HS0_9 c i arg2 harg2 arg3 harg3 arg4 harg4 arg5 harg5 arg6 harg6 arg7 harg7 arg8 harg8 x0 x1 x2, kernelRun2_A.sl.HS1_9 c i arg2 harg2 arg3 harg3 arg4 harg4 arg5 harg5 arg6 harg6 arg7 harg7 arg8 harg8 x0 x1 x2, kernelRun2_A.sl.HS2_9 c i arg2 harg2 arg3 harg3 arg4 harg4 arg5 harg5 arg6 harg6 arg7 harg7 arg8 harg8 x0 x1 x2)
    = diagStep i arg2 harg2 arg3 harg3 arg4 harg4 arg6 arg7 arg8 x0 x1 x2 1 0 (kernelRun2_A.sl.HS0_8 c i arg2 harg2 arg3 harg3 arg4 harg4 arg5 harg5 arg6 harg6 arg7 harg7 arg8 harg8 x0 x1 x2, kernelRun2_A.sl.HS1_8 c i arg2 harg2 arg3 harg3 arg4 harg4 arg5 harg5 arg6 harg6 arg7 harg7 arg8 harg8 x0 x1 x2, kernelRun2_A.sl.HS2_8 c i arg2 harg2 arg3 harg3 arg4 harg4 arg5 harg5 arg6 harg6 arg7 harg7 arg8 harg8 x0 x1 x2) := rfl

theorem diag_8 : (kernelRun2_A.sl.HS0_10 c i arg2 harg2 arg3 harg3 arg4 harg4 arg5 harg5 arg6 harg6 arg7 harg7 arg8 harg8 x0 x1 x2, kernelRun2_A.sl.HS1_10 c i arg2 harg2 arg3 harg3 arg4 harg4 arg5 harg5 arg6 harg6 arg7 harg7 arg8 harg8 x0 x1 x2, kernelRun2_A.sl.HS2_10 c i arg2 harg2 arg3 harg3 arg4 harg4 arg5 harg5 arg6 harg6 arg7 harg7 arg8 harg8 x0 x1 x2)
    = diagStep i arg2 harg2 arg3 harg3 arg4 harg4 arg6 arg7 arg8 x0 x1 x2 1 1 (kernelRun2_A.sl.HS0_9 c i arg2 harg2 arg3 harg3 arg4 harg4 arg5 harg5 arg6 harg6 arg7 harg7 arg8 harg8 x0 x1 x2, kernelRun2_A.sl.HS1_9 c i arg2 harg2 arg3 harg3 arg4 harg4 arg5 harg5 arg6 harg6 arg7 harg7 arg8 harg8 x0 x1 x2, kernelRun2_A.sl.HS2_9 c i arg2 harg2 arg3 harg3 arg4 harg4 arg5 harg5 arg6 harg6 arg7 harg7 arg8 harg8 x0 x1 x2) := rfl

theorem diag_9 : (kernelRun2_A.sl.HS0_11 c i arg2 harg2 arg3 harg3 arg4 harg4 arg5 harg5 arg6 harg6 arg7 harg7 arg8 harg8 x0 x1 x2, kernelRun2_A.sl.HS1_11 c i arg2 harg2 arg3 harg3 arg4 harg4 arg5 harg5 arg6 harg6 arg7 harg7 arg8 harg8 x0 x1 x2, kernelRun2_A.sl.HS2_11 c i arg2 harg2 arg3 harg3 arg4 harg4 arg5 harg5 arg6 harg6 arg7 harg7 arg8 harg8 x0 x1 x2)
    = diagStep i arg2 harg2 arg3 harg3 arg4 harg4 arg6 arg7 arg8 x0 x1 x2 1 2 (kernelRun2_A.sl.HS0_10 c i arg2 harg2 arg3 harg3 arg4 harg4 arg5 harg5 arg6 harg6 arg7 harg7 arg8 harg8 x0 x1 x2, kernelRun2_A.sl.HS1_10 c i arg2 harg2 arg3 harg3 arg4 harg4 arg5 harg5 arg6 harg6 arg7 harg7 arg8 harg8 x0 x1 x2, kernelRun2_A.sl.HS2_10 c i arg2 harg2 arg3 harg3 arg4 harg4 arg5 harg5 arg6 harg6 arg7 harg7 arg8 harg8 x0 x1 x2) := rfl

theorem diag_10 : (kernelRun2_A.sl.HS0_12 c i arg2 harg2 arg3 harg3 arg4 harg4 arg5 harg5 arg6 harg6 arg7 harg7 arg8 harg8 x0 x1 x2, kernelRun2_A.sl.HS1_12 c i arg2 harg2 arg3 harg3 arg4 harg4 arg5 harg5 arg6 harg6 arg7 harg7 arg8 harg8 x0 x1 x2, kernelRun2_A.sl.HS2_12 c i arg2 harg2 arg3 harg3 arg4 harg4 arg5 harg5 arg6 harg6 arg7 harg7 arg8 harg8 x0 x1 x2)
    = diagStep i arg2 harg2 arg3 harg3 arg4 harg4 arg6 arg7 arg8 x0 x1 x2 1 3 (kernelRun2_A.sl.HS0_11 c i arg2 harg2 arg3 harg3 arg4 harg4 arg5 harg5 arg6 harg6 arg7 harg7 arg8 harg8 x0 x1 x2, kernelRun2_A.sl.HS1_11 c i arg2 harg2 arg3 harg3 arg4 harg4 arg5 harg5 arg6 harg6 arg7 harg7 arg8 harg8 x0 x1 x2, kernelRun2_A.sl.HS2_11 c i arg2 harg2 arg3 harg3 arg4 harg4 arg5 harg5 arg6 harg6 arg7 harg7 arg8 harg8 x0 x1 x2) := rfl

theorem diag_11 : (kernelRun2_A.sl.HS0_13 c i arg2 harg2 arg3 harg3 arg4 harg4 arg5 harg5 arg6 harg6 arg7 harg7 arg8 harg8 x0 x1 x2, kernelRun2_A.sl.HS1_13 c i arg2 harg2 arg3 harg3 arg4 harg4 arg5 harg5 arg6 harg6 arg7 harg7 arg8 harg8 x0 x1 x2, kernelRun2_A.sl.HS2_13 c i arg2 harg2 arg3 harg3 arg4 harg4 arg5 harg5 arg6 harg6 arg7 harg7 arg8 harg8 x0 x1 x2)
    = diagStep i arg2 harg2 arg3 harg3 arg4 harg4 arg6 arg7 arg8 x0 x1 x2 1 4 (kernelRun2_A.sl.HS0_12 c i arg2 harg2 arg3 harg3 arg4 harg4 arg5 harg5 arg6 harg6 arg7 harg7 arg8 harg8 x0 x1 x2, kernelRun2_A.sl.HS1_12 c i arg2 harg2 arg3 harg3 arg4 harg4 arg5 harg5 arg6 harg6 arg7 harg7 arg8 harg8 x0 x1 x2, kernelRun2_A.sl.HS2_12 c i arg2 harg2 arg3 harg3 arg4 harg4 arg5 harg5 arg6 harg6 arg7 harg7 arg8 harg8 x0 x1 x2) := rfl

theorem diag_12 : (kernelRun2_A.sl.HS0_14 c i arg2 harg2 arg3 harg3 arg4 harg4 arg5 harg5 arg6 harg6 arg7 harg7 arg8 harg8 x0 x1 x2, kernelRun2_A.sl.HS1_14 c i arg2 harg2 arg3 harg3 arg4 harg4 arg5 harg5 arg6 harg6 arg7 harg7 arg8 harg8 x0 x1 x2, kernelRun2_A.sl.HS2_14 c i arg2 harg2 arg3 harg3 arg4 harg4 arg5 harg5 arg6 harg6 arg7 harg7 arg8 harg8 x0 x1 x2)
    = diagStep i arg2 harg2 arg3 harg3 arg4 harg4 arg6 arg7 arg8 x0 x1 x2 1 5 (kernelRun2_A.sl.HS0_13 c i arg2 harg2 arg3 harg3 arg4 harg4 arg5 harg5 arg6 harg6 arg7 harg7 arg8 harg8 x0 x1 x2, kernelRun2_A.sl.HS1_13 c i arg2 harg2 arg3 harg3 arg4 harg4 arg5 harg5 arg6 harg6 arg7 harg7 arg8 harg8 x0 x1 x2, kernelRun2_A.sl.HS2_13 c i arg2 harg2 arg3 harg3 arg4 harg4 arg5 harg5 arg6 harg6 arg7 harg7 arg8 harg8 x0 x1 x2) := rfl

theorem diag_13 : (kernelRun2_A.sl.HS0_15 c i arg2 harg2 arg3 harg3 arg4 harg4 arg5 harg5 arg6 harg6 arg7 harg7 arg8 harg8 x0 x1 x2, kernelRun2_A.sl.HS1_15 c i arg2 harg2 arg3 harg3 arg4 harg4 arg5 harg5 arg6 harg6 arg7 harg7 arg8 harg8 x0 x1 x2, kernelRun2_A.sl.HS2_15 c i arg2 harg2 arg3 harg3 arg4 harg4 arg5 harg5 arg6 harg6 arg7 harg7 arg8 harg8 x0 x1 x2)
    = diagStep i arg2 harg2 arg3 harg3 arg4 harg4 arg6 arg7 arg8 x0 x1 x2 1 6 (kernelRun2_A.sl.HS0_14 c i arg2 harg2 arg3 harg3 arg4 harg4 arg5 harg5 arg6 harg6 arg7 harg7 arg8 harg8 x0 x1 x2, kernelRun2_A.sl.HS1_14 c i arg2 harg2 arg3 harg3 arg4 harg4 arg5 harg5 arg6 harg6 arg7 harg7 arg8 harg8 x0 x1 x2, kernelRun2_A.sl.HS2_14 c i arg2 harg2 arg3 harg3 arg4 harg4 arg5 harg5 arg6 harg6 arg7 harg7 arg8 harg8 x0 x1 x2) := rfl

theorem diag_14 : (kernelRun2_A.sl.HS1_16 c i arg2 harg2 arg3 harg3 arg4 harg4 arg5 harg5 arg6 harg6 arg7 harg7 arg8 harg8 x0 x1 x2, kernelRun2_A.sl.HS2_16 c i arg2 harg2 arg3 harg3 arg4 harg4 arg5 harg5 arg6 harg6 arg7 harg7 arg8 harg8 x0 x1 x2)
    = (diagStep i arg2 harg2 arg3 harg3 arg4 harg4 arg6 arg7 arg8 x0 x1 x2 1 7 (kernelRun2_A.sl.HS0_15 c i arg2 harg2 arg3 harg3 arg4 harg4 arg5 harg5 arg6 harg6 arg7 harg7 arg8 harg8 x0 x1 x2, kernelRun2_A.sl.HS1_15 c i arg2 harg2 arg3 harg3 arg4 harg4 arg5 harg5 arg6 harg6 arg7 harg7 arg8 harg8 x0 x1 x2, kernelRun2_A.sl.HS2_15 c i arg2 harg2 arg3 harg3 arg4 harg4 arg5 harg5 arg6 harg6 arg7 harg7 arg8 harg8 x0 x1 x2)).2 := rfl

end Cert.KernelIdeal.Fox
end
-- ==== Proof.FoxSem.lean ====
module

public import proofs.«01_k».proof.Proof.FoxBlock
public import proofs.«01_k».proof.Proof.Flash

/-!
What the stores of one block of keys leave at an index, and that a block is one step of the
softmax average.
-/

@[expose] public section
set_option maxRecDepth 16384
set_option maxHeartbeats 4000000
namespace Cert.KernelIdeal.Fox

open Idealize.ShloMosaic Idealize.ShloMosaic.TcCoe Idealize.ShloMosaic.Tactic
open Cert.KernelIdeal.Gen Cert.KernelIdeal.Run

/-- Lane `d` of head `h` in the weighted sums. -/
def lane (h : Fin 8) (d : Fin 64) : Fin 512 := ⟨64 * h.val + d.val, by omega⟩

theorem rowR_emb (h : Fin 8) (q : Fin 512) : (rowR h).emb (ix2 (0 : Fin 1) q : S1x512.Idx) = (ix2 h q : S8x512.Idx) := by
  funext a; refine Fin.ext ?_; fin_cases a
  · show h.val + 1 * 0 = h.val; omega
  · show 0 + 1 * q.val = q.val; omega

theorem bandR_emb (h : Fin 8) (d : Fin 64) (q : Fin 512) :
    (bandR h).emb (ix2 d q : S64x512.Idx) = (ix2 (lane h d) q : S512x512.Idx) := by
  funext a; refine Fin.ext ?_; fin_cases a
  · show 64 * h.val + 1 * d.val = 64 * h.val + d.val; omega
  · show 0 + 1 * q.val = q.val; omega

theorem rowR_ne {h h' : Fin 8} (e : h' ≠ h) (q : Fin 512) : (ix2 h' q : S8x512.Idx) ∉ (rowR h).set := by
  rw [Rect.mem_set_unit]; intro H
  have h0 := H 0
  have : h'.val = h.val := by
    have h1 : h.val ≤ h'.val := h0.1
    have h2 : h'.val < h.val + 1 := h0.2
    omega
  exact e (Fin.ext this)

theorem bandR_ne {h h' : Fin 8} (e : h' ≠ h) (d : Fin 64) (q : Fin 512) : (ix2 (lane h' d) q : S512x512.Idx) ∉ (bandR h).set := by
  rw [Rect.mem_set_unit]; intro H
  have h0 := H 0
  have : h'.val = h.val := by
    have h1 : 64 * h.val ≤ 64 * h'.val + d.val := h0.1
    have h2 : 64 * h'.val + d.val < 64 * h.val + 64 := h0.2
    omega
  exact e (Fin.ext this)

section Canon
variable {Val : EltTy → Type} [∀ e, Nonempty (Val e)] {e : EltTy}

theorem canon_row (h h' : Fin 8) (q : Fin 512) (w : S1x512.Idx → Val e) (L : List (View.Piece Val S8x512 e)) :
    View.canon (⟨rowR h, w⟩ :: L) (ix2 h' q) = if h' = h then w (ix2 (0 : Fin 1) q) else View.canon L (ix2 h' q) := by
  split
  · rename_i e; subst e; rw [← rowR_emb]; exact View.canon_cons_emb _ _ _ _
  · rename_i e; exact View.canon_cons_of_not_mem _ _ (rowR_ne e q)

theorem canon_band (h h' : Fin 8) (d : Fin 64) (q : Fin 512) (w : S64x512.Idx → Val e) (L : List (View.Piece Val S512x512 e)) :
    View.canon (⟨bandR h, w⟩ :: L) (ix2 (lane h' d) q) = if h' = h then w (ix2 d q) else View.canon L (ix2 (lane h' d) q) := by
  split
  · rename_i e; subst e; rw [← bandR_emb]; exact View.canon_cons_emb _ _ _ _
  · rename_i e; exact View.canon_cons_of_not_mem _ _ (bandR_ne e d q)

theorem readCov_row (v : View sig .tc .vmem S8x512 e) (L : List (View.Piece Val S8x512 e)) (h : Fin 8) (q : Fin 512) :
    v.readCov L (rowR h).toLoadRect (ix2 (0 : Fin 1) q) = View.canon L (ix2 h q) := by
  rw [View.readCov_eq_canon', ← rowR_emb]; rfl

theorem readCov_band (v : View sig .tc .vmem S512x512 e) (L : List (View.Piece Val S512x512 e)) (h : Fin 8) (d : Fin 64) (q : Fin 512) :
    v.readCov L (bandR h).toLoadRect (ix2 d q) = View.canon L (ix2 (lane h d) q) := by
  rw [View.readCov_eq_canon', ← bandR_emb]; rfl

end Canon

/-- The maximum, the sum and the weighted sum that the stores leave. -/
noncomputable def stM (st : Stores Ideal) (h : Fin 8) (q : Fin 512) : EReal := View.canon st.1 (ix2 h q)
noncomputable def stL (st : Stores Ideal) (h : Fin 8) (q : Fin 512) : EReal := View.canon st.2.1 (ix2 h q)
noncomputable def stA (st : Stores Ideal) (h : Fin 8) (d : Fin 64) (q : Fin 512) : EReal := View.canon st.2.2 (ix2 (lane h d) q)

/-- One block's effect on a head's row. -/
noncomputable def maxOf (S : FVec Ideal S256x512 .f32) (m : EReal) (q : Fin 512) : EReal :=
  max m (Finset.univ.sup fun k : Fin 256 => (S (ix2 k q) : EReal))
noncomputable def sumOf (S : FVec Ideal S256x512 .f32) (m l : EReal) (q : Fin 512) : EReal :=
  Ideal.exp2 (m - maxOf S m q) * l + ∑ k : Fin 256, Ideal.exp2 ((S (ix2 k q) : EReal) - maxOf S m q)
noncomputable def accOf (S : FVec Ideal S256x512 .f32) (V : Vec Ideal S1x64x256 .bf16) (m a : EReal) (d : Fin 64) (q : Fin 512) : EReal :=
  Ideal.exp2 (m - maxOf S m q) * a + ∑ k : Fin 256, (V (ix3 (0 : Fin 1) d k) : EReal) * Ideal.exp2 ((S (ix2 k q) : EReal) - maxOf S m q)

theorem newMax_cast (S : FVec Ideal S256x512 .f32) (m : Vec Ideal S1x512 .f32) (q : Fin 512) :
    shapeCast S1x512 (newMax S m) shapeCasts_S1x512_S1x512 (ix2 (0 : Fin 1) q) = maxOf S (m (ix2 (0 : Fin 1) q)) q := by
  rw [show shapeCast S1x512 (newMax S m) shapeCasts_S1x512_S1x512 (ix2 (0 : Fin 1) q) = newMax S m (ix2 (0 : Fin 1) q) by pointwise []]
  exact newMax_apply S m q

theorem newSum_at (S : FVec Ideal S256x512 .f32) (m l : Vec Ideal S1x512 .f32) (q : Fin 512) :
    newSum S m l (ix2 (0 : Fin 1) q) = sumOf S (m (ix2 (0 : Fin 1) q)) (l (ix2 (0 : Fin 1) q)) q := by
  rw [newSum_apply, decay_apply]; simp only [weights_apply, newMax_apply]; rfl

theorem newAcc_at (S : FVec Ideal S256x512 .f32) (m : Vec Ideal S1x512 .f32) (V : Vec Ideal S1x64x256 .bf16) (a : Vec Ideal S64x512 .f32)
    (d : Fin 64) (q : Fin 512) : newAcc S m V a (ix2 d q) = accOf S V (m (ix2 (0 : Fin 1) q)) (a (ix2 d q)) d q := by
  rw [newAcc_apply, decay_apply]; simp only [weights_apply, newMax_apply]; rfl

section Head
variable (v6 v7 : View sig .tc .vmem S8x512 .f32) (v8 : View sig .tc .vmem S512x512 .f32) (h h' : Fin 8)
    (S : FVec Ideal S256x512 .f32) (V : Vec Ideal S1x64x256 .bf16) (st : Stores Ideal)

theorem headStep_M (q : Fin 512) : stM (headStep v6 v7 v8 h S V st) h' q = if h' = h then maxOf S (stM st h q) q else stM st h' q := by
  unfold stM headStep; rw [canon_row]; simp only [newMax_cast]; rw [readCov_row]

theorem headStep_L (q : Fin 512) : stL (headStep v6 v7 v8 h S V st) h' q
    = if h' = h then sumOf S (stM st h q) (stL st h q) q else stL st h' q := by
  unfold stL stM headStep; dsimp only; rw [canon_row]; simp only [newSum_at]; rw [readCov_row, readCov_row]

theorem headStep_A (d : Fin 64) (q : Fin 512) : stA (headStep v6 v7 v8 h S V st) h' d q
    = if h' = h then accOf S V (stM st h q) (stA st h d q) d q else stA st h' d q := by
  unfold stA stM headStep; dsimp only; rw [canon_band]; simp only [newAcc_at]; rw [readCov_row, readCov_band]

end Head

/-- What a block of keys with scores `S` and values `V` does to all heads. -/
structure Block (S : Fin 8 → FVec Ideal S256x512 .f32) (V : Fin 8 → Vec Ideal S1x64x256 .bf16) (st st' : Stores Ideal) : Prop where
  M : ∀ h q, stM st' h q = maxOf (S h) (stM st h q) q
  L : ∀ h q, stL st' h q = sumOf (S h) (stM st h q) (stL st h q) q
  A : ∀ h d q, stA st' h d q = accOf (S h) (V h) (stM st h q) (stA st h d q) d q

/-- Head after head is a block. -/
theorem block_of_heads (v6 v7 : View sig .tc .vmem S8x512 .f32) (v8 : View sig .tc .vmem S512x512 .f32)
    (S : Fin 8 → FVec Ideal S256x512 .f32) (V : Fin 8 → Vec Ideal S1x64x256 .bf16) (st : Stores Ideal)
    (H : ℕ → Stores Ideal) (h0 : H 0 = st) (hs : ∀ h : Fin 8, H (h.val + 1) = headStep v6 v7 v8 h (S h) (V h) (H h.val)) :
    Block S V st (H 8) := by
  have key : ∀ n : ℕ, n ≤ 8 → (∀ h q, stM (H n) h q = if h.val < n then maxOf (S h) (stM st h q) q else stM st h q)
      ∧ (∀ h q, stL (H n) h q = if h.val < n then sumOf (S h) (stM st h q) (stL st h q) q else stL st h q)
      ∧ (∀ h d q, stA (H n) h d q = if h.val < n then accOf (S h) (V h) (stM st h q) (stA st h d q) d q else stA st h d q) := by
    intro n
    induction n with
    | zero => intro _; simp [h0]
    | succ n ih =>
      intro hn
      obtain ⟨iM, iL, iA⟩ := ih (by omega)
      have e := hs ⟨n, by omega⟩
      simp only at e
      rw [e]
      refine ⟨fun h q => ?_, fun h q => ?_, fun h d q => ?_⟩
      · rw [headStep_M]; simp only [iM]
        by_cases hh : h = ⟨n, by omega⟩
        · subst hh; simp
        · have : h.val ≠ n := fun e => hh (Fin.ext e)
          simp only [hh, if_false, show (h.val < n + 1) = (h.val < n) by simp; omega]
      · rw [headStep_L]; simp only [iM, iL]
        by_cases hh : h = ⟨n, by omega⟩
        · subst hh; simp
        · have : h.val ≠ n := fun e => hh (Fin.ext e)
          simp only [hh, if_false, show (h.val < n + 1) = (h.val < n) by simp; omega]
      · rw [headStep_A]; simp only [iM, iA]
        by_cases hh : h = ⟨n, by omega⟩
        · subst hh; simp
        · have : h.val ≠ n := fun e => hh (Fin.ext e)
          simp only [hh, if_false, show (h.val < n + 1) = (h.val < n) by simp; omega]
  obtain ⟨kM, kL, kA⟩ := key 8 (by omega)
  exact ⟨fun h q => by rw [kM, if_pos h.isLt], fun h q => by rw [kL, if_pos h.isLt], fun h d q => by rw [kA, if_pos h.isLt]⟩

/-- Eight stores, the last first. -/
def down8 {α : Type*} (g : Fin 8 → α) : List α := [g 7, g 6, g 5, g 4, g 3, g 2, g 1, g 0]

/-- All heads' stores, each from what was there before the block, are a block. -/
theorem block_of_rows (v6 v7 : View sig .tc .vmem S8x512 .f32) (v8 : View sig .tc .vmem S512x512 .f32)
    (S : Fin 8 → FVec Ideal S256x512 .f32) (V : Fin 8 → Vec Ideal S1x64x256 .bf16) (st st' : Stores Ideal)
    (hM : st'.1 = down8 (fun h => (⟨rowR h, shapeCast S1x512 (newMax (S h) (v6.readCov st.1 (rowR h).toLoadRect)) shapeCasts_S1x512_S1x512⟩ : View.Piece (Elt Ideal) S8x512 .f32)) ++ st.1)
    (hL : st'.2.1 = down8 (fun h => (⟨rowR h, newSum (S h) (v6.readCov st.1 (rowR h).toLoadRect) (v7.readCov st.2.1 (rowR h).toLoadRect)⟩ : View.Piece (Elt Ideal) S8x512 .f32)) ++ st.2.1)
    (hA : st'.2.2 = down8 (fun h => (⟨bandR h, newAcc (S h) (v6.readCov st.1 (rowR h).toLoadRect) (V h) (v8.readCov st.2.2 (bandR h).toLoadRect)⟩ : View.Piece (Elt Ideal) S512x512 .f32)) ++ st.2.2) :
    Block S V st st' := by
  refine ⟨fun h q => ?_, fun h q => ?_, fun h d q => ?_⟩
  · have e : stM st' h q = shapeCast S1x512 (newMax (S h) (v6.readCov st.1 (rowR h).toLoadRect)) shapeCasts_S1x512_S1x512 (ix2 (0 : Fin 1) q) := by
      unfold stM; rw [hM, down8]; simp only [List.cons_append, List.nil_append, canon_row]; fin_cases h <;> rfl
    rw [e, newMax_cast, readCov_row]; rfl
  · have e : stL st' h q = newSum (S h) (v6.readCov st.1 (rowR h).toLoadRect) (v7.readCov st.2.1 (rowR h).toLoadRect) (ix2 (0 : Fin 1) q) := by
      unfold stL; rw [hL, down8]; simp only [List.cons_append, List.nil_append, canon_row]; fin_cases h <;> rfl
    rw [e, newSum_at, readCov_row, readCov_row]; rfl
  · have e : stA st' h d q = newAcc (S h) (v6.readCov st.1 (rowR h).toLoadRect) (V h) (v8.readCov st.2.2 (bandR h).toLoadRect) (ix2 d q) := by
      unfold stA; rw [hA, down8]; simp only [List.cons_append, List.nil_append, canon_band]; fin_cases h <;> rfl
    rw [e, newAcc_at, readCov_row, readCov_band]; rfl

/-- The state after the keys below `n`, for all heads, queries and lanes of the tile whose first query is at `q0`. -/
def Inv (σ : Fin 8 → Fin 512 → ℕ → ℝ) (v : Fin 8 → Fin 64 → ℕ → ℝ) (q0 n : ℕ) (st : Stores Ideal) : Prop :=
  ∀ h d q, Flash.Seen (σ h q) (v h d) (q0 + q.val) n (stM st h q) (stL st h q) (stA st h d q)

theorem inv_step {σ : Fin 8 → Fin 512 → ℕ → ℝ} {v : Fin 8 → Fin 64 → ℕ → ℝ} {q0 n : ℕ} {st st' : Stores Ideal}
    {S : Fin 8 → FVec Ideal S256x512 .f32} {V : Fin 8 → Vec Ideal S1x64x256 .bf16}
    (hq : n ≤ q0 ∨ 0 < n) (hI : Inv σ v q0 n st) (hB : Block S V st st')
    (hS : ∀ h (k : Fin 256) (q : Fin 512), (S h (ix2 k q) : EReal) = Flash.masked (σ h q) (q0 + q.val) (n + k.val))
    (hV : ∀ h d (k : Fin 256), (V h (ix3 (0 : Fin 1) d k) : EReal) = (v h d (n + k.val) : EReal)) :
    Inv σ v q0 (n + 256) st' := fun h d q =>
  Flash.seen_step (T := 256) (by norm_num) (hI h d q) (by omega) (S := fun k => S h (ix2 k q)) (V := fun k => V h (ix3 (0 : Fin 1) d k))
    (fun k => hS h k q) (fun k => hV h d k) (hB.M h q) (by rw [hB.L, hB.M]; rfl) (by rw [hB.A, hB.M]; rfl)

end Cert.KernelIdeal.Fox
end
-- ==== Proof.FoxLoop.lean ====
module

public import proofs.«01_k».proof.Proof.FoxSem

/-!
The loop over the full blocks of keys and the two blocks on the diagonal, at the stores' values.
-/

@[expose] public section
set_option maxRecDepth 16384
set_option maxHeartbeats 4000000
namespace Cert.KernelIdeal.Fox

open Idealize.ShloMosaic Idealize.ShloMosaic.TcCoe Idealize.ShloMosaic.Tactic
open Cert.KernelIdeal.Gen Cert.KernelIdeal.Run

theorem trips_eq (i : grid2.Coords) : (k2_t1_loop i).trips = 2 * (i 1).val := by
  have key : ∀ n : Fin 8, Scf.trips (0#32 : BitVec 32) (Scalar.addi 0#32 (Scalar.muli (Scalar.divsi (Scalar.subi (Scalar.muli (BitVec.ofNat 32 n.val) 2#32) 0#32) 1#32) 1#32)) 1#32 = 2 * n.val := by
    decide +kernel
  exact key (i 1)

theorem trips2_eq (i : grid2.Coords) : (k2_t2_loop i).trips = 0 := by
  have key : ∀ n : Fin 8, (k2_t2_loop (fun a => if h : a = 1 then h ▸ n else ⟨0, by fin_cases a <;> decide⟩)).trips = 0 := by
    decide +kernel
  exact key (i 1)

theorem loopKOff_inb (kk : Fin 16) (h : Fin 8) (a : Fin 2) :
    (![(Scalar.indexCast (Scalar.muli (Scf.iv (0#32 : BitVec 32) 1#32 kk.val) 256#32) : BitVec 32).toNat, 128 * h.val] : Fin 2 → ℕ) a
      + S256x128.size a ≤ S4096x1024.size a := by
  revert kk h a; decide +kernel

theorem loopVOff_inb (kk : Fin 16) (h : Fin 8) (a : Fin 3) :
    (![(Scalar.indexCast (Scf.iv (0#32 : BitVec 32) 1#32 kk.val) : BitVec 32).toNat, 64 * h.val, 0] : Fin 3 → ℕ) a
      + S1x64x256.size a ≤ S16x512x256.size a := by
  revert kk h a; decide +kernel

section Generic
variable {F : FTy → Type} [FloatOps F] [Named F] [∀ f, Nonempty (F f)]

/-- The keys of full block `kk`, head `h`. -/
noncomputable abbrev loopK (kk : Fin 16) (h : Fin 8) (arg3 : Memref sig .tc .vmem S4096x1024 .bf16) (X : BufTy.Contents (Elt F) arg3.view.ty) :
    Vec F S256x128 .bf16 :=
  View.readAt (Elt F) arg3.view (Rect.unit (s := S4096x1024) _ S256x128.size (loopKOff_inb kk h)).toLoadRect X

/-- The values of full block `kk`, head `h`. -/
noncomputable abbrev loopV (kk : Fin 16) (h : Fin 8) (arg4 : Memref sig .tc .vmem S16x512x256 .bf16) (X : BufTy.Contents (Elt F) arg4.view.ty) :
    Vec F S1x64x256 .bf16 :=
  View.readAt (Elt F) arg4.view (Rect.unit (s := S16x512x256) _ S1x64x256.size (loopVOff_inb kk h)).toLoadRect X

variable (c : Dev nD) (i : grid2.Coords) (arg2 : Memref sig .tc .vmem S8x128x512 .bf16) (harg2 : arg2.IsWhole) (arg3 : Memref sig .tc .vmem S4096x1024 .bf16) (harg3 : arg3.IsWhole) (arg4 : Memref sig .tc .vmem S16x512x256 .bf16) (harg4 : arg4.IsWhole) (arg5 : Memref sig .tc .vmem S512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole)
    (X2 : BufTy.Contents (Elt F) arg2.view.ty) (X3 : BufTy.Contents (Elt F) arg3.view.ty) (X4 : BufTy.Contents (Elt F) arg4.view.ty)
    (k : Fin (k2_t1_loop i).trips) (hk : k.val < 16)
    (f6 : BufTy.Contents (Elt F) arg6.view.ty) (f7 : BufTy.Contents (Elt F) arg7.view.ty) (f8 : BufTy.Contents (Elt F) arg8.view.ty)

/-- The scores of the trip, for head `h`. -/
noncomputable abbrev loopS (h : Fin 8) : FVec F S256x512 .f32 := scores (loopK ⟨k.val, hk⟩ h arg3 X3) (headQ h arg2 X2)

/-- What one trip stores, each head from what the trip finds. -/
theorem trip_eq : tripL_k2_t1 Variants.none c none i arg2 harg2 arg3 harg3 arg4 harg4 arg5 harg5 arg6 harg6 arg7 harg7 arg8 harg8 X2 X3 X4 k f6 f7 f8
    = (down8 (fun h => (⟨rowR h, shapeCast S1x512 (newMax (loopS i arg2 arg3 X2 X3 k hk h) (arg6.view.readAt (Elt F) (rowR h).toLoadRect f6)) shapeCasts_S1x512_S1x512⟩ : View.Piece (Elt F) S8x512 .f32)),
       down8 (fun h => (⟨rowR h, newSum (loopS i arg2 arg3 X2 X3 k hk h) (arg6.view.readAt (Elt F) (rowR h).toLoadRect f6) (arg7.view.readAt (Elt F) (rowR h).toLoadRect f7)⟩ : View.Piece (Elt F) S8x512 .f32)),
       down8 (fun h => (⟨bandR h, newAcc (loopS i arg2 arg3 X2 X3 k hk h) (arg6.view.readAt (Elt F) (rowR h).toLoadRect f6) (loopV ⟨k.val, hk⟩ h arg4 X4) (arg8.view.readAt (Elt F) (bandR h).toLoadRect f8)⟩ : View.Piece (Elt F) S512x512 .f32))) := by
  unfold tripL_k2_t1 trip_k2_t1
  rfl

end Generic

variable (c : Dev nD) (i : grid2.Coords) (arg2 : Memref sig .tc .vmem S8x128x512 .bf16) (harg2 : arg2.IsWhole) (arg3 : Memref sig .tc .vmem S4096x1024 .bf16) (harg3 : arg3.IsWhole) (arg4 : Memref sig .tc .vmem S16x512x256 .bf16) (harg4 : arg4.IsWhole) (arg5 : Memref sig .tc .vmem S512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole)
    (x0 : Vec Ideal S8x128x512 .bf16) (x1 : Vec Ideal S4096x1024 .bf16) (x2 : Vec Ideal S16x512x256 .bf16)

/-- The stores after `k` trips. -/
noncomputable def tripSt (k : ℕ) : Stores Ideal :=
  let p := (pb_k2_t1 (F := Ideal) Variants.none c none i arg2 harg2 arg3 harg3 arg4 harg4 arg5 harg5 arg6 harg6 arg7 harg7 arg8 harg8 (harg2.unread x0) (harg3.unread x1) (harg4.unread x2) (arg6.view.writes (Elt Ideal) arg6.view.junk kernelRun2_A.sl.HS0_1) (arg7.view.writes (Elt Ideal) arg7.view.junk kernelRun2_A.sl.HS1_1) (arg8.view.writes (Elt Ideal) arg8.view.junk kernelRun2_A.sl.HS2_1) k)
  (p.1 ++ fillSt.1, p.2.1 ++ fillSt.2.1, p.2.2 ++ fillSt.2.2)

theorem tripSt_step (k : Fin (k2_t1_loop i).trips) (hk : k.val < 16) :
    Block (fun h => loopS i arg2 arg3 (harg2.unread x0) (harg3.unread x1) k hk h) (fun h => loopV ⟨k.val, hk⟩ h arg4 (harg4.unread x2))
      (tripSt c i arg2 harg2 arg3 harg3 arg4 harg4 arg5 harg5 arg6 harg6 arg7 harg7 arg8 harg8 x0 x1 x2 k.val) (tripSt c i arg2 harg2 arg3 harg3 arg4 harg4 arg5 harg5 arg6 harg6 arg7 harg7 arg8 harg8 x0 x1 x2 (k.val + 1)) := by
  refine block_of_rows arg6.view arg7.view arg8.view _ _ _ _ ?_ ?_ ?_ <;>
  · simp only [tripSt]
    rw [pb_k2_t1_succ, trip_eq (hk := hk)]
    simp only [← View.writes_append, List.append_assoc]
    rfl

theorem loopSt'_eq : loopSt' c i arg2 harg2 arg3 harg3 arg4 harg4 arg5 harg5 arg6 harg6 arg7 harg7 arg8 harg8 x0 x1 x2 = tripSt c i arg2 harg2 arg3 harg3 arg4 harg4 arg5 harg5 arg6 harg6 arg7 harg7 arg8 harg8 x0 x1 x2 (2 * (i 1).val) := by
  have e : loopSt' c i arg2 harg2 arg3 harg3 arg4 harg4 arg5 harg5 arg6 harg6 arg7 harg7 arg8 harg8 x0 x1 x2 = loopSt c i arg2 harg2 arg3 harg3 arg4 harg4 arg5 harg5 arg6 harg6 arg7 harg7 arg8 harg8 x0 x1 x2 := by
    unfold loopSt'
    rw [show Scf.trips (k2_t2_loop i).lb (k2_t2_loop i).ub (k2_t2_loop i).st = 0 from trips2_eq i]
    rfl
  rw [e]
  unfold loopSt tripSt
  rw [show Scf.trips (k2_t1_loop i).lb (k2_t1_loop i).ub (k2_t1_loop i).st = 2 * (i 1).val from trips_eq i]

/-- The scores and values of diagonal block `r`. -/
noncomputable abbrev diagS (r : Fin 2) (h : Fin 8) : FVec Ideal S256x512 .f32 :=
  hidden (seenMask (i 1) r) (scores (diagK (i 1) r h arg3 (harg3.unread x1)) (headQ h arg2 (harg2.unread x0)))

/-- The stores around the heads of the first diagonal block. -/
noncomputable def diagA : ℕ → Stores Ideal
  | 0 => loopSt' c i arg2 harg2 arg3 harg3 arg4 harg4 arg5 harg5 arg6 harg6 arg7 harg7 arg8 harg8 x0 x1 x2
  | 1 => diagStep i arg2 harg2 arg3 harg3 arg4 harg4 arg6 arg7 arg8 x0 x1 x2 0 0 (loopSt' c i arg2 harg2 arg3 harg3 arg4 harg4 arg5 harg5 arg6 harg6 arg7 harg7 arg8 harg8 x0 x1 x2)
  | 2 => (kernelRun2_A.sl.HS0_2 c i arg2 harg2 arg3 harg3 arg4 harg4 arg5 harg5 arg6 harg6 arg7 harg7 arg8 harg8 x0 x1 x2, kernelRun2_A.sl.HS1_2 c i arg2 harg2 arg3 harg3 arg4 harg4 arg5 harg5 arg6 harg6 arg7 harg7 arg8 harg8 x0 x1 x2, kernelRun2_A.sl.HS2_2 c i arg2 harg2 arg3 harg3 arg4 harg4 arg5 harg5 arg6 harg6 arg7 harg7 arg8 harg8 x0 x1 x2)
  | 3 => (kernelRun2_A.sl.HS0_3 c i arg2 harg2 arg3 harg3 arg4 harg4 arg5 harg5 arg6 harg6 arg7 harg7 arg8 harg8 x0 x1 x2, kernelRun2_A.sl.HS1_3 c i arg2 harg2 arg3 harg3 arg4 harg4 arg5 harg5 arg6 harg6 arg7 harg7 arg8 harg8 x0 x1 x2, kernelRun2_A.sl.HS2_3 c i arg2 harg2 arg3 harg3 arg4 harg4 arg5 harg5 arg6 harg6 arg7 harg7 arg8 harg8 x0 x1 x2)
  | 4 => (kernelRun2_A.sl.HS0_4 c i arg2 harg2 arg3 harg3 arg4 harg4 arg5 harg5 arg6 harg6 arg7 harg7 arg8 harg8 x0 x1 x2, kernelRun2_A.sl.HS1_4 c i arg2 harg2 arg3 harg3 arg4 harg4 arg5 harg5 arg6 harg6 arg7 harg7 arg8 harg8 x0 x1 x2, kernelRun2_A.sl.HS2_4 c i arg2 harg2 arg3 harg3 arg4 harg4 arg5 harg5 arg6 harg6 arg7 harg7 arg8 harg8 x0 x1 x2)
  | 5 => (kernelRun2_A.sl.HS0_5 c i arg2 harg2 arg3 harg3 arg4 harg4 arg5 harg5 arg6 harg6 arg7 harg7 arg8 harg8 x0 x1 x2, kernelRun2_A.sl.HS1_5 c i arg2 harg2 arg3 harg3 arg4 harg4 arg5 harg5 arg6 harg6 arg7 harg7 arg8 harg8 x0 x1 x2, kernelRun2_A.sl.HS2_5 c i arg2 harg2 arg3 harg3 arg4 harg4 arg5 harg5 arg6 harg6 arg7 harg7 arg8 harg8 x0 x1 x2)
  | 6 => (kernelRun2_A.sl.HS0_6 c i arg2 harg2 arg3 harg3 arg4 harg4 arg5 harg5 arg6 harg6 arg7 harg7 arg8 harg8 x0 x1 x2, kernelRun2_A.sl.HS1_6 c i arg2 harg2 arg3 harg3 arg4 harg4 arg5 harg5 arg6 harg6 arg7 harg7 arg8 harg8 x0 x1 x2, kernelRun2_A.sl.HS2_6 c i arg2 harg2 arg3 harg3 arg4 harg4 arg5 harg5 arg6 harg6 arg7 harg7 arg8 harg8 x0 x1 x2)
  | 7 => (kernelRun2_A.sl.HS0_7 c i arg2 harg2 arg3 harg3 arg4 harg4 arg5 harg5 arg6 harg6 arg7 harg7 arg8 harg8 x0 x1 x2, kernelRun2_A.sl.HS1_7 c i arg2 harg2 arg3 harg3 arg4 harg4 arg5 harg5 arg6 harg6 arg7 harg7 arg8 harg8 x0 x1 x2, kernelRun2_A.sl.HS2_7 c i arg2 harg2 arg3 harg3 arg4 harg4 arg5 harg5 arg6 harg6 arg7 harg7 arg8 harg8 x0 x1 x2)
  | 8 => (kernelRun2_A.sl.HS0_8 c i arg2 harg2 arg3 harg3 arg4 harg4 arg5 harg5 arg6 harg6 arg7 harg7 arg8 harg8 x0 x1 x2, kernelRun2_A.sl.HS1_8 c i arg2 harg2 arg3 harg3 arg4 harg4 arg5 harg5 arg6 harg6 arg7 harg7 arg8 harg8 x0 x1 x2, kernelRun2_A.sl.HS2_8 c i arg2 harg2 arg3 harg3 arg4 harg4 arg5 harg5 arg6 harg6 arg7 harg7 arg8 harg8 x0 x1 x2)
  | _ => ([], [], [])

/-- The stores around the heads of the second diagonal block. -/
noncomputable def diagB : ℕ → Stores Ideal
  | 0 => (kernelRun2_A.sl.HS0_8 c i arg2 harg2 arg3 harg3 arg4 harg4 arg5 harg5 arg6 harg6 arg7 harg7 arg8 harg8 x0 x1 x2, kernelRun2_A.sl.HS1_8 c i arg2 harg2 arg3 harg3 arg4 harg4 arg5 harg5 arg6 harg6 arg7 harg7 arg8 harg8 x0 x1 x2, kernelRun2_A.sl.HS2_8 c i arg2 harg2 arg3 harg3 arg4 harg4 arg5 harg5 arg6 harg6 arg7 harg7 arg8 harg8 x0 x1 x2)
  | 1 => (kernelRun2_A.sl.HS0_9 c i arg2 harg2 arg3 harg3 arg4 harg4 arg5 harg5 arg6 harg6 arg7 harg7 arg8 harg8 x0 x1 x2, kernelRun2_A.sl.HS1_9 c i arg2 harg2 arg3 harg3 arg4 harg4 arg5 harg5 arg6 harg6 arg7 harg7 arg8 harg8 x0 x1 x2, kernelRun2_A.sl.HS2_9 c i arg2 harg2 arg3 harg3 arg4 harg4 arg5 harg5 arg6 harg6 arg7 harg7 arg8 harg8 x0 x1 x2)
  | 2 => (kernelRun2_A.sl.HS0_10 c i arg2 harg2 arg3 harg3 arg4 harg4 arg5 harg5 arg6 harg6 arg7 harg7 arg8 harg8 x0 x1 x2, kernelRun2_A.sl.HS1_10 c i arg2 harg2 arg3 harg3 arg4 harg4 arg5 harg5 arg6 harg6 arg7 harg7 arg8 harg8 x0 x1 x2, kernelRun2_A.sl.HS2_10 c i arg2 harg2 arg3 harg3 arg4 harg4 arg5 harg5 arg6 harg6 arg7 harg7 arg8 harg8 x0 x1 x2)
  | 3 => (kernelRun2_A.sl.HS0_11 c i arg2 harg2 arg3 harg3 arg4 harg4 arg5 harg5 arg6 harg6 arg7 harg7 arg8 harg8 x0 x1 x2, kernelRun2_A.sl.HS1_11 c i arg2 harg2 arg3 harg3 arg4 harg4 arg5 harg5 arg6 harg6 arg7 harg7 arg8 harg8 x0 x1 x2, kernelRun2_A.sl.HS2_11 c i arg2 harg2 arg3 harg3 arg4 harg4 arg5 harg5 arg6 harg6 arg7 harg7 arg8 harg8 x0 x1 x2)
  | 4 => (kernelRun2_A.sl.HS0_12 c i arg2 harg2 arg3 harg3 arg4 harg4 arg5 harg5 arg6 harg6 arg7 harg7 arg8 harg8 x0 x1 x2, kernelRun2_A.sl.HS1_12 c i arg2 harg2 arg3 harg3 arg4 harg4 arg5 harg5 arg6 harg6 arg7 harg7 arg8 harg8 x0 x1 x2, kernelRun2_A.sl.HS2_12 c i arg2 harg2 arg3 harg3 arg4 harg4 arg5 harg5 arg6 harg6 arg7 harg7 arg8 harg8 x0 x1 x2)
  | 5 => (kernelRun2_A.sl.HS0_13 c i arg2 harg2 arg3 harg3 arg4 harg4 arg5 harg5 arg6 harg6 arg7 harg7 arg8 harg8 x0 x1 x2, kernelRun2_A.sl.HS1_13 c i arg2 harg2 arg3 harg3 arg4 harg4 arg5 harg5 arg6 harg6 arg7 harg7 arg8 harg8 x0 x1 x2, kernelRun2_A.sl.HS2_13 c i arg2 harg2 arg3 harg3 arg4 harg4 arg5 harg5 arg6 harg6 arg7 harg7 arg8 harg8 x0 x1 x2)
  | 6 => (kernelRun2_A.sl.HS0_14 c i arg2 harg2 arg3 harg3 arg4 harg4 arg5 harg5 arg6 harg6 arg7 harg7 arg8 harg8 x0 x1 x2, kernelRun2_A.sl.HS1_14 c i arg2 harg2 arg3 harg3 arg4 harg4 arg5 harg5 arg6 harg6 arg7 harg7 arg8 harg8 x0 x1 x2, kernelRun2_A.sl.HS2_14 c i arg2 harg2 arg3 harg3 arg4 harg4 arg5 harg5 arg6 harg6 arg7 harg7 arg8 harg8 x0 x1 x2)
  | 7 => (kernelRun2_A.sl.HS0_15 c i arg2 harg2 arg3 harg3 arg4 harg4 arg5 harg5 arg6 harg6 arg7 harg7 arg8 harg8 x0 x1 x2, kernelRun2_A.sl.HS1_15 c i arg2 harg2 arg3 harg3 arg4 harg4 arg5 harg5 arg6 harg6 arg7 harg7 arg8 harg8 x0 x1 x2, kernelRun2_A.sl.HS2_15 c i arg2 harg2 arg3 harg3 arg4 harg4 arg5 harg5 arg6 harg6 arg7 harg7 arg8 harg8 x0 x1 x2)
  | 8 => diagStep i arg2 harg2 arg3 harg3 arg4 harg4 arg6 arg7 arg8 x0 x1 x2 1 7 (kernelRun2_A.sl.HS0_15 c i arg2 harg2 arg3 harg3 arg4 harg4 arg5 harg5 arg6 harg6 arg7 harg7 arg8 harg8 x0 x1 x2, kernelRun2_A.sl.HS1_15 c i arg2 harg2 arg3 harg3 arg4 harg4 arg5 harg5 arg6 harg6 arg7 harg7 arg8 harg8 x0 x1 x2, kernelRun2_A.sl.HS2_15 c i arg2 harg2 arg3 harg3 arg4 harg4 arg5 harg5 arg6 harg6 arg7 harg7 arg8 harg8 x0 x1 x2)
  | _ => ([], [], [])

theorem diagA_block : Block (diagS i arg2 harg2 arg3 harg3 x0 x1 0) (fun h => diagV (i 1) 0 h arg4 (harg4.unread x2))
    (loopSt' c i arg2 harg2 arg3 harg3 arg4 harg4 arg5 harg5 arg6 harg6 arg7 harg7 arg8 harg8 x0 x1 x2) (diagA c i arg2 harg2 arg3 harg3 arg4 harg4 arg5 harg5 arg6 harg6 arg7 harg7 arg8 harg8 x0 x1 x2 8) := by
  refine block_of_heads arg6.view arg7.view arg8.view _ _ _ (diagA c i arg2 harg2 arg3 harg3 arg4 harg4 arg5 harg5 arg6 harg6 arg7 harg7 arg8 harg8 x0 x1 x2) rfl fun h => ?_
  fin_cases h
  · rfl
  · exact diag_0 c i arg2 harg2 arg3 harg3 arg4 harg4 arg5 harg5 arg6 harg6 arg7 harg7 arg8 harg8 x0 x1 x2
  · exact diag_1 c i arg2 harg2 arg3 harg3 arg4 harg4 arg5 harg5 arg6 harg6 arg7 harg7 arg8 harg8 x0 x1 x2
  · exact diag_2 c i arg2 harg2 arg3 harg3 arg4 harg4 arg5 harg5 arg6 harg6 arg7 harg7 arg8 harg8 x0 x1 x2
  · exact diag_3 c i arg2 harg2 arg3 harg3 arg4 harg4 arg5 harg5 arg6 harg6 arg7 harg7 arg8 harg8 x0 x1 x2
  · exact diag_4 c i arg2 harg2 arg3 harg3 arg4 harg4 arg5 harg5 arg6 harg6 arg7 harg7 arg8 harg8 x0 x1 x2
  · exact diag_5 c i arg2 harg2 arg3 harg3 arg4 harg4 arg5 harg5 arg6 harg6 arg7 harg7 arg8 harg8 x0 x1 x2
  · exact diag_6 c i arg2 harg2 arg3 harg3 arg4 harg4 arg5 harg5 arg6 harg6 arg7 harg7 arg8 harg8 x0 x1 x2

theorem diagB_block : Block (diagS i arg2 harg2 arg3 harg3 x0 x1 1) (fun h => diagV (i 1) 1 h arg4 (harg4.unread x2))
    (diagA c i arg2 harg2 arg3 harg3 arg4 harg4 arg5 harg5 arg6 harg6 arg7 harg7 arg8 harg8 x0 x1 x2 8) (diagB c i arg2 harg2 arg3 harg3 arg4 harg4 arg5 harg5 arg6 harg6 arg7 harg7 arg8 harg8 x0 x1 x2 8) := by
  refine block_of_heads arg6.view arg7.view arg8.view _ _ _ (diagB c i arg2 harg2 arg3 harg3 arg4 harg4 arg5 harg5 arg6 harg6 arg7 harg7 arg8 harg8 x0 x1 x2) rfl fun h => ?_
  fin_cases h
  · exact diag_7 c i arg2 harg2 arg3 harg3 arg4 harg4 arg5 harg5 arg6 harg6 arg7 harg7 arg8 harg8 x0 x1 x2
  · exact diag_8 c i arg2 harg2 arg3 harg3 arg4 harg4 arg5 harg5 arg6 harg6 arg7 harg7 arg8 harg8 x0 x1 x2
  · exact diag_9 c i arg2 harg2 arg3 harg3 arg4 harg4 arg5 harg5 arg6 harg6 arg7 harg7 arg8 harg8 x0 x1 x2
  · exact diag_10 c i arg2 harg2 arg3 harg3 arg4 harg4 arg5 harg5 arg6 harg6 arg7 harg7 arg8 harg8 x0 x1 x2
  · exact diag_11 c i arg2 harg2 arg3 harg3 arg4 harg4 arg5 harg5 arg6 harg6 arg7 harg7 arg8 harg8 x0 x1 x2
  · exact diag_12 c i arg2 harg2 arg3 harg3 arg4 harg4 arg5 harg5 arg6 harg6 arg7 harg7 arg8 harg8 x0 x1 x2
  · exact diag_13 c i arg2 harg2 arg3 harg3 arg4 harg4 arg5 harg5 arg6 harg6 arg7 harg7 arg8 harg8 x0 x1 x2
  · rfl

theorem diagB_end : (kernelRun2_A.sl.HS1_16 c i arg2 harg2 arg3 harg3 arg4 harg4 arg5 harg5 arg6 harg6 arg7 harg7 arg8 harg8 x0 x1 x2, kernelRun2_A.sl.HS2_16 c i arg2 harg2 arg3 harg3 arg4 harg4 arg5 harg5 arg6 harg6 arg7 harg7 arg8 harg8 x0 x1 x2) = (diagB c i arg2 harg2 arg3 harg3 arg4 harg4 arg5 harg5 arg6 harg6 arg7 harg7 arg8 harg8 x0 x1 x2 8).2 :=
  diag_14 c i arg2 harg2 arg3 harg3 arg4 harg4 arg5 harg5 arg6 harg6 arg7 harg7 arg8 harg8 x0 x1 x2

end Cert.KernelIdeal.Fox
end
-- ==== Proof.FoxMask.lean ====
module

public import proofs.«01_k».proof.Proof.FoxLoop

/-!
The initial stores, the mask on the diagonal, and the loads at an index.
-/

@[expose] public section
set_option maxRecDepth 16384
set_option maxHeartbeats 4000000
namespace Cert.KernelIdeal.Fox

open Idealize.ShloMosaic Idealize.ShloMosaic.TcCoe Idealize.ShloMosaic.Tactic
open Cert.KernelIdeal.Gen Cert.KernelIdeal.Run

theorem fill_M (h : Fin 8) (q : Fin 512) : View.canon (kernelRun2_A.sl.HS0_1 (F := Ideal)) (ix2 h q) = (⊥ : EReal) := by
  unfold kernelRun2_A.sl.HS0_1
  rw [View.canon_cons_unit_zero (S := S8x512) (funext fun a => by fin_cases a <;> rfl)]
  pointwise [k2_pay129]
  rfl

theorem fill_L (h : Fin 8) (q : Fin 512) : View.canon (kernelRun2_A.sl.HS1_1 (F := Ideal)) (ix2 h q) = (0 : EReal) := by
  unfold kernelRun2_A.sl.HS1_1
  rw [View.canon_cons_unit_zero (S := S8x512) (funext fun a => by fin_cases a <;> rfl)]
  pointwise [k2_pay130]

theorem fill_A (d : Fin 512) (q : Fin 512) : View.canon (kernelRun2_A.sl.HS2_1 (F := Ideal)) (ix2 d q) = (0 : EReal) := by
  unfold kernelRun2_A.sl.HS2_1
  rw [View.canon_cons_unit_zero (S := S512x512) (funext fun a => by fin_cases a <;> rfl)]
  pointwise [k2_pay131]

theorem seenMask_at (n : Fin 8) (r : Fin 2) (k : Fin 256) (q : Fin 512) :
    seenMask n r (ix2 k q) = BitVec.ofBool (decide (256 * (2 * n.val + r.val) + k.val ≤ 512 * n.val + q.val)) := by
  have e : seenMask n r (ix2 k q)
      = IntOp.cmpi .sle (BitVec.ofNat 32 (256 * (2 * n.val + r.val) + k.val)) (BitVec.ofNat 32 (512 * n.val + q.val)) := by
    have e1 : Scalar.muli (Scalar.addi (Scalar.muli (BitVec.ofNat 32 n.val) 2#32) (BitVec.ofNat 32 r.val)) 256#32
        = BitVec.ofNat 32 (256 * (2 * n.val + r.val)) := by
      revert n r; decide +kernel
    have e2 : Scalar.muli (BitVec.ofNat 32 n.val) 512#32 = BitVec.ofNat 32 (512 * n.val) := by
      clear e1; revert n; decide +kernel
    unfold seenMask
    rw [e1, e2, BitVec.ofNat_add, BitVec.ofNat_add]
    pointwise []
    rfl
  rw [e, WordCmp.cmpi_sle_ofNat (by have := n.isLt; have := r.isLt; have := k.isLt; norm_num; omega) (by have := n.isLt; have := q.isLt; norm_num; omega)]

theorem hidden_at (n : Fin 8) (r : Fin 2) (S : FVec Ideal S256x512 .f32) (k : Fin 256) (q : Fin 512) (σ : ℕ → ℝ)
    (hS : (S (ix2 k q) : EReal) = σ (512 * n.val + 256 * r.val + k.val)) :
    (hidden (seenMask n r) S (ix2 k q) : EReal) = Flash.masked σ (512 * n.val + q.val) (512 * n.val + 256 * r.val + k.val) := by
  have e : hidden (seenMask n r) S (ix2 k q) = if seenMask n r (ix2 k q) = 1#1 then S (ix2 k q) else (⊥ : EReal) := by
    pointwise [hidden]
    rfl
  rw [e, seenMask_at, hS, Flash.masked]
  by_cases hh : 512 * n.val + 256 * r.val + k.val ≤ 512 * n.val + q.val
  · rw [if_pos hh, if_pos]; rw [decide_eq_true (by omega)]; rfl
  · rw [if_neg hh, if_neg]; rw [decide_eq_false (by omega)]; decide

section
variable (arg2 : Memref sig .tc .vmem S8x128x512 .bf16) (harg2 : arg2.IsWhole) (arg3 : Memref sig .tc .vmem S4096x1024 .bf16) (harg3 : arg3.IsWhole)
    (arg4 : Memref sig .tc .vmem S16x512x256 .bf16) (harg4 : arg4.IsWhole)
    (x0 : Vec Ideal S8x128x512 .bf16) (x1 : Vec Ideal S4096x1024 .bf16) (x2 : Vec Ideal S16x512x256 .bf16)

theorem headQ_at (h : Fin 8) (r : Fin 128) (q : Fin 512) :
    headQ (F := Ideal) h arg2 (harg2.unread x0) (ix3 (0 : Fin 1) r q) = x0 (ix3 h r q) := by
  unfold headQ
  rw [View.readAt_eq_ld, Memref.IsWhole.read_unread]
  refine congrArg x0 (funext fun a => Fin.ext ?_)
  fin_cases a
  · show h.val + 1 * 0 = h.val; omega
  · show 0 + 1 * r.val = r.val; omega
  · show 0 + 1 * q.val = q.val; omega

theorem loopKWord (kk : Fin 16) : (Scalar.indexCast (Scalar.muli (Scf.iv (0#32 : BitVec 32) 1#32 kk.val) 256#32) : BitVec 32).toNat = 256 * kk.val := by
  revert kk; decide +kernel
theorem loopVWord (kk : Fin 16) : (Scalar.indexCast (Scf.iv (0#32 : BitVec 32) 1#32 kk.val) : BitVec 32).toNat = kk.val := by
  revert kk; decide +kernel
theorem diagKWord (n : Fin 8) (r : Fin 2) : (Scalar.indexCast (Scalar.muli (Scalar.addi (Scalar.muli (BitVec.ofNat 32 n.val) 2#32) (BitVec.ofNat 32 r.val)) 256#32) : BitVec 32).toNat = 512 * n.val + 256 * r.val := by
  revert n r; decide +kernel
theorem diagVWord (n : Fin 8) (r : Fin 2) : (Scalar.indexCast (Scalar.addi (Scalar.muli (BitVec.ofNat 32 n.val) 2#32) (BitVec.ofNat 32 r.val)) : BitVec 32).toNat = 2 * n.val + r.val := by
  revert n r; decide +kernel

/-- Lane `r` of head `h` among the padded lanes. -/
def padLane (h : Fin 8) (r : Fin 128) : Fin 1024 := ⟨128 * h.val + r.val, by omega⟩

theorem loopK_at (kk : Fin 16) (h : Fin 8) (k : Fin 256) (r : Fin 128) :
    loopK (F := Ideal) kk h arg3 (harg3.unread x1) (ix2 k r) = x1 (ix2 (⟨256 * kk.val + k.val, by omega⟩ : Fin 4096) (padLane h r)) := by
  unfold loopK
  rw [View.readAt_eq_ld, Memref.IsWhole.read_unread]
  refine congrArg x1 (funext fun a => Fin.ext ?_)
  fin_cases a
  · exact (congrArg (· + 1 * k.val) (loopKWord kk)).trans (by show 256 * kk.val + 1 * k.val = 256 * kk.val + k.val; omega)
  · show 128 * h.val + 1 * r.val = 128 * h.val + r.val; omega

theorem loopV_at (kk : Fin 16) (h : Fin 8) (d : Fin 64) (k : Fin 256) :
    loopV (F := Ideal) kk h arg4 (harg4.unread x2) (ix3 (0 : Fin 1) d k) = x2 (ix3 kk (lane h d) k) := by
  unfold loopV
  rw [View.readAt_eq_ld, Memref.IsWhole.read_unread]
  refine congrArg x2 (funext fun a => Fin.ext ?_)
  fin_cases a
  · exact (congrArg (· + 1 * 0) (loopVWord kk)).trans (by show kk.val + 1 * 0 = kk.val; omega)
  · show 64 * h.val + 1 * d.val = 64 * h.val + d.val; omega
  · show 0 + 1 * k.val = k.val; omega

theorem diagK_at (n : Fin 8) (rr : Fin 2) (h : Fin 8) (k : Fin 256) (r : Fin 128) :
    diagK (F := Ideal) n rr h arg3 (harg3.unread x1) (ix2 k r) = x1 (ix2 (⟨512 * n.val + 256 * rr.val + k.val, by omega⟩ : Fin 4096) (padLane h r)) := by
  unfold diagK
  rw [View.readAt_eq_ld, Memref.IsWhole.read_unread]
  refine congrArg x1 (funext fun a => Fin.ext ?_)
  fin_cases a
  · exact (congrArg (· + 1 * k.val) (diagKWord n rr)).trans (by show 512 * n.val + 256 * rr.val + 1 * k.val = 512 * n.val + 256 * rr.val + k.val; omega)
  · show 128 * h.val + 1 * r.val = 128 * h.val + r.val; omega

theorem diagV_at (n : Fin 8) (rr : Fin 2) (h : Fin 8) (d : Fin 64) (k : Fin 256) :
    diagV (F := Ideal) n rr h arg4 (harg4.unread x2) (ix3 (0 : Fin 1) d k) = x2 (ix3 (⟨2 * n.val + rr.val, by omega⟩ : Fin 16) (lane h d) k) := by
  unfold diagV
  rw [View.readAt_eq_ld, Memref.IsWhole.read_unread]
  refine congrArg x2 (funext fun a => Fin.ext ?_)
  fin_cases a
  · exact (congrArg (· + 1 * 0) (diagVWord n rr)).trans (by show 2 * n.val + rr.val + 1 * 0 = 2 * n.val + rr.val; omega)
  · show 64 * h.val + 1 * d.val = 64 * h.val + d.val; omega
  · show 0 + 1 * k.val = k.val; omega

end

end Cert.KernelIdeal.Fox
end
-- ==== Proof.KfScan.lean ====
module

public import proofs.«01_k».proof.Proof.ICalls
public import proofs.«01_k».proof.Proof.FoxMask
public import proofs.«01_k».proof.Proof.Flash
public import Idealize.ShloMosaic.Lib.Pipeline.ValueKit
public import Idealize.ShloMosaic.Lib.Pointwise
public import Idealize.ShloMosaic.Lib.WordCmp
public import Idealize.ShloMosaic.Lib.KernelVsHost
public import Idealize.ShloMosaic.Lib.IdealHost

/-!
The running sum of the log forget gates: twelve doubling steps along the rows of a block.
-/

@[expose] public section
set_option maxRecDepth 16384
set_option maxHeartbeats 4000000
namespace Cert.KernelIdeal.Kf

open Idealize.ShloMosaic Idealize.ShloMosaic.WordCmp Idealize.ShloMosaic.TcCoe Idealize.ShloMosaic.Tactic
open Cert.KernelIdeal.Gen Cert.KernelIdeal.Run

section Generic
variable {F : FTy → Type} [FloatOps F] [Named F]

/-- The row numbers. -/
def rows : IVec S4096x128 32 := iota .tc S4096x128 32 [0] iota_S4096x128_d0_w32

/-- One doubling step: each row takes the row `n` above it, where there is one. -/
noncomputable def step (n : BitVec 32) (x : FVec F S4096x128 .f32) : FVec F S4096x128 .f32 :=
  addf x (select (cmpi .sge rows (broadcast S4096x128 n)) (dynamicRotate 0 n none x rotates_S4096x128_d0)
    (broadcast S4096x128 (Scalar.ofBits .f32 0x00000000#32 : F .f32)))

/-- The log forget gates, in units of log 2. -/
noncomputable def logGate (v0 : Vec F S1x4096x128 .f32) (v2 : Vec F S1x128 .f32) : FVec F S4096x128 .f32 :=
  have z : FVec F S4096x128 .f32 := addf (shapeCast S4096x128 v0 shapeCasts_S1x4096x128_S4096x128)
    (broadcastTo S4096x128 (shapeCast S1x128 v2 shapeCasts_S1x128_S1x128 : FVec F S1x128 .f32) broadcasts_S1x128_S4096x128)
  subf (mulf (minimumf z (broadcast S4096x128 (Scalar.ofBits .f32 0x00000000#32 : F .f32))) (broadcast S4096x128 (Named.named κ "log2e" 0x3FB8AA3B#32 : F .f32)))
    (mulf (log (addf (broadcast S4096x128 (Scalar.ofBits .f32 0x3F800000#32 : F .f32))
      (exp (subf (broadcast S4096x128 (Scalar.ofBits .f32 0x00000000#32 : F .f32)) (absf z))))) (broadcast S4096x128 (Named.named κ "log2e" 0x3FB8AA3B#32 : F .f32)))

/-- The running sums. -/
noncomputable def sums (v0 : Vec F S1x4096x128 .f32) (v2 : Vec F S1x128 .f32) : FVec F S4096x128 .f32 :=
  step 2048#32 (step 1024#32 (step 512#32 (step 256#32 (step 128#32 (step 64#32 (step 32#32 (step 16#32 (step 8#32
    (step 4#32 (step 2#32 (step 1#32 (logGate v0 v2))))))))))))

/-- One of the three pieces, put on its lane of each head. -/
noncomputable def placed (a : FVec F S4096x128 .bf16) (p : Vec F S1x128x1024 .bf16) : FVec F S4096x1024 .f32 :=
  matmul dot_S4096x128_S128x1024_S4096x1024_1_0_0_1_n_n none a (shapeCast S128x1024 p shapeCasts_S1x128x1024_S128x1024 : FVec F S128x1024 .bf16)
    (constant S4096x1024 .f32 0x00000000#32)

/-- What is left of a vector after its half-width part is taken off. -/
noncomputable def left (x : FVec F S4096x128 .f32) : FVec F S4096x128 .f32 :=
  subf x (extf .f32 (truncf .bf16 x bitsLt_bf16_f32) bitsLt_bf16_f32)

/-- What the call stores, from the running sums. -/
noncomputable def stored (acc : FVec F S4096x128 .f32) (p0 p1 p2 : Vec F S1x128x1024 .bf16) (k : Vec F S4096x1024 .bf16) : FVec F S4096x1024 .bf16 :=
  have r : FVec F S4096x128 .f32 := subf (broadcast S4096x128 (Scalar.ofBits .f32 0x00000000#32 : F .f32)) acc
  truncf .bf16 (addf (extf .f32 (shapeCast S4096x1024 k shapeCasts_S4096x1024_S4096x1024 : FVec F S4096x1024 .bf16) bitsLt_bf16_f32)
    (addf (addf (placed (truncf .bf16 r bitsLt_bf16_f32) p0) (placed (truncf .bf16 (left r) bitsLt_bf16_f32) p1))
      (placed (truncf .bf16 (left (left r)) bitsLt_bf16_f32) p2))) bitsLt_bf16_f32

theorem out_eq (x0 : Vec F S1x4096x128 .f32) (x1 : Vec F S1x128 .f32) (x2 : Vec F S4096x1024 .bf16) (x3 : Vec F S3x128x1024 .bf16) [∀ f, Nonempty (F f)] :
    out1_4 x0 x1 x2 x3 = stored (sums (View.ld x0 r1_0) (View.ld x1 r1_1)) (View.ld x3 r1_2) (View.ld x3 r1_3) (View.ld x3 r1_4) (View.ld x2 r1_5) := by
  unfold out1_4
  rw [View.canon_cons_unit_zero (S := S4096x1024) (funext fun a => by fin_cases a <;> rfl)]
  rfl

end Generic

/-- The log of the logistic function over log 2, written as the kernel does. -/
noncomputable def lsig2 (z : ℝ) : ℝ := min z 0 * (Real.log 2)⁻¹ - Real.log (1 + Real.exp (-|z|)) * (Real.log 2)⁻¹

theorem step_at (n : BitVec 32) (k : ℕ) (hn : n.toNat = k) (hk : 1 ≤ k) (hk2 : k < 4096) (x : FVec Ideal S4096x128 .f32) (s : Fin 4096) (l : Fin 128) :
    step n x (ix2 s l) = x (ix2 s l) + (if k ≤ s.val then x (ix2 (⟨s.val - k, by omega⟩ : Fin 4096) l) else 0) := by
  have hr : rows (ix2 s l) = BitVec.ofNat 32 s.val := by unfold rows; pointwise
  have hc : IntOp.cmpi .sge (BitVec.ofNat 32 s.val) n = BitVec.ofBool (decide (k ≤ s.val)) := by
    rw [cmpi_sge_eq]
    congr 1
    have h1 : (BitVec.ofNat 32 s.val).toInt = (s.val : Int) := toInt_ofNat_of_lt (by have := s.isLt; norm_num; omega)
    have h2 : n.toInt = (k : Int) := by rw [toInt_eq_toNat_of_lt_half (by rw [hn]; norm_num; omega), hn]
    rw [h1, h2]
    simp
  show x (ix2 s l) + Scalar.select (IntOp.cmpi .sge (rows (ix2 s l)) n) (dynamicRotate 0 n none x rotates_S4096x128_d0 (ix2 s l)) (Ideal.ofBits .f32 0x00000000#32) = _
  rw [hr, hc]
  congr 1
  by_cases h : k ≤ s.val
  · rw [if_pos h, decide_eq_true h]
    show dynamicRotate 0 n none x rotates_S4096x128_d0 (ix2 s l) = _
    refine dynamicRotate_apply 0 n x rotates_S4096x128_d0 _ _ fun b => ?_
    match b with
    | ⟨0, _⟩ =>
      show s.val - k = (s.val + 4096 - n.toNat % 4096) % 4096
      have := s.isLt
      rw [hn]; omega
    | ⟨1, _⟩ => rfl
  · rw [if_neg h, decide_eq_false h]
    show Ideal.ofBits .f32 0x00000000#32 = 0
    simp [Ideal.ofBits, Ideal.ieee]

/-- A doubling step doubles the length of the sums. -/
theorem step_sums (n : BitVec 32) (k : ℕ) (hn : n.toNat = k) (hk : 1 ≤ k) (hk2 : k < 4096) (x : FVec Ideal S4096x128 .f32) (l : Fin 128) (y : ℕ → ℝ)
    (hx : ∀ s : Fin 4096, (x (ix2 s l) : EReal) = ((∑ i ∈ Finset.Ico (s.val + 1 - k) (s.val + 1), y i : ℝ) : EReal)) (s : Fin 4096) :
    (step n x (ix2 s l) : EReal) = ((∑ i ∈ Finset.Ico (s.val + 1 - (k + k)) (s.val + 1), y i : ℝ) : EReal) := by
  rw [step_at n k hn hk hk2, ← Flash.scan_double y k s.val, hx]
  by_cases h : k ≤ s.val
  · rw [if_pos h, if_pos h, hx, EReal.coe_add]
  · rw [if_neg h, if_neg h, add_zero, add_zero]

/-- The running sums are the prefix sums. -/
theorem sums_at (v0 : Vec Ideal S1x4096x128 .f32) (v2 : Vec Ideal S1x128 .f32) (l : Fin 128) (y : ℕ → ℝ)
    (hy : ∀ s : Fin 4096, (logGate v0 v2 (ix2 s l) : EReal) = (y s.val : EReal)) (s : Fin 4096) :
    (sums v0 v2 (ix2 s l) : EReal) = ((∑ i ∈ Finset.range (s.val + 1), y i : ℝ) : EReal) := by
  have h0 : ∀ s : Fin 4096, (logGate v0 v2 (ix2 s l) : EReal) = ((∑ i ∈ Finset.Ico (s.val + 1 - 1) (s.val + 1), y i : ℝ) : EReal) := fun s => by
    rw [hy]; simp
  unfold sums
  have h1 := step_sums 1#32 1 rfl (by norm_num) (by norm_num) _ l y h0
  have h2 := step_sums 2#32 2 rfl (by norm_num) (by norm_num) _ l y h1
  have h3 := step_sums 4#32 4 rfl (by norm_num) (by norm_num) _ l y h2
  have h4 := step_sums 8#32 8 rfl (by norm_num) (by norm_num) _ l y h3
  have h5 := step_sums 16#32 16 rfl (by norm_num) (by norm_num) _ l y h4
  have h6 := step_sums 32#32 32 rfl (by norm_num) (by norm_num) _ l y h5
  have h7 := step_sums 64#32 64 rfl (by norm_num) (by norm_num) _ l y h6
  have h8 := step_sums 128#32 128 rfl (by norm_num) (by norm_num) _ l y h7
  have h9 := step_sums 256#32 256 rfl (by norm_num) (by norm_num) _ l y h8
  have h10 := step_sums 512#32 512 rfl (by norm_num) (by norm_num) _ l y h9
  have h11 := step_sums 1024#32 1024 rfl (by norm_num) (by norm_num) _ l y h10
  have h12 := step_sums 2048#32 2048 rfl (by norm_num) (by norm_num) _ l y h11 s
  rw [h12, Finset.range_eq_Ico, show s.val + 1 - (2048 + 2048) = 0 from by have := s.isLt; omega]

/-- The log forget gate over the reals. -/
theorem log_gate_real (z : ℝ) :
    min (z : EReal) 0 * (((Real.log 2)⁻¹ : ℝ) : EReal) - Ideal.log (1 + Ideal.exp (0 - max (z : EReal) (-(z : EReal)))) * (((Real.log 2)⁻¹ : ℝ) : EReal)
      = (lsig2 z : EReal) := by
  have h1 : (1 + Ideal.exp (0 - max (z : EReal) (-(z : EReal))) : EReal) = ((1 + Real.exp (-|z|) : ℝ) : EReal) := by
    have : (0 - max (z : EReal) (-(z : EReal)) : EReal) = ((-|z| : ℝ) : EReal) := by
      rw [← EReal.coe_neg, ← EReal.coe_strictMono.monotone.map_max, ← EReal.coe_zero, ← EReal.coe_sub, zero_sub]
      rfl
    rw [this, EReal.coe_add]
    rfl
  have h2 : Ideal.log ((1 + Real.exp (-|z|) : ℝ) : EReal) = (Real.log (1 + Real.exp (-|z|)) : EReal) := by
    show (if (1 + Real.exp (-|z|)) ≤ 0 then ⊥ else (Real.log (1 + Real.exp (-|z|)) : EReal)) = _
    rw [if_neg (by have := Real.exp_pos (-|z|); linarith)]
  rw [h1, h2, ← EReal.coe_zero, ← EReal.coe_strictMono.monotone.map_min, ← EReal.coe_mul, ← EReal.coe_mul, ← EReal.coe_sub]
  rfl

/-- The log forget gate at an index, from a real gate input. -/
theorem logGate_at (v0 : Vec Ideal S1x4096x128 .f32) (v2 : Vec Ideal S1x128 .f32) (s : Fin 4096) (l : Fin 128) (z : ℝ)
    (hz : (v0 (ix3 (0 : Fin 1) s l) + v2 (ix2 (0 : Fin 1) l) : EReal) = (z : EReal)) :
    (logGate v0 v2 (ix2 s l) : EReal) = (lsig2 z : EReal) := by
  have e : (logGate v0 v2 (ix2 s l) : EReal) = min (v0 (ix3 (0 : Fin 1) s l) + v2 (ix2 (0 : Fin 1) l)) (Ideal.ofBits .f32 0x00000000#32) * (((Real.log 2)⁻¹ : ℝ) : EReal)
      - Ideal.log (Ideal.ofBits .f32 0x3F800000#32 + Ideal.exp (Ideal.ofBits .f32 0x00000000#32 - max (v0 (ix3 (0 : Fin 1) s l) + v2 (ix2 (0 : Fin 1) l)) (-(v0 (ix3 (0 : Fin 1) s l) + v2 (ix2 (0 : Fin 1) l))))) * (((Real.log 2)⁻¹ : ℝ) : EReal) := by
    pointwise [logGate]
    rfl
  have o0 : Ideal.ofBits .f32 0x00000000#32 = 0 := by simp [Ideal.ofBits, Ideal.ieee]
  have o1 : Ideal.ofBits .f32 0x3F800000#32 = 1 := Ideal.ofBits_one_f32
  rw [e, hz, o0, o1]
  exact log_gate_real z

end Cert.KernelIdeal.Kf
end
-- ==== Proof.KfOut.lean ====
module

public import proofs.«01_k».proof.Proof.KfScan
public import Idealize.ShloMosaic.Lib.Pipeline.ValueKit

/-!
What the forget-gate call writes at an index: the padded keys, with minus the running sum of the log
forget gates on the first spare lane of each head.
-/

@[expose] public section
set_option maxRecDepth 16384
set_option maxHeartbeats 4000000
namespace Cert.KernelIdeal.Kf

open Idealize.ShloMosaic Idealize.ShloMosaic.TcCoe Idealize.ShloMosaic.Tactic
open Cert.KernelIdeal.Gen Cert.KernelIdeal.Run Cert.KernelIdeal.Fox

/-- The lane of head `h` among the gate lanes. -/
def gateLane (h : Fin 8) : Fin 128 := ⟨h.val, by omega⟩

theorem placed_at (a : FVec Ideal S4096x128 .bf16) (p : Vec Ideal S1x128x1024 .bf16) (s : Fin 4096) (c : Fin 1024) :
    (placed a p (ix2 s c) : EReal) = ∑ l : Fin 128, a (ix2 s l) * p (ix3 (0 : Fin 1) l c) := by
  pointwise [placed]

/-- A piece lands on one lane of each head. -/
theorem placed_piece (a : FVec Ideal S4096x128 .bf16) (p : Vec Ideal S1x128x1024 .bf16) (o : ℕ) (ho : 64 + o < 128)
    (hp : ∀ (l : Fin 128) (c : Fin 1024), (p (ix3 (0 : Fin 1) l c) : EReal) = if l.val < 8 ∧ c.val = 128 * l.val + 64 + o then 1 else 0)
    (s : Fin 4096) (h : Fin 8) (r : Fin 128) :
    (placed a p (ix2 s (padLane h r)) : EReal) = if r.val = 64 + o then a (ix2 s (gateLane h)) else 0 := by
  rw [placed_at, Finset.sum_eq_single (gateLane h)]
  · rw [hp]
    by_cases e : r.val = 64 + o
    · rw [if_pos e, if_pos ⟨h.isLt, by show 128 * h.val + r.val = 128 * h.val + 64 + o; omega⟩, mul_one]
    · rw [if_neg e, if_neg (fun q => e (by have := q.2; change 128 * h.val + r.val = 128 * h.val + 64 + o at this; omega)), mul_zero]
  · intro l _ hl
    rw [hp, if_neg, mul_zero]
    intro q
    refine hl (Fin.ext ?_)
    have := q.2
    change 128 * h.val + r.val = 128 * l.val + 64 + o at this
    show l.val = h.val
    omega
  · exact fun q => absurd (Finset.mem_univ _) q

theorem left_at (x : FVec Ideal S4096x128 .f32) (s : Fin 4096) (l : Fin 128) : (left x (ix2 s l) : EReal) = x (ix2 s l) - x (ix2 s l) := by
  pointwise [left]

theorem stored_at (acc : FVec Ideal S4096x128 .f32) (p0 p1 p2 : Vec Ideal S1x128x1024 .bf16) (k : Vec Ideal S4096x1024 .bf16)
    (hp0 : ∀ (l : Fin 128) (c : Fin 1024), (p0 (ix3 (0 : Fin 1) l c) : EReal) = if l.val < 8 ∧ c.val = 128 * l.val + 64 + 0 then 1 else 0)
    (hp1 : ∀ (l : Fin 128) (c : Fin 1024), (p1 (ix3 (0 : Fin 1) l c) : EReal) = if l.val < 8 ∧ c.val = 128 * l.val + 64 + 1 then 1 else 0)
    (hp2 : ∀ (l : Fin 128) (c : Fin 1024), (p2 (ix3 (0 : Fin 1) l c) : EReal) = if l.val < 8 ∧ c.val = 128 * l.val + 64 + 2 then 1 else 0)
    (s : Fin 4096) (h : Fin 8) (r : Fin 128) (y : ℝ) (hy : (acc (ix2 s (gateLane h)) : EReal) = (y : EReal)) :
    (stored acc p0 p1 p2 k (ix2 s (padLane h r)) : EReal) = k (ix2 s (padLane h r)) + (if r.val = 64 then ((-y : ℝ) : EReal) else 0) := by
  have hr : ((subf (broadcast S4096x128 (Scalar.ofBits .f32 0x00000000#32 : Ideal .f32)) acc : FVec Ideal S4096x128 .f32) (ix2 s (gateLane h)) : EReal) = ((-y : ℝ) : EReal) := by
    show (Ideal.ofBits .f32 0x00000000#32 - acc (ix2 s (gateLane h)) : EReal) = _
    rw [hy, show Ideal.ofBits .f32 0x00000000#32 = 0 by simp [Ideal.ofBits, Ideal.ieee], zero_sub, EReal.coe_neg]
  have e : (stored acc p0 p1 p2 k (ix2 s (padLane h r)) : EReal) = k (ix2 s (padLane h r))
      + (placed (truncf .bf16 (subf (broadcast S4096x128 (Scalar.ofBits .f32 0x00000000#32 : Ideal .f32)) acc) bitsLt_bf16_f32) p0 (ix2 s (padLane h r))
        + placed (truncf .bf16 (left (subf (broadcast S4096x128 (Scalar.ofBits .f32 0x00000000#32 : Ideal .f32)) acc)) bitsLt_bf16_f32) p1 (ix2 s (padLane h r))
        + placed (truncf .bf16 (left (left (subf (broadcast S4096x128 (Scalar.ofBits .f32 0x00000000#32 : Ideal .f32)) acc))) bitsLt_bf16_f32) p2 (ix2 s (padLane h r))) := by
    unfold stored
    rw [show (shapeCast S4096x1024 k shapeCasts_S4096x1024_S4096x1024 : FVec Ideal S4096x1024 .bf16) = k from shapeCast_self _ _]
    rfl
  have z1 : ((-y : ℝ) : EReal) - ((-y : ℝ) : EReal) = 0 := by rw [← EReal.coe_sub, sub_self, EReal.coe_zero]
  rw [e, placed_piece _ p0 0 (by norm_num) hp0, placed_piece _ p1 1 (by norm_num) hp1, placed_piece _ p2 2 (by norm_num) hp2]
  simp only [show ∀ x : FVec Ideal S4096x128 .f32, (truncf .bf16 x bitsLt_bf16_f32 : FVec Ideal S4096x128 .bf16) (ix2 s (gateLane h)) = x (ix2 s (gateLane h)) from fun _ => rfl,
    left_at, hr, z1, sub_zero, add_zero, ite_self]

theorem out_at (x0 : Vec Ideal S1x4096x128 .f32) (x1 : Vec Ideal S1x128 .f32) (x2 : Vec Ideal S4096x1024 .bf16) (x3 : Vec Ideal S3x128x1024 .bf16)
    (z : Fin 8 → ℕ → ℝ) (hz : ∀ (s : Fin 4096) (h : Fin 8), (x0 (ix3 (0 : Fin 1) s (gateLane h)) + x1 (ix2 (0 : Fin 1) (gateLane h)) : EReal) = (z h s.val : EReal))
    (hp : ∀ (p : Fin 3) (l : Fin 128) (c : Fin 1024), (x3 (ix3 p l c) : EReal) = if l.val < 8 ∧ c.val = 128 * l.val + 64 + p.val then 1 else 0)
    (s : Fin 4096) (h : Fin 8) (r : Fin 128) :
    (out1_4 x0 x1 x2 x3 (ix2 s (padLane h r)) : EReal) = x2 (ix2 s (padLane h r))
      + (if r.val = 64 then ((-(∑ i ∈ Finset.range (s.val + 1), lsig2 (z h i)) : ℝ) : EReal) else 0) := by
  have l0 : View.ld x0 r1_0 = x0 := View.ld_unit_lit _ x0 (by decide)
  have l1 : View.ld x1 r1_1 = x1 := View.ld_unit_lit _ x1 (by decide)
  have l2 : View.ld x2 r1_5 = x2 := View.ld_unit_lit _ x2 (by decide)
  rw [out_eq, l0, l1, l2]
  refine stored_at _ _ _ _ _ (fun l c => ?_) (fun l c => ?_) (fun l c => ?_) s h r _ (sums_at x0 x1 (gateLane h) (fun i => lsig2 (z h i)) (fun s => logGate_at x0 x1 s (gateLane h) (z h s.val) (hz s h)) s)
  · exact (View.ld_unit_apply_of x3 ![0, 0, 0] S1x128x1024.size _ (ix3 (0 : Fin 1) l c) (ix3 (0 : Fin 3) l c) (fun a => by fin_cases a <;> simp [ix3])).trans (hp 0 l c)
  · exact (View.ld_unit_apply_of x3 ![1, 0, 0] S1x128x1024.size _ (ix3 (0 : Fin 1) l c) (ix3 (1 : Fin 3) l c) (fun a => by fin_cases a <;> simp [ix3])).trans (hp 1 l c)
  · exact (View.ld_unit_apply_of x3 ![2, 0, 0] S1x128x1024.size _ (ix3 (0 : Fin 1) l c) (ix3 (2 : Fin 3) l c) (fun a => by fin_cases a <;> simp [ix3])).trans (hp 2 l c)

end Cert.KernelIdeal.Kf
end
-- ==== Proof.KerTok.lean ====
module

public import proofs.«01_k».proof.Proof.InQ
public import proofs.«01_k».proof.Proof.InK
public import proofs.«01_k».proof.Proof.InV
public import proofs.«01_k».proof.Proof.InF
public import proofs.«01_k».proof.Proof.InGa
public import proofs.«01_k».proof.Proof.InGb
public import proofs.«01_k».proof.Proof.Host
public import proofs.«01_k».proof.Proof.FoxMask
public import proofs.«01_k».proof.Proof.KfOut

/-!
The input projection call's arrays over the arguments, the projection's columns being real.
-/

@[expose] public section
set_option maxHeartbeats 2000000
set_option maxRecDepth 16384
namespace Cert.KernelIdeal.Val

open Idealize.ShloMosaic Idealize.ShloMosaic.TcCoe
open Cert.KernelIdeal Cert.KernelIdeal.Gen Cert.KernelIdeal.Fox

section Tok
variable (X : FVec Ideal S4x4096x1024 .f32) (Sh Sc : FVec Ideal S4x1024 .f32) (G : FVec Ideal S1x1024 .f32) (W : FVec Ideal S1x1024x4360 .f32)

/-- The norm of a token, over the arguments. -/
noncomputable def hd (b : Fin 4) (s : Fin 4096) (j : Fin 1024) : EReal :=
  Spec.hidden (fun j => X (ix3 b s j)) (fun j => G (ix2 (0 : Fin 1) j)) (fun j => Sc (ix2 b j)) (fun j => Sh (ix2 b j)) j

/-- The token rows as the first call reads them. -/
noncomputable def xr : FVec Ideal S16384x1024 .f32 := shapeCast S16384x1024 X shapeCasts_S4x4096x1024_S16384x1024
/-- The norm's weights as the first call reads them. -/
noncomputable def gr : FVec Ideal S1x1024 .f32 := shapeCast S1x1024 (shapeCast S1024 G shapeCasts_S1x1024_S1024) shapeCasts_S1024_S1x1024
/-- A modulation as the first call reads it. -/
noncomputable def mr (M : FVec Ideal S4x1024 .f32) : FVec Ideal S4x1x1024 .f32 := shapeCast S4x1x1024 M shapeCasts_S4x1024_S4x1x1024

theorem xr_at (b : Fin 4) (s : Fin 4096) (j : Fin 1024) : (xr X (ix2 (⟨4096 * b.val + s.val, by omega⟩ : Fin 16384) j) : EReal) = X (ix3 b s j) := by
  pointwise [xr]
theorem gr_at (j : Fin 1024) : (gr G (ix2 (0 : Fin 1) j) : EReal) = G (ix2 (0 : Fin 1) j) := by
  pointwise [gr]
theorem mr_at (M : FVec Ideal S4x1024 .f32) (b : Fin 4) (j : Fin 1024) : (mr M (ix3 b (0 : Fin 1) j) : EReal) = M (ix2 b j) := by
  pointwise [mr]

theorem tok_at (b : Fin 4) (s : Fin 4096) (n : Fin 16384) (hn : n.val = 4096 * b.val + s.val) (j : Fin 1024) :
    In.tok (xr X) (gr G) (mr Sc) (mr Sh) n j = hd X Sh Sc G b s j := by
  have e : n = (⟨4096 * b.val + s.val, by omega⟩ : Fin 16384) := Fin.ext hn
  have hb : ∀ h, (⟨n.val / 4096, h⟩ : Fin 4) = b := fun h => Fin.ext (by show n.val / 4096 = b.val; omega)
  unfold In.tok hd
  rw [hb]
  simp only [e, xr_at, gr_at, mr_at]

variable (p : ℕ → ℕ → ℕ → ℝ) (hp : ∀ (b : Fin 4) (s : Fin 4096) (n : Fin 4360), (∑ j : Fin 1024, hd X Sh Sc G b s j * W (ix3 (0 : Fin 1) j n)) = (p b.val s.val n.val : EReal))
include hp

/-- A key. -/
theorem k_at (b : Fin 4) (s : Fin 4096) (h : Fin 8) (r : Fin 128) :
    (In.kArr (xr X) (gr G) (mr Sc) (mr Sh) (Host.wk W) (ix2 (⟨4096 * b.val + s.val, by omega⟩ : Fin 16384) (padLane h r)) : EReal)
      = ((if r.val < 64 then p b.val s.val (1280 + (64 * h.val + r.val)) else 0 : ℝ) : EReal) := by
  show (∑ j : Fin 1024, In.tok (xr X) (gr G) (mr Sc) (mr Sh) (⟨4096 * b.val + s.val, by omega⟩ : Fin 16384) j * Host.wk W (ix2 j (⟨128 * h.val + r.val, by omega⟩ : Fin 1024)) : EReal) = _
  simp only [tok_at X Sh Sc G b s (⟨4096 * b.val + s.val, by omega⟩ : Fin 16384) rfl, Host.wk_at]
  split
  · exact hp b s (⟨1280 + (64 * h.val + r.val), by omega⟩ : Fin 4360)
  · simp

/-- A query. -/
theorem q_at (b : Fin 4) (s : Fin 4096) (h : Fin 8) (r : Fin 128) :
    (In.qArr (xr X) (gr G) (mr Sc) (mr Sh) (Host.wq W) (ix3 h r (⟨4096 * b.val + s.val, by omega⟩ : Fin 16384)) : EReal)
      = ((if 64 ≤ r.val ∧ r.val < 67 then 1 else if r.val < 64 then p b.val s.val (768 + (64 * h.val + r.val)) * (8 * Real.log 2)⁻¹ else 0 : ℝ) : EReal) := by
  show (if 64 ≤ r.val ∧ r.val < 67 then (1 : EReal) else (∑ j : Fin 1024, Host.wq W (ix2 (⟨128 * h.val + r.val, by omega⟩ : Fin 1024) j) * In.tok (xr X) (gr G) (mr Sc) (mr Sh) (⟨4096 * b.val + s.val, by omega⟩ : Fin 16384) j) * (((8 * Real.log 2)⁻¹ : ℝ) : EReal)) = _
  simp only [tok_at X Sh Sc G b s (⟨4096 * b.val + s.val, by omega⟩ : Fin 16384) rfl, Host.wq_at]
  split
  · rfl
  · split
    · rw [EReal.coe_mul]
      refine congrArg (fun a : EReal => a * (((8 * Real.log 2)⁻¹ : ℝ) : EReal)) ?_
      exact (Finset.sum_congr rfl fun j _ => mul_comm _ _).trans (hp b s (⟨768 + (64 * h.val + r.val), by omega⟩ : Fin 4360))
    · simp

/-- A value. -/
theorem v_at (b : Fin 4) (h : Fin 8) (d : Fin 64) (n : Fin 16) (k : Fin 256) :
    (In.vArr (xr X) (gr G) (mr Sc) (mr Sh) (Host.wv W) (ix3 (⟨16 * b.val + n.val, by omega⟩ : Fin 64) (lane h d) k) : EReal)
      = (p b.val (256 * n.val + k.val) (1792 + (64 * h.val + d.val)) : EReal) := by
  show (∑ j : Fin 1024, Host.wv W (ix2 (lane h d) j) * In.tok (xr X) (gr G) (mr Sc) (mr Sh) (⟨256 * (16 * b.val + n.val) + k.val, by omega⟩ : Fin 16384) j : EReal) = _
  simp only [tok_at X Sh Sc G b (⟨256 * n.val + k.val, by omega⟩ : Fin 4096) (⟨256 * (16 * b.val + n.val) + k.val, by omega⟩ : Fin 16384) (by show 256 * (16 * b.val + n.val) + k.val = 4096 * b.val + (256 * n.val + k.val); omega), Host.wv_at]
  exact (Finset.sum_congr rfl fun j _ => mul_comm _ _).trans (hp b (⟨256 * n.val + k.val, by omega⟩ : Fin 4096) (⟨1792 + (64 * h.val + d.val), by omega⟩ : Fin 4360))

/-- A gate input. -/
theorem f_at (b : Fin 4) (s : Fin 4096) (h : Fin 8) :
    (In.fArr (xr X) (gr G) (mr Sc) (mr Sh) (Host.wf W) (ix2 (⟨4096 * b.val + s.val, by omega⟩ : Fin 16384) (Kf.gateLane h)) : EReal)
      = (p b.val s.val (2304 + h.val) : EReal) := by
  show (∑ j : Fin 1024, In.tok (xr X) (gr G) (mr Sc) (mr Sh) (⟨4096 * b.val + s.val, by omega⟩ : Fin 16384) j * Host.wf W (ix2 j (Kf.gateLane h)) : EReal) = _
  simp only [tok_at X Sh Sc G b s (⟨4096 * b.val + s.val, by omega⟩ : Fin 16384) rfl, Host.wf_at W (Kf.gateLane h) h.isLt]
  exact hp b s (⟨2304 + h.val, by omega⟩ : Fin 4360)

/-- A first gate. -/
theorem ga_at (b : Fin 4) (s : Fin 4096) (n : Fin 1024) :
    (In.gaArr (xr X) (gr G) (mr Sc) (mr Sh) (Host.wg W) (ix2 (⟨4096 * b.val + s.val, by omega⟩ : Fin 16384) n) : EReal)
      = Ideal.logistic ((p b.val s.val (2312 + n.val) : ℝ) : EReal) := by
  refine congrArg Ideal.logistic ?_
  show (∑ j : Fin 1024, In.tok (xr X) (gr G) (mr Sc) (mr Sh) (⟨4096 * b.val + s.val, by omega⟩ : Fin 16384) j * Host.wg W (ix2 j (⟨n.val, by omega⟩ : Fin 2048)) : EReal) = _
  simp only [tok_at X Sh Sc G b s (⟨4096 * b.val + s.val, by omega⟩ : Fin 16384) rfl, Host.wg_at]
  exact hp b s (⟨2312 + n.val, by omega⟩ : Fin 4360)

/-- A second gate. -/
theorem gb_at (b : Fin 4) (s : Fin 4096) (n : Fin 1024) :
    (In.gbArr (xr X) (gr G) (mr Sc) (mr Sh) (Host.wg W) (ix2 (⟨4096 * b.val + s.val, by omega⟩ : Fin 16384) n) : EReal)
      = Ideal.logistic ((p b.val s.val (3336 + n.val) : ℝ) : EReal) := by
  refine congrArg Ideal.logistic ?_
  show (∑ j : Fin 1024, In.tok (xr X) (gr G) (mr Sc) (mr Sh) (⟨4096 * b.val + s.val, by omega⟩ : Fin 16384) j * Host.wg W (ix2 j (⟨1024 + n.val, by omega⟩ : Fin 2048)) : EReal) = _
  simp only [tok_at X Sh Sc G b s (⟨4096 * b.val + s.val, by omega⟩ : Fin 16384) rfl, Host.wg_at]
  refine Eq.trans (Finset.sum_congr rfl fun j _ => ?_) (hp b s (⟨3336 + n.val, by omega⟩ : Fin 4360))
  exact congrArg (fun k => hd X Sh Sc G b s j * W (ix3 (0 : Fin 1) j k)) (Fin.ext (by show 2312 + (1024 + n.val) = 3336 + n.val; omega))

end Tok
end Cert.KernelIdeal.Val
end
-- ==== Proof.KerSum.lean ====
module

public import proofs.«01_k».proof.Proof.KfOut
public import proofs.«01_k».proof.Proof.Spec
public import proofs.«01_k».proof.Proof.Flash

/-!
The score the attention call forms over a head's padded lanes, and that its base-two average is the plain one.
-/

@[expose] public section
namespace Cert.KernelIdeal.Sum

open Idealize.ShloMosaic Cert.KernelIdeal.Kf

/-- A head's lanes: the products of the first 64, the gate of the next, nothing of the others. -/
theorem lanes (a q : ℕ → ℝ) (F e : ℝ) :
    (∑ r : Fin 128, (((if r.val < 64 then a r.val else 0 : ℝ) : EReal) + (if r.val = 64 then ((-F : ℝ) : EReal) else 0))
      * ((if 64 ≤ r.val ∧ r.val < 67 then 1 else if r.val < 64 then q r.val * e else 0 : ℝ) : EReal))
      = ((e * ∑ d : Fin 64, a d.val * q d.val - F : ℝ) : EReal) := by
  have h : ∀ r : Fin 128, (((if r.val < 64 then a r.val else 0 : ℝ) : EReal) + (if r.val = 64 then ((-F : ℝ) : EReal) else 0))
      * ((if 64 ≤ r.val ∧ r.val < 67 then 1 else if r.val < 64 then q r.val * e else 0 : ℝ) : EReal)
      = (((if r.val < 64 then e * (a r.val * q r.val) else 0) + (if r.val = 64 then -F else 0) : ℝ) : EReal) := fun r => by
    have h0 : (if r.val = 64 then ((-F : ℝ) : EReal) else 0) = ((if r.val = 64 then -F else 0 : ℝ) : EReal) := by split <;> rfl
    rw [h0, ← EReal.coe_add, ← EReal.coe_mul]
    refine congrArg _ ?_
    by_cases h1 : r.val < 64
    · have h2 : ¬ r.val = 64 := by omega
      have h3 : ¬ (64 ≤ r.val ∧ r.val < 67) := by omega
      simp only [if_pos h1, if_neg h2, if_neg h3]; ring
    · by_cases h2 : r.val = 64
      · have h3 : 64 ≤ r.val ∧ r.val < 67 := by omega
        simp only [if_neg h1, if_pos h2, if_pos h3]; ring
      · simp only [if_neg h1, if_neg h2]; ring
  have s1 : ∑ r ∈ Finset.range 128, (if r < 64 then e * (a r * q r) else 0) = ∑ r ∈ Finset.range 64, e * (a r * q r) := by
    rw [← Finset.sum_filter]
    exact Finset.sum_congr (by ext x; simp only [Finset.mem_filter, Finset.mem_range]; omega) fun _ _ => rfl
  have s2 : ∑ r ∈ Finset.range 128, (if r = 64 then -F else 0) = -F := by
    rw [Finset.sum_ite_eq', if_pos (by simp)]
  rw [Finset.sum_congr rfl fun r _ => h r, ← Flash.coe_sum, Finset.sum_add_distrib,
    ← Finset.sum_range (fun r => if r < 64 then e * (a r * q r) else 0), ← Finset.sum_range (fun r => if r = 64 then -F else (0 : ℝ)), s1, s2,
    ← Finset.mul_sum, Finset.sum_range (fun r => a r * q r)]
  rfl

theorem lsig2_eq (z : ℝ) : Real.log 2 * lsig2 z = Spec.lsig z := by
  have h : Real.log 2 ≠ 0 := (Real.log_pos (by norm_num)).ne'
  unfold lsig2 Spec.lsig
  field_simp

/-- The base-two score is the plain one without the query's own sum of gates. -/
theorem score (S : ℝ) (z : ℕ → ℝ) (k : ℕ) :
    Real.log 2 * ((8 * Real.log 2)⁻¹ * S - ∑ i ∈ Finset.range (k + 1), lsig2 (z i)) = S * (1 / 8) - ∑ i ∈ Finset.range (k + 1), Spec.lsig (z i) := by
  have h : Real.log 2 ≠ 0 := (Real.log_pos (by norm_num)).ne'
  rw [mul_sub, Finset.mul_sum, Finset.sum_congr rfl fun i _ => lsig2_eq (z i)]
  congr 1
  field_simp

end Cert.KernelIdeal.Sum
end
-- ==== Proof.KfArr.lean ====
module

public import proofs.«01_k».proof.Proof.KfOut
public import Idealize.ShloMosaic.Lib.Pipeline.ValueKit

/-!
The array of the gate call at an index: the keys, and a head's negated sum of log gates in its lane 64.
-/

@[expose] public section
set_option maxHeartbeats 2000000
set_option maxRecDepth 16384
namespace Cert.KernelIdeal.Kf

open Idealize.ShloMosaic Idealize.ShloMosaic.TcCoe Idealize.ShloMosaic.Tactic
open Idealize.ShloMosaic.Pipeline (Dat Cfg Window)
open Cert.KernelIdeal Cert.KernelIdeal.Gen Cert.KernelIdeal.Run Cert.KernelIdeal.Fox

theorem idx : ∀ t : Fin cfg1.N, win1_0.index t = ![t.val, 0, 0] ∧ win1_1.index t = ![0, 0] ∧ win1_2.index t = ![t.val, 0] ∧ win1_3.index t = ![0, 0, 0]
    ∧ win1_4.index t = ![t.val, 0] ∧ t.val < 4 :=
  (by decide +kernel : ∀ t : Fin grid1.N, _)

/-- The keys with a head's negated sum of log gates in its lane 64. -/
noncomputable def arr (K : FVec Ideal S16384x1024 .bf16) (z : ℕ → ℕ → ℕ → ℝ) : FVec Ideal S16384x1024 .bf16 :=
  fun i => (K i : EReal) + (if (i 1).val % 128 = 64 then ((-(∑ k ∈ Finset.range ((i 0).val % 4096 + 1), lsig2 (z ((i 0).val / 4096) ((i 1).val / 128) k)) : ℝ) : EReal) else 0)

section Arrays
variable (V : (c : Dev nD) → (b : Ref sig .tc) → Buf (Elt Ideal) ((c : Thread nD τ).loc b)) (c : Dev nD) (t : Fin cfg1.N)

theorem blk0 (s : Fin 4096) (l : Fin 128) (b : Fin 4) (hb : b.val = t.val) :
    (iblk1 V c 0 t : FVec Ideal S1x4096x128 .f32) (ix3 (0 : Fin 1) s l) = (V c main_v50 : FVec Ideal S4x4096x128 .f32) (ix3 b s l) := by
  blk_ext [iblk1, idx t]
theorem blk1 (l : Fin 128) :
    (iblk1 V c 1 t : FVec Ideal S1x128 .f32) (ix2 (0 : Fin 1) l) = (V c main_v49 : FVec Ideal S1x128 .f32) (ix2 (0 : Fin 1) l) := by
  blk_ext [iblk1, idx t]
theorem blk2 (s : Fin 4096) (l : Fin 1024) (n : Fin 16384) (hn : n.val = 4096 * t.val + s.val) :
    (iblk1 V c 2 t : FVec Ideal S4096x1024 .bf16) (ix2 s l) = (V c main_v46_4 : FVec Ideal S16384x1024 .bf16) (ix2 n l) := by
  blk_ext [iblk1, idx t]
theorem blk3 (p : Fin 3) (l : Fin 128) (k : Fin 1024) :
    (iblk1 V c 3 t : FVec Ideal S3x128x1024 .bf16) (ix3 p l k) = (V c main_v10 : FVec Ideal S3x128x1024 .bf16) (ix3 p l k) := by
  blk_ext [iblk1, idx t]

variable (L : FVec Ideal S4x4096x128 .f32) (B : FVec Ideal S1x128 .f32) (P : FVec Ideal S3x128x1024 .bf16) (K : FVec Ideal S16384x1024 .bf16)
  (hL : (V c main_v50 : FVec Ideal S4x4096x128 .f32) = L) (hB : (V c main_v49 : FVec Ideal S1x128 .f32) = B) (hP : (V c main_v10 : FVec Ideal S3x128x1024 .bf16) = P)
  (hK : (V c main_v46_4 : FVec Ideal S16384x1024 .bf16) = K)
  (z : ℕ → ℕ → ℕ → ℝ)
  (hz : ∀ (b : Fin 4) (s : Fin 4096) (h : Fin 8), (L (ix3 b s (gateLane h)) + B (ix2 (0 : Fin 1) (gateLane h)) : EReal) = (z b.val h.val s.val : EReal))
  (hp : ∀ (p : Fin 3) (l : Fin 128) (k : Fin 1024), (P (ix3 p l k) : EReal) = if l.val < 8 ∧ k.val = 128 * l.val + 64 + p.val then 1 else 0)

include hz hp in
omit V c t in
theorem core (t : ℕ) (ht : t < 4) (x0 : Vec Ideal S1x4096x128 .f32) (x1 : Vec Ideal S1x128 .f32) (x2 : Vec Ideal S4096x1024 .bf16) (x3 : Vec Ideal S3x128x1024 .bf16)
    (e0 : ∀ s l, x0 (ix3 (0 : Fin 1) s l) = L (ix3 (⟨t, ht⟩ : Fin 4) s l)) (e1 : ∀ l, x1 (ix2 (0 : Fin 1) l) = B (ix2 (0 : Fin 1) l))
    (e3 : ∀ p l k, x3 (ix3 p l k) = P (ix3 p l k)) (u0 : Fin 4096) (u1 : Fin 1024) (i0 : Fin 16384) (h0 : i0.val = 4096 * t + u0.val)
    (e2 : x2 (ix2 u0 u1) = K (ix2 i0 u1)) :
    (out1_4 x0 x1 x2 x3 (ix2 u0 u1) : EReal) = arr K z (ix2 i0 u1) := by
  have hl : u1 = padLane (⟨u1.val / 128, by omega⟩ : Fin 8) (⟨u1.val % 128, by omega⟩ : Fin 128) := Fin.ext (by show u1.val = 128 * (u1.val / 128) + u1.val % 128; omega)
  have key := out_at x0 x1 x2 x3 (fun h s => z t h.val s) (fun s h => by rw [e0, e1]; exact hz (⟨t, ht⟩ : Fin 4) s h)
    (fun p l k => by rw [e3]; exact hp p l k) u0 (⟨u1.val / 128, by omega⟩ : Fin 8) (⟨u1.val % 128, by omega⟩ : Fin 128)
  refine (congrArg (fun n => (out1_4 x0 x1 x2 x3 (ix2 u0 n) : EReal)) hl).trans (key.trans ?_)
  refine congrArg₂ (fun a b : EReal => a + b) ((congrArg (fun n => (x2 (ix2 u0 n) : EReal)) hl.symm).trans e2) ?_
  have q0 : i0.val / 4096 = t := by omega
  have q1 : i0.val % 4096 = u0.val := by omega
  show _ = if u1.val % 128 = 64 then ((-(∑ k ∈ Finset.range (i0.val % 4096 + 1), lsig2 (z (i0.val / 4096) (u1.val / 128) k)) : ℝ) : EReal) else 0
  rw [q0, q1]

include hL hB hP hK hz hp

theorem point (y : S4096x1024.Idx) (i : S16384x1024.Idx) (h0 : (i 0).val = 4096 * t.val + (y 0).val) (h1 : (i 1).val = (y 1).val) :
    (out1_4 (iblk1 V c 0 t) (iblk1 V c 1 t) (iblk1 V c 2 t) (iblk1 V c 3 t) y : EReal) = arr K z i := by
  obtain ⟨u0, u1, rfl⟩ : ∃ (u0 : Fin 4096) (u1 : Fin 1024), y = ix2 u0 u1 := ⟨y 0, y 1, by funext a; fin_cases a <;> rfl⟩
  obtain ⟨i0, i1, rfl⟩ : ∃ (i0 : Fin 16384) (i1 : Fin 1024), i = ix2 i0 i1 := ⟨i 0, i 1, by funext a; fin_cases a <;> rfl⟩
  have e0 : i0.val = 4096 * t.val + u0.val := h0
  have e1 : i1 = u1 := Fin.ext h1
  subst e1
  exact core L B P K z hz hp t.val (idx t).2.2.2.2.2 _ _ _ _ (fun s l => (blk0 V c t s l _ rfl).trans (congrFun hL _)) (fun l => (blk1 V c t l).trans (congrFun hB _))
    (fun p l k => (blk3 V c t p l k).trans (congrFun hP _)) u0 i1 i0 e0 ((blk2 V c t u0 i1 i0 e0).trans (congrFun hK _))

theorem final : (dat1 V c).arrAt 4 cfg1.N = arr K z := by
  refine (dat1 V c).arrAt_eq_of_covers 4 _ (by decide +kernel) fun t _ y => ?_
  rw [after1_4]
  blk_simp
  exact point V c t L B P K hL hB hP hK z hz hp y _ (by blk_simp [idx t]; try omega) (by blk_simp [idx t]; try omega)

end Arrays
end Cert.KernelIdeal.Kf
end
-- ==== Proof.FoxInv.lean ====
module

public import proofs.«01_k».proof.Proof.FoxMask

/-!
The running sums after the full blocks of keys and after the two blocks on the diagonal.
-/

@[expose] public section
set_option maxRecDepth 16384
set_option maxHeartbeats 4000000
namespace Cert.KernelIdeal.Fox

open Idealize.ShloMosaic Idealize.ShloMosaic.TcCoe Idealize.ShloMosaic.Tactic
open Cert.KernelIdeal.Gen Cert.KernelIdeal.Run

variable (c : Dev nD) (i : grid2.Coords) (arg2 : Memref sig .tc .vmem S8x128x512 .bf16) (harg2 : arg2.IsWhole) (arg3 : Memref sig .tc .vmem S4096x1024 .bf16) (harg3 : arg3.IsWhole) (arg4 : Memref sig .tc .vmem S16x512x256 .bf16) (harg4 : arg4.IsWhole) (arg5 : Memref sig .tc .vmem S512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole)
    (x0 : Vec Ideal S8x128x512 .bf16) (x1 : Vec Ideal S4096x1024 .bf16) (x2 : Vec Ideal S16x512x256 .bf16)
    (σ : Fin 8 → Fin 512 → ℕ → ℝ) (v : Fin 8 → Fin 64 → ℕ → ℝ)
    (hσ : ∀ h (k : Fin 4096) (q : Fin 512), (∑ r : Fin 128, (x1 (ix2 k (padLane h r)) : EReal) * x0 (ix3 h r q)) = (σ h q k.val : EReal))
    (hv : ∀ h d (b : Fin 16) (k : Fin 256), (x2 (ix3 b (lane h d) k) : EReal) = (v h d (256 * b.val + k.val) : EReal))

include hσ hv

theorem trips_inv (k : ℕ) (hk : k ≤ 2 * (i 1).val) : Inv σ v (512 * (i 1).val) (256 * k) (tripSt c i arg2 harg2 arg3 harg3 arg4 harg4 arg5 harg5 arg6 harg6 arg7 harg7 arg8 harg8 x0 x1 x2 k) := by
  have hn : (i 1).val < 8 := (i 1).isLt
  induction k with
  | zero => exact fun h d q => .inl ⟨rfl, fill_M h q, fill_L h q, fill_A (lane h d) q⟩
  | succ k ih =>
    have hk' : k < (k2_t1_loop i).trips := by rw [trips_eq]; omega
    have hB := tripSt_step c i arg2 harg2 arg3 harg3 arg4 harg4 arg5 harg5 arg6 harg6 arg7 harg7 arg8 harg8 x0 x1 x2 ⟨k, hk'⟩ (by show k < 16; omega)
    rw [show 256 * (k + 1) = 256 * k + 256 by ring]
    refine inv_step (by omega) (ih (by omega)) hB (fun h k' q => ?_) (fun h d k' => ?_)
    · show scores _ _ (ix2 k' q) = _
      rw [scores_apply]
      simp only [loopK_at, headQ_at]
      rw [hσ h _ q, Flash.masked, if_pos (by omega)]
    · rw [loopV_at, hv]

theorem end_inv : Inv σ v (512 * (i 1).val) (512 * (i 1).val + 256 + 256) (diagB c i arg2 harg2 arg3 harg3 arg4 harg4 arg5 harg5 arg6 harg6 arg7 harg7 arg8 harg8 x0 x1 x2 8) := by
  have hn : (i 1).val < 8 := (i 1).isLt
  have h0 := trips_inv c i arg2 harg2 arg3 harg3 arg4 harg4 arg5 harg5 arg6 harg6 arg7 harg7 arg8 harg8 x0 x1 x2 σ v hσ hv _ (le_refl _)
  rw [← loopSt'_eq, show 256 * (2 * (i 1).val) = 512 * (i 1).val by ring] at h0
  have h1 := inv_step (.inl (le_refl _)) h0 (diagA_block c i arg2 harg2 arg3 harg3 arg4 harg4 arg5 harg5 arg6 harg6 arg7 harg7 arg8 harg8 x0 x1 x2)
    (fun h k q => by
      refine (hidden_at (i 1) 0 _ k q (σ h q) ?_).trans ?_
      · exact ((scores_apply _ _ k q).trans (Finset.sum_congr rfl fun r _ =>
          congrArg₂ (· * ·) (diagK_at arg3 harg3 x1 (i 1) 0 h k r) (headQ_at arg2 harg2 x0 h r q))).trans (hσ h _ q)
      · rfl)
    (fun h d k => (diagV_at arg4 harg4 x2 (i 1) 0 h d k).trans ((hv h d _ k).trans (by
      show (v h d (256 * (2 * (i 1).val + 0) + k.val) : EReal) = _
      rw [show 256 * (2 * (i 1).val + 0) + k.val = 512 * (i 1).val + 0 + k.val by ring]; rfl)))
  exact inv_step (.inr (by omega)) h1 (diagB_block c i arg2 harg2 arg3 harg3 arg4 harg4 arg5 harg5 arg6 harg6 arg7 harg7 arg8 harg8 x0 x1 x2)
    (fun h k q => by
      refine (hidden_at (i 1) 1 _ k q (σ h q) ?_).trans ?_
      · exact ((scores_apply _ _ k q).trans (Finset.sum_congr rfl fun r _ =>
          congrArg₂ (· * ·) (diagK_at arg3 harg3 x1 (i 1) 1 h k r) (headQ_at arg2 harg2 x0 h r q))).trans (hσ h _ q)
      · rfl)
    (fun h d k => (diagV_at arg4 harg4 x2 (i 1) 1 h d k).trans ((hv h d _ k).trans (by
      show (v h d (256 * (2 * (i 1).val + 1) + k.val) : EReal) = _
      rw [show 256 * (2 * (i 1).val + 1) + k.val = 512 * (i 1).val + 256 + k.val by ring])))

end Cert.KernelIdeal.Fox
end
-- ==== Proof.FoxConcat.lean ====
module

public import proofs.«01_k».proof.Proof.FoxLoop

/-!
The last division of the attention call at an index.
-/

@[expose] public section
set_option maxRecDepth 16384
set_option maxHeartbeats 4000000
namespace Cert.KernelIdeal.Fox

open Idealize.ShloMosaic Idealize.ShloMosaic.TcCoe Idealize.ShloMosaic.Tactic
open Cert.KernelIdeal.Gen Cert.KernelIdeal.Run

theorem out_at (B : Fin 8 → Vec Ideal S64x512 .f32) (l : Fin 8 → Vec Ideal S1x512 .f32) (h : Fin 8) (d : Fin 64) (q : Fin 512) :
    k2_pay289 (k2_pay288 (B 0) (l 0)) (B 1) (l 1) (B 2) (l 2) (B 3) (l 3) (B 4) (l 4) (B 5) (l 5) (B 6) (l 6) (B 7) (l 7) (ix2 q (lane h d))
      = Ideal.div (B h (ix2 d q)) (l h (ix2 (0 : Fin 1) q)) := by
  fin_cases h <;>
  · pointwise [k2_pay288, k2_pay289, lane]
    repeat' first | rw [dif_neg (by omega)] | rw [dif_pos (by omega)]
    all_goals
      refine congrArg (fun y : Fin 64 => Ideal.div (B _ (ix2 y q)) _) (Fin.ext ?_)
      simp only []
      omega

end Cert.KernelIdeal.Fox
end
-- ==== Proof.FoxOut.lean ====
module

public import proofs.«01_k».proof.Proof.FoxInv
public import proofs.«01_k».proof.Proof.FoxConcat

/-!
What the attention call writes at an index, from the scores and values as real numbers.
-/

@[expose] public section
set_option maxRecDepth 16384
set_option maxHeartbeats 4000000
namespace Cert.KernelIdeal.Fox

open Idealize.ShloMosaic Idealize.ShloMosaic.TcCoe Idealize.ShloMosaic.Tactic
open Cert.KernelIdeal.Gen Cert.KernelIdeal.Run

variable (c : Dev nD) (i : grid2.Coords) (arg2 : Memref sig .tc .vmem S8x128x512 .bf16) (harg2 : arg2.IsWhole) (arg3 : Memref sig .tc .vmem S4096x1024 .bf16) (harg3 : arg3.IsWhole) (arg4 : Memref sig .tc .vmem S16x512x256 .bf16) (harg4 : arg4.IsWhole) (arg5 : Memref sig .tc .vmem S512x512 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x512 .f32) (harg8 : arg8.IsWhole)

/-- The one store of the attention call. -/
theorem out_pieces {F : FTy → Type} [FloatOps F] [Named F] [∀ f, Nonempty (F f)]
    (x0 : Vec F S8x128x512 .bf16) (x1 : Vec F S4096x1024 .bf16) (x2 : Vec F S16x512x256 .bf16) :
    View.canon (kernelRun2_A c i arg2 harg2 arg3 harg3 arg4 harg4 arg5 harg5 arg6 harg6 arg7 harg7 arg8 harg8 x0 x1 x2).1
      = k2_pay289 (k2_pay288 (arg8.view.readCov (kernelRun2_A.sl.HS2_16 c i arg2 harg2 arg3 harg3 arg4 harg4 arg5 harg5 arg6 harg6 arg7 harg7 arg8 harg8 x0 x1 x2) (bandR 0).toLoadRect) (arg7.view.readCov (kernelRun2_A.sl.HS1_16 c i arg2 harg2 arg3 harg3 arg4 harg4 arg5 harg5 arg6 harg6 arg7 harg7 arg8 harg8 x0 x1 x2) (rowR 0).toLoadRect))
        (arg8.view.readCov (kernelRun2_A.sl.HS2_16 c i arg2 harg2 arg3 harg3 arg4 harg4 arg5 harg5 arg6 harg6 arg7 harg7 arg8 harg8 x0 x1 x2) (bandR 1).toLoadRect) (arg7.view.readCov (kernelRun2_A.sl.HS1_16 c i arg2 harg2 arg3 harg3 arg4 harg4 arg5 harg5 arg6 harg6 arg7 harg7 arg8 harg8 x0 x1 x2) (rowR 1).toLoadRect)
        (arg8.view.readCov (kernelRun2_A.sl.HS2_16 c i arg2 harg2 arg3 harg3 arg4 harg4 arg5 harg5 arg6 harg6 arg7 harg7 arg8 harg8 x0 x1 x2) (bandR 2).toLoadRect) (arg7.view.readCov (kernelRun2_A.sl.HS1_16 c i arg2 harg2 arg3 harg3 arg4 harg4 arg5 harg5 arg6 harg6 arg7 harg7 arg8 harg8 x0 x1 x2) (rowR 2).toLoadRect)
        (arg8.view.readCov (kernelRun2_A.sl.HS2_16 c i arg2 harg2 arg3 harg3 arg4 harg4 arg5 harg5 arg6 harg6 arg7 harg7 arg8 harg8 x0 x1 x2) (bandR 3).toLoadRect) (arg7.view.readCov (kernelRun2_A.sl.HS1_16 c i arg2 harg2 arg3 harg3 arg4 harg4 arg5 harg5 arg6 harg6 arg7 harg7 arg8 harg8 x0 x1 x2) (rowR 3).toLoadRect)
        (arg8.view.readCov (kernelRun2_A.sl.HS2_16 c i arg2 harg2 arg3 harg3 arg4 harg4 arg5 harg5 arg6 harg6 arg7 harg7 arg8 harg8 x0 x1 x2) (bandR 4).toLoadRect) (arg7.view.readCov (kernelRun2_A.sl.HS1_16 c i arg2 harg2 arg3 harg3 arg4 harg4 arg5 harg5 arg6 harg6 arg7 harg7 arg8 harg8 x0 x1 x2) (rowR 4).toLoadRect)
        (arg8.view.readCov (kernelRun2_A.sl.HS2_16 c i arg2 harg2 arg3 harg3 arg4 harg4 arg5 harg5 arg6 harg6 arg7 harg7 arg8 harg8 x0 x1 x2) (bandR 5).toLoadRect) (arg7.view.readCov (kernelRun2_A.sl.HS1_16 c i arg2 harg2 arg3 harg3 arg4 harg4 arg5 harg5 arg6 harg6 arg7 harg7 arg8 harg8 x0 x1 x2) (rowR 5).toLoadRect)
        (arg8.view.readCov (kernelRun2_A.sl.HS2_16 c i arg2 harg2 arg3 harg3 arg4 harg4 arg5 harg5 arg6 harg6 arg7 harg7 arg8 harg8 x0 x1 x2) (bandR 6).toLoadRect) (arg7.view.readCov (kernelRun2_A.sl.HS1_16 c i arg2 harg2 arg3 harg3 arg4 harg4 arg5 harg5 arg6 harg6 arg7 harg7 arg8 harg8 x0 x1 x2) (rowR 6).toLoadRect)
        (arg8.view.readCov (kernelRun2_A.sl.HS2_16 c i arg2 harg2 arg3 harg3 arg4 harg4 arg5 harg5 arg6 harg6 arg7 harg7 arg8 harg8 x0 x1 x2) (bandR 7).toLoadRect) (arg7.view.readCov (kernelRun2_A.sl.HS1_16 c i arg2 harg2 arg3 harg3 arg4 harg4 arg5 harg5 arg6 harg6 arg7 harg7 arg8 harg8 x0 x1 x2) (rowR 7).toLoadRect)
      := by
  unfold kernelRun2_A
  dsimp only
  rw [View.canon_cons_unit_zero (S := S512x512) (funext fun a => by fin_cases a <;> rfl)]
  rfl

variable (x0 : Vec Ideal S8x128x512 .bf16) (x1 : Vec Ideal S4096x1024 .bf16) (x2 : Vec Ideal S16x512x256 .bf16)
    (σ : Fin 8 → Fin 512 → ℕ → ℝ) (v : Fin 8 → Fin 64 → ℕ → ℝ)
    (hσ : ∀ h (k : Fin 4096) (q : Fin 512), (∑ r : Fin 128, (x1 (ix2 k (padLane h r)) : EReal) * x0 (ix3 h r q)) = (σ h q k.val : EReal))
    (hv : ∀ h d (b : Fin 16) (k : Fin 256), (x2 (ix3 b (lane h d) k) : EReal) = (v h d (256 * b.val + k.val) : EReal))

include hσ hv

/-- What the attention call writes: the softmax average over the keys up to the query. -/
theorem fox_out (τ : Fin 8 → Fin 512 → ℕ → ℝ) (hτ : ∀ h q k, τ h q k = Real.log 2 * σ h q k) (h : Fin 8) (d : Fin 64) (q : Fin 512) :
    View.canon (kernelRun2_A c i arg2 harg2 arg3 harg3 arg4 harg4 arg5 harg5 arg6 harg6 arg7 harg7 arg8 harg8 x0 x1 x2).1 (ix2 q (lane h d)) = (Flash.avg (τ h q) (v h d) (512 * (i 1).val + q.val) : EReal) := by
  have hI := end_inv c i arg2 harg2 arg3 harg3 arg4 harg4 arg5 harg5 arg6 harg6 arg7 harg7 arg8 harg8 x0 x1 x2 σ v hσ hv h d q
  have he := diagB_end c i arg2 harg2 arg3 harg3 arg4 harg4 arg5 harg5 arg6 harg6 arg7 harg7 arg8 harg8 x0 x1 x2
  have hL : kernelRun2_A.sl.HS1_16 c i arg2 harg2 arg3 harg3 arg4 harg4 arg5 harg5 arg6 harg6 arg7 harg7 arg8 harg8 x0 x1 x2 = (diagB c i arg2 harg2 arg3 harg3 arg4 harg4 arg5 harg5 arg6 harg6 arg7 harg7 arg8 harg8 x0 x1 x2 8).2.1 := congrArg Prod.fst he
  have hA : kernelRun2_A.sl.HS2_16 c i arg2 harg2 arg3 harg3 arg4 harg4 arg5 harg5 arg6 harg6 arg7 harg7 arg8 harg8 x0 x1 x2 = (diagB c i arg2 harg2 arg3 harg3 arg4 harg4 arg5 harg5 arg6 harg6 arg7 harg7 arg8 harg8 x0 x1 x2 8).2.2 := congrArg Prod.snd he
  rw [out_pieces, hL, hA, out_at (fun h => arg8.view.readCov (diagB c i arg2 harg2 arg3 harg3 arg4 harg4 arg5 harg5 arg6 harg6 arg7 harg7 arg8 harg8 x0 x1 x2 8).2.2 (bandR h).toLoadRect) (fun h => arg7.view.readCov (diagB c i arg2 harg2 arg3 harg3 arg4 harg4 arg5 harg5 arg6 harg6 arg7 harg7 arg8 harg8 x0 x1 x2 8).2.1 (rowR h).toLoadRect),
    readCov_band, readCov_row]
  exact Flash.seen_div (by omega) hI (hτ h q)

end Cert.KernelIdeal.Fox
end
-- ==== Proof.FoxArr.lean ====
module

public import proofs.«01_k».proof.Proof.FoxOut
public import Idealize.ShloMosaic.Lib.Pipeline.ValueKit

/-!
The array of the attention call at an index: a query's average of the values.
-/

@[expose] public section
set_option maxHeartbeats 2000000
set_option maxRecDepth 16384
namespace Cert.KernelIdeal.Fox

open Idealize.ShloMosaic Idealize.ShloMosaic.TcCoe Idealize.ShloMosaic.Tactic
open Idealize.ShloMosaic.Pipeline (Dat Cfg Window)
open Cert.KernelIdeal Cert.KernelIdeal.Gen Cert.KernelIdeal.Run

theorem idx : ∀ t : Fin cfg2.N, win2_0.index t = ![0, 0, t.val] ∧ win2_1.index t = ![t.val / 8, 0] ∧ win2_2.index t = ![t.val / 8, 0, 0] ∧ win2_3.index t = ![t.val, 0]
    ∧ (grid2.coords t 1).val = t.val % 8 ∧ t.val < 32 :=
  (by decide +kernel : ∀ t : Fin grid2.N, _)

/-- The averages. -/
noncomputable def arr (σ v : ℕ → ℕ → ℕ → ℕ → ℝ) : FVec Ideal S16384x512 .bf16 :=
  fun i => (Flash.avg (fun k => Real.log 2 * σ ((i 0).val / 4096) ((i 1).val / 64) ((i 0).val % 4096) k) (v ((i 0).val / 4096) ((i 1).val / 64) ((i 1).val % 64)) ((i 0).val % 4096) : EReal)

section Arrays
variable (V : (c : Dev nD) → (b : Ref sig .tc) → Buf (Elt Ideal) ((c : Thread nD τ).loc b)) (c : Dev nD) (t : Fin cfg2.N)

theorem blk0 (h : Fin 8) (r : Fin 128) (q : Fin 512) (n : Fin 16384) (hn : n.val = 512 * t.val + q.val) :
    (iblk2 V c 0 t : FVec Ideal S8x128x512 .bf16) (ix3 h r q) = (V c main_v46_3 : FVec Ideal S8x128x16384 .bf16) (ix3 h r n) := by
  blk_ext [iblk2, idx t]
theorem blk1 (k : Fin 4096) (l : Fin 1024) (n : Fin 16384) (hn : n.val = 4096 * (t.val / 8) + k.val) :
    (iblk2 V c 1 t : FVec Ideal S4096x1024 .bf16) (ix2 k l) = (V c main_v51 : FVec Ideal S16384x1024 .bf16) (ix2 n l) := by
  blk_ext [iblk2, idx t]
theorem blk2 (b : Fin 16) (l : Fin 512) (k : Fin 256) (n : Fin 64) (hn : n.val = 16 * (t.val / 8) + b.val) :
    (iblk2 V c 2 t : FVec Ideal S16x512x256 .bf16) (ix3 b l k) = (V c main_v46_5 : FVec Ideal S64x512x256 .bf16) (ix3 n l k) := by
  blk_ext [iblk2, idx t]

variable (K : FVec Ideal S16384x1024 .bf16) (Q : FVec Ideal S8x128x16384 .bf16) (U : FVec Ideal S64x512x256 .bf16)
  (hK : (V c main_v51 : FVec Ideal S16384x1024 .bf16) = K) (hQ : (V c main_v46_3 : FVec Ideal S8x128x16384 .bf16) = Q) (hU : (V c main_v46_5 : FVec Ideal S64x512x256 .bf16) = U)
  (σ v : ℕ → ℕ → ℕ → ℕ → ℝ)
  (hσ : ∀ (b : Fin 4) (h : Fin 8) (k q : Fin 4096), (∑ r : Fin 128, K (ix2 (⟨4096 * b.val + k.val, by omega⟩ : Fin 16384) (padLane h r))
    * Q (ix3 h r (⟨4096 * b.val + q.val, by omega⟩ : Fin 16384)) : EReal) = (σ b.val h.val q.val k.val : EReal))
  (hv : ∀ (b : Fin 4) (h : Fin 8) (d : Fin 64) (n : Fin 16) (k : Fin 256), (U (ix3 (⟨16 * b.val + n.val, by omega⟩ : Fin 64) (lane h d) k) : EReal)
    = (v b.val h.val d.val (256 * n.val + k.val) : EReal))
include hK hQ hU hσ hv

theorem point (y : S512x512.Idx) (i : S16384x512.Idx) (h0 : (i 0).val = 512 * t.val + (y 0).val) (h1 : (i 1).val = (y 1).val) :
    (outsAt2 V c t y : EReal) = arr σ v i := by
  obtain ⟨u0, u1, rfl⟩ : ∃ (u0 : Fin 512) (u1 : Fin 512), y = ix2 u0 u1 := ⟨y 0, y 1, by funext a; fin_cases a <;> rfl⟩
  obtain ⟨i0, i1, rfl⟩ : ∃ (i0 : Fin 16384) (i1 : Fin 512), i = ix2 i0 i1 := ⟨i 0, i 1, by funext a; fin_cases a <;> rfl⟩
  have e0 : i0.val = 512 * t.val + u0.val := h0
  have e1 : i1 = u1 := Fin.ext h1
  subst e1
  obtain ⟨_, _, _, _, hc, ht⟩ := idx t
  have hl : i1 = lane (⟨i1.val / 64, by omega⟩ : Fin 8) (⟨i1.val % 64, by omega⟩ : Fin 64) := Fin.ext (by show i1.val = 64 * (i1.val / 64) + i1.val % 64; omega)
  have key := fox_out c (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _)
    (iblk2 V c 0 t) (iblk2 V c 1 t) (iblk2 V c 2 t)
    (fun h q k => σ (t.val / 8) h.val (512 * (t.val % 8) + q.val) k) (fun h d k => v (t.val / 8) h.val d.val k)
    (fun h k q => (Finset.sum_congr rfl fun r _ => congrArg₂ (fun a b : EReal => a * b)
        (blk1 V c t k (padLane h r) (⟨4096 * (t.val / 8) + k.val, by omega⟩ : Fin 16384) rfl |>.trans (congrFun hK _))
        (blk0 V c t h r q (⟨4096 * (t.val / 8) + (512 * (t.val % 8) + q.val), by omega⟩ : Fin 16384) (by show 4096 * (t.val / 8) + (512 * (t.val % 8) + q.val) = 512 * t.val + q.val; omega) |>.trans (congrFun hQ _))).trans
      (hσ (⟨t.val / 8, by omega⟩ : Fin 4) h k (⟨512 * (t.val % 8) + q.val, by omega⟩ : Fin 4096)))
    (fun h d b k => (blk2 V c t b (lane h d) k (⟨16 * (t.val / 8) + b.val, by omega⟩ : Fin 64) rfl).trans ((congrFun hU _).trans (hv (⟨t.val / 8, by omega⟩ : Fin 4) h d b k)))
    (fun h q k => Real.log 2 * σ (t.val / 8) h.val (512 * (t.val % 8) + q.val) k) (fun _ _ _ => rfl)
    (⟨i1.val / 64, by omega⟩ : Fin 8) (⟨i1.val % 64, by omega⟩ : Fin 64) u0
  rw [← hl] at key
  have q0 : i0.val / 4096 = t.val / 8 := by omega
  have q1 : i0.val % 4096 = 512 * (t.val % 8) + u0.val := by omega
  unfold outsAt2 out2_A_3
  rw [View.read_writes_junk_eq_canon]
  refine key.trans ?_
  show ((Flash.avg _ _ (512 * (grid2.coords t 1).val + u0.val) : ℝ) : EReal) = ((Flash.avg (fun k => Real.log 2 * σ (i0.val / 4096) (i1.val / 64) (i0.val % 4096) k) (v (i0.val / 4096) (i1.val / 64) (i1.val % 64)) (i0.val % 4096) : ℝ) : EReal)
  rw [q0, q1, hc]

theorem final : (dat2 V c).arrAt 3 cfg2.N = arr σ v := by
  refine (dat2 V c).arrAt_eq_of_covers 3 _ (by decide +kernel) fun t _ y => ?_
  rw [after2_3]
  blk_simp
  exact point V c t K Q U hK hQ hU σ v hσ hv y _ (by blk_simp [idx t]; try omega) (by blk_simp [idx t]; try omega)

end Arrays

/-- The array of the attention call, the scores and the values named at rows of the whole arrays. -/
theorem result (V : (c : Dev nD) → (b : Ref sig .tc) → Buf (Elt Ideal) ((c : Thread nD τ).loc b)) (c : Dev nD)
    (K : FVec Ideal S16384x1024 .bf16) (Q : FVec Ideal S8x128x16384 .bf16) (U : FVec Ideal S64x512x256 .bf16)
    (hK : (V c main_v51 : FVec Ideal S16384x1024 .bf16) = K) (hQ : (V c main_v46_3 : FVec Ideal S8x128x16384 .bf16) = Q) (hU : (V c main_v46_5 : FVec Ideal S64x512x256 .bf16) = U)
    (σ v : ℕ → ℕ → ℕ → ℕ → ℝ)
    (hσ : ∀ (b : Fin 4) (h : Fin 8) (k q : Fin 4096) (i j : Fin 16384), i.val = 4096 * b.val + k.val → j.val = 4096 * b.val + q.val →
      (∑ r : Fin 128, K (ix2 i (padLane h r)) * Q (ix3 h r j) : EReal) = (σ b.val h.val q.val k.val : EReal))
    (hv : ∀ (b : Fin 4) (h : Fin 8) (d : Fin 64) (n : Fin 16) (k : Fin 256) (i : Fin 64), i.val = 16 * b.val + n.val →
      (U (ix3 i (lane h d) k) : EReal) = (v b.val h.val d.val (256 * n.val + k.val) : EReal)) :
    (dat2 V c).arrAt 3 cfg2.N = arr σ v :=
  final V c K Q U hK hQ hU σ v (fun b h k q => hσ b h k q _ _ rfl rfl) (fun b h d n k => hv b h d n k _ rfl)

end Cert.KernelIdeal.Fox
end
-- ==== Proof.HostRead.lean ====
module

public import proofs.«01_k».proof.Proof.Host
public import proofs.«01_k».proof.Proof.IRun
public import Idealize.ShloMosaic.Lib.StableHlo.RunRead

/-!
The arrays the calls read, over the arguments.
-/

@[expose] public section
set_option maxHeartbeats 4000000
set_option maxRecDepth 16384
namespace Cert.KernelIdeal.Host

open Idealize.ShloMosaic Idealize.ShloMosaic.TcCoe Idealize.ShloMosaic.Tactic
open Cert.KernelIdeal Cert.KernelIdeal.Gen Cert.KernelIdeal.Run

section Reads
variable (m : (ℓ : Loc nD τ sig) → Buf (Elt Ideal) ℓ) (ρ : Dev nD → PrngReg) (c : Dev nD)

theorem v11 : (V11 m ρ c main_v11 : FVec Ideal S16384x1024 .f32) = shapeCast S16384x1024 (m ((c.tc : Thread nD τ).loc main_arg0) : FVec Ideal S4x4096x1024 .f32) shapeCasts_S4x4096x1024_S16384x1024 := by
  show W11 m ρ c (Proc.devRef .tc main_v11) = _
  after_reads_simp
  rfl
theorem v12 : (V11 m ρ c main_v12 : FVec Ideal S4x1x1024 .f32) = shapeCast S4x1x1024 (m ((c.tc : Thread nD τ).loc main_arg1) : FVec Ideal S4x1024 .f32) shapeCasts_S4x1024_S4x1x1024 := by
  show W11 m ρ c (Proc.devRef .tc main_v12) = _
  after_reads_simp
  rfl
theorem v13 : (V11 m ρ c main_v13 : FVec Ideal S4x1x1024 .f32) = shapeCast S4x1x1024 (m ((c.tc : Thread nD τ).loc main_arg2) : FVec Ideal S4x1024 .f32) shapeCasts_S4x1024_S4x1x1024 := by
  show W11 m ρ c (Proc.devRef .tc main_v13) = _
  after_reads_simp
  rfl
theorem v45 : (V11 m ρ c main_v45 : FVec Ideal S1x1024 .f32) = shapeCast S1x1024 (shapeCast S1024 (m ((c.tc : Thread nD τ).loc main_arg3) : FVec Ideal S1x1024 .f32) shapeCasts_S1x1024_S1024) shapeCasts_S1024_S1x1024 := by
  show W11 m ρ c (Proc.devRef .tc main_v45) = _
  after_reads_simp
  rfl
theorem v31 : (V11 m ρ c main_v31 : FVec Ideal S1024x1024 .bf16) = wq (m ((c.tc : Thread nD τ).loc main_arg4)) := by
  show W11 m ρ c (Proc.devRef .tc main_v31) = _
  after_reads_simp
  rfl
theorem v36 : (V11 m ρ c main_v36 : FVec Ideal S1024x1024 .bf16) = wk (m ((c.tc : Thread nD τ).loc main_arg4)) := by
  show W11 m ρ c (Proc.devRef .tc main_v36) = _
  after_reads_simp
  rfl
theorem v39 : (V11 m ρ c main_v39 : FVec Ideal S512x1024 .bf16) = wv (m ((c.tc : Thread nD τ).loc main_arg4)) := by
  show W11 m ρ c (Proc.devRef .tc main_v39) = _
  after_reads_simp
  rfl
theorem v41 : (V11 m ρ c main_v41 : FVec Ideal S1024x128 .f32) = wf (m ((c.tc : Thread nD τ).loc main_arg4)) := by
  show W11 m ρ c (Proc.devRef .tc main_v41) = _
  after_reads_simp
  rfl
theorem v43 : (V11 m ρ c main_v43 : FVec Ideal S1024x2048 .bf16) = wg (m ((c.tc : Thread nD τ).loc main_arg4)) := by
  show W11 m ρ c (Proc.devRef .tc main_v43) = _
  after_reads_simp
  rfl
theorem v10' : (W11 m ρ c (Proc.devRef .tc main_v10) : FVec Ideal S3x128x1024 .bf16) = place := by
  after_reads_simp
  rfl
theorem v10 : (V15 m ρ c main_v10 : FVec Ideal S3x128x1024 .bf16) = place :=
  (W15_of m ρ c main_v10 (by decide +kernel)).trans ((W14_of m ρ c main_v10 (by decide +kernel)).trans ((W13_of m ρ c main_v10 (by decide +kernel)).trans
    ((W12_of m ρ c main_v10 (by decide +kernel)).trans (v10' m ρ c))))
theorem v49 : (V15 m ρ c main_v49 : FVec Ideal S1x128 .f32) = bpad (m ((c.tc : Thread nD τ).loc main_arg5)) := by
  have e : W12 m ρ c (Proc.devRef .tc main_arg5) = m ((c.tc : Thread nD τ).loc main_arg5) := W12_args m ρ c main_arg5 (by decide +kernel)
  rw [← e]
  show W15 m ρ c (Proc.devRef .tc main_v49) = _
  after_reads_simp
  rfl
theorem v50 : (V15 m ρ c main_v50 : FVec Ideal S4x4096x128 .f32) = shapeCast S4x4096x128 ((dat0 (V11 m ρ) c).arrAt 18 cfg0.N : FVec Ideal S16384x128 .f32) shapeCasts_S16384x128_S4x4096x128 := by
  have e : W12 m ρ c (Proc.devRef .tc main_v46_6) = (dat0 (V11 m ρ) c).arrAt 18 cfg0.N := W12_arr m ρ c 18
  rw [← e]
  show W15 m ρ c (Proc.devRef .tc main_v50) = _
  after_reads_simp
  rfl

/-- What the input projection call left and no later stretch writes. -/
theorem kept (r : Ref sig .tc) (h2 : r ∉ hostOps1_2_W) (h1 : r ∉ hostOps1_1_W) (h0 : r ∉ hostOps1_W) : V15 m ρ c r = W12 m ρ c (Proc.devRef .tc r) :=
  (W15_of m ρ c r h2).trans ((W14_of m ρ c r h1).trans (W13_of m ρ c r h0))

theorem v46_4 : (V15 m ρ c main_v46_4 : FVec Ideal S16384x1024 .bf16) = (dat0 (V11 m ρ) c).arrAt 16 cfg0.N :=
  (kept m ρ c main_v46_4 (by decide +kernel) (by decide +kernel) (by decide +kernel)).trans (W12_arr m ρ c 16)
theorem v46_3 : (V16 m ρ c main_v46_3 : FVec Ideal S8x128x16384 .bf16) = (dat0 (V11 m ρ) c).arrAt 15 cfg0.N :=
  (W16_of m ρ c main_v46_3 (by decide +kernel)).trans ((kept m ρ c main_v46_3 (by decide +kernel) (by decide +kernel) (by decide +kernel)).trans (W12_arr m ρ c 15))
theorem v46_5 : (V16 m ρ c main_v46_5 : FVec Ideal S64x512x256 .bf16) = (dat0 (V11 m ρ) c).arrAt 17 cfg0.N :=
  (W16_of m ρ c main_v46_5 (by decide +kernel)).trans ((kept m ρ c main_v46_5 (by decide +kernel) (by decide +kernel) (by decide +kernel)).trans (W12_arr m ρ c 17))
theorem v51 : (V16 m ρ c main_v51 : FVec Ideal S16384x1024 .bf16) = (dat1 (V15 m ρ) c).arrAt 4 cfg1.N := W16_arr m ρ c 4
theorem v52 : (W17 m ρ c (Proc.devRef .tc main_v52) : FVec Ideal S16384x512 .bf16) = (dat2 (V16 m ρ) c).arrAt 3 cfg2.N := W17_arr m ρ c 3
theorem v46_7 : (W17 m ρ c (Proc.devRef .tc main_v46_7) : FVec Ideal S16384x1024 .bf16) = (dat0 (V11 m ρ) c).arrAt 19 cfg0.N :=
  (W17_of m ρ c main_v46_7 (by decide +kernel)).trans ((W16_of m ρ c main_v46_7 (by decide +kernel)).trans
    ((kept m ρ c main_v46_7 (by decide +kernel) (by decide +kernel) (by decide +kernel)).trans (W12_arr m ρ c 19)))
theorem v46_8 : (W17 m ρ c (Proc.devRef .tc main_v46_8) : FVec Ideal S16384x1024 .bf16) = (dat0 (V11 m ρ) c).arrAt 20 cfg0.N :=
  (W17_of m ρ c main_v46_8 (by decide +kernel)).trans ((W16_of m ρ c main_v46_8 (by decide +kernel)).trans
    ((kept m ρ c main_v46_8 (by decide +kernel) (by decide +kernel) (by decide +kernel)).trans (W12_arr m ρ c 20)))

end Reads
end Cert.KernelIdeal.Host
end
-- ==== Proof.KerVal.lean ====
module

public import proofs.«01_k».proof.Proof.KerTok
public import proofs.«01_k».proof.Proof.KerSum
public import proofs.«01_k».proof.Proof.KfArr
public import proofs.«01_k».proof.Proof.FoxArr
public import proofs.«01_k».proof.Proof.HostRead

/-!
The kernel's three results over the arguments, the projection's columns being real.
-/

@[expose] public section
set_option maxHeartbeats 2000000
set_option maxRecDepth 16384
namespace Cert.KernelIdeal.Val

open Idealize.ShloMosaic Idealize.ShloMosaic.TcCoe
open Cert.KernelIdeal Cert.KernelIdeal.Gen Cert.KernelIdeal.Fox Cert.KernelIdeal.Run

section Values
variable (m : (ℓ : Loc nD τ sig) → Buf (Elt Ideal) ℓ) (ρ : Dev nD → PrngReg) (c : Dev nD)
  (X : FVec Ideal S4x4096x1024 .f32) (Sh Sc : FVec Ideal S4x1024 .f32) (G : FVec Ideal S1x1024 .f32) (W : FVec Ideal S1x1024x4360 .f32) (Bf : FVec Ideal S1x8 .f32)
  (hX : (m ((c.tc : Thread nD τ).loc main_arg0) : FVec Ideal S4x4096x1024 .f32) = X) (hSh : (m ((c.tc : Thread nD τ).loc main_arg1) : FVec Ideal S4x1024 .f32) = Sh)
  (hSc : (m ((c.tc : Thread nD τ).loc main_arg2) : FVec Ideal S4x1024 .f32) = Sc) (hG : (m ((c.tc : Thread nD τ).loc main_arg3) : FVec Ideal S1x1024 .f32) = G)
  (hW : (m ((c.tc : Thread nD τ).loc main_arg4) : FVec Ideal S1x1024x4360 .f32) = W) (hB : (m ((c.tc : Thread nD τ).loc main_arg5) : FVec Ideal S1x8 .f32) = Bf)

section Arrays
include hX hSh hSc hG hW

theorem q_arr : ((dat0 (V11 m ρ) c).arrAt 15 cfg0.N : FVec Ideal S8x128x16384 .bf16) = In.qArr (xr X) (gr G) (mr Sc) (mr Sh) (Host.wq W) := by
  rw [In.q_final, Host.v11, Host.v12, Host.v13, Host.v45, Host.v31, hX, hSh, hSc, hG, hW]; rfl
theorem k_arr : ((dat0 (V11 m ρ) c).arrAt 16 cfg0.N : FVec Ideal S16384x1024 .bf16) = In.kArr (xr X) (gr G) (mr Sc) (mr Sh) (Host.wk W) := by
  rw [In.k_final, Host.v11, Host.v12, Host.v13, Host.v45, Host.v36, hX, hSh, hSc, hG, hW]; rfl
theorem v_arr : ((dat0 (V11 m ρ) c).arrAt 17 cfg0.N : FVec Ideal S64x512x256 .bf16) = In.vArr (xr X) (gr G) (mr Sc) (mr Sh) (Host.wv W) := by
  rw [In.v_final, Host.v11, Host.v12, Host.v13, Host.v45, Host.v39, hX, hSh, hSc, hG, hW]; rfl
theorem f_arr : ((dat0 (V11 m ρ) c).arrAt 18 cfg0.N : FVec Ideal S16384x128 .f32) = In.fArr (xr X) (gr G) (mr Sc) (mr Sh) (Host.wf W) := by
  rw [In.f_final, Host.v11, Host.v12, Host.v13, Host.v45, Host.v41, hX, hSh, hSc, hG, hW]; rfl
theorem ga_arr : ((dat0 (V11 m ρ) c).arrAt 19 cfg0.N : FVec Ideal S16384x1024 .bf16) = In.gaArr (xr X) (gr G) (mr Sc) (mr Sh) (Host.wg W) := by
  rw [In.ga_final, Host.v11, Host.v12, Host.v13, Host.v45, Host.v43, hX, hSh, hSc, hG, hW]; rfl
theorem gb_arr : ((dat0 (V11 m ρ) c).arrAt 20 cfg0.N : FVec Ideal S16384x1024 .bf16) = In.gbArr (xr X) (gr G) (mr Sc) (mr Sh) (Host.wg W) := by
  rw [In.gb_final, Host.v11, Host.v12, Host.v13, Host.v45, Host.v43, hX, hSh, hSc, hG, hW]; rfl

end Arrays

variable (p : ℕ → ℕ → ℕ → ℝ) (β : ℕ → ℝ)
  (hp : ∀ (b : Fin 4) (s : Fin 4096) (n : Fin 4360), (∑ j : Fin 1024, hd X Sh Sc G b s j * W (ix3 (0 : Fin 1) j n)) = (p b.val s.val n.val : EReal))
  (hβ : ∀ h : Fin 8, (Bf (ix2 (0 : Fin 1) h) : EReal) = (β h.val : EReal))

/-- The gate input of a token and head. -/
noncomputable def z (b h s : ℕ) : ℝ := p b s (2304 + h) + β h

/-- The base-two score of a query and a key. -/
noncomputable def sg (b h q k : ℕ) : ℝ :=
  (8 * Real.log 2)⁻¹ * (∑ d : Fin 64, p b k (1280 + (64 * h + d.val)) * p b q (768 + (64 * h + d.val))) - ∑ i ∈ Finset.range (k + 1), Kf.lsig2 (z p β b h i)

include hX hSh hSc hG hW hB hp hβ

/-- The array of the gate call. -/
theorem kf_arr : ((dat1 (V15 m ρ) c).arrAt 4 cfg1.N : FVec Ideal S16384x1024 .bf16) = Kf.arr (In.kArr (xr X) (gr G) (mr Sc) (mr Sh) (Host.wk W)) (z p β) := by
  refine Kf.final (V15 m ρ) c _ _ _ _ ((Host.v50 m ρ c).trans (congrArg (fun a => shapeCast S4x4096x128 a shapeCasts_S16384x128_S4x4096x128) (f_arr m ρ c X Sh Sc G W hX hSh hSc hG hW)))
    ((Host.v49 m ρ c).trans (congrArg Host.bpad hB)) (Host.v10 m ρ c) ((Host.v46_4 m ρ c).trans (k_arr m ρ c X Sh Sc G W hX hSh hSc hG hW)) (z p β) (fun b s h => ?_) Host.place_at
  have e := f_at X Sh Sc G W p hp b s h
  generalize In.fArr (xr X) (gr G) (mr Sc) (mr Sh) (Host.wf W) = Y at e ⊢
  have e1 : (shapeCast S4x4096x128 Y shapeCasts_S16384x128_S4x4096x128 (ix3 b s (Kf.gateLane h)) : EReal) = Y (ix2 (⟨4096 * b.val + s.val, by omega⟩ : Fin 16384) (Kf.gateLane h)) := by
    pointwise
    exact congrArg (fun a => Y (ix2 a (Kf.gateLane h))) (Fin.ext (by show b.val * 4096 + s.val = 4096 * b.val + s.val; omega))
  rw [e1, e, Host.bpad_at Bf (Kf.gateLane h) h.isLt]
  refine (congrArg (fun a : EReal => (p b.val s.val (2304 + h.val) : EReal) + a) (hβ h)).trans ?_
  exact (EReal.coe_add _ _).symm

/-- The attention's result. -/
theorem ob_arr : ((dat2 (V16 m ρ) c).arrAt 3 cfg2.N : FVec Ideal S16384x512 .bf16) = Fox.arr (sg p β) (fun b h d k => p b k (1792 + (64 * h + d))) := by
  refine Fox.result (V16 m ρ) c _ _ _ ((Host.v51 m ρ c).trans (kf_arr m ρ c X Sh Sc G W Bf hX hSh hSc hG hW hB p β hp hβ))
    ((Host.v46_3 m ρ c).trans (q_arr m ρ c X Sh Sc G W hX hSh hSc hG hW)) ((Host.v46_5 m ρ c).trans (v_arr m ρ c X Sh Sc G W hX hSh hSc hG hW)) _ _
    (fun b h k q i j hi hj => ?_) (fun b h d n k i hi => ?_)
  on_goal 2 =>
    have e : i = (⟨16 * b.val + n.val, by omega⟩ : Fin 64) := Fin.ext hi
    rw [e]
    exact v_at X Sh Sc G W p hp b h d n k
  have e1 : i = (⟨4096 * b.val + k.val, by omega⟩ : Fin 16384) := Fin.ext hi
  have e2 : j = (⟨4096 * b.val + q.val, by omega⟩ : Fin 16384) := Fin.ext hj
  rw [e1, e2]
  refine Eq.trans (Finset.sum_congr rfl fun r _ => congrArg₂ (fun a b : EReal => a * b) (?_ : _ = ((if r.val < 64 then p b.val k.val (1280 + (64 * h.val + r.val)) else 0 : ℝ) : EReal) + (if r.val = 64 then ((-(∑ i ∈ Finset.range (k.val + 1), Kf.lsig2 (z p β b.val h.val i)) : ℝ) : EReal) else 0)) (q_at X Sh Sc G W p hp b q h r))
    (Sum.lanes (fun r => p b.val k.val (1280 + (64 * h.val + r))) (fun r => p b.val q.val (768 + (64 * h.val + r))) (∑ i ∈ Finset.range (k.val + 1), Kf.lsig2 (z p β b.val h.val i)) (8 * Real.log 2)⁻¹)
  refine congrArg₂ (fun a b : EReal => a + b) (k_at X Sh Sc G W p hp b k h r) ?_
  have a0 : (4096 * b.val + k.val) / 4096 = b.val := by omega
  have a1 : (4096 * b.val + k.val) % 4096 = k.val := by omega
  have a2 : (128 * h.val + r.val) / 128 = h.val := by omega
  have a3 : (128 * h.val + r.val) % 128 = r.val := by omega
  show (if (128 * h.val + r.val) % 128 = 64 then ((-(∑ i ∈ Finset.range ((4096 * b.val + k.val) % 4096 + 1), Kf.lsig2 (z p β ((4096 * b.val + k.val) / 4096) ((128 * h.val + r.val) / 128) i)) : ℝ) : EReal) else 0) = _
  rw [a0, a1, a2, a3]

end Values
end Cert.KernelIdeal.Val
end
-- ==== Proof.RefRun.lean ====
module

public import proofs.«01_k».proof.Defs
public import proofs.«01_k».proof.Proof.Gen.ReferenceIdeal
public import Idealize.ShloMosaic.Lib.Claim
public import Idealize.ShloMosaic.Lib.Quiescent
public import Idealize.ShloMosaic.Lib.Pointwise
public import Idealize.ShloMosaic.Lib.Pipeline.ValueKit

/-!
The run of the reference, its results named stage by stage: the projection, the log forget gates and
their running sum, the scores, the weights, the weighted values, the gates.
-/

@[expose] public section
set_option maxHeartbeats 4000000
set_option maxRecDepth 16384
namespace Cert.ReferenceIdeal.Val

open Idealize.ShloMosaic Idealize.ShloMosaic.TcCoe Idealize.SL.Sem
open Cert.ReferenceIdeal Cert.ReferenceIdeal.Gen

/-- The modulated norm of all tokens. -/
noncomputable def hid (x : FVec Ideal S4x4096x1024 .f32) (sh sc : FVec Ideal S4x1024 .f32) (g : FVec Ideal S1x1024 .f32) : FVec Ideal S4x4096x1024 .f32 :=
  addf
    (mulf
      (mulf
        (mulf x
          (broadcastInDim S4x4096x1024 ![0, 1, 2] bcast_S4x4096x1_S4x4096x1024_0_1_2
            (Host.rsqrt
              (addf
                (Host.divf
                  (broadcastInDim S4x4096x1 ![0, 1] bcast_S4x4096_S4x4096x1_0_1
                    (Host.reduceAdd (mulf x x) (constant S_ .f32 0x00000000#32) reducesTo_S4x4096x1024_S4x4096_d2 h_S_))
                  (broadcastInDim S4x4096x1 ![] bcast_S_S4x4096x1 (constant S_ .f32 0x44800000#32)))
                (broadcastInDim S4x4096x1 ![] bcast_S_S4x4096x1 (constant S_ .f32 0x358637BD#32))))))
        (broadcastInDim S4x4096x1024 ![0, 1, 2] bcast_S1x1x1024_S4x4096x1024_0_1_2
          (broadcastInDim S1x1x1024 ![2] bcast_S1024_S1x1x1024_2 (shapeCast S1024 g shapeCasts_S1x1024_S1024))))
      (broadcastInDim S4x4096x1024 ![0, 1, 2] bcast_S4x1x1024_S4x4096x1024_0_1_2
        (addf (broadcastInDim S4x1x1024 ![] bcast_S_S4x1x1024 (constant S_ .f32 0x3F800000#32))
          (broadcastInDim S4x1x1024 ![0, 2] bcast_S4x1024_S4x1x1024_0_2 sc))))
    (broadcastInDim S4x4096x1024 ![0, 1, 2] bcast_S4x1x1024_S4x4096x1024_0_1_2
      (broadcastInDim S4x1x1024 ![0, 2] bcast_S4x1024_S4x1x1024_0_2 sh))

/-- The input projection. -/
noncomputable def prj (h : FVec Ideal S4x4096x1024 .f32) (w : FVec Ideal S1x1024x4360 .f32) : FVec Ideal S4x4096x4360 .f32 :=
  Host.dotGeneral dot_S4x4096x1024_S1024x4360_S4x4096x4360_2_0_01_1_n_n none h (shapeCast S1024x4360 w shapeCasts_S1x1024x4360_S1024x4360)

/-- The forget-gate inputs. -/
noncomputable def gateIn (P : FVec Ideal S4x4096x4360 .f32) (bf : FVec Ideal S1x8 .f32) : FVec Ideal S4x4096x8 .f32 :=
  addf (extractStridedSlice S4x4096x8 ![0, 0, 2304] P slices_S4x4096x4360_S4x4096x8_0_0_2304)
    (broadcastInDim S4x4096x8 ![0, 1, 2] bcast_S1x1x8_S4x4096x8_0_1_2
      (broadcastInDim S1x1x8 ![2] bcast_S8_S1x1x8_2 (shapeCast S8 bf shapeCasts_S1x8_S8)))

/-- The log of the logistic function of the gate inputs. -/
noncomputable def logF (z : FVec Ideal S4x4096x8 .f32) : FVec Ideal S4x4096x8 .f32 :=
  have y : FVec Ideal S4x4096x8 .f32 := Host.negf z
  have o : FVec Ideal S4x4096x8 .f32 := broadcastInDim S4x4096x8 ![] bcast_S_S4x4096x8 (constant S_ .f32 0x00000000#32)
  Host.negf (select (cmpf .une (subf y o) (subf y o)) (addf y o)
    (addf (maximumf y o) (Host.log1p (Host.exp (Host.negf (Host.absf (subf y o)))))))

/-- The running sums of the log forget gates. -/
noncomputable def cum (f : FVec Ideal S4x4096x8 .f32) : FVec Ideal S4x4096x8 .f32 :=
  Host.reduceWindowAdd ![1, 4096, 1] ![1, 1, 1] ![0, 4095, 0] ![0, 0, 0] f (broadcastInDim S_ ![] bcast_S_S_ (constant S_ .f32 0x00000000#32))
    reduceWindows_S4x4096x8_S4x4096x8_w1s1p0_0_w4096s1p4095_0_w1s1p0_0 h_S_

/-- The queries, keys or values by head. -/
noncomputable def heads (x : FVec Ideal S4x4096x512 .f32) : FVec Ideal S4x4096x8x64 .f32 := shapeCast S4x4096x8x64 x shapeCasts_S4x4096x512_S4x4096x8x64

/-- The masked scores. -/
noncomputable def score (q k : FVec Ideal S4x4096x8x64 .f32) (C : FVec Ideal S4x4096x8 .f32) : FVec Ideal S4x8x4096x4096 .f32 :=
  have f : FVec Ideal S4x8x4096 .f32 := transpose S4x8x4096 [0, 2, 1] C transposes_S4x4096x8_S4x8x4096_0_2_1
  select
    (broadcastInDim S4x8x4096x4096 ![0, 1, 2, 3] bcast_S1x1x4096x4096_S4x8x4096x4096_0_1_2_3
      (broadcastInDim S1x1x4096x4096 ![2, 3] bcast_S4096x4096_S1x1x4096x4096_2_3
        (cmpi .sle
          (broadcastInDim S4096x4096 ![0, 1] bcast_S1x4096_S4096x4096_0_1 (broadcastInDim S1x4096 ![1] bcast_S4096_S1x4096_1 (iotaInDim S4096 32 0)))
          (broadcastInDim S4096x4096 ![0, 1] bcast_S4096x1_S4096x4096_0_1 (broadcastInDim S4096x1 ![0] bcast_S4096_S4096x1_0 (iotaInDim S4096 32 0))))))
    (subf
      (addf
        (mulf (Host.dotGeneral dot_S4x4096x8x64_S4x4096x8x64_S4x8x4096x4096_3_3_1_1_02_02 none q k)
          (broadcastInDim S4x8x4096x4096 ![] bcast_S_S4x8x4096x4096 (constant S_ .f32 0x3E000000#32)))
        (broadcastInDim S4x8x4096x4096 ![0, 1, 2, 3] bcast_S4x8x4096x1_S4x8x4096x4096_0_1_2_3
          (broadcastInDim S4x8x4096x1 ![0, 1, 2] bcast_S4x8x4096_S4x8x4096x1_0_1_2 f)))
      (broadcastInDim S4x8x4096x4096 ![0, 1, 2, 3] bcast_S4x8x1x4096_S4x8x4096x4096_0_1_2_3
        (broadcastInDim S4x8x1x4096 ![0, 1, 3] bcast_S4x8x4096_S4x8x1x4096_0_1_3 f)))
    (broadcastInDim S4x8x4096x4096 ![] bcast_S_S4x8x4096x4096 (constant S_ .f32 0xFF800000#32))

/-- The exponentials of the scores, the greatest subtracted. -/
noncomputable def expo (s : FVec Ideal S4x8x4096x4096 .f32) : FVec Ideal S4x8x4096x4096 .f32 :=
  Host.exp (subf s (broadcastInDim S4x8x4096x4096 ![0, 1, 2, 3] bcast_S4x8x4096x1_S4x8x4096x4096_0_1_2_3
    (broadcastInDim S4x8x4096x1 ![0, 1, 2] bcast_S4x8x4096_S4x8x4096x1_0_1_2
      (maximumf (broadcastInDim S4x8x4096 ![] bcast_S_S4x8x4096 (constant S_ .f32 0xFF800000#32))
        (Host.reduce FloatOps.maximumf s (constant S_ .f32 0xFF800000#32) reducesTo_S4x8x4096x4096_S4x8x4096_d3 h_S_)))))

/-- The weights. -/
noncomputable def soft (e : FVec Ideal S4x8x4096x4096 .f32) : FVec Ideal S4x8x4096x4096 .f32 :=
  Host.divf e (broadcastInDim S4x8x4096x4096 ![0, 1, 2, 3] bcast_S4x8x4096x1_S4x8x4096x4096_0_1_2_3
    (broadcastInDim S4x8x4096x1 ![0, 1, 2] bcast_S4x8x4096_S4x8x4096x1_0_1_2
      (Host.reduceAdd e (constant S_ .f32 0x00000000#32) reducesTo_S4x8x4096x4096_S4x8x4096_d3 h_S_)))

/-- The weighted values, heads side by side. -/
noncomputable def outb (v : FVec Ideal S4x4096x8x64 .f32) (p : FVec Ideal S4x8x4096x4096 .f32) : FVec Ideal S16384x512 .bf16 :=
  truncf .bf16 (shapeCast S16384x512
    (transpose S4x4096x8x64 [0, 3, 1, 2] (Host.dotGeneral dot_S4x4096x8x64_S4x8x4096x4096_S4x8x64x4096_1_3_3_2_02_01 none v p)
      transposes_S4x8x64x4096_S4x4096x8x64_0_3_1_2) shapeCasts_S4x4096x8x64_S16384x512) bitsLt_bf16_f32

/-- A gate. -/
noncomputable def gate (x : FVec Ideal S4x4096x1024 .f32) : FVec Ideal S16384x1024 .bf16 :=
  truncf .bf16 (shapeCast S16384x1024
    (Host.divf (broadcastInDim S4x4096x1024 ![] bcast_S_S4x4096x1024 (constant S_ .f32 0x3F800000#32))
      (addf (broadcastInDim S4x4096x1024 ![] bcast_S_S4x4096x1024 (constant S_ .f32 0x3F800000#32)) (Host.exp (Host.negf x))))
    shapeCasts_S4x4096x1024_S16384x1024) bitsLt_bf16_f32

/-- The attention's result. -/
noncomputable def resOb (P : FVec Ideal S4x4096x4360 .f32) (bf : FVec Ideal S1x8 .f32) : FVec Ideal S16384x512 .bf16 :=
  outb (heads (extractStridedSlice S4x4096x512 ![0, 0, 1792] P slices_S4x4096x4360_S4x4096x512_0_0_1792))
    (soft (expo (score (heads (extractStridedSlice S4x4096x512 ![0, 0, 768] P slices_S4x4096x4360_S4x4096x512_0_0_768))
      (heads (extractStridedSlice S4x4096x512 ![0, 0, 1280] P slices_S4x4096x4360_S4x4096x512_0_0_1280)) (cum (logF (gateIn P bf))))))

/-- The first gate's result. -/
noncomputable def resGa (P : FVec Ideal S4x4096x4360 .f32) : FVec Ideal S16384x1024 .bf16 :=
  gate (extractStridedSlice S4x4096x1024 ![0, 0, 2312] P slices_S4x4096x4360_S4x4096x1024_0_0_2312)

/-- The second gate's result. -/
noncomputable def resGb (P : FVec Ideal S4x4096x4360 .f32) : FVec Ideal S16384x1024 .bf16 :=
  gate (extractStridedSlice S4x4096x1024 ![0, 0, 3336] P slices_S4x4096x4360_S4x4096x1024_0_0_3336)

section Run
variable (m : (ℓ : Loc Cert.ReferenceIdeal.nD Cert.ReferenceIdeal.τ Cert.ReferenceIdeal.sig) → Buf (Elt Ideal) ℓ) (g : Dev Cert.ReferenceIdeal.nD → PrngReg)

/-- The projection, from the initial memory. -/
noncomputable def P (c : Dev nD) : FVec Ideal S4x4096x4360 .f32 :=
  prj (hid (m ((c.tc : Thread nD τ).loc main_arg0)) (m ((c.tc : Thread nD τ).loc main_arg1)) (m ((c.tc : Thread nD τ).loc main_arg2)) (m ((c.tc : Thread nD τ).loc main_arg3)))
    (m ((c.tc : Thread nD τ).loc main_arg4))

set_option pp.maxSteps 60 in
/-- The run of the reference with its results. -/
theorem run : θ_run (Cert.ReferenceIdeal.defs (F := Ideal)) (onTc (τ := Cert.ReferenceIdeal.τ) (Cert.ReferenceIdeal.main (F := Ideal))) ⟨m, fun _ => 0, g⟩ (fun r => ∀ c : Dev nD,
    r.2.mem ((c.tc : Thread nD τ).loc main_v88) = resOb (P m c) (m ((c.tc : Thread nD τ).loc main_arg5))
    ∧ r.2.mem ((c.tc : Thread nD τ).loc main_v89) = resGa (P m c)
    ∧ r.2.mem ((c.tc : Thread nD τ).loc main_v90) = resGb (P m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) := by
  hlo_run
  · rfl
  · rfl
  · rfl

end Run

end Cert.ReferenceIdeal.Val
end
-- ==== Proof.RefStage.lean ====
module

public import proofs.«01_k».proof.Proof.RefRun
public import proofs.«01_k».proof.Proof.Spec
public import Idealize.ShloMosaic.Lib.Pointwise
public import Idealize.ShloMosaic.Lib.WordCmp

/-!
The stages of the reference at an index: the norm, the projection, the gates.
-/

@[expose] public section
set_option maxHeartbeats 4000000
set_option maxRecDepth 16384
namespace Cert.ReferenceIdeal.Val

open Idealize.ShloMosaic Idealize.ShloMosaic.TcCoe Idealize.ShloMosaic.WordCmp
open Cert.ReferenceIdeal Cert.ReferenceIdeal.Gen

/-- The norm of a token. -/
theorem hid_at (x : FVec Ideal S4x4096x1024 .f32) (sh sc : FVec Ideal S4x1024 .f32) (g : FVec Ideal S1x1024 .f32) (b : Fin 4) (s : Fin 4096) (j : Fin 1024) :
    (hid x sh sc g (ix3 b s j) : EReal)
      = Spec.hidden (fun j => x (ix3 b s j)) (fun j => g (ix2 (0 : Fin 1) j)) (fun j => sc (ix2 b j)) (fun j => sh (ix2 b j)) j := by
  pointwise [hid, Spec.hidden]

/-- A column of the projection. -/
theorem prj_at (h : FVec Ideal S4x4096x1024 .f32) (w : FVec Ideal S1x1024x4360 .f32) (b : Fin 4) (s : Fin 4096) (n : Fin 4360) :
    (prj h w (ix3 b s n) : EReal) = ∑ j : Fin 1024, h (ix3 b s j) * w (ix3 (0 : Fin 1) j n) := by
  pointwise [prj]

/-- A forget-gate input. -/
theorem gateIn_at (P : FVec Ideal S4x4096x4360 .f32) (bf : FVec Ideal S1x8 .f32) (b : Fin 4) (s : Fin 4096) (h : Fin 8) :
    (gateIn P bf (ix3 b s h) : EReal) = P (ix3 b s (⟨2304 + h.val, by omega⟩ : Fin 4360)) + bf (ix2 (0 : Fin 1) h) := by
  pointwise [gateIn]

/-- A block of 512 columns of the projection. -/
theorem slice_at (o : ℕ) (ho : o + 512 ≤ 4360) (P : FVec Ideal S4x4096x4360 .f32) (hs) (b : Fin 4) (s : Fin 4096) (n : Fin 512) :
    (extractStridedSlice S4x4096x512 ![0, 0, o] P hs (ix3 b s n) : EReal) = P (ix3 b s (⟨o + n.val, by omega⟩ : Fin 4360)) := by
  show P _ = P _
  refine congrArg P (funext fun a => Fin.ext ?_)
  fin_cases a <;> simp [ix3]

/-- A column by head. -/
theorem heads_at (x : FVec Ideal S4x4096x512 .f32) (b : Fin 4) (s : Fin 4096) (h : Fin 8) (d : Fin 64) :
    (heads x (ix4 b s h d) : EReal) = x (ix3 b s (⟨64 * h.val + d.val, by omega⟩ : Fin 512)) := by
  pointwise [heads]
  exact congrArg (fun n => x (ix3 b s n)) (Fin.ext (by show h.val * 64 + d.val = 64 * h.val + d.val; omega))

/-- A gate. -/
theorem gate_at (x : FVec Ideal S4x4096x1024 .f32) (b : Fin 4) (i : Fin 4096) (n : Fin 1024) :
    (gate x (ix2 (⟨4096 * b.val + i.val, by omega⟩ : Fin 16384) n) : EReal)
      = Ideal.div 1 (1 + Ideal.exp (-(x (ix3 b i n) : EReal))) := by
  pointwise [gate]

end Cert.ReferenceIdeal.Val
end
-- ==== Proof.RefScore.lean ====
module

public import proofs.«01_k».proof.Proof.RefRun
public import proofs.«01_k».proof.Proof.Spec
public import Idealize.ShloMosaic.Lib.Pointwise
public import Idealize.ShloMosaic.Lib.WordCmp

/-!
The scores, weights and weighted values of the reference at an index.
-/

@[expose] public section
set_option maxHeartbeats 4000000
set_option maxRecDepth 16384
namespace Cert.ReferenceIdeal.Val

open Idealize.ShloMosaic Idealize.ShloMosaic.TcCoe Idealize.ShloMosaic.WordCmp
open Cert.ReferenceIdeal Cert.ReferenceIdeal.Gen

theorem negInf : Ideal.ofBits FTy.f32 4286578688#32 = ⊥ := by simp [Ideal.ofBits, Ideal.ieee]

/-- A score: the product of query and key by an eighth and the gates between the two, or nothing for a later key. -/
theorem score_at (q k : FVec Ideal S4x4096x8x64 .f32) (C : FVec Ideal S4x4096x8 .f32) (b : Fin 4) (h : Fin 8) (i j : Fin 4096) :
    (score q k C (ix4 b h i j) : EReal) = if j.val ≤ i.val then (∑ d : Fin 64, q (ix4 b i h d) * k (ix4 b j h d)) * Ideal.ofBits .f32 0x3E000000#32
      + C (ix3 b i h) - C (ix3 b j h) else ⊥ := by
  pointwise [score]
  have e : IntOp.cmpi .sle (BitVec.ofNat 32 j.val) (BitVec.ofNat 32 i.val) = BitVec.ofBool (decide (j.val ≤ i.val)) := by
    rw [cmpi_sle_eq]
    congr 1
    rw [toInt_ofNat_of_lt (by have := i.isLt; norm_num; omega), toInt_ofNat_of_lt (by have := j.isLt; norm_num; omega)]
    simp
  rw [e, negInf]
  by_cases h : j.val ≤ i.val <;> simp [h, Scalar.select]

/-- A weight. -/
theorem soft_at (e : FVec Ideal S4x8x4096x4096 .f32) (b : Fin 4) (h : Fin 8) (i j : Fin 4096) :
    (soft e (ix4 b h i j) : EReal) = Ideal.div (e (ix4 b h i j)) (∑ j : Fin 4096, (e (ix4 b h i j) : EReal)) := by
  pointwise [soft]

/-- A weighted value. -/
theorem outb_at (v : FVec Ideal S4x4096x8x64 .f32) (p : FVec Ideal S4x8x4096x4096 .f32) (b : Fin 4) (i : Fin 4096) (h : Fin 8) (d : Fin 64) :
    (outb v p (ix2 (⟨4096 * b.val + i.val, by omega⟩ : Fin 16384) (⟨64 * h.val + d.val, by omega⟩ : Fin 512)) : EReal)
      = ∑ k : Fin 4096, v (ix4 b k h d) * p (ix4 b h i k) := by
  pointwise [outb]

/-- The exponentials, the greatest score of each row given. -/
noncomputable def expoOf (s : FVec Ideal S4x8x4096x4096 .f32) (R : FVec Ideal S4x8x4096 .f32) : FVec Ideal S4x8x4096x4096 .f32 :=
  Host.exp (subf s (broadcastInDim S4x8x4096x4096 ![0, 1, 2, 3] bcast_S4x8x4096x1_S4x8x4096x4096_0_1_2_3
    (broadcastInDim S4x8x4096x1 ![0, 1, 2] bcast_S4x8x4096_S4x8x4096x1_0_1_2
      (maximumf (broadcastInDim S4x8x4096 ![] bcast_S_S4x8x4096 (constant S_ .f32 0xFF800000#32)) R))))

theorem expoOf_at (s : FVec Ideal S4x8x4096x4096 .f32) (R : FVec Ideal S4x8x4096 .f32) (b : Fin 4) (h : Fin 8) (i j : Fin 4096) :
    (expoOf s R (ix4 b h i j) : EReal) = Ideal.exp (s (ix4 b h i j) - R (ix3 b h i)) := by
  pointwise [expoOf]
  rw [negInf, max_bot_left]

end Cert.ReferenceIdeal.Val
end
-- ==== Proof.RefCum.lean ====
module

public import proofs.«01_k».proof.Proof.RefRun
public import proofs.«01_k».proof.Proof.Spec
public import Idealize.ShloMosaic.Lib.Pointwise
public import Idealize.ShloMosaic.Lib.ShapeFacts

/-!
The log forget gates of the reference and their running sums at an index.
-/

@[expose] public section
set_option maxHeartbeats 4000000
set_option maxRecDepth 16384
namespace Cert.ReferenceIdeal.Val

open Idealize.ShloMosaic Idealize.ShloMosaic.TcCoe
open Cert.ReferenceIdeal Cert.ReferenceIdeal.Gen

/-- A fold that adds is its start and the sum. -/
theorem foldl_sum {ι : Type} (g : ι → EReal) : ∀ (l : List ι) (a : EReal), l.foldl (fun r n => r + g n) a = a + (l.map g).sum
  | [], a => (add_zero a).symm
  | b :: l, a => by rw [List.foldl_cons, foldl_sum g l, List.map_cons, List.sum_cons, add_assoc]

theorem sum_shifted (f : ℕ → EReal) (M j : ℕ) (hj : j < M + 1) :
    ∑ n ∈ Finset.range (M + 1), (if M ≤ j + n then f (j + n - M) else 0) = ∑ i ∈ Finset.range (j + 1), f i := by
  rw [← Finset.sum_filter]
  refine Finset.sum_nbij' (fun n => j + n - M) (fun i => i + M - j) ?_ ?_ ?_ ?_ fun _ _ => rfl
  all_goals
    intro n hn
    simp only [Finset.mem_filter, Finset.mem_range] at hn ⊢
    omega

/-- The only index of a window of one row and one column at a height. -/
theorem symm_mid {R : ℕ} (n : Fin (⟨3, ![1, R, 1]⟩ : Shape).numel) (hn : n.val < R) :
    (⟨3, ![1, R, 1]⟩ : Shape).rowMajor.symm n = ix3 (0 : Fin 1) (⟨n.val, hn⟩ : Fin R) (0 : Fin 1) :=
  ((⟨3, ![1, R, 1]⟩ : Shape).rowMajor.symm_apply_eq).2 (Fin.ext (by
    rw [Shape.rowMajor_val_three]
    show n.val = (0 * R + n.val) * 1 + 0
    omega))

/-- A running sum along the middle axis. -/
theorem cumsum_mid {B R M C : ℕ} (hR : M + 1 = R) (x : (⟨3, ![B, R, C]⟩ : Shape).Idx → EReal) (f : ℕ → EReal) (b : Fin B) (c : Fin C)
    (hx : ∀ i : Fin R, x (ix3 b i c) = f i.val)
    (h : (⟨3, ![B, R, C]⟩ : Shape).ReduceWindows (![1, R, 1] : Fin 3 → ℕ) ![1, 1, 1] ![0, M, 0] ![0, 0, 0] ⟨3, ![B, R, C]⟩) (hu : 0 < (⟨0, ![]⟩ : Shape).numel) (j : Fin R) :
    Host.reduceWindow (fun a b : EReal => a + b) ![1, R, 1] ![1, 1, 1] ![0, M, 0] ![0, 0, 0] x (fun _ : (⟨0, ![]⟩ : Shape).Idx => (0 : EReal)) h hu (ix3 b j c)
      = ∑ i ∈ Finset.range (j.val + 1), f i := by
  subst hR
  have hj := j.isLt
  have hc := c.isLt
  have hb := b.isLt
  have hN : (⟨3, ![1, M + 1, 1]⟩ : Shape).numel = M + 1 := (Shape.numel_rank3 _).trans (by show 1 * (M + 1) * 1 = M + 1; omega)
  unfold Host.reduceWindow
  refine (foldl_sum _ _ _).trans ?_
  rw [zero_add, ← Fin.sum_univ_def]
  have hs : ∀ N : ℕ, N = M + 1 → ∑ n ∈ Finset.range N, (if M ≤ j.val + n then f (j.val + n - M) else 0) = ∑ i ∈ Finset.range (j.val + 1), f i := fun N e => by
    rw [e]; exact sum_shifted f M j.val hj
  refine (Finset.sum_congr rfl fun n _ => ?_).trans ((Fin.sum_univ_eq_sum_range (fun n => if M ≤ j.val + n then f (j.val + n - M) else 0) _).trans (hs _ hN))
  have hn : n.val < M + 1 := lt_of_lt_of_eq n.isLt hN
  have hw : (⟨3, ![1, M + 1, 1]⟩ : Shape).rowMajor.symm n = ix3 (0 : Fin 1) (⟨n.val, hn⟩ : Fin (M + 1)) (0 : Fin 1) := symm_mid n hn
  have w0 : ((⟨3, ![1, M + 1, 1]⟩ : Shape).rowMajor.symm n 0).val = 0 := by rw [hw]; rfl
  have w1 : ((⟨3, ![1, M + 1, 1]⟩ : Shape).rowMajor.symm n 1).val = n.val := by rw [hw]; rfl
  have w2 : ((⟨3, ![1, M + 1, 1]⟩ : Shape).rowMajor.symm n 2).val = 0 := by rw [hw]; rfl
  dsimp only
  split
  · next hin =>
    have h1 := hin 1
    change M ≤ j.val * 1 + ((⟨3, ![1, M + 1, 1]⟩ : Shape).rowMajor.symm n 1).val
      ∧ j.val * 1 + ((⟨3, ![1, M + 1, 1]⟩ : Shape).rowMajor.symm n 1).val - M < M + 1 at h1
    rw [w1] at h1
    rw [if_pos (by omega)]
    refine (congrArg x (funext fun a => Fin.ext ?_)).trans (hx ⟨j.val + n.val - M, by omega⟩)
    match a with
    | ⟨0, _⟩ =>
      show b.val * 1 + ((⟨3, ![1, M + 1, 1]⟩ : Shape).rowMajor.symm n 0).val - 0 = b.val
      rw [w0]; omega
    | ⟨1, _⟩ =>
      show j.val * 1 + ((⟨3, ![1, M + 1, 1]⟩ : Shape).rowMajor.symm n 1).val - M = j.val + n.val - M
      rw [w1]; omega
    | ⟨2, _⟩ =>
      show c.val * 1 + ((⟨3, ![1, M + 1, 1]⟩ : Shape).rowMajor.symm n 2).val - 0 = c.val
      rw [w2]; omega
  · next hin =>
    rw [if_neg fun hle => hin fun a => by
      match a with
      | ⟨0, _⟩ =>
        show 0 ≤ b.val * 1 + ((⟨3, ![1, M + 1, 1]⟩ : Shape).rowMajor.symm n 0).val ∧ b.val * 1 + ((⟨3, ![1, M + 1, 1]⟩ : Shape).rowMajor.symm n 0).val - 0 < B
        rw [w0]; omega
      | ⟨1, _⟩ =>
        show M ≤ j.val * 1 + ((⟨3, ![1, M + 1, 1]⟩ : Shape).rowMajor.symm n 1).val
          ∧ j.val * 1 + ((⟨3, ![1, M + 1, 1]⟩ : Shape).rowMajor.symm n 1).val - M < M + 1
        rw [w1]; omega
      | ⟨2, _⟩ =>
        show 0 ≤ c.val * 1 + ((⟨3, ![1, M + 1, 1]⟩ : Shape).rowMajor.symm n 2).val ∧ c.val * 1 + ((⟨3, ![1, M + 1, 1]⟩ : Shape).rowMajor.symm n 2).val - 0 < C
        rw [w2]; omega]

theorem zeroWord : Ideal.ofBits .f32 0x00000000#32 = 0 := by simp [Ideal.ofBits, Ideal.ieee]

/-- The running sums at an index. -/
theorem cum_at (x : FVec Ideal S4x4096x8 .f32) (f : ℕ → EReal) (b : Fin 4) (c : Fin 8) (hx : ∀ i : Fin 4096, (x (ix3 b i c) : EReal) = f i.val) (j : Fin 4096) :
    (cum x (ix3 b j c) : EReal) = ∑ i ∈ Finset.range (j.val + 1), f i := by
  have e : ∀ u : EReal, u = 0 → Ideal.hostReduceWindowAdd ![1, 4096, 1] ![1, 1, 1] ![0, 4095, 0] ![0, 0, 0]
      reduceWindows_S4x4096x8_S4x4096x8_w1s1p0_0_w4096s1p4095_0_w1s1p0_0 x u (ix3 b j c) = ∑ i ∈ Finset.range (j.val + 1), f i := fun u hu => by
    rw [hu]; exact cumsum_mid (M := 4095) rfl x f b c hx _ _ j
  unfold cum Host.reduceWindowAdd
  rw [Ideal.hostReduceWindowAdd_def]
  exact e _ zeroWord

/-- The log of the logistic function in the form of a soft plus. -/
theorem soft_plus (z : ℝ) : -(max (-(z : EReal)) 0 + Ideal.log1p (Ideal.exp (-max (-(z : EReal)) (- -(z : EReal))))) = (Spec.lsig z : EReal) := by
  have h1 : (-max (-(z : EReal)) (- -(z : EReal)) : EReal) = ((-|z| : ℝ) : EReal) := by
    rw [neg_neg, max_comm, ← EReal.coe_neg, ← EReal.coe_strictMono.monotone.map_max, ← EReal.coe_neg]
    rfl
  have h2 : Ideal.log1p (Ideal.exp ((-|z| : ℝ) : EReal)) = (Real.log (1 + Real.exp (-|z|)) : EReal) := by
    show Ideal.log (1 + ((Real.exp (-|z|) : ℝ) : EReal)) = _
    rw [← EReal.coe_one, ← EReal.coe_add]
    show (if (1 + Real.exp (-|z|)) ≤ 0 then ⊥ else (Real.log (1 + Real.exp (-|z|)) : EReal)) = _
    rw [if_neg (by have := Real.exp_pos (-|z|); linarith)]
  rw [h1, h2, ← EReal.coe_neg, ← EReal.coe_zero, ← EReal.coe_strictMono.monotone.map_max, ← EReal.coe_add, ← EReal.coe_neg]
  congr 1
  unfold Spec.lsig
  rcases le_total 0 z with h | h
  · rw [max_eq_right (by linarith), min_eq_right h]; ring
  · rw [max_eq_left (by linarith), min_eq_left h]; ring

/-- A log forget gate from a real gate input. -/
theorem logF_at (x : FVec Ideal S4x4096x8 .f32) (b : Fin 4) (s : Fin 4096) (h : Fin 8) (z : ℝ) (hz : (x (ix3 b s h) : EReal) = z) :
    (logF x (ix3 b s h) : EReal) = (Spec.lsig z : EReal) := by
  refine Eq.trans ?_ (soft_plus z)
  rw [← hz]
  pointwise [logF]
  rw [if_neg (by simp)]
  rfl

end Cert.ReferenceIdeal.Val
end
-- ==== Proof.RowMax.lean ====
module

public import Idealize.ShloMosaic.Lib.ReduceAll
public import Idealize.ShloMosaic.Lib.Pipeline.ValueKit

/-!
The greatest element of a row is real when no element is infinite upwards and one is real.
-/

@[expose] public section
namespace Cert.RowMax

open Idealize.ShloMosaic Idealize.ShloMosaic.TcCoe

theorem foldl_max {ι : Type} (f : ι → EReal) (hf : ∀ i, f i ≠ ⊤) :
    ∀ (l : List ι) (a : EReal), a ≠ ⊤ → l.foldl (fun r n => max r (f n)) a ≠ ⊤ ∧ a ≤ l.foldl (fun r n => max r (f n)) a
      ∧ ∀ i ∈ l, f i ≤ l.foldl (fun r n => max r (f n)) a
  | [], a, h => ⟨h, le_rfl, fun _ h => nomatch h⟩
  | b :: l, a, h => by
    have hm : max a (f b) ≠ ⊤ := by rcases max_choice a (f b) with e | e <;> rw [e]; exacts [h, hf b]
    obtain ⟨h1, h2, h3⟩ := foldl_max f hf l _ hm
    exact ⟨h1, (le_max_left _ _).trans h2, fun i hi => by
      rcases List.mem_cons.1 hi with rfl | hi
      exacts [(le_max_right _ _).trans h2, h3 i hi]⟩

/-- The greatest element of a row is real. -/
theorem reduce_max_real {s t u : Shape} {axes : List (Fin s.rank)} (x : s.Idx → Ideal .f32) (init : u.Idx → Ideal .f32) (h : s.ReducesTo axes t) (hu : 0 < u.numel) (j : t.Idx)
    (hx : ∀ i, (x i : EReal) ≠ ⊤) (hi : (init (Shape.Idx.first hu) : EReal) = ⊥) (i : s.Idx) (hj : h.drop i = j) (hb : (x i : EReal) ≠ ⊥) :
    ∃ M : ℝ, (Host.reduce (FloatOps.maximumf : Ideal .f32 → Ideal .f32 → Ideal .f32) x init h hu j : EReal) = M := by
  rw [Host.reduce_eq_foldl]
  obtain ⟨h1, _, h3⟩ := foldl_max (fun n => (x n : EReal)) hx (List.filter (fun i => decide (h.drop i = j)) (List.map s.rowMajor.symm (List.finRange s.numel))) (init (Shape.Idx.first hu)) (by rw [hi]; exact bot_ne_top)
  have h3 := h3 i (by
    rw [List.mem_filter]
    exact ⟨List.mem_map.2 ⟨s.rowMajor i, List.mem_finRange _, Equiv.symm_apply_apply _ _⟩, by simp [hj]⟩)
  exact ⟨_, (EReal.coe_toReal h1 fun e => hb (le_bot_iff.1 (e ▸ h3))).symm⟩

end Cert.RowMax
end
-- ==== Proof.RefVal.lean ====
module

public import proofs.«01_k».proof.Proof.RefStage
public import proofs.«01_k».proof.Proof.RefScore
public import proofs.«01_k».proof.Proof.RefCum
public import proofs.«01_k».proof.Proof.RowMax
public import proofs.«01_k».proof.Proof.Flash

/-!
The reference's results at an index, over the real columns of the projection.
-/

@[expose] public section
set_option maxHeartbeats 4000000
set_option maxRecDepth 16384
namespace Cert.ReferenceIdeal.Val

open Idealize.ShloMosaic Idealize.ShloMosaic.TcCoe
open Cert.ReferenceIdeal Cert.ReferenceIdeal.Gen

/-- A gate's result over the projection. -/
theorem resGa_at (P : FVec Ideal S4x4096x4360 .f32) (b : Fin 4) (i : Fin 4096) (n : Fin 1024) :
    (resGa P (ix2 (⟨4096 * b.val + i.val, by omega⟩ : Fin 16384) n) : EReal)
      = Ideal.div 1 (1 + Ideal.exp (-(P (ix3 b i (⟨2312 + n.val, by omega⟩ : Fin 4360)) : EReal))) := by
  refine (gate_at _ b i n).trans ?_
  refine congrArg (fun z : EReal => Ideal.div 1 (1 + Ideal.exp (-z))) ?_
  pointwise

/-- The other gate's result over the projection. -/
theorem resGb_at (P : FVec Ideal S4x4096x4360 .f32) (b : Fin 4) (i : Fin 4096) (n : Fin 1024) :
    (resGb P (ix2 (⟨4096 * b.val + i.val, by omega⟩ : Fin 16384) n) : EReal)
      = Ideal.div 1 (1 + Ideal.exp (-(P (ix3 b i (⟨3336 + n.val, by omega⟩ : Fin 4360)) : EReal))) := by
  refine (gate_at _ b i n).trans ?_
  refine congrArg (fun z : EReal => Ideal.div 1 (1 + Ideal.exp (-z))) ?_
  pointwise

/-- The greatest score of each row. -/
noncomputable def rowMax (s : FVec Ideal S4x8x4096x4096 .f32) : FVec Ideal S4x8x4096 .f32 :=
  Host.reduce FloatOps.maximumf s (constant S_ .f32 0xFF800000#32) reducesTo_S4x8x4096x4096_S4x8x4096_d3 h_S_

theorem rowMax_real (s : FVec Ideal S4x8x4096x4096 .f32) (hx : ∀ b h i j, (s (ix4 b h i j) : EReal) ≠ ⊤) (b : Fin 4) (h : Fin 8) (i : Fin 4096)
    (hb : (s (ix4 b h i (0 : Fin 4096)) : EReal) ≠ ⊥) : ∃ M : ℝ, (rowMax s (ix3 b h i) : EReal) = M := by
  refine RowMax.reduce_max_real s _ _ _ (ix3 b h i) (fun x => ?_) negInf (ix4 b h i (0 : Fin 4096)) ?_ hb
  · have e : x = ix4 (x (0 : Fin 4)) (x (1 : Fin 4)) (x (2 : Fin 4)) (x (3 : Fin 4)) := by
      funext a; fin_cases a <;> rfl
    rw [e]; exact hx _ _ _ _
  · funext a; fin_cases a <;> rfl

section Real
variable (P : FVec Ideal S4x4096x4360 .f32) (bf : FVec Ideal S1x8 .f32) (p : Fin 4 → ℕ → ℕ → ℝ) (β : ℕ → ℝ)

/-- The gate's log at a token of the real columns. -/
noncomputable def fg (b : Fin 4) (h : ℕ) (k : ℕ) : ℝ := Spec.lsig (p b k (2304 + h) + β h)

/-- A column's eighth of an inner product. -/
noncomputable def dotP (b : Fin 4) (h i j : ℕ) : ℝ := ∑ d : Fin 64, p b i (768 + (64 * h + d.val)) * p b j (1280 + (64 * h + d.val))

/-- The score of a key. -/
noncomputable def tau (b : Fin 4) (h i j : ℕ) : ℝ := dotP p b h i j * (1 / 8) + ∑ k ∈ Finset.range (i + 1), fg p β b h k - ∑ k ∈ Finset.range (j + 1), fg p β b h k

variable (hP : ∀ b (s : Fin 4096) (n : Fin 4360), (P (ix3 b s n) : EReal) = (p b s.val n.val : EReal))
  (hβ : ∀ h : Fin 8, (bf (ix2 (0 : Fin 1) h) : EReal) = (β h.val : EReal))
include hP hβ

theorem cums (b : Fin 4) (h : Fin 8) (j : Fin 4096) :
    (cum (logF (gateIn P bf)) (ix3 b j h) : EReal) = ((∑ k ∈ Finset.range (j.val + 1), fg p β b h.val k : ℝ) : EReal) := by
  refine (cum_at _ (fun k => (fg p β b h.val k : EReal)) b h (fun i => ?_) j).trans (Flash.coe_sum _ _).symm
  refine logF_at _ b i h _ ?_
  rw [gateIn_at, hP, hβ, ← EReal.coe_add]

omit hβ in
theorem qkv (o : ℕ) (ho : o + 512 ≤ 4360) (hs) (b : Fin 4) (s : Fin 4096) (h : Fin 8) (d : Fin 64) :
    (heads (extractStridedSlice S4x4096x512 ![0, 0, o] P hs) (ix4 b s h d) : EReal) = (p b s.val (o + (64 * h.val + d.val)) : EReal) := by
  rw [heads_at, slice_at o ho, hP]

omit hP hβ in
theorem eighth : Ideal.ofBits .f32 0x3E000000#32 = ((1 / 8 : ℝ) : EReal) := by
  simp [Ideal.ofBits, Ideal.ieee, -EReal.coe_mul]; norm_num

theorem scores (b : Fin 4) (h : Fin 8) (i j : Fin 4096) :
    (score (heads (extractStridedSlice S4x4096x512 ![0, 0, 768] P slices_S4x4096x4360_S4x4096x512_0_0_768))
      (heads (extractStridedSlice S4x4096x512 ![0, 0, 1280] P slices_S4x4096x4360_S4x4096x512_0_0_1280)) (cum (logF (gateIn P bf))) (ix4 b h i j) : EReal)
      = Flash.masked (tau p β b h.val i.val) i.val j.val := by
  rw [score_at]
  simp only [qkv P p hP 768 (by omega), qkv P p hP 1280 (by omega), cums P bf p β hP hβ, eighth]
  unfold Flash.masked tau dotP
  by_cases hij : j ≤ i
  · have hij' : j.val ≤ i.val := hij
    rw [if_pos hij', if_pos hij']
    simp only [← EReal.coe_mul]
    rw [← Flash.coe_sum, ← EReal.coe_mul, ← EReal.coe_add, ← EReal.coe_sub]
  · have hij' : ¬ j.val ≤ i.val := hij
    rw [if_neg hij', if_neg hij']

/-- The attention's result: the averages of the values with the exponentials of the scores. -/
theorem resOb_at (b : Fin 4) (i : Fin 4096) (h : Fin 8) (d : Fin 64) :
    (resOb P bf (ix2 (⟨4096 * b.val + i.val, by omega⟩ : Fin 16384) (⟨64 * h.val + d.val, by omega⟩ : Fin 512)) : EReal)
      = (Flash.avg (tau p β b h.val i.val) (fun k => p b k (1792 + (64 * h.val + d.val))) i.val : EReal) := by
  have hs := scores P bf p β hP hβ
  unfold resOb
  generalize score (heads (extractStridedSlice S4x4096x512 ![0, 0, 768] P slices_S4x4096x4360_S4x4096x512_0_0_768))
      (heads (extractStridedSlice S4x4096x512 ![0, 0, 1280] P slices_S4x4096x4360_S4x4096x512_0_0_1280)) (cum (logF (gateIn P bf))) = s at hs ⊢
  have hr : ∃ M : ℝ, (rowMax s (ix3 b h i) : EReal) = M := rowMax_real s (fun b h i j => by rw [hs]; exact Flash.masked_ne_top _ _ _) b h i (by
    rw [hs]; unfold Flash.masked; rw [if_pos (show ((0 : Fin 4096) : ℕ) ≤ i.val from Nat.zero_le _)]; exact EReal.coe_ne_bot _)
  have he : expo s = expoOf s (rowMax s) := rfl
  rw [he]
  generalize rowMax s = R at hr
  rw [outb_at]
  simp only [soft_at, expoOf_at, qkv P p hP 1792 (by omega)]
  refine Eq.trans (Finset.sum_congr rfl fun k _ => mul_comm _ _) ?_
  exact Flash.softmax_avg (N := 4096) (tau p β b h.val i.val) (fun k => p b k (1792 + (64 * h.val + d.val))) i.val i.isLt (fun k => s (ix4 b h i k))
    (fun k => (p b k.val (1792 + (64 * h.val + d.val)) : EReal)) (hs b h i) (fun _ => rfl) (R (ix3 b h i)) hr

end Real

end Cert.ReferenceIdeal.Val
end
-- ==== Proof.Equal.lean ====
module

public import proofs.«01_k».proof.Proof.KerVal
public import proofs.«01_k».proof.Proof.RefVal

/-!
The kernel's three results are the reference's, over real columns of the projection.
-/

@[expose] public section
set_option maxHeartbeats 2000000
set_option maxRecDepth 16384
namespace Cert.Equal

open Idealize.ShloMosaic

/-- A function of a natural number from one of an index below a bound. -/
noncomputable def ext {n : ℕ} (f : Fin n → ℝ) (i : ℕ) : ℝ := if h : i < n then f ⟨i, h⟩ else 0

theorem ext_val {n : ℕ} (f : Fin n → ℝ) (i : Fin n) : ext f i.val = f i := dif_pos i.isLt

theorem tok_split (i : Fin 16384) : ∃ (b : Fin 4) (s : Fin 4096), i = (⟨4096 * b.val + s.val, by omega⟩ : Fin 16384) :=
  ⟨⟨i.val / 4096, by omega⟩, ⟨i.val % 4096, by omega⟩, Fin.ext (by show i.val = 4096 * (i.val / 4096) + i.val % 4096; omega)⟩

theorem lane_split (i : Fin 512) : ∃ (h : Fin 8) (d : Fin 64), i = (⟨64 * h.val + d.val, by omega⟩ : Fin 512) :=
  ⟨⟨i.val / 64, by omega⟩, ⟨i.val % 64, by omega⟩, Fin.ext (by show i.val = 64 * (i.val / 64) + i.val % 64; omega)⟩

variable (p : ℕ → ℕ → ℕ → ℝ) (β : ℕ → ℝ)

/-- The kernel's score, in natural units, is the reference's up to a term of the query alone. -/
theorem tau_eq (b : Fin 4) (h q k : ℕ) :
    ReferenceIdeal.Val.tau (fun b => p b.val) β b h q k
      = Real.log 2 * KernelIdeal.Val.sg p β b.val h q k + ∑ i ∈ Finset.range (q + 1), Spec.lsig (KernelIdeal.Val.z p β b.val h i) := by
  unfold KernelIdeal.Val.sg
  rw [KernelIdeal.Sum.score]
  unfold ReferenceIdeal.Val.tau ReferenceIdeal.Val.fg ReferenceIdeal.Val.dotP KernelIdeal.Val.z
  rw [Finset.sum_congr rfl fun (d : Fin 64) _ => mul_comm (p b.val q (768 + (64 * h + d.val))) (p b.val k (1280 + (64 * h + d.val)))]
  ring

variable (P : FVec Ideal ReferenceIdeal.S4x4096x4360 .f32) (Bf : FVec Ideal ReferenceIdeal.S1x8 .f32)
  (hP : ∀ (b : Fin 4) (s : Fin 4096) (n : Fin 4360), (P (ix3 b s n) : EReal) = (p b.val s.val n.val : EReal))
  (hβ : ∀ h : Fin 8, (Bf (ix2 (0 : Fin 1) h) : EReal) = (β h.val : EReal))

include hP hβ in
theorem ob : ReferenceIdeal.Val.resOb P Bf = KernelIdeal.Fox.arr (KernelIdeal.Val.sg p β) (fun b h d k => p b k (1792 + (64 * h + d))) := by
  funext y
  obtain ⟨y0, y1, rfl⟩ : ∃ (y0 : Fin 16384) (y1 : Fin 512), y = ix2 y0 y1 := ⟨y 0, y 1, by funext a; fin_cases a <;> rfl⟩
  obtain ⟨b, s, rfl⟩ := tok_split y0
  obtain ⟨h, d, rfl⟩ := lane_split y1
  refine (ReferenceIdeal.Val.resOb_at P Bf (fun b => p b.val) β hP hβ b s h d).trans ?_
  have a0 : (4096 * b.val + s.val) / 4096 = b.val := by omega
  have a1 : (4096 * b.val + s.val) % 4096 = s.val := by omega
  have a2 : (64 * h.val + d.val) / 64 = h.val := by omega
  have a3 : (64 * h.val + d.val) % 64 = d.val := by omega
  show _ = ((Flash.avg (fun k => Real.log 2 * KernelIdeal.Val.sg p β ((4096 * b.val + s.val) / 4096) ((64 * h.val + d.val) / 64) ((4096 * b.val + s.val) % 4096) k)
    (fun k => p ((4096 * b.val + s.val) / 4096) k (1792 + (64 * ((64 * h.val + d.val) / 64) + (64 * h.val + d.val) % 64))) ((4096 * b.val + s.val) % 4096) : ℝ) : EReal)
  rw [a0, a1, a2, a3]
  exact congrArg _ (Flash.avg_shift _ _ _ _ _ fun k => tau_eq p β b h.val s.val k)

variable (X : FVec Ideal KernelIdeal.S4x4096x1024 .f32) (Sh Sc : FVec Ideal KernelIdeal.S4x1024 .f32) (G : FVec Ideal KernelIdeal.S1x1024 .f32) (W : FVec Ideal KernelIdeal.S1x1024x4360 .f32)
  (hp : ∀ (b : Fin 4) (s : Fin 4096) (n : Fin 4360), (∑ j : Fin 1024, KernelIdeal.Val.hd X Sh Sc G b s j * W (ix3 (0 : Fin 1) j n)) = (p b.val s.val n.val : EReal))

include hP hp

theorem ga : ReferenceIdeal.Val.resGa P = KernelIdeal.In.gaArr (KernelIdeal.Val.xr X) (KernelIdeal.Val.gr G) (KernelIdeal.Val.mr Sc) (KernelIdeal.Val.mr Sh) (KernelIdeal.Host.wg W) := by
  funext y
  obtain ⟨y0, y1, rfl⟩ : ∃ (y0 : Fin 16384) (y1 : Fin 1024), y = ix2 y0 y1 := ⟨y 0, y 1, by funext a; fin_cases a <;> rfl⟩
  obtain ⟨b, s, rfl⟩ := tok_split y0
  exact ((ReferenceIdeal.Val.resGa_at P b s y1).trans (congrArg Ideal.logistic (hP b s _))).trans (KernelIdeal.Val.ga_at X Sh Sc G W p hp b s y1).symm

theorem gb : ReferenceIdeal.Val.resGb P = KernelIdeal.In.gbArr (KernelIdeal.Val.xr X) (KernelIdeal.Val.gr G) (KernelIdeal.Val.mr Sc) (KernelIdeal.Val.mr Sh) (KernelIdeal.Host.wg W) := by
  funext y
  obtain ⟨y0, y1, rfl⟩ : ∃ (y0 : Fin 16384) (y1 : Fin 1024), y = ix2 y0 y1 := ⟨y 0, y 1, by funext a; fin_cases a <;> rfl⟩
  obtain ⟨b, s, rfl⟩ := tok_split y0
  exact ((ReferenceIdeal.Val.resGb_at P b s y1).trans (congrArg Ideal.logistic (hP b s _))).trans (KernelIdeal.Val.gb_at X Sh Sc G W p hp b s y1).symm

end Cert.Equal
end
-- ==== Proof.KerRun.lean ====
module

public import proofs.«01_k».proof.Proof.HostRead

/-!
The kernel's run with its three results: the arrays the calls leave.
-/

@[expose] public section
set_option maxRecDepth 16384
namespace Cert.KernelIdeal.Run

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

theorem run : θ_run (defs (F := Ideal)) (onTc (τ := τ) (main (F := Ideal))) ⟨m, fun _ => 0, ρ⟩ (fun r => ∀ c : Dev nD,
    r.2.mem ((c.tc : Thread nD τ).loc main_v52) = (dat2 (V16 m ρ) c).arrAt 3 cfg2.N
    ∧ r.2.mem ((c.tc : Thread nD τ).loc main_v46_7) = (dat0 (V11 m ρ) c).arrAt 19 cfg0.N
    ∧ r.2.mem ((c.tc : Thread nD τ).loc main_v46_8) = (dat0 (V11 m ρ) c).arrAt 20 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  (θ_run defs _ _).mono (fun s h c =>
      ⟨(h.1 c _ (mem_uc main_v52 (by decide))).trans (Host.v52 m ρ c),
       (h.1 c _ (mem_uc main_v46_7 (by decide))).trans (Host.v46_7 m ρ c),
       (h.1 c _ (mem_uc main_v46_8 (by decide))).trans (Host.v46_8 m ρ c),
       (h.1 c _ (mem_uc main_arg0 (by decide))).trans (W17_main_arg0 m ρ c),
       (h.1 c _ (mem_uc main_arg1 (by decide))).trans (W17_main_arg1 m ρ c),
       (h.1 c _ (mem_uc main_arg2 (by decide))).trans (W17_main_arg2 m ρ c),
       (h.1 c _ (mem_uc main_arg3 (by decide))).trans (W17_main_arg3 m ρ c),
       (h.1 c _ (mem_uc main_arg4 (by decide))).trans (W17_main_arg4 m ρ c),
       (h.1 c _ (mem_uc main_arg5 (by decide))).trans (W17_main_arg5 m ρ c)⟩) (ends m ρ)

end Cert.KernelIdeal.Run
end
-- ==== Proof.PreVal.lean ====
module

public import proofs.«01_k».proof.Defs
public import Idealize.ShloMosaic.Lib.ReduceAll
public import Idealize.ShloMosaic.Lib.WordCmp
public import Idealize.ShloMosaic.Lib.Pointwise
public import Idealize.ShloMosaic.Lib.Pipeline.ValueKit

/-!
The precondition at the extended reals: every entry of every argument is a real number.
-/

@[expose] public section
set_option maxRecDepth 16384
namespace Cert.Pre_finite.Val

open Idealize.ShloMosaic Idealize.ShloMosaic.WordCmp

/-- The shape facts of the precondition. -/
theorem facts : Cert.Pre_finite.Facts where
  bcast_S_S4x4096x1024 := by decide
  reducesTo_S4x4096x1024_S_d0_1_2 := by decide
  h_S_ := by decide
  bcast_S_S4x1024 := by decide
  reducesTo_S4x1024_S_d0_1 := by decide
  bcast_S_S1x1024 := by decide
  reducesTo_S1x1024_S_d0_1 := by decide
  bcast_S_S1x1024x4360 := by decide
  reducesTo_S1x1024x4360_S_d0_1_2 := by decide
  bcast_S_S1x8 := by decide
  reducesTo_S1x8_S_d0_1 := by decide

/-- What has an absolute value below plus infinity is a real. -/
theorem real_of_abs_lt (x : EReal) (h : BitVec.ofBool (decide (max x (-x) < ⊤)) = 1#1) : ∃ r : ℝ, x = r := by
  have h : max x (-x) < ⊤ := by simpa using (ofBool_decide_eq_one_iff _).1 h
  induction x with
  | bot => simp at h
  | top => simp at h
  | coe r => exact ⟨r, rfl⟩

theorem infWord : Ideal.ofBits .f32 0x7F800000#32 = ⊤ := by simp [Ideal.ofBits, Ideal.ieee]

theorem entry {s : Shape} (x : FVec Ideal s .f32) (h : Pre_finite.S_.BroadcastsInDim s (![] : Fin 0 → Fin s.rank)) (i : s.Idx)
    (e : cmpf .olt (Host.absf x) (broadcastInDim s ![] h (constant (F := Ideal) Pre_finite.S_ .f32 0x7F800000#32)) i = 1#1) : ∃ r : ℝ, (x i : EReal) = r := by
  refine real_of_abs_lt (x i) ?_
  have : cmpf .olt (Host.absf x) (broadcastInDim s ![] h (constant (F := Ideal) Pre_finite.S_ .f32 0x7F800000#32)) i
      = BitVec.ofBool (decide (max (x i : EReal) (-(x i : EReal)) < Ideal.ofBits .f32 0x7F800000#32)) := rfl
  rw [this, infWord] at e
  exact e

instance : Subsingleton Pre_finite.S_.Idx := ⟨fun a b => funext fun i => i.elim0⟩

theorem finite_real [Pre_finite.Facts] (a0 : FVec Ideal Pre_finite.S4x4096x1024 .f32) (a1 a2 : FVec Ideal Pre_finite.S4x1024 .f32) (a3 : FVec Ideal Pre_finite.S1x1024 .f32)
    (a4 : FVec Ideal Pre_finite.S1x1024x4360 .f32) (a5 : FVec Ideal Pre_finite.S1x8 .f32) (j : Pre_finite.S_.Idx)
    (h : Pre_finite.fn (F := Ideal) a0 a1 a2 a3 a4 a5 j = 1#1) :
    (∀ i, ∃ r : ℝ, (a0 i : EReal) = r) ∧ (∀ i, ∃ r : ℝ, (a1 i : EReal) = r) ∧ (∀ i, ∃ r : ℝ, (a2 i : EReal) = r) ∧ (∀ i, ∃ r : ℝ, (a3 i : EReal) = r)
      ∧ (∀ i, ∃ r : ℝ, (a4 i : EReal) = r) ∧ (∀ i, ∃ r : ℝ, (a5 i : EReal) = r) := by
  unfold Pre_finite.fn Pre_finite.fn_part1 at h
  dsimp only at h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i => entry a0 _ i (Host.reduce_andi_all _ _ _ _ j h0 i), fun i => entry a1 _ i (Host.reduce_andi_all _ _ _ _ j h1 i),
    fun i => entry a2 _ i (Host.reduce_andi_all _ _ _ _ j h2 i), fun i => entry a3 _ i (Host.reduce_andi_all _ _ _ _ j h3 i),
    fun i => entry a4 _ i (Host.reduce_andi_all _ _ _ _ j h4 i), fun i => entry a5 _ i (Host.reduce_andi_all _ _ _ _ j h5 i)⟩

end Cert.Pre_finite.Val
end
-- ==== Proof.Value.lean ====
module

public import proofs.«01_k».proof.Proof.Equal
public import proofs.«01_k».proof.Proof.KerRun
public import proofs.«01_k».proof.Proof.RefRun
public import proofs.«01_k».proof.Proof.PreVal
public import Idealize.ShloMosaic.Lib.Claim

/-!
From finite arguments the idealized kernel and the plain reference leave equal results.
-/

@[expose] public section
set_option maxHeartbeats 4000000
set_option maxRecDepth 16384
namespace Cert.Proof

open Idealize.ShloMosaic Idealize.ShloMosaic.TcCoe Idealize.SL.Sem

/-- The columns of the projection and the gates' offsets of finite arguments are real. -/
theorem reals (X : FVec Ideal KernelIdeal.S4x4096x1024 .f32) (Sh Sc : FVec Ideal KernelIdeal.S4x1024 .f32) (G : FVec Ideal KernelIdeal.S1x1024 .f32)
    (W : FVec Ideal KernelIdeal.S1x1024x4360 .f32) (Bf : FVec Ideal KernelIdeal.S1x8 .f32)
    (h : @Cert.Pre_finite.fn Cert.Pre_finite.Val.facts Ideal _ X Sh Sc G W Bf = (fun _ => 1#1)) :
    ∃ (p : ℕ → ℕ → ℕ → ℝ) (β : ℕ → ℝ),
      (∀ (b : Fin 4) (s : Fin 4096) (n : Fin 4360), (∑ j : Fin 1024, KernelIdeal.Val.hd X Sh Sc G b s j * W (ix3 (0 : Fin 1) j n)) = (p b.val s.val n.val : EReal))
      ∧ ∀ h : Fin 8, (Bf (ix2 (0 : Fin 1) h) : EReal) = (β h.val : EReal) := by
  letI := Cert.Pre_finite.Val.facts
  obtain ⟨hX, hSh, hSc, hG, hW, hB⟩ := Cert.Pre_finite.Val.finite_real X Sh Sc G W Bf (fun a => a.elim0) (congrFun h _)
  choose q hq using Spec.proj_real X Sh Sc G W hX hSh hSc hG hW
  choose β hβ using hB
  refine ⟨fun b s n => Equal.ext (fun b : Fin 4 => Equal.ext (fun s : Fin 4096 => Equal.ext (fun n : Fin 4360 => q b s n) n) s) b, Equal.ext fun h : Fin 8 => β (ix2 (0 : Fin 1) h), fun b s n => ?_, fun h => ?_⟩
  · simp only [Equal.ext_val]
    exact hq b s n
  · rw [Equal.ext_val]
    exact hβ _

/-- The three results are equal, on each device. -/
theorem equal (m : (ℓ : Loc KernelIdeal.nD KernelIdeal.τ KernelIdeal.sig) → Buf (Elt Ideal) ℓ) (ρ : Dev KernelIdeal.nD → PrngReg) (c : Dev KernelIdeal.nD)
    (X : FVec Ideal KernelIdeal.S4x4096x1024 .f32) (Sh Sc : FVec Ideal KernelIdeal.S4x1024 .f32) (G : FVec Ideal KernelIdeal.S1x1024 .f32)
    (W : FVec Ideal KernelIdeal.S1x1024x4360 .f32) (Bf : FVec Ideal KernelIdeal.S1x8 .f32)
    (h : @Cert.Pre_finite.fn Cert.Pre_finite.Val.facts Ideal _ X Sh Sc G W Bf = (fun _ => 1#1))
    (hX : (m ((c.tc : Thread KernelIdeal.nD KernelIdeal.τ).loc KernelIdeal.main_arg0) : FVec Ideal KernelIdeal.S4x4096x1024 .f32) = X)
    (hSh : (m ((c.tc : Thread KernelIdeal.nD KernelIdeal.τ).loc KernelIdeal.main_arg1) : FVec Ideal KernelIdeal.S4x1024 .f32) = Sh)
    (hSc : (m ((c.tc : Thread KernelIdeal.nD KernelIdeal.τ).loc KernelIdeal.main_arg2) : FVec Ideal KernelIdeal.S4x1024 .f32) = Sc)
    (hG : (m ((c.tc : Thread KernelIdeal.nD KernelIdeal.τ).loc KernelIdeal.main_arg3) : FVec Ideal KernelIdeal.S1x1024 .f32) = G)
    (hW : (m ((c.tc : Thread KernelIdeal.nD KernelIdeal.τ).loc KernelIdeal.main_arg4) : FVec Ideal KernelIdeal.S1x1024x4360 .f32) = W)
    (hB : (m ((c.tc : Thread KernelIdeal.nD KernelIdeal.τ).loc KernelIdeal.main_arg5) : FVec Ideal KernelIdeal.S1x8 .f32) = Bf) :
    ReferenceIdeal.Val.resOb (ReferenceIdeal.Val.prj (ReferenceIdeal.Val.hid X Sh Sc G) W) Bf = (KernelIdeal.Run.dat2 (KernelIdeal.Run.V16 m ρ) c).arrAt 3 KernelIdeal.cfg2.N
    ∧ ReferenceIdeal.Val.resGa (ReferenceIdeal.Val.prj (ReferenceIdeal.Val.hid X Sh Sc G) W) = (KernelIdeal.Run.dat0 (KernelIdeal.Run.V11 m ρ) c).arrAt 19 KernelIdeal.cfg0.N
    ∧ ReferenceIdeal.Val.resGb (ReferenceIdeal.Val.prj (ReferenceIdeal.Val.hid X Sh Sc G) W) = (KernelIdeal.Run.dat0 (KernelIdeal.Run.V11 m ρ) c).arrAt 20 KernelIdeal.cfg0.N := by
  obtain ⟨p, β, hp, hβ⟩ := reals X Sh Sc G W Bf h
  have hP : ∀ (b : Fin 4) (s : Fin 4096) (n : Fin 4360), (ReferenceIdeal.Val.prj (ReferenceIdeal.Val.hid X Sh Sc G) W (ix3 b s n) : EReal) = (p b.val s.val n.val : EReal) := fun b s n => by
    rw [ReferenceIdeal.Val.prj_at]
    refine Eq.trans (Finset.sum_congr rfl fun j _ => ?_) (hp b s n)
    rw [ReferenceIdeal.Val.hid_at]
    rfl
  exact ⟨(Equal.ob p β _ Bf hP hβ).trans (KernelIdeal.Val.ob_arr m ρ c X Sh Sc G W Bf hX hSh hSc hG hW hB p β hp hβ).symm,
    (Equal.ga p _ hP X Sh Sc G W hp).trans (KernelIdeal.Val.ga_arr m ρ c X Sh Sc G W hX hSh hSc hG hW).symm,
    (Equal.gb p _ hP X Sh Sc G W hp).trans (KernelIdeal.Val.gb_arr m ρ c X Sh Sc G W hX hSh hSc hG hW).symm⟩

theorem value : Cert.algebraic_KernelIdeal_ReferenceIdeal_pre_finite (hKernelIdeal := Cert.KernelIdeal.Gen.facts) (hReferenceIdeal := Cert.ReferenceIdeal.Gen.facts)
    (hPre_finite := Cert.Pre_finite.Val.facts) := by
  intro m g m' g' hpre hagree
  refine ⟨fun c => (KernelIdeal.Run.dat2 (KernelIdeal.Run.V16 m g) c).arrAt 3 KernelIdeal.cfg2.N, fun c => (KernelIdeal.Run.dat0 (KernelIdeal.Run.V11 m g) c).arrAt 19 KernelIdeal.cfg0.N,
    fun c => (KernelIdeal.Run.dat0 (KernelIdeal.Run.V11 m g) c).arrAt 20 KernelIdeal.cfg0.N, KernelIdeal.Run.run m g, (θ_run _ _ _).mono (fun s h c => ?_) (ReferenceIdeal.Val.run m' g')⟩
  obtain ⟨h0, h1, h2, ha⟩ := h c
  obtain ⟨a0, a1, a2, a3, a4, a5⟩ := hagree c
  obtain ⟨e0, e1, e2⟩ := equal m g c _ _ _ _ _ _ (hpre c) rfl rfl rfl rfl rfl rfl
  refine ⟨h0.trans ?_, h1.trans ?_, h2.trans ?_, ha⟩
  · refine Eq.trans ?_ e0
    unfold ReferenceIdeal.Val.P
    rw [a0, a1, a2, a3, a4, a5]
  · refine Eq.trans ?_ e1
    unfold ReferenceIdeal.Val.P
    rw [a0, a1, a2, a3, a4]
  · refine Eq.trans ?_ e2
    unfold ReferenceIdeal.Val.P
    rw [a0, a1, a2, a3, a4]

end Cert.Proof
end
-- ==== Proof.MixSpec.lean ====
module

public import proofs.«01_k».proof.Proof.Spec

/-!
The branch mix of one token: the gated branches, the output projection added to the stream, and the query.
-/

@[expose] public section
namespace Cert.Mix

open Idealize.ShloMosaic

/-- One token's stream after the two gated branches. -/
noncomputable def stream (x : Fin 1024 → EReal) (oa ob : Fin 512 → EReal) (ga gb gt : Fin 1024 → EReal) (wa wb : Fin 512 → Fin 1024 → EReal)
    (wo : Fin 1024 → Fin 1024 → EReal) (j : Fin 1024) : EReal :=
  x j + gt j * ∑ k : Fin 1024, (ga k * (∑ l : Fin 512, oa l * wa l k) + gb k * ∑ l : Fin 512, ob l * wb l k) * wo k j

/-- A row times a matrix. -/
noncomputable def rowMul (h : Fin 1024 → EReal) (w : Fin 1024 → Fin 1024 → EReal) (n : Fin 1024) : EReal := ∑ j : Fin 1024, h j * w j n

end Cert.Mix
end
-- ==== Proof.MixOut.lean ====
module

public import proofs.«01_k».proof.Proof.MixSpec
public import proofs.«01_k».proof.Proof.Gen.Kernel2Ideal.Frame
public import Idealize.ShloMosaic.Lib.Pointwise

/-!
What the mix call writes, at an index, over the blocks it reads.
-/

@[expose] public section
set_option maxHeartbeats 4000000
set_option maxRecDepth 16384
namespace Cert.Kernel2Ideal.Mix

open Idealize.ShloMosaic Idealize.ShloMosaic.TcCoe
open Cert.Kernel2Ideal Cert.Kernel2Ideal.Gen

theorem pay4_at (v0 : Vec Ideal S512x512 .bf16) (v1 : Vec Ideal S512x1024 .bf16) (v4 : Vec Ideal S512x512 .bf16) (v5 v8 v11 : Vec Ideal S512x1024 .bf16)
    (v15 : Vec Ideal S512x1024 .f32) (v17 : Vec Ideal S1x1x1024 .f32) (v20 : Vec Ideal S1024x1024 .bf16) (t : Fin 512) (j : Fin 1024) :
    (k0_pay4 v0 v1 v4 v5 v8 v11 v15 v17 v20 (ix2 t j) : EReal)
      = Mix.stream (fun j => v15 (ix2 t j)) (fun l => v0 (ix2 t l)) (fun l => v4 (ix2 t l)) (fun k => v8 (ix2 t k)) (fun k => v11 (ix2 t k))
          (fun j => v17 (ix3 (0 : Fin 1) (0 : Fin 1) j)) (fun l k => v1 (ix2 l k)) (fun l k => v5 (ix2 l k)) (fun k j => v20 (ix2 k j)) j := by
  pointwise [k0_pay4, Mix.stream]

theorem pay1_at (v25 : FVec Ideal S512x1024 .f32) (v28 : FVec Ideal S1x1024 .f32) (v29 v31 : Vec Ideal S1x1x1024 .f32) (t : Fin 512) (j : Fin 1024) :
    (k0_pay1 v25 v28 v29 v31 (ix2 t j) : EReal)
      = Spec.hidden (fun j => v25 (ix2 t j)) (fun j => v28 (ix2 (0 : Fin 1) j)) (fun j => v29 (ix3 (0 : Fin 1) (0 : Fin 1) j)) (fun j => v31 (ix3 (0 : Fin 1) (0 : Fin 1) j)) j := by
  pointwise [k0_pay1, Spec.hidden]

theorem pay2_at (v25 : FVec Ideal S512x1024 .f32) (v28 : FVec Ideal S1x1024 .f32) (v29 v31 : Vec Ideal S1x1x1024 .f32) (t : Fin 512) (j : Fin 1024) :
    (k0_pay2 v25 v28 v29 v31 (ix2 j t) : EReal)
      = Spec.hidden (fun j => v25 (ix2 t j)) (fun j => v28 (ix2 (0 : Fin 1) j)) (fun j => v29 (ix3 (0 : Fin 1) (0 : Fin 1) j)) (fun j => v31 (ix3 (0 : Fin 1) (0 : Fin 1) j)) j := by
  refine Eq.trans ?_ (pay1_at v25 v28 v29 v31 t j)
  unfold k0_pay2
  generalize k0_pay1 v25 v28 v29 v31 = y
  pointwise

theorem pay3_at (v25 : FVec Ideal S512x1024 .f32) (v28 : FVec Ideal S1x1024 .f32) (v29 v31 : Vec Ideal S1x1x1024 .f32) (w : Vec Ideal S1024x1024 .bf16) (t : Fin 512) (n : Fin 1024) :
    (k0_pay3 v25 v28 v29 v31 w (ix2 t n) : EReal)
      = Mix.rowMul (Spec.hidden (fun j => v25 (ix2 t j)) (fun j => v28 (ix2 (0 : Fin 1) j)) (fun j => v29 (ix3 (0 : Fin 1) (0 : Fin 1) j)) (fun j => v31 (ix3 (0 : Fin 1) (0 : Fin 1) j)))
          (fun j n => w (ix2 j n)) n := by
  unfold Mix.rowMul
  refine Eq.trans ?_ (Finset.sum_congr rfl fun j _ => congrArg (fun a : EReal => a * w (ix2 j n)) (pay1_at v25 v28 v29 v31 t j))
  unfold k0_pay3
  generalize k0_pay1 v25 v28 v29 v31 = y
  pointwise

section Out
variable (x0 : Vec Ideal S512x1024 .f32) (x1 x2 : Vec Ideal S512x512 .bf16) (x3 x4 : Vec Ideal S512x1024 .bf16) (x5 : Vec Ideal S1x1x1024 .f32) (x6 : Vec Ideal S1x1024 .f32)
  (x7 x8 : Vec Ideal S1x1x1024 .f32) (x9 x10 : Vec Ideal S512x1024 .bf16) (x11 x12 : Vec Ideal S1024x1024 .bf16)

/-- A row of a tile's stream. -/
noncomputable def bx (t : Fin 512) (j : Fin 1024) : EReal :=
  Mix.stream (fun j => x0 (ix2 t j)) (fun l => x1 (ix2 t l)) (fun l => x2 (ix2 t l)) (fun k => x3 (ix2 t k)) (fun k => x4 (ix2 t k))
    (fun j => x5 (ix3 (0 : Fin 1) (0 : Fin 1) j)) (fun l k => x9 (ix2 l k)) (fun l k => x10 (ix2 l k)) (fun k j => x11 (ix2 k j)) j

/-- A row of a tile's norm. -/
noncomputable def bh (t : Fin 512) (j : Fin 1024) : EReal :=
  Spec.hidden (bx x0 x1 x2 x3 x4 x5 x9 x10 x11 t) (fun j => x6 (ix2 (0 : Fin 1) j)) (fun j => x7 (ix3 (0 : Fin 1) (0 : Fin 1) j)) (fun j => x8 (ix3 (0 : Fin 1) (0 : Fin 1) j)) j

theorem v25_at (t : Fin 512) (j : Fin 1024) : (k0_pay6 x0 x1 x2 x3 x4 x5 x6 x7 x8 x9 x10 x11 x12 (ix2 t j) : EReal) = bx x0 x1 x2 x3 x4 x5 x9 x10 x11 t j := by
  have l0 : View.ld x0 r0_1 = x0 := View.ld_unit_lit _ x0 (by decide)
  have l1 : View.ld x1 r0_0 = x1 := View.ld_unit_lit _ x1 (by decide)
  have l2 : View.ld x2 r0_0 = x2 := View.ld_unit_lit _ x2 (by decide)
  have l3 : View.ld x3 r0_1 = x3 := View.ld_unit_lit _ x3 (by decide)
  have l4 : View.ld x4 r0_1 = x4 := View.ld_unit_lit _ x4 (by decide)
  have l5 : View.ld x5 r0_2 = x5 := View.ld_unit_lit _ x5 (by decide)
  have l9 : View.ld x9 r0_1 = x9 := View.ld_unit_lit _ x9 (by decide)
  have l10 : View.ld x10 r0_1 = x10 := View.ld_unit_lit _ x10 (by decide)
  have l11 : View.ld x11 r0_3 = x11 := View.ld_unit_lit _ x11 (by decide)
  unfold k0_pay6
  rw [l0, l1, l2, l3, l4, l5, l9, l10, l11]
  exact pay4_at x1 x9 x2 x10 x3 x4 x0 x5 x11 t j

theorem v28_eq : k0_pay7 x0 x1 x2 x3 x4 x5 x6 x7 x8 x9 x10 x11 x12 = x6 := by
  have l : View.ld x6 r0_4 = x6 := View.ld_unit_lit _ x6 (by decide)
  unfold k0_pay7 k0_pay5
  rw [l]
  funext i
  exact congrFun (shapeCast_self _ _) i

theorem x1_at (t : Fin 512) (j : Fin 1024) : (out0_13 x0 x1 x2 x3 x4 x5 x6 x7 x8 x9 x10 x11 x12 (ix2 t j) : EReal) = bx x0 x1 x2 x3 x4 x5 x9 x10 x11 t j := by
  have e : out0_13 x0 x1 x2 x3 x4 x5 x6 x7 x8 x9 x10 x11 x12 = k0_pay6 x0 x1 x2 x3 x4 x5 x6 x7 x8 x9 x10 x11 x12 :=
    View.canon_cons_unit_zero (S := S512x1024) (funext fun a => by fin_cases a <;> rfl) _ _ _
  rw [e]
  exact v25_at x0 x1 x2 x3 x4 x5 x6 x7 x8 x9 x10 x11 x12 t j

theorem h2_at (t : Fin 512) (j : Fin 1024) : (out0_14 x0 x1 x2 x3 x4 x5 x6 x7 x8 x9 x10 x11 x12 (ix2 j t) : EReal) = bh x0 x1 x2 x3 x4 x5 x6 x7 x8 x9 x10 x11 t j := by
  have l7 : View.ld x7 r0_2 = x7 := View.ld_unit_lit _ x7 (by decide)
  have l8 : View.ld x8 r0_2 = x8 := View.ld_unit_lit _ x8 (by decide)
  have e : out0_14 x0 x1 x2 x3 x4 x5 x6 x7 x8 x9 x10 x11 x12 = k0_pay2 (k0_pay6 x0 x1 x2 x3 x4 x5 x6 x7 x8 x9 x10 x11 x12) (k0_pay7 x0 x1 x2 x3 x4 x5 x6 x7 x8 x9 x10 x11 x12) (View.ld x7 r0_2) (View.ld x8 r0_2) :=
    View.canon_cons_unit_zero (S := S1024x512) (funext fun a => by fin_cases a <;> rfl) _ _ _
  rw [e, l7, l8, v28_eq]
  refine (pay2_at _ x6 x7 x8 t j).trans ?_
  unfold bh
  rw [funext fun j => v25_at x0 x1 x2 x3 x4 x5 x6 x7 x8 x9 x10 x11 x12 t j]

theorem q_at (t : Fin 512) (n : Fin 1024) : (out0_15 x0 x1 x2 x3 x4 x5 x6 x7 x8 x9 x10 x11 x12 (ix2 t n) : EReal)
    = Mix.rowMul (bh x0 x1 x2 x3 x4 x5 x6 x7 x8 x9 x10 x11 t) (fun j n => x12 (ix2 j n)) n := by
  have l7 : View.ld x7 r0_2 = x7 := View.ld_unit_lit _ x7 (by decide)
  have l8 : View.ld x8 r0_2 = x8 := View.ld_unit_lit _ x8 (by decide)
  have l12 : View.ld x12 r0_3 = x12 := View.ld_unit_lit _ x12 (by decide)
  have e : out0_15 x0 x1 x2 x3 x4 x5 x6 x7 x8 x9 x10 x11 x12 = k0_pay3 (k0_pay6 x0 x1 x2 x3 x4 x5 x6 x7 x8 x9 x10 x11 x12) (k0_pay7 x0 x1 x2 x3 x4 x5 x6 x7 x8 x9 x10 x11 x12) (View.ld x7 r0_2) (View.ld x8 r0_2) (View.ld x12 r0_3) :=
    View.canon_cons_unit_zero (S := S512x1024) (funext fun a => by fin_cases a <;> rfl) _ _ _
  rw [e, l7, l8, l12, v28_eq]
  refine (pay3_at _ x6 x7 x8 x12 t n).trans ?_
  unfold Mix.rowMul bh
  rw [funext fun j => v25_at x0 x1 x2 x3 x4 x5 x6 x7 x8 x9 x10 x11 x12 t j]

end Out
end Cert.Kernel2Ideal.Mix
end
-- ==== Proof.MixArr.lean ====
module

public import proofs.«01_k».proof.Proof.MixOut
public import Idealize.ShloMosaic.Lib.Pipeline.ValueKit

/-!
The arrays of the mix call, at an index, over the arrays it reads.
-/

@[expose] public section
set_option maxHeartbeats 2000000
set_option maxRecDepth 16384
namespace Cert.Kernel2Ideal.Mix

open Idealize.ShloMosaic Idealize.ShloMosaic.TcCoe Idealize.ShloMosaic.Tactic
open Idealize.ShloMosaic.Pipeline (Dat Cfg Window)
open Cert.Kernel2Ideal Cert.Kernel2Ideal.Gen

/-- The arrays the call reads. -/
structure Ins where
  x : FVec Ideal S16384x1024 .f32
  oa : FVec Ideal S16384x512 .bf16
  ob : FVec Ideal S16384x512 .bf16
  ga : FVec Ideal S16384x1024 .bf16
  gb : FVec Ideal S16384x1024 .bf16
  gt : FVec Ideal S4x1x1024 .f32
  g : FVec Ideal S1x1024 .f32
  sc : FVec Ideal S4x1x1024 .f32
  sh : FVec Ideal S4x1x1024 .f32
  wa : FVec Ideal S512x1024 .bf16
  wb : FVec Ideal S512x1024 .bf16
  wo : FVec Ideal S1024x1024 .bf16
  wq : FVec Ideal S1024x1024 .bf16

namespace Ins
variable (I : Ins)

/-- The stream of a token of a sequence. -/
noncomputable def stream (n : Fin 16384) (b : Fin 4) (j : Fin 1024) : EReal :=
  Mix.stream (fun j => I.x (ix2 n j)) (fun l => I.oa (ix2 n l)) (fun l => I.ob (ix2 n l)) (fun k => I.ga (ix2 n k)) (fun k => I.gb (ix2 n k))
    (fun j => I.gt (ix3 b (0 : Fin 1) j)) (fun l k => I.wa (ix2 l k)) (fun l k => I.wb (ix2 l k)) (fun k j => I.wo (ix2 k j)) j

/-- The norm of a token of a sequence. -/
noncomputable def norm (n : Fin 16384) (b : Fin 4) (j : Fin 1024) : EReal :=
  Spec.hidden (I.stream n b) (fun j => I.g (ix2 (0 : Fin 1) j)) (fun j => I.sc (ix3 b (0 : Fin 1) j)) (fun j => I.sh (ix3 b (0 : Fin 1) j)) j

/-- The query of a token of a sequence. -/
noncomputable def query (n : Fin 16384) (b : Fin 4) (j : Fin 1024) : EReal := Mix.rowMul (I.norm n b) (fun j n => I.wq (ix2 j n)) j

/-- The sequence of a token. -/
def seq (n : Fin 16384) : Fin 4 := ⟨n.val / 4096, by omega⟩

noncomputable def streamArr : FVec Ideal S16384x1024 .f32 := fun i => I.stream (i 0) (seq (i 0)) (i 1)
noncomputable def normArr : FVec Ideal S1024x16384 .bf16 := fun i => I.norm (i 1) (seq (i 1)) (i 0)
noncomputable def queryArr : FVec Ideal S16384x1024 .f32 := fun i => I.query (i 0) (seq (i 0)) (i 1)

end Ins

theorem idx : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_5.index t = ![t.val / 8, 0, 0] ∧ win0_6.index t = ![0, 0] ∧ win0_7.index t = ![t.val / 8, 0, 0] ∧ win0_8.index t = ![t.val / 8, 0, 0]
    ∧ win0_9.index t = ![0, 0] ∧ win0_10.index t = ![0, 0] ∧ win0_11.index t = ![0, 0] ∧ win0_12.index t = ![0, 0]
    ∧ win0_13.index t = ![t.val, 0] ∧ win0_14.index t = ![0, t.val] ∧ win0_15.index t = ![t.val, 0] ∧ t.val < 32 :=
  (by decide +kernel : ∀ t : Fin grid0.N, _)

section Core
variable (I : Ins) (x0 : Vec Ideal S512x1024 .f32) (x1 x2 : Vec Ideal S512x512 .bf16) (x3 x4 : Vec Ideal S512x1024 .bf16) (x5 : Vec Ideal S1x1x1024 .f32) (x6 : Vec Ideal S1x1024 .f32)
  (x7 x8 : Vec Ideal S1x1x1024 .f32) (x9 x10 : Vec Ideal S512x1024 .bf16) (x11 x12 : Vec Ideal S1024x1024 .bf16) (u : Fin 512) (n : Fin 16384) (b : Fin 4)

theorem stream_core (e0 : ∀ j, (x0 (ix2 u j) : EReal) = I.x (ix2 n j)) (e1 : ∀ j, (x1 (ix2 u j) : EReal) = I.oa (ix2 n j)) (e2 : ∀ j, (x2 (ix2 u j) : EReal) = I.ob (ix2 n j))
    (e3 : ∀ j, (x3 (ix2 u j) : EReal) = I.ga (ix2 n j)) (e4 : ∀ j, (x4 (ix2 u j) : EReal) = I.gb (ix2 n j))
    (e5 : ∀ j, (x5 (ix3 (0 : Fin 1) (0 : Fin 1) j) : EReal) = I.gt (ix3 b (0 : Fin 1) j))
    (e9 : (x9 : FVec Ideal S512x1024 .bf16) = I.wa) (e10 : (x10 : FVec Ideal S512x1024 .bf16) = I.wb) (e11 : (x11 : FVec Ideal S1024x1024 .bf16) = I.wo) :
    bx x0 x1 x2 x3 x4 x5 x9 x10 x11 u = I.stream n b := by
  funext j
  subst e9 e10 e11
  unfold bx Ins.stream
  rw [funext e0, funext e1, funext e2, funext e3, funext e4, funext e5]

theorem norm_core (e : bx x0 x1 x2 x3 x4 x5 x9 x10 x11 u = I.stream n b) (e6 : (x6 : FVec Ideal S1x1024 .f32) = I.g)
    (e7 : ∀ j, (x7 (ix3 (0 : Fin 1) (0 : Fin 1) j) : EReal) = I.sc (ix3 b (0 : Fin 1) j)) (e8 : ∀ j, (x8 (ix3 (0 : Fin 1) (0 : Fin 1) j) : EReal) = I.sh (ix3 b (0 : Fin 1) j)) :
    bh x0 x1 x2 x3 x4 x5 x6 x7 x8 x9 x10 x11 u = I.norm n b := by
  funext j
  subst e6
  unfold bh Ins.norm
  rw [e, funext e7, funext e8]

end Core

variable (m : (ℓ : Loc nD τ sig) → Buf (Elt Ideal) ℓ) (c : Dev nD) (t : Fin cfg0.N)

/-- The arrays the call reads, over the memory. -/
noncomputable def ins : Ins :=
  ⟨V m c main_v0, V m c main_arg1, V m c main_arg2, V m c main_arg3, V m c main_arg4, V m c main_v1, V m c main_v5, V m c main_v3, V m c main_v2, V m c main_v7, V m c main_v9, V m c main_v11, V m c main_v13⟩

theorem blk0 (u : Fin 512) (j : Fin 1024) (n : Fin 16384) (hn : n.val = 512 * t.val + u.val) :
    (iblk m c 0 t : FVec Ideal S512x1024 .f32) (ix2 u j) = (V m c main_v0 : FVec Ideal S16384x1024 .f32) (ix2 n j) := by
  blk_ext [iblk, idx t]
theorem blk1 (u : Fin 512) (j : Fin 512) (n : Fin 16384) (hn : n.val = 512 * t.val + u.val) :
    (iblk m c 1 t : FVec Ideal S512x512 .bf16) (ix2 u j) = (V m c main_arg1 : FVec Ideal S16384x512 .bf16) (ix2 n j) := by
  blk_ext [iblk, idx t]
theorem blk2 (u : Fin 512) (j : Fin 512) (n : Fin 16384) (hn : n.val = 512 * t.val + u.val) :
    (iblk m c 2 t : FVec Ideal S512x512 .bf16) (ix2 u j) = (V m c main_arg2 : FVec Ideal S16384x512 .bf16) (ix2 n j) := by
  blk_ext [iblk, idx t]
theorem blk3 (u : Fin 512) (j : Fin 1024) (n : Fin 16384) (hn : n.val = 512 * t.val + u.val) :
    (iblk m c 3 t : FVec Ideal S512x1024 .bf16) (ix2 u j) = (V m c main_arg3 : FVec Ideal S16384x1024 .bf16) (ix2 n j) := by
  blk_ext [iblk, idx t]
theorem blk4 (u : Fin 512) (j : Fin 1024) (n : Fin 16384) (hn : n.val = 512 * t.val + u.val) :
    (iblk m c 4 t : FVec Ideal S512x1024 .bf16) (ix2 u j) = (V m c main_arg4 : FVec Ideal S16384x1024 .bf16) (ix2 n j) := by
  blk_ext [iblk, idx t]
theorem blk5 (j : Fin 1024) (b : Fin 4) (hb : b.val = t.val / 8) :
    (iblk m c 5 t : FVec Ideal S1x1x1024 .f32) (ix3 (0 : Fin 1) (0 : Fin 1) j) = (V m c main_v1 : FVec Ideal S4x1x1024 .f32) (ix3 b (0 : Fin 1) j) := by
  blk_ext [iblk, idx t]
theorem blk7 (j : Fin 1024) (b : Fin 4) (hb : b.val = t.val / 8) :
    (iblk m c 7 t : FVec Ideal S1x1x1024 .f32) (ix3 (0 : Fin 1) (0 : Fin 1) j) = (V m c main_v3 : FVec Ideal S4x1x1024 .f32) (ix3 b (0 : Fin 1) j) := by
  blk_ext [iblk, idx t]
theorem blk8 (j : Fin 1024) (b : Fin 4) (hb : b.val = t.val / 8) :
    (iblk m c 8 t : FVec Ideal S1x1x1024 .f32) (ix3 (0 : Fin 1) (0 : Fin 1) j) = (V m c main_v2 : FVec Ideal S4x1x1024 .f32) (ix3 b (0 : Fin 1) j) := by
  blk_ext [iblk, idx t]
theorem blk6 : (iblk m c 6 t : FVec Ideal S1x1024 .f32) = V m c main_v5 := by blk_ext! [iblk, idx t]
theorem blk9 : (iblk m c 9 t : FVec Ideal S512x1024 .bf16) = V m c main_v7 := by blk_ext! [iblk, idx t]
theorem blk10 : (iblk m c 10 t : FVec Ideal S512x1024 .bf16) = V m c main_v9 := by blk_ext! [iblk, idx t]
theorem blk11 : (iblk m c 11 t : FVec Ideal S1024x1024 .bf16) = V m c main_v11 := by blk_ext! [iblk, idx t]
theorem blk12 : (iblk m c 12 t : FVec Ideal S1024x1024 .bf16) = V m c main_v13 := by blk_ext! [iblk, idx t]

theorem stream_blk (u : Fin 512) (n : Fin 16384) (hn : n.val = 512 * t.val + u.val) :
    bx (iblk m c 0 t) (iblk m c 1 t) (iblk m c 2 t) (iblk m c 3 t) (iblk m c 4 t) (iblk m c 5 t) (iblk m c 9 t) (iblk m c 10 t) (iblk m c 11 t) u
      = (ins m c).stream n (Ins.seq n) := by
  have hb : (Ins.seq n).val = t.val / 8 := by show n.val / 4096 = _; have := u.isLt; omega
  exact stream_core (ins m c) _ _ _ _ _ _ _ _ _ u n (Ins.seq n) (fun j => blk0 m c t u j n hn) (fun j => blk1 m c t u j n hn) (fun j => blk2 m c t u j n hn)
    (fun j => blk3 m c t u j n hn) (fun j => blk4 m c t u j n hn) (fun j => blk5 m c t j _ hb) (blk9 m c t) (blk10 m c t) (blk11 m c t)

theorem norm_blk (u : Fin 512) (n : Fin 16384) (hn : n.val = 512 * t.val + u.val) :
    bh (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) u
      = (ins m c).norm n (Ins.seq n) := by
  have hb : (Ins.seq n).val = t.val / 8 := by show n.val / 4096 = _; have := u.isLt; omega
  exact norm_core (ins m c) _ _ _ _ _ _ _ _ _ _ _ _ u n (Ins.seq n) (stream_blk m c t u n hn) (blk6 m c t) (fun j => blk7 m c t j _ hb) (fun j => blk8 m c t j _ hb)

theorem stream_point (y : S512x1024.Idx) (i : S16384x1024.Idx) (h0 : (i 0).val = 512 * t.val + (y 0).val) (h1 : (i 1).val = (y 1).val) :
    (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y : EReal)
      = (ins m c).streamArr i := by
  obtain ⟨u0, u1, rfl⟩ : ∃ (u0 : Fin 512) (u1 : Fin 1024), y = ix2 u0 u1 := ⟨y 0, y 1, by funext a; fin_cases a <;> rfl⟩
  obtain ⟨i0, i1, rfl⟩ : ∃ (i0 : Fin 16384) (i1 : Fin 1024), i = ix2 i0 i1 := ⟨i 0, i 1, by funext a; fin_cases a <;> rfl⟩
  obtain rfl : i1 = u1 := Fin.ext h1
  exact (x1_at _ _ _ _ _ _ _ _ _ _ _ _ _ u0 i1).trans (congrFun (stream_blk m c t u0 i0 h0) i1)

theorem norm_point (y : S1024x512.Idx) (i : S1024x16384.Idx) (h0 : (i 0).val = (y 0).val) (h1 : (i 1).val = 512 * t.val + (y 1).val) :
    (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y : EReal)
      = (ins m c).normArr i := by
  obtain ⟨u0, u1, rfl⟩ : ∃ (u0 : Fin 1024) (u1 : Fin 512), y = ix2 u0 u1 := ⟨y 0, y 1, by funext a; fin_cases a <;> rfl⟩
  obtain ⟨i0, i1, rfl⟩ : ∃ (i0 : Fin 1024) (i1 : Fin 16384), i = ix2 i0 i1 := ⟨i 0, i 1, by funext a; fin_cases a <;> rfl⟩
  obtain rfl : i0 = u0 := Fin.ext h0
  exact (h2_at _ _ _ _ _ _ _ _ _ _ _ _ _ u1 i0).trans (congrFun (norm_blk m c t u1 i1 h1) i0)

theorem query_point (y : S512x1024.Idx) (i : S16384x1024.Idx) (h0 : (i 0).val = 512 * t.val + (y 0).val) (h1 : (i 1).val = (y 1).val) :
    (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y : EReal)
      = (ins m c).queryArr i := by
  obtain ⟨u0, u1, rfl⟩ : ∃ (u0 : Fin 512) (u1 : Fin 1024), y = ix2 u0 u1 := ⟨y 0, y 1, by funext a; fin_cases a <;> rfl⟩
  obtain ⟨i0, i1, rfl⟩ : ∃ (i0 : Fin 16384) (i1 : Fin 1024), i = ix2 i0 i1 := ⟨i 0, i 1, by funext a; fin_cases a <;> rfl⟩
  obtain rfl : i1 = u1 := Fin.ext h1
  refine (q_at _ _ _ _ _ _ _ _ _ _ _ _ _ u0 i1).trans ?_
  rw [norm_blk m c t u0 i0 h0, blk12 m c t]
  rfl

theorem stream_final : (dats m 0 c).arrAt 13 cfg0.N = (ins m c).streamArr := by
  refine (dats m 0 c).arrAt_eq_of_covers 13 _ (by decide +kernel) fun t _ y => ?_
  rw [after0_13]
  blk_simp
  exact stream_point m c t y _ (by blk_simp [idx t]; try omega) (by blk_simp [idx t]; try omega)

theorem norm_final : (dats m 0 c).arrAt 14 cfg0.N = (ins m c).normArr := by
  refine (dats m 0 c).arrAt_eq_of_covers 14 _ (by decide +kernel) fun t _ y => ?_
  rw [after0_14]
  blk_simp
  exact norm_point m c t y _ (by blk_simp [idx t]; try omega) (by blk_simp [idx t]; try omega)

theorem query_final : (dats m 0 c).arrAt 15 cfg0.N = (ins m c).queryArr := by
  refine (dats m 0 c).arrAt_eq_of_covers 15 _ (by decide +kernel) fun t _ y => ?_
  rw [after0_15]
  blk_simp
  exact query_point m c t y _ (by blk_simp [idx t]; try omega) (by blk_simp [idx t]; try omega)

end Cert.Kernel2Ideal.Mix
end
-- ==== Proof.MixIns.lean ====
module

public import proofs.«01_k».proof.Proof.MixArr
public import Idealize.ShloMosaic.Lib.Claim
public import Idealize.ShloMosaic.Lib.StableHlo.RunRead

/-!
The arrays the mix call reads, over the arguments.
-/

@[expose] public section
set_option maxHeartbeats 4000000
set_option maxRecDepth 16384
namespace Cert.Kernel2Ideal.Mix

open Idealize.ShloMosaic Idealize.ShloMosaic.TcCoe Idealize.ShloMosaic.Tactic
open Cert.Kernel2Ideal Cert.Kernel2Ideal.Gen

variable (m : (ℓ : Loc nD τ sig) → Buf (Elt Ideal) ℓ) (c : Dev nD)

theorem ins_x (n : Fin 16384) (b : Fin 4) (s : Fin 4096) (hn : n.val = b.val * 4096 + s.val) (j : Fin 1024) : ((ins m c).x (ix2 n j) : EReal) = (m ((c.tc : Thread nD τ).loc main_arg0) : FVec Ideal S4x4096x1024 .f32) (ix3 b s j) := by
  have e : n = (⟨b.val * 4096 + s.val, by omega⟩ : Fin 16384) := Fin.ext hn
  rw [e]
  show ((V m c main_v0 : FVec Ideal S16384x1024 .f32) (ix2 _ j) : EReal) = _
  entry_read
  pointwise

theorem ins_oa : (ins m c).oa = (m ((c.tc : Thread nD τ).loc main_arg1) : FVec Ideal S16384x512 .bf16) := V_main_arg1 m c

theorem ins_ob : (ins m c).ob = (m ((c.tc : Thread nD τ).loc main_arg2) : FVec Ideal S16384x512 .bf16) := V_main_arg2 m c

theorem ins_ga : (ins m c).ga = (m ((c.tc : Thread nD τ).loc main_arg3) : FVec Ideal S16384x1024 .bf16) := V_main_arg3 m c

theorem ins_gb : (ins m c).gb = (m ((c.tc : Thread nD τ).loc main_arg4) : FVec Ideal S16384x1024 .bf16) := V_main_arg4 m c

theorem ins_gt (b : Fin 4) (j : Fin 1024) : ((ins m c).gt (ix3 b (0 : Fin 1) j) : EReal) = (m ((c.tc : Thread nD τ).loc main_arg5) : FVec Ideal S4x1024 .f32) (ix2 b j) := by
  show ((V m c main_v1 : FVec Ideal S4x1x1024 .f32) (ix3 b (0 : Fin 1) j) : EReal) = _
  entry_read
  pointwise

theorem ins_sh (b : Fin 4) (j : Fin 1024) : ((ins m c).sh (ix3 b (0 : Fin 1) j) : EReal) = (m ((c.tc : Thread nD τ).loc main_arg6) : FVec Ideal S4x1024 .f32) (ix2 b j) := by
  show ((V m c main_v2 : FVec Ideal S4x1x1024 .f32) (ix3 b (0 : Fin 1) j) : EReal) = _
  entry_read
  pointwise

theorem ins_sc (b : Fin 4) (j : Fin 1024) : ((ins m c).sc (ix3 b (0 : Fin 1) j) : EReal) = (m ((c.tc : Thread nD τ).loc main_arg7) : FVec Ideal S4x1024 .f32) (ix2 b j) := by
  show ((V m c main_v3 : FVec Ideal S4x1x1024 .f32) (ix3 b (0 : Fin 1) j) : EReal) = _
  entry_read
  pointwise

theorem ins_g (j : Fin 1024) : ((ins m c).g (ix2 (0 : Fin 1) j) : EReal) = (m ((c.tc : Thread nD τ).loc main_arg8) : FVec Ideal S1x1024 .f32) (ix2 (0 : Fin 1) j) := by
  show ((V m c main_v5 : FVec Ideal S1x1024 .f32) (ix2 (0 : Fin 1) j) : EReal) = _
  entry_read
  pointwise

theorem ins_wa (l : Fin 512) (k : Fin 1024) : ((ins m c).wa (ix2 l k) : EReal) = (m ((c.tc : Thread nD τ).loc main_arg9) : FVec Ideal S1x512x1024 .f32) (ix3 (0 : Fin 1) l k) := by
  show ((V m c main_v7 : FVec Ideal S512x1024 .bf16) (ix2 l k) : EReal) = _
  entry_read
  pointwise

theorem ins_wb (l : Fin 512) (k : Fin 1024) : ((ins m c).wb (ix2 l k) : EReal) = (m ((c.tc : Thread nD τ).loc main_arg10) : FVec Ideal S1x512x1024 .f32) (ix3 (0 : Fin 1) l k) := by
  show ((V m c main_v9 : FVec Ideal S512x1024 .bf16) (ix2 l k) : EReal) = _
  entry_read
  pointwise

theorem ins_wo (l : Fin 1024) (k : Fin 1024) : ((ins m c).wo (ix2 l k) : EReal) = (m ((c.tc : Thread nD τ).loc main_arg11) : FVec Ideal S1x1024x1024 .f32) (ix3 (0 : Fin 1) l k) := by
  show ((V m c main_v11 : FVec Ideal S1024x1024 .bf16) (ix2 l k) : EReal) = _
  entry_read
  pointwise

theorem ins_wq (l : Fin 1024) (k : Fin 1024) : ((ins m c).wq (ix2 l k) : EReal) = (m ((c.tc : Thread nD τ).loc main_arg12) : FVec Ideal S1x1024x1024 .f32) (ix3 (0 : Fin 1) l k) := by
  show ((V m c main_v13 : FVec Ideal S1024x1024 .bf16) (ix2 l k) : EReal) = _
  entry_read
  pointwise

end Cert.Kernel2Ideal.Mix
end
-- ==== Proof.MixRef.lean ====
module

public import proofs.«01_k».proof.Proof.MixSpec
public import proofs.«01_k».proof.Proof.Gen.Reference2Ideal.Run
public import Idealize.ShloMosaic.Lib.Pointwise

/-!
The reference of the mix: its three results, stage by stage and at an index.
-/

@[expose] public section
set_option maxHeartbeats 4000000
set_option maxRecDepth 16384
namespace Cert.Reference2Ideal.Mix

open Idealize.ShloMosaic Idealize.ShloMosaic.TcCoe Idealize.SL.Sem
open Cert.Reference2Ideal Cert.Reference2Ideal.Gen

/-- A branch through its projection. -/
noncomputable def branch (o : FVec Ideal S16384x512 .bf16) (w : FVec Ideal S1x512x1024 .f32) : FVec Ideal S4x4096x1024 .f32 :=
  Host.dotGeneral dot_S4x4096x512_S512x1024_S4x4096x1024_2_0_01_1_n_n none (shapeCast _ (extf .f32 o bitsLt_bf16_f32) shapeCasts_S16384x512_S4x4096x512)
    (shapeCast _ w shapeCasts_S1x512x1024_S512x1024)

/-- A gate with the tokens by sequence. -/
noncomputable def gate (g : FVec Ideal S16384x1024 .bf16) : FVec Ideal S4x4096x1024 .f32 :=
  shapeCast _ (extf .f32 g bitsLt_bf16_f32) shapeCasts_S16384x1024_S4x4096x1024

/-- A modulation over all tokens. -/
noncomputable def spread (g : FVec Ideal S4x1024 .f32) : FVec Ideal S4x4096x1024 .f32 :=
  broadcastInDim S4x4096x1024 ![0, 1, 2] bcast_S4x1x1024_S4x4096x1024_0_1_2 (broadcastInDim S4x1x1024 ![0, 2] bcast_S4x1024_S4x1x1024_0_2 g)

/-- A square projection. -/
noncomputable def square (h : FVec Ideal S4x4096x1024 .f32) (w : FVec Ideal S1x1024x1024 .f32) : FVec Ideal S4x4096x1024 .f32 :=
  Host.dotGeneral dot_S4x4096x1024_S1024x1024_S4x4096x1024_2_0_01_1_n_n none h (shapeCast _ w shapeCasts_S1x1024x1024_S1024x1024)

/-- The stream after the mix. -/
noncomputable def x1 (x : FVec Ideal S4x4096x1024 .f32) (oa ob : FVec Ideal S16384x512 .bf16) (ga gb : FVec Ideal S16384x1024 .bf16) (gt : FVec Ideal S4x1024 .f32)
    (wa wb : FVec Ideal S1x512x1024 .f32) (wo : FVec Ideal S1x1024x1024 .f32) : FVec Ideal S4x4096x1024 .f32 :=
  addf x (mulf (spread gt) (square (addf (mulf (gate ga) (branch oa wa)) (mulf (gate gb) (branch ob wb))) wo))

theorem branch_at (o : FVec Ideal S16384x512 .bf16) (w : FVec Ideal S1x512x1024 .f32) (b : Fin 4) (s : Fin 4096) (k : Fin 1024) :
    (branch o w (ix3 b s k) : EReal) = ∑ l : Fin 512, o (ix2 (⟨b.val * 4096 + s.val, by omega⟩ : Fin 16384) l) * w (ix3 (0 : Fin 1) l k) := by
  pointwise [branch]

theorem gate_at (g : FVec Ideal S16384x1024 .bf16) (b : Fin 4) (s : Fin 4096) (k : Fin 1024) :
    (gate g (ix3 b s k) : EReal) = g (ix2 (⟨b.val * 4096 + s.val, by omega⟩ : Fin 16384) k) := by
  pointwise [gate]

theorem spread_at (g : FVec Ideal S4x1024 .f32) (b : Fin 4) (s : Fin 4096) (k : Fin 1024) : (spread g (ix3 b s k) : EReal) = g (ix2 b k) := by
  pointwise [spread]

theorem square_at (h : FVec Ideal S4x4096x1024 .f32) (w : FVec Ideal S1x1024x1024 .f32) (b : Fin 4) (s : Fin 4096) (n : Fin 1024) :
    (square h w (ix3 b s n) : EReal) = Mix.rowMul (fun j => h (ix3 b s j)) (fun j n => w (ix3 (0 : Fin 1) j n)) n := by
  pointwise [square, Mix.rowMul]

theorem x1_at (x : FVec Ideal S4x4096x1024 .f32) (oa ob : FVec Ideal S16384x512 .bf16) (ga gb : FVec Ideal S16384x1024 .bf16) (gt : FVec Ideal S4x1024 .f32)
    (wa wb : FVec Ideal S1x512x1024 .f32) (wo : FVec Ideal S1x1024x1024 .f32) (b : Fin 4) (s : Fin 4096) (j : Fin 1024) :
    (x1 x oa ob ga gb gt wa wb wo (ix3 b s j) : EReal)
      = Mix.stream (fun j => x (ix3 b s j)) (fun l => oa (ix2 (⟨b.val * 4096 + s.val, by omega⟩ : Fin 16384) l)) (fun l => ob (ix2 (⟨b.val * 4096 + s.val, by omega⟩ : Fin 16384) l))
          (fun k => ga (ix2 (⟨b.val * 4096 + s.val, by omega⟩ : Fin 16384) k)) (fun k => gb (ix2 (⟨b.val * 4096 + s.val, by omega⟩ : Fin 16384) k))
          (fun j => gt (ix2 b j)) (fun l k => wa (ix3 (0 : Fin 1) l k)) (fun l k => wb (ix3 (0 : Fin 1) l k)) (fun k j => wo (ix3 (0 : Fin 1) k j)) j := by
  show (x (ix3 b s j) : EReal) + spread gt (ix3 b s j) * square _ wo (ix3 b s j) = _
  rw [spread_at, square_at]
  unfold Mix.stream Mix.rowMul
  refine congrArg (fun a : EReal => x (ix3 b s j) + gt (ix2 b j) * a) (Finset.sum_congr rfl fun k _ => congrArg (fun a : EReal => a * wo (ix3 (0 : Fin 1) k j)) ?_)
  show (gate ga (ix3 b s k) : EReal) * branch oa wa (ix3 b s k) + gate gb (ix3 b s k) * branch ob wb (ix3 b s k) = _
  rw [gate_at, gate_at, branch_at, branch_at]

/-- The modulated norm of the stream. -/
noncomputable def h2 (x : FVec Ideal S4x4096x1024 .f32) (sh sc : FVec Ideal S4x1024 .f32) (g : FVec Ideal S1x1024 .f32) : FVec Ideal S4x4096x1024 .f32 :=
  addf
    (mulf
      (mulf
        (mulf x
          (broadcastInDim S4x4096x1024 ![0, 1, 2] bcast_S4x4096x1_S4x4096x1024_0_1_2
            (Host.rsqrt
              (addf
                (Host.divf
                  (broadcastInDim S4x4096x1 ![0, 1] bcast_S4x4096_S4x4096x1_0_1
                    (Host.reduceAdd (mulf x x) (constant S_ .f32 0x00000000#32) reducesTo_S4x4096x1024_S4x4096_d2 h_S_))
                  (broadcastInDim S4x4096x1 ![] bcast_S_S4x4096x1 (constant S_ .f32 0x44800000#32)))
                (broadcastInDim S4x4096x1 ![] bcast_S_S4x4096x1 (constant S_ .f32 0x358637BD#32))))))
        (broadcastInDim S4x4096x1024 ![0, 1, 2] bcast_S1x1x1024_S4x4096x1024_0_1_2
          (broadcastInDim S1x1x1024 ![2] bcast_S1024_S1x1x1024_2 (shapeCast S1024 g shapeCasts_S1x1024_S1024))))
      (broadcastInDim S4x4096x1024 ![0, 1, 2] bcast_S4x1x1024_S4x4096x1024_0_1_2
        (addf (broadcastInDim S4x1x1024 ![] bcast_S_S4x1x1024 (constant S_ .f32 0x3F800000#32))
          (broadcastInDim S4x1x1024 ![0, 2] bcast_S4x1024_S4x1x1024_0_2 sc))))
    (broadcastInDim S4x4096x1024 ![0, 1, 2] bcast_S4x1x1024_S4x4096x1024_0_1_2
      (broadcastInDim S4x1x1024 ![0, 2] bcast_S4x1024_S4x1x1024_0_2 sh))

theorem h2_at (x : FVec Ideal S4x4096x1024 .f32) (sh sc : FVec Ideal S4x1024 .f32) (g : FVec Ideal S1x1024 .f32) (b : Fin 4) (s : Fin 4096) (j : Fin 1024) :
    (h2 x sh sc g (ix3 b s j) : EReal)
      = Spec.hidden (fun j => x (ix3 b s j)) (fun j => g (ix2 (0 : Fin 1) j)) (fun j => sc (ix2 b j)) (fun j => sh (ix2 b j)) j := by
  pointwise [h2, Spec.hidden]

/-- The tokens in one row each. -/
noncomputable def rows (x : FVec Ideal S4x4096x1024 .f32) : FVec Ideal S16384x1024 .f32 := shapeCast _ x shapeCasts_S4x4096x1024_S16384x1024

/-- The tokens in one column each. -/
noncomputable def cols (x : FVec Ideal S4x4096x1024 .f32) : FVec Ideal S1024x16384 .bf16 :=
  truncf .bf16 (transpose S1024x16384 [1, 0] (rows x) transposes_S16384x1024_S1024x16384_1_0) bitsLt_bf16_f32

theorem rows_at (x : FVec Ideal S4x4096x1024 .f32) (n : Fin 16384) (b : Fin 4) (s : Fin 4096) (hn : n.val = b.val * 4096 + s.val) (j : Fin 1024) :
    (rows x (ix2 n j) : EReal) = x (ix3 b s j) := by
  have e : n = (⟨b.val * 4096 + s.val, by omega⟩ : Fin 16384) := Fin.ext hn
  rw [e]
  pointwise [rows]

theorem cols_at (x : FVec Ideal S4x4096x1024 .f32) (n : Fin 16384) (j : Fin 1024) : (cols x (ix2 j n) : EReal) = rows x (ix2 n j) := by
  unfold cols
  generalize rows x = y
  pointwise

section Run
variable (m : (ℓ : Loc nD τ sig) → Buf (Elt Ideal) ℓ) (ρ : Dev nD → PrngReg) (c : Dev nD)

/-- The stream over the arguments. -/
noncomputable def X1 : FVec Ideal S4x4096x1024 .f32 :=
  x1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg9)) (m ((c.tc : Thread nD τ).loc main_arg10)) (m ((c.tc : Thread nD τ).loc main_arg11))

/-- The norm over the arguments. -/
noncomputable def H2 : FVec Ideal S4x4096x1024 .f32 :=
  h2 (X1 m c) (m ((c.tc : Thread nD τ).loc main_arg6)) (m ((c.tc : Thread nD τ).loc main_arg7)) (m ((c.tc : Thread nD τ).loc main_arg8))

theorem v48 : Value.res_main_v48 m c = cols (H2 m c) := by
  unfold Value.res_main_v48 cols rows H2 X1 h2 x1 spread square gate branch
  rfl

theorem v49 : Value.res_main_v49 m c = rows (square (H2 m c) (m ((c.tc : Thread nD τ).loc main_arg12))) := by
  unfold Value.res_main_v49 rows H2 X1 h2 x1 spread square gate branch
  rfl

theorem run :
    θ_run defs (onTc (τ := τ) (main (F := Ideal))) ⟨m, fun _ => 0, ρ⟩ fun r => ∀ c : Dev nD,
      r.2.mem ((c.tc : Thread nD τ).loc main_v45) = rows (X1 m c)
      ∧ r.2.mem ((c.tc : Thread nD τ).loc main_v48) = cols (H2 m c)
      ∧ r.2.mem ((c.tc : Thread nD τ).loc main_v49) = rows (square (H2 m c) (m ((c.tc : Thread nD τ).loc main_arg12)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c).1, (h c).2.1.trans (v48 m c), (h c).2.2.1.trans (v49 m c), (h c).2.2.2⟩) (Value.run m ρ)

end Run
end Cert.Reference2Ideal.Mix
end
-- ==== Proof.MixValue.lean ====
module

public import proofs.«01_k».proof.Defs
public import proofs.«01_k».proof.Proof.MixIns
public import proofs.«01_k».proof.Proof.MixRef
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import Idealize.ShloMosaic.Lib.Claim
public import Idealize.ShloMosaic.Lib.Quiescent

/-!
The mix: its frames, and that the kernel and the plain reference leave equal results.
-/

@[expose] public section
set_option maxHeartbeats 4000000
set_option maxRecDepth 16384
namespace Cert.Proof

open Idealize.ShloMosaic Idealize.ShloMosaic.TcCoe Idealize.SL.Sem

/-- The mix at machine floats runs, leaves its arguments and its semaphores. -/
theorem mix_frame_p : Cert.quiescent_Kernel2 (hKernel2 := Cert.Kernel2.Gen.facts) := fun m ρ _ => Cert.Kernel2.Gen.frame m ρ

/-- The mix at the extended reals runs, leaves its arguments and its semaphores. -/
theorem mix_frame_pi : Cert.quiescent_Kernel2Ideal (hKernel2Ideal := Cert.Kernel2Ideal.Gen.facts) := fun m ρ _ => Cert.Kernel2Ideal.Gen.frame m ρ

/-- The reference of the mix runs, leaves its arguments and its semaphores. -/
theorem mix_frame_ri : Cert.quiescent_Reference2Ideal (hReference2Ideal := Cert.Reference2Ideal.Gen.facts) := by
  intro m g _
  hlo_run
  · exact fun _ => ⟨trivial, trivial, trivial, trivial, trivial, trivial, trivial, trivial, trivial, trivial, trivial, trivial, trivial⟩
  · exact sem_eq_zero_of_no_sems (sig := Cert.Reference2Ideal.sig) (by decide) _

/-- The idealized mix is the mix. -/
theorem mix_preserves : Cert.preserves_Kernel2_Kernel2Ideal := trivial

theorem token_split (n : Fin 16384) : ∃ (b : Fin 4) (s : Fin 4096), n.val = b.val * 4096 + s.val ∧ Kernel2Ideal.Mix.Ins.seq n = b :=
  ⟨⟨n.val / 4096, by omega⟩, ⟨n.val % 4096, by omega⟩, by show n.val = n.val / 4096 * 4096 + n.val % 4096; omega, rfl⟩

section Equal
variable (m : (ℓ : Loc Kernel2Ideal.nD Kernel2Ideal.τ Kernel2Ideal.sig) → Buf (Elt Ideal) ℓ) (c : Dev Kernel2Ideal.nD)

/-- The reference's stream over the kernel's arguments. -/
noncomputable def mixX : FVec Ideal Reference2Ideal.S4x4096x1024 .f32 :=
  Reference2Ideal.Mix.x1 (m ((c.tc : Thread Kernel2Ideal.nD Kernel2Ideal.τ).loc Kernel2Ideal.main_arg0)) (m ((c.tc : Thread Kernel2Ideal.nD Kernel2Ideal.τ).loc Kernel2Ideal.main_arg1)) (m ((c.tc : Thread Kernel2Ideal.nD Kernel2Ideal.τ).loc Kernel2Ideal.main_arg2)) (m ((c.tc : Thread Kernel2Ideal.nD Kernel2Ideal.τ).loc Kernel2Ideal.main_arg3)) (m ((c.tc : Thread Kernel2Ideal.nD Kernel2Ideal.τ).loc Kernel2Ideal.main_arg4)) (m ((c.tc : Thread Kernel2Ideal.nD Kernel2Ideal.τ).loc Kernel2Ideal.main_arg5)) (m ((c.tc : Thread Kernel2Ideal.nD Kernel2Ideal.τ).loc Kernel2Ideal.main_arg9)) (m ((c.tc : Thread Kernel2Ideal.nD Kernel2Ideal.τ).loc Kernel2Ideal.main_arg10)) (m ((c.tc : Thread Kernel2Ideal.nD Kernel2Ideal.τ).loc Kernel2Ideal.main_arg11))

/-- The reference's norm over the kernel's arguments. -/
noncomputable def mixH : FVec Ideal Reference2Ideal.S4x4096x1024 .f32 := Reference2Ideal.Mix.h2 (mixX m c) (m ((c.tc : Thread Kernel2Ideal.nD Kernel2Ideal.τ).loc Kernel2Ideal.main_arg6)) (m ((c.tc : Thread Kernel2Ideal.nD Kernel2Ideal.τ).loc Kernel2Ideal.main_arg7)) (m ((c.tc : Thread Kernel2Ideal.nD Kernel2Ideal.τ).loc Kernel2Ideal.main_arg8))

theorem stream_tok (n : Fin 16384) (b : Fin 4) (s : Fin 4096) (hn : n.val = b.val * 4096 + s.val) (j : Fin 1024) :
    (mixX m c (ix3 b s j) : EReal) = (Kernel2Ideal.Mix.ins m c).stream n b j := by
  have e : n = (⟨b.val * 4096 + s.val, by omega⟩ : Fin 16384) := Fin.ext hn
  unfold mixX Kernel2Ideal.Mix.Ins.stream
  rw [Reference2Ideal.Mix.x1_at, ← e, funext (Kernel2Ideal.Mix.ins_x m c n b s hn), Kernel2Ideal.Mix.ins_oa, Kernel2Ideal.Mix.ins_ob, Kernel2Ideal.Mix.ins_ga, Kernel2Ideal.Mix.ins_gb,
    funext (Kernel2Ideal.Mix.ins_gt m c b), funext fun l => funext (Kernel2Ideal.Mix.ins_wa m c l), funext fun l => funext (Kernel2Ideal.Mix.ins_wb m c l), funext fun l => funext (Kernel2Ideal.Mix.ins_wo m c l)]

theorem norm_tok (n : Fin 16384) (b : Fin 4) (s : Fin 4096) (hn : n.val = b.val * 4096 + s.val) (j : Fin 1024) :
    (mixH m c (ix3 b s j) : EReal) = (Kernel2Ideal.Mix.ins m c).norm n b j := by
  unfold mixH Kernel2Ideal.Mix.Ins.norm
  rw [Reference2Ideal.Mix.h2_at, funext (stream_tok m c n b s hn), funext (Kernel2Ideal.Mix.ins_g m c), funext (Kernel2Ideal.Mix.ins_sc m c b), funext (Kernel2Ideal.Mix.ins_sh m c b)]

theorem stream_arr : Reference2Ideal.Mix.rows (mixX m c) = (Kernel2Ideal.Mix.ins m c).streamArr := by
  funext i
  obtain ⟨n, j, rfl⟩ : ∃ (n : Fin 16384) (j : Fin 1024), i = ix2 n j := ⟨i 0, i 1, by funext a; fin_cases a <;> rfl⟩
  obtain ⟨b, s, hn, hb⟩ := token_split n
  subst hb
  exact (Reference2Ideal.Mix.rows_at _ n _ s hn j).trans (stream_tok m c n _ s hn j)

theorem norm_arr : Reference2Ideal.Mix.cols (mixH m c) = (Kernel2Ideal.Mix.ins m c).normArr := by
  funext i
  obtain ⟨j, n, rfl⟩ : ∃ (j : Fin 1024) (n : Fin 16384), i = ix2 j n := ⟨i 0, i 1, by funext a; fin_cases a <;> rfl⟩
  obtain ⟨b, s, hn, hb⟩ := token_split n
  subst hb
  exact (Reference2Ideal.Mix.cols_at _ n j).trans ((Reference2Ideal.Mix.rows_at _ n _ s hn j).trans (norm_tok m c n _ s hn j))

theorem query_arr : Reference2Ideal.Mix.rows (Reference2Ideal.Mix.square (mixH m c) (m ((c.tc : Thread Kernel2Ideal.nD Kernel2Ideal.τ).loc Kernel2Ideal.main_arg12))) = (Kernel2Ideal.Mix.ins m c).queryArr := by
  funext i
  obtain ⟨n, j, rfl⟩ : ∃ (n : Fin 16384) (j : Fin 1024), i = ix2 n j := ⟨i 0, i 1, by funext a; fin_cases a <;> rfl⟩
  obtain ⟨b, s, hn, hb⟩ := token_split n
  subst hb
  refine (Reference2Ideal.Mix.rows_at _ n _ s hn j).trans ?_
  rw [Reference2Ideal.Mix.square_at, funext (norm_tok m c n _ s hn)]
  show _ = Mix.rowMul ((Kernel2Ideal.Mix.ins m c).norm n (Kernel2Ideal.Mix.Ins.seq n)) (fun j n => (Kernel2Ideal.Mix.ins m c).wq (ix2 j n)) j
  rw [funext fun l => funext (Kernel2Ideal.Mix.ins_wq m c l)]

end Equal

theorem mix_value : Cert.algebraic_Kernel2Ideal_Reference2Ideal (hKernel2Ideal := Cert.Kernel2Ideal.Gen.facts) (hReference2Ideal := Cert.Reference2Ideal.Gen.facts) := by
  intro m g m' g' _ hagree
  refine ⟨fun c => (Kernel2Ideal.Gen.dats m 0 c).arrAt 13 Kernel2Ideal.cfg0.N, fun c => (Kernel2Ideal.Gen.dats m 0 c).arrAt 14 Kernel2Ideal.cfg0.N,
    fun c => (Kernel2Ideal.Gen.dats m 0 c).arrAt 15 Kernel2Ideal.cfg0.N, Kernel2Ideal.Value.run_blocks m g, (θ_run _ _ _).mono (fun s h c => ?_) (Reference2Ideal.Mix.run m' g')⟩
  obtain ⟨h0, h1, h2, ha⟩ := h c
  obtain ⟨a0, a1, a2, a3, a4, a5, a6, a7, a8, a9, a10, a11, a12⟩ := hagree c
  have hx : Reference2Ideal.Mix.X1 m' c = mixX m c := by
    unfold Reference2Ideal.Mix.X1 mixX
    rw [a0, a1, a2, a3, a4, a5, a9, a10, a11]
  have hh : Reference2Ideal.Mix.H2 m' c = mixH m c := by
    unfold Reference2Ideal.Mix.H2 mixH
    rw [hx, a6, a7, a8]
  refine ⟨h0.trans ?_, h1.trans ?_, h2.trans ?_, ha⟩
  · rw [hx]
    exact (stream_arr m c).trans (Kernel2Ideal.Mix.stream_final m c).symm
  · rw [hh]
    exact (norm_arr m c).trans (Kernel2Ideal.Mix.norm_final m c).symm
  · rw [hh, a12]
    exact (query_arr m c).trans (Kernel2Ideal.Mix.query_final m c).symm

end Cert.Proof
end
-- ==== Proof.FinalValue.lean ====
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import Idealize.ShloMosaic.Lib.Pointwise
public import Idealize.ShloMosaic.Lib.Pipeline.ValueKit
public import Idealize.ShloMosaic.Lib.Claim
public import Idealize.ShloMosaic.Lib.StableHlo.RunRead
public import Idealize.ShloMosaic.Lib.Quiescent

/-!
The last norm: the experts' gated output joins the stream, and the sum is normed.
-/

@[expose] public section
set_option maxHeartbeats 4000000
set_option maxRecDepth 16384

namespace Cert.Final
open Idealize.ShloMosaic

/-- The norm of one token's stream with the gated expert output added. -/
noncomputable def out (x p gt g : Fin 1024 → EReal) (j : Fin 1024) : EReal :=
  (x j + gt j * p j) * Ideal.rsqrt (Ideal.div (∑ i, (x i + gt i * p i) * (x i + gt i * p i)) (Ideal.ofBits .f32 0x44800000#32) + Ideal.ofBits .f32 0x358637BD#32) * g j

end Cert.Final

namespace Cert.Kernel3Ideal.Final

open Idealize.ShloMosaic Idealize.ShloMosaic.TcCoe Idealize.ShloMosaic.Tactic
open Cert.Kernel3Ideal Cert.Kernel3Ideal.Gen

theorem pay_at (v0 : Vec Ideal S512x1024 .f32) (v1 : Vec Ideal S1x1x1024 .f32) (v3 : Vec Ideal S1024x512 .f32) (v18 : Vec Ideal S1x1024 .f32) (t : Fin 512) (j : Fin 1024) :
    (k0_pay1 v0 v1 v3 v18 (ix2 t j) : EReal)
      = Final.out (fun j => v0 (ix2 t j)) (fun j => v3 (ix2 j t)) (fun j => v1 (ix3 (0 : Fin 1) (0 : Fin 1) j)) (fun j => v18 (ix2 (0 : Fin 1) j)) j := by
  pointwise [k0_pay1, Final.out]

theorem tile_at (x0 : Vec Ideal S512x1024 .f32) (x1 : Vec Ideal S1024x512 .f32) (x2 : Vec Ideal S1x1x1024 .f32) (x3 : Vec Ideal S1x1024 .f32) (t : Fin 512) (j : Fin 1024) :
    (out0_4 x0 x1 x2 x3 (ix2 t j) : EReal)
      = Final.out (fun j => x0 (ix2 t j)) (fun j => x1 (ix2 j t)) (fun j => x2 (ix3 (0 : Fin 1) (0 : Fin 1) j)) (fun j => x3 (ix2 (0 : Fin 1) j)) j := by
  have l0 : View.ld x0 r0_0 = x0 := View.ld_unit_lit _ x0 (by decide)
  have l1 : View.ld x1 r0_2 = x1 := View.ld_unit_lit _ x1 (by decide)
  have l2 : View.ld x2 r0_1 = x2 := View.ld_unit_lit _ x2 (by decide)
  have l3 : View.ld x3 r0_3 = x3 := View.ld_unit_lit _ x3 (by decide)
  unfold out0_4
  rw [View.canon_cons_unit_zero (S := S512x1024) (funext fun a => by fin_cases a <;> rfl) _ _ _, l0, l1, l2, l3]
  exact pay_at x0 x2 x1 x3 t j

theorem idx : ∀ t : Fin cfg0.N, win0_0.index t = ![t.val, 0] ∧ win0_1.index t = ![0, t.val] ∧ win0_2.index t = ![t.val / 8, 0, 0] ∧ win0_3.index t = ![0, 0]
    ∧ win0_4.index t = ![t.val, 0] ∧ t.val < 32 :=
  (by decide +kernel : ∀ t : Fin grid0.N, _)

/-- The normed stream over the arrays the call reads. -/
noncomputable def arr (x : FVec Ideal S16384x1024 .f32) (p : FVec Ideal S1024x16384 .f32) (gt : FVec Ideal S4x1x1024 .f32) (g : FVec Ideal S1x1024 .f32) : FVec Ideal S16384x1024 .f32 :=
  fun i => Final.out (fun j => x (ix2 (i 0) j)) (fun j => p (ix2 j (i 0)))
    (fun j => gt (ix3 (⟨(i 0).val / 4096, by have h : (i 0).val < 16384 := (i 0).isLt; omega⟩ : Fin 4) (0 : Fin 1) j)) (fun j => g (ix2 (0 : Fin 1) j)) (i 1)

variable (m : (ℓ : Loc nD τ sig) → Buf (Elt Ideal) ℓ) (c : Dev nD) (t : Fin cfg0.N)

theorem blk0 (u : Fin 512) (j : Fin 1024) (n : Fin 16384) (hn : n.val = 512 * t.val + u.val) :
    (iblk m c 0 t : FVec Ideal S512x1024 .f32) (ix2 u j) = (V m c main_arg0 : FVec Ideal S16384x1024 .f32) (ix2 n j) := by
  blk_ext [iblk, idx t]
theorem blk1 (u : Fin 512) (j : Fin 1024) (n : Fin 16384) (hn : n.val = 512 * t.val + u.val) :
    (iblk m c 1 t : FVec Ideal S1024x512 .f32) (ix2 j u) = (V m c main_arg1 : FVec Ideal S1024x16384 .f32) (ix2 j n) := by
  blk_ext [iblk, idx t]
theorem blk2 (j : Fin 1024) (b : Fin 4) (hb : b.val = t.val / 8) :
    (iblk m c 2 t : FVec Ideal S1x1x1024 .f32) (ix3 (0 : Fin 1) (0 : Fin 1) j) = (V m c main_v0 : FVec Ideal S4x1x1024 .f32) (ix3 b (0 : Fin 1) j) := by
  blk_ext [iblk, idx t]
theorem blk3 : (iblk m c 3 t : FVec Ideal S1x1024 .f32) = V m c main_v1 := by blk_ext! [iblk, idx t]

theorem point (y : S512x1024.Idx) (i : S16384x1024.Idx) (h0 : (i 0).val = 512 * t.val + (y 0).val) (h1 : (i 1).val = (y 1).val) :
    (out0_4 (iblk m c 0 t) (iblk m c 1 t) (iblk m c 2 t) (iblk m c 3 t) y : EReal) = arr (V m c main_arg0) (V m c main_arg1) (V m c main_v0) (V m c main_v1) i := by
  obtain ⟨u0, u1, rfl⟩ : ∃ (u0 : Fin 512) (u1 : Fin 1024), y = ix2 u0 u1 := ⟨y 0, y 1, by funext a; fin_cases a <;> rfl⟩
  obtain ⟨i0, i1, rfl⟩ : ∃ (i0 : Fin 16384) (i1 : Fin 1024), i = ix2 i0 i1 := ⟨i 0, i 1, by funext a; fin_cases a <;> rfl⟩
  obtain rfl : i1 = u1 := Fin.ext h1
  have e0 : i0.val = 512 * t.val + u0.val := h0
  refine (tile_at _ _ _ _ u0 i1).trans ?_
  rw [funext fun j => blk0 m c t u0 j i0 e0, funext fun j => blk1 m c t u0 j i0 e0,
    funext fun j => blk2 m c t j (⟨i0.val / 4096, by omega⟩ : Fin 4) (by show i0.val / 4096 = _; omega), blk3]
  rfl

theorem final : (dats m 0 c).arrAt 4 cfg0.N = arr (V m c main_arg0) (V m c main_arg1) (V m c main_v0) (V m c main_v1) := by
  refine (dats m 0 c).arrAt_eq_of_covers 4 _ (by decide +kernel) fun t _ y => ?_
  rw [after0_4]
  blk_simp
  exact point m c t y _ (by blk_simp [idx t]; try omega) (by blk_simp [idx t]; try omega)

theorem gate_read (b : Fin 4) (j : Fin 1024) : ((V m c main_v0 : FVec Ideal S4x1x1024 .f32) (ix3 b (0 : Fin 1) j) : EReal) = (m ((c.tc : Thread nD τ).loc main_arg2) : FVec Ideal S4x1024 .f32) (ix2 b j) := by
  entry_read
  pointwise

theorem weight_read (j : Fin 1024) : ((V m c main_v1 : FVec Ideal S1x1024 .f32) (ix2 (0 : Fin 1) j) : EReal) = (m ((c.tc : Thread nD τ).loc main_arg3) : FVec Ideal S1024 .f32) (ix1 j) := by
  entry_read
  pointwise

end Cert.Kernel3Ideal.Final

namespace Cert.Reference3Ideal.Final

open Idealize.ShloMosaic Idealize.ShloMosaic.TcCoe Idealize.SL.Sem
open Cert.Reference3Ideal Cert.Reference3Ideal.Gen

/-- The stream with the gated expert output added. -/
noncomputable def stream (x : FVec Ideal S16384x1024 .f32) (p : FVec Ideal S1024x16384 .f32) (gt : FVec Ideal S4x1024 .f32) : FVec Ideal S4x4096x1024 .f32 :=
  addf (shapeCast _ x shapeCasts_S16384x1024_S4x4096x1024)
    (mulf (broadcastInDim S4x4096x1024 ![0, 1, 2] bcast_S4x1x1024_S4x4096x1024_0_1_2 (broadcastInDim S4x1x1024 ![0, 2] bcast_S4x1024_S4x1x1024_0_2 gt))
      (shapeCast _ (transpose S16384x1024 [1, 0] p transposes_S1024x16384_S16384x1024_1_0) shapeCasts_S16384x1024_S4x4096x1024))

/-- The norm of a stream. -/
noncomputable def norm (x : FVec Ideal S4x4096x1024 .f32) (g : FVec Ideal S1024 .f32) : FVec Ideal S4x4096x1024 .f32 :=
  mulf
    (mulf x
      (broadcastInDim S4x4096x1024 ![0, 1, 2] bcast_S4x4096x1_S4x4096x1024_0_1_2
        (Host.rsqrt
          (addf
            (Host.divf
              (broadcastInDim S4x4096x1 ![0, 1] bcast_S4x4096_S4x4096x1_0_1
                (Host.reduceAdd (mulf x x) (constant S_ .f32 0x00000000#32) reducesTo_S4x4096x1024_S4x4096_d2 h_S_))
              (broadcastInDim S4x4096x1 ![] bcast_S_S4x4096x1 (constant S_ .f32 0x44800000#32)))
            (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 g))

/-- The result. -/
noncomputable def res (x : FVec Ideal S16384x1024 .f32) (p : FVec Ideal S1024x16384 .f32) (gt : FVec Ideal S4x1024 .f32) (g : FVec Ideal S1024 .f32) : FVec Ideal S16384x1024 .f32 :=
  shapeCast S16384x1024 (norm (stream x p gt) g) shapeCasts_S4x4096x1024_S16384x1024

theorem stream_at (x : FVec Ideal S16384x1024 .f32) (p : FVec Ideal S1024x16384 .f32) (gt : FVec Ideal S4x1024 .f32) (n : Fin 16384) (b : Fin 4) (s : Fin 4096)
    (hn : n.val = b.val * 4096 + s.val) (j : Fin 1024) : (stream x p gt (ix3 b s j) : EReal) = x (ix2 n j) + gt (ix2 b j) * p (ix2 j n) := by
  have e : n = (⟨b.val * 4096 + s.val, by omega⟩ : Fin 16384) := Fin.ext hn
  rw [e]
  pointwise [stream]

theorem norm_at (x : FVec Ideal S4x4096x1024 .f32) (g : FVec Ideal S1024 .f32) (b : Fin 4) (s : Fin 4096) (j : Fin 1024) :
    (norm x g (ix3 b s j) : EReal)
      = x (ix3 b s j) * Ideal.rsqrt (Ideal.div (∑ i : Fin 1024, x (ix3 b s i) * x (ix3 b s i)) (Ideal.ofBits .f32 0x44800000#32) + Ideal.ofBits .f32 0x358637BD#32) * g (ix1 j) := by
  pointwise [norm]

theorem res_at (x : FVec Ideal S16384x1024 .f32) (p : FVec Ideal S1024x16384 .f32) (gt : FVec Ideal S4x1024 .f32) (g : FVec Ideal S1024 .f32) (n : Fin 16384) (b : Fin 4) (s : Fin 4096)
    (hn : n.val = b.val * 4096 + s.val) (j : Fin 1024) :
    (res x p gt g (ix2 n j) : EReal) = Final.out (fun j => x (ix2 n j)) (fun j => p (ix2 j n)) (fun j => gt (ix2 b j)) (fun j => g (ix1 j)) j := by
  have h : (res x p gt g (ix2 n j) : EReal) = norm (stream x p gt) g (ix3 b s j) := by
    have e : n = (⟨b.val * 4096 + s.val, by omega⟩ : Fin 16384) := Fin.ext hn
    rw [e]
    unfold res
    generalize norm (stream x p gt) g = y
    pointwise
  rw [h, norm_at]
  unfold Final.out
  rw [stream_at x p gt n b s hn, Finset.sum_congr rfl fun i _ => congrArg₂ (fun u v : EReal => u * v) (stream_at x p gt n b s hn i) (stream_at x p gt n b s hn i)]

end Cert.Reference3Ideal.Final

namespace Cert.Proof

open Idealize.ShloMosaic Idealize.ShloMosaic.TcCoe Idealize.SL.Sem

/-- The last norm at machine floats runs, leaves its arguments and its semaphores. -/
theorem final_frame_p : Cert.quiescent_Kernel3 (hKernel3 := Cert.Kernel3.Gen.facts) := fun m ρ _ => Cert.Kernel3.Gen.frame m ρ

/-- The last norm at the extended reals runs, leaves its arguments and its semaphores. -/
theorem final_frame_pi : Cert.quiescent_Kernel3Ideal (hKernel3Ideal := Cert.Kernel3Ideal.Gen.facts) := fun m ρ _ => Cert.Kernel3Ideal.Gen.frame m ρ

/-- The reference of the last norm runs, leaves its arguments and its semaphores. -/
theorem final_frame_ri : Cert.quiescent_Reference3Ideal (hReference3Ideal := Cert.Reference3Ideal.Gen.facts) := by
  intro m g _
  hlo_run
  · exact fun _ => ⟨trivial, trivial, trivial, trivial⟩
  · exact sem_eq_zero_of_no_sems (sig := Cert.Reference3Ideal.sig) (by decide) _

/-- The idealized last norm is the last norm. -/
theorem final_preserves : Cert.preserves_Kernel3_Kernel3Ideal := trivial

section Equal
variable (m : (ℓ : Loc Kernel3Ideal.nD Kernel3Ideal.τ Kernel3Ideal.sig) → Buf (Elt Ideal) ℓ) (c : Dev Kernel3Ideal.nD)

theorem final_arr : Reference3Ideal.Final.res (m ((c.tc : Thread Kernel3Ideal.nD Kernel3Ideal.τ).loc Kernel3Ideal.main_arg0)) (m ((c.tc : Thread Kernel3Ideal.nD Kernel3Ideal.τ).loc Kernel3Ideal.main_arg1))
      (m ((c.tc : Thread Kernel3Ideal.nD Kernel3Ideal.τ).loc Kernel3Ideal.main_arg2)) (m ((c.tc : Thread Kernel3Ideal.nD Kernel3Ideal.τ).loc Kernel3Ideal.main_arg3))
    = (Kernel3Ideal.Gen.dats m 0 c).arrAt 4 Kernel3Ideal.cfg0.N := by
  rw [Kernel3Ideal.Final.final]
  funext i
  obtain ⟨n, j, rfl⟩ : ∃ (n : Fin 16384) (j : Fin 1024), i = ix2 n j := ⟨i 0, i 1, by funext a; fin_cases a <;> rfl⟩
  refine (Reference3Ideal.Final.res_at _ _ _ _ n (⟨n.val / 4096, by omega⟩ : Fin 4) (⟨n.val % 4096, by omega⟩ : Fin 4096) (by show n.val = n.val / 4096 * 4096 + n.val % 4096; omega) j).trans ?_
  rw [Kernel3Ideal.Gen.V_main_arg0, Kernel3Ideal.Gen.V_main_arg1]
  unfold Kernel3Ideal.Final.arr
  rw [funext fun j => Kernel3Ideal.Final.gate_read m c _ j, funext fun j => Kernel3Ideal.Final.weight_read m c j]
  rfl

end Equal

theorem final_value : Cert.algebraic_Kernel3Ideal_Reference3Ideal (hKernel3Ideal := Cert.Kernel3Ideal.Gen.facts) (hReference3Ideal := Cert.Reference3Ideal.Gen.facts) := by
  intro m g m' g' _ hagree
  refine ⟨fun c => (Kernel3Ideal.Gen.dats m 0 c).arrAt 4 Kernel3Ideal.cfg0.N, Kernel3Ideal.Value.run_blocks m g, (θ_run _ _ _).mono (fun s h c => ?_) (Reference3Ideal.Value.run m' g')⟩
  obtain ⟨h0, ha⟩ := h c
  obtain ⟨a0, a1, a2, a3⟩ := hagree c
  refine ⟨h0.trans (Eq.trans ?_ (final_arr m c)), ha⟩
  rw [a0, a1, a2, a3]
  rfl

end Cert.Proof
end
-- ==== Proof.AdaValue.lean ====
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import Idealize.ShloMosaic.Lib.Pointwise
public import Idealize.ShloMosaic.Lib.Pipeline.ValueKit
public import Idealize.ShloMosaic.Lib.Claim
public import Idealize.ShloMosaic.Lib.StableHlo.RunRead
public import Idealize.ShloMosaic.Lib.Quiescent

/-!
The modulation: the condition through a sigmoid gate, a projection and a bias.
-/

@[expose] public section
set_option maxHeartbeats 4000000
set_option maxRecDepth 16384

namespace Cert.Ada
open Idealize.ShloMosaic

/-- One column of the modulation of one sequence. -/
noncomputable def out (x w : Fin 1024 → EReal) (b : EReal) : EReal := (∑ j : Fin 1024, x j * Ideal.logistic (x j) * w j) + b

end Cert.Ada

namespace Cert.Kernel4Ideal.Ada

open Idealize.ShloMosaic Idealize.ShloMosaic.TcCoe Idealize.ShloMosaic.Tactic
open Cert.Kernel4Ideal Cert.Kernel4Ideal.Gen

theorem pay_at (v0 : Vec Ideal S4x1024 .f32) (v3 : Vec Ideal S1024x1024 .f32) (v6 : Vec Ideal S1x1024 .f32) (b : Fin 4) (n : Fin 1024) :
    (k0_pay1 v0 v3 v6 (ix2 b n) : EReal) = Ada.out (fun j => v0 (ix2 b j)) (fun j => v3 (ix2 j n)) (v6 (ix2 (0 : Fin 1) n)) := by
  pointwise [k0_pay1, Ada.out]

theorem tile_at (x0 : Vec Ideal S4x1024 .f32) (x1 : Vec Ideal S1024x1024 .f32) (x2 : Vec Ideal S1x1024 .f32) (b : Fin 4) (n : Fin 1024) :
    (out0_3 x0 x1 x2 (ix2 b n) : EReal) = Ada.out (fun j => x0 (ix2 b j)) (fun j => x1 (ix2 j n)) (x2 (ix2 (0 : Fin 1) n)) := by
  have l0 : View.ld x0 r0_0 = x0 := View.ld_unit_lit _ x0 (by decide)
  have l1 : View.ld x1 r0_1 = x1 := View.ld_unit_lit _ x1 (by decide)
  have l2 : View.ld x2 r0_2 = x2 := View.ld_unit_lit _ x2 (by decide)
  unfold out0_3
  rw [View.canon_cons_unit_zero (S := S4x1024) (funext fun a => by fin_cases a <;> rfl) _ _ _, l0, l1, l2]
  exact pay_at x0 x1 x2 b n

theorem idx : ∀ t : Fin cfg0.N, win0_0.index t = ![0, 0] ∧ win0_1.index t = ![0, t.val] ∧ win0_2.index t = ![0, t.val] ∧ win0_3.index t = ![0, t.val] ∧ t.val < 6 :=
  (by decide +kernel : ∀ t : Fin grid0.N, _)

/-- The modulation over the arrays the call reads. -/
noncomputable def arr (x : FVec Ideal S4x1024 .f32) (w : FVec Ideal S1024x6144 .f32) (b : FVec Ideal S1x6144 .f32) : FVec Ideal S4x6144 .f32 :=
  fun i => Ada.out (fun j => x (ix2 (i 0) j)) (fun j => w (ix2 j (i 1))) (b (ix2 (0 : Fin 1) (i 1)))

variable (m : (ℓ : Loc nD τ sig) → Buf (Elt Ideal) ℓ) (c : Dev nD) (t : Fin cfg0.N)

theorem blk0 : (iblk m c 0 t : FVec Ideal S4x1024 .f32) = V m c main_arg0 := by blk_ext! [iblk, idx t]
theorem blk1 (u : Fin 1024) (j : Fin 1024) (n : Fin 6144) (hn : n.val = 1024 * t.val + u.val) :
    (iblk m c 1 t : FVec Ideal S1024x1024 .f32) (ix2 j u) = (V m c main_v0 : FVec Ideal S1024x6144 .f32) (ix2 j n) := by
  blk_ext [iblk, idx t]
theorem blk2 (u : Fin 1024) (n : Fin 6144) (hn : n.val = 1024 * t.val + u.val) :
    (iblk m c 2 t : FVec Ideal S1x1024 .f32) (ix2 (0 : Fin 1) u) = (V m c main_v2 : FVec Ideal S1x6144 .f32) (ix2 (0 : Fin 1) n) := by
  blk_ext [iblk, idx t]

theorem point (y : S4x1024.Idx) (i : S4x6144.Idx) (h0 : (i 0).val = (y 0).val) (h1 : (i 1).val = 1024 * t.val + (y 1).val) :
    (out0_3 (iblk m c 0 t) (iblk m c 1 t) (iblk m c 2 t) y : EReal) = arr (V m c main_arg0) (V m c main_v0) (V m c main_v2) i := by
  obtain ⟨u0, u1, rfl⟩ : ∃ (u0 : Fin 4) (u1 : Fin 1024), y = ix2 u0 u1 := ⟨y 0, y 1, by funext a; fin_cases a <;> rfl⟩
  obtain ⟨i0, i1, rfl⟩ : ∃ (i0 : Fin 4) (i1 : Fin 6144), i = ix2 i0 i1 := ⟨i 0, i 1, by funext a; fin_cases a <;> rfl⟩
  obtain rfl : i0 = u0 := Fin.ext h0
  refine (tile_at _ _ _ i0 u1).trans ?_
  rw [blk0, funext fun j => blk1 m c t u1 j i1 h1, blk2 m c t u1 i1 h1]
  rfl

theorem final : (dats m 0 c).arrAt 3 cfg0.N = arr (V m c main_arg0) (V m c main_v0) (V m c main_v2) := by
  refine (dats m 0 c).arrAt_eq_of_covers 3 _ (by decide +kernel) fun t _ y => ?_
  rw [after0_3]
  blk_simp
  exact point m c t y _ (by blk_simp [idx t]; try omega) (by blk_simp [idx t]; try omega)

theorem weight_read (j : Fin 1024) (n : Fin 6144) : ((V m c main_v0 : FVec Ideal S1024x6144 .f32) (ix2 j n) : EReal) = (m ((c.tc : Thread nD τ).loc main_arg1) : FVec Ideal S1x1024x6144 .f32) (ix3 (0 : Fin 1) j n) := by
  entry_read
  pointwise

theorem bias_read (n : Fin 6144) : ((V m c main_v2 : FVec Ideal S1x6144 .f32) (ix2 (0 : Fin 1) n) : EReal) = (m ((c.tc : Thread nD τ).loc main_arg2) : FVec Ideal S1x6144 .f32) (ix2 (0 : Fin 1) n) := by
  entry_read
  pointwise

end Cert.Kernel4Ideal.Ada

namespace Cert.Reference4Ideal.Ada

open Idealize.ShloMosaic Idealize.ShloMosaic.TcCoe Idealize.SL.Sem
open Cert.Reference4Ideal Cert.Reference4Ideal.Gen

/-- The gated condition. -/
noncomputable def gated (x : FVec Ideal S4x1024 .f32) : FVec Ideal S4x1024 .f32 :=
  mulf x (Host.divf (broadcastInDim S4x1024 ![] bcast_S_S4x1024 (constant S_ .f32 0x3F800000#32))
    (addf (broadcastInDim S4x1024 ![] bcast_S_S4x1024 (constant S_ .f32 0x3F800000#32)) (Host.exp (Host.negf x))))

/-- The result. -/
noncomputable def res (x : FVec Ideal S4x1024 .f32) (w : FVec Ideal S1x1024x6144 .f32) (b : FVec Ideal S1x6144 .f32) : FVec Ideal S4x6144 .f32 :=
  addf (Host.dotGeneral dot_S4x1024_S1024x6144_S4x6144_1_0_0_1_n_n none (gated x) (shapeCast _ w shapeCasts_S1x1024x6144_S1024x6144))
    (broadcastInDim S4x6144 ![0, 1] bcast_S1x6144_S4x6144_0_1 (broadcastInDim S1x6144 ![1] bcast_S6144_S1x6144_1 (shapeCast _ b shapeCasts_S1x6144_S6144)))

theorem gated_at (x : FVec Ideal S4x1024 .f32) (b : Fin 4) (j : Fin 1024) : (gated x (ix2 b j) : EReal) = x (ix2 b j) * Ideal.logistic (x (ix2 b j)) := by
  have one : (Ideal.ofBits .f32 0x3F800000#32 : EReal) = 1 := by pointwise
  show (x (ix2 b j) : EReal) * Ideal.div (Ideal.ofBits .f32 0x3F800000#32) (Ideal.ofBits .f32 0x3F800000#32 + Ideal.exp (-(x (ix2 b j) : EReal))) = _
  rw [one]
  rfl

theorem res_at (x : FVec Ideal S4x1024 .f32) (w : FVec Ideal S1x1024x6144 .f32) (b : FVec Ideal S1x6144 .f32) (s : Fin 4) (n : Fin 6144) :
    (res x w b (ix2 s n) : EReal) = Ada.out (fun j => x (ix2 s j)) (fun j => w (ix3 (0 : Fin 1) j n)) (b (ix2 (0 : Fin 1) n)) := by
  have h : (res x w b (ix2 s n) : EReal) = (∑ j : Fin 1024, gated x (ix2 s j) * w (ix3 (0 : Fin 1) j n)) + b (ix2 (0 : Fin 1) n) := by
    unfold res
    generalize gated x = y
    pointwise
  rw [h]
  unfold Ada.out
  rw [Finset.sum_congr rfl fun j _ => congrArg (fun u : EReal => u * w (ix3 (0 : Fin 1) j n)) (gated_at x s j)]

end Cert.Reference4Ideal.Ada

namespace Cert.Proof

open Idealize.ShloMosaic Idealize.ShloMosaic.TcCoe Idealize.SL.Sem

/-- The modulation at machine floats runs, leaves its arguments and its semaphores. -/
theorem ada_frame_p : Cert.quiescent_Kernel4 (hKernel4 := Cert.Kernel4.Gen.facts) := fun m ρ _ => Cert.Kernel4.Gen.frame m ρ

/-- The modulation at the extended reals runs, leaves its arguments and its semaphores. -/
theorem ada_frame_pi : Cert.quiescent_Kernel4Ideal (hKernel4Ideal := Cert.Kernel4Ideal.Gen.facts) := fun m ρ _ => Cert.Kernel4Ideal.Gen.frame m ρ

/-- The reference of the modulation runs, leaves its arguments and its semaphores. -/
theorem ada_frame_ri : Cert.quiescent_Reference4Ideal (hReference4Ideal := Cert.Reference4Ideal.Gen.facts) := by
  intro m g _
  hlo_run
  · exact fun _ => ⟨trivial, trivial, trivial⟩
  · exact sem_eq_zero_of_no_sems (sig := Cert.Reference4Ideal.sig) (by decide) _

/-- The idealized modulation is the modulation. -/
theorem ada_preserves : Cert.preserves_Kernel4_Kernel4Ideal := trivial

section Equal
variable (m : (ℓ : Loc Kernel4Ideal.nD Kernel4Ideal.τ Kernel4Ideal.sig) → Buf (Elt Ideal) ℓ) (c : Dev Kernel4Ideal.nD)

theorem ada_arr : Reference4Ideal.Ada.res (m ((c.tc : Thread Kernel4Ideal.nD Kernel4Ideal.τ).loc Kernel4Ideal.main_arg0)) (m ((c.tc : Thread Kernel4Ideal.nD Kernel4Ideal.τ).loc Kernel4Ideal.main_arg1))
      (m ((c.tc : Thread Kernel4Ideal.nD Kernel4Ideal.τ).loc Kernel4Ideal.main_arg2))
    = (Kernel4Ideal.Gen.dats m 0 c).arrAt 3 Kernel4Ideal.cfg0.N := by
  rw [Kernel4Ideal.Ada.final]
  funext i
  obtain ⟨s, n, rfl⟩ : ∃ (s : Fin 4) (n : Fin 6144), i = ix2 s n := ⟨i 0, i 1, by funext a; fin_cases a <;> rfl⟩
  refine (Reference4Ideal.Ada.res_at _ _ _ s n).trans ?_
  rw [Kernel4Ideal.Gen.V_main_arg0]
  unfold Kernel4Ideal.Ada.arr
  refine congrArg₂ (Ada.out _) (funext fun j => (Kernel4Ideal.Ada.weight_read m c j n).symm) (Kernel4Ideal.Ada.bias_read m c n).symm

end Equal

theorem ada_value : Cert.algebraic_Kernel4Ideal_Reference4Ideal (hKernel4Ideal := Cert.Kernel4Ideal.Gen.facts) (hReference4Ideal := Cert.Reference4Ideal.Gen.facts) := by
  intro m g m' g' _ hagree
  refine ⟨fun c => (Kernel4Ideal.Gen.dats m 0 c).arrAt 3 Kernel4Ideal.cfg0.N, Kernel4Ideal.Value.run_blocks m g, (θ_run _ _ _).mono (fun s h c => ?_) (Reference4Ideal.Value.run m' g')⟩
  obtain ⟨h0, ha⟩ := h c
  obtain ⟨a0, a1, a2⟩ := hagree c
  refine ⟨h0.trans (Eq.trans ?_ (ada_arr m c)), ha⟩
  rw [a0, a1, a2]
  rfl

end Cert.Proof
end
-- ==== Proof.SwaIn.lean ====
module

public import proofs.«01_k».proof.Proof.Spec
public import proofs.«01_k».proof.Proof.Gen.Kernel5Ideal.Frame
public import Idealize.ShloMosaic.Lib.Pointwise
public import Idealize.ShloMosaic.Lib.Pipeline.ValueKit

/-!
The window attention's queries, keys and values as the input projection call writes them, over the arrays it reads.
-/

@[expose] public section
set_option maxHeartbeats 4000000
set_option maxRecDepth 16384
namespace Cert.Kernel5Ideal.Swa

open Idealize.ShloMosaic Idealize.ShloMosaic.TcCoe Idealize.ShloMosaic.Tactic Idealize.SL.Sem
open Cert.Kernel5Ideal Cert.Kernel5Ideal.Gen

/-- The modulated norm of a row of a tile. -/
noncomputable def row (x0 : Vec Ideal S512x1024 .f32) (x1 : Vec Ideal S1x1024 .f32) (x2 x3 : Vec Ideal S1x1x1024 .f32) (t : Fin 512) (j : Fin 1024) : EReal :=
  Spec.hidden (fun j => x0 (ix2 t j)) (fun j => x1 (ix2 (0 : Fin 1) j)) (fun j => x2 (ix3 (0 : Fin 1) (0 : Fin 1) j)) (fun j => x3 (ix3 (0 : Fin 1) (0 : Fin 1) j)) j

section Pay
variable (x0 : Vec Ideal S512x1024 .f32) (x1 : Vec Ideal S1x1024 .f32) (x2 x3 : Vec Ideal S1x1x1024 .f32)

theorem norm_at (t : Fin 512) (j : Fin 1024) : (k0_pay4 x0 x1 x2 x3 (ix2 t j) : EReal) = row x0 x1 x2 x3 t j := by
  pointwise [k0_pay4, row, Spec.hidden]

theorem rows_at (t : Fin 512) (j : Fin 1024) : (k0_pay5 x0 x1 x2 x3 (ix2 t j) : EReal) = row x0 x1 x2 x3 t j := norm_at x0 x1 x2 x3 t j

theorem cols_at (t : Fin 512) (j : Fin 1024) : (k0_pay6 x0 x1 x2 x3 (ix2 j t) : EReal) = row x0 x1 x2 x3 t j := by
  refine Eq.trans ?_ (norm_at x0 x1 x2 x3 t j)
  unfold k0_pay6
  generalize k0_pay4 x0 x1 x2 x3 = y
  pointwise

theorem query_at (w : Vec Ideal S512x1024 .bf16) (h : Fin 8) (d : Fin 64) (t : Fin 512) :
    (k0_pay7 x0 x1 x2 x3 w (ix3 h d t) : EReal)
      = (∑ j : Fin 1024, w (ix2 (⟨h.val * 64 + d.val, by omega⟩ : Fin 512) j) * row x0 x1 x2 x3 t j) * Ideal.ofBits .f32 0x3E000000#32 := by
  refine Eq.trans ?_ (congrArg (fun a : EReal => a * Ideal.ofBits .f32 0x3E000000#32)
    (Finset.sum_congr rfl fun j _ => congrArg (fun a : EReal => w (ix2 (⟨h.val * 64 + d.val, by omega⟩ : Fin 512) j) * a) (cols_at x0 x1 x2 x3 t j)))
  unfold k0_pay7
  generalize k0_pay6 x0 x1 x2 x3 = y
  pointwise

theorem key_at (v : FVec Ideal S512x1024 .bf16) (w : Vec Ideal S1024x256 .bf16) (t : Fin 512) (n : Fin 256) :
    (k0_pay8 v w (ix2 t n) : EReal) = ∑ j : Fin 1024, v (ix2 t j) * w (ix2 j n) := by
  pointwise [k0_pay8]

theorem value_at (v : FVec Ideal S1024x512 .bf16) (w : Vec Ideal S128x1024 .bf16) (n : Fin 128) (t : Fin 512) :
    (k0_pay9 v w (ix2 n t) : EReal) = ∑ j : Fin 1024, w (ix2 n j) * v (ix2 j t) := by
  pointwise [k0_pay9]

end Pay

section Tile
variable (x0 : Vec Ideal S512x1024 .f32) (x1 : Vec Ideal S1x1024 .f32) (x2 x3 : Vec Ideal S1x1x1024 .f32) (x4 : Vec Ideal S512x1024 .bf16) (x5 : Vec Ideal S1024x256 .bf16)
  (x6 : Vec Ideal S128x1024 .bf16) (x7 x8 : Vec Ideal S1024x1024 .bf16) (x9 : Vec Ideal S512x1024 .bf16) (x10 : Vec Ideal S1024x128 .f32) (x11 : Vec Ideal S1024x2048 .bf16)

theorem ldx : View.ld x0 r0_0 = x0 := View.ld_unit_lit _ x0 (by decide)
theorem ldg : View.ld x1 r0_1 = x1 := View.ld_unit_lit _ x1 (by decide)
theorem ldm : View.ld x2 r0_2 = x2 := View.ld_unit_lit _ x2 (by decide)
theorem ldw : View.ld x4 r0_0 = x4 := View.ld_unit_lit _ x4 (by decide)

theorem qtile_at (h : Fin 8) (d : Fin 64) (t : Fin 512) :
    (out0_12 x0 x1 x2 x3 x4 x5 x6 x7 x8 x9 x10 x11 (ix3 h d t) : EReal)
      = (∑ j : Fin 1024, x4 (ix2 (⟨h.val * 64 + d.val, by omega⟩ : Fin 512) j) * row x0 x1 x2 x3 t j) * Ideal.ofBits .f32 0x3E000000#32 := by
  unfold out0_12
  rw [View.canon_cons_unit_zero (S := S8x64x512) (funext fun a => by fin_cases a <;> rfl) _ _ _, ldx, ldg, ldm, ldm, ldw]
  exact query_at x0 x1 x2 x3 x4 h d t

theorem ktile_at (t : Fin 512) (n : Fin 256) :
    (out0_13 x0 x1 x2 x3 x4 x5 x6 x7 x8 x9 x10 x11 (ix2 t n) : EReal) = ∑ j : Fin 1024, row x0 x1 x2 x3 t j * x5 (ix2 j n) := by
  have l5 : View.ld x5 r0_4 = x5 := View.ld_unit_lit _ x5 (by decide)
  unfold out0_13 k0_pay21
  rw [View.canon_cons_unit_zero (S := S512x256) (funext fun a => by fin_cases a <;> rfl) _ _ _, ldx, ldg, ldm, ldm, l5]
  exact (key_at _ x5 t n).trans (Finset.sum_congr rfl fun j _ => congrArg (fun a : EReal => a * x5 (ix2 j n)) (rows_at x0 x1 x2 x3 t j))

theorem vtile_at (n : Fin 128) (t : Fin 512) :
    (out0_14 x0 x1 x2 x3 x4 x5 x6 x7 x8 x9 x10 x11 (ix2 n t) : EReal) = ∑ j : Fin 1024, x6 (ix2 n j) * row x0 x1 x2 x3 t j := by
  have l6 : View.ld x6 r0_6 = x6 := View.ld_unit_lit _ x6 (by decide)
  unfold out0_14 k0_pay22
  rw [View.canon_cons_unit_zero (S := S128x512) (funext fun a => by fin_cases a <;> rfl) _ _ _, ldx, ldg, ldm, ldm, l6]
  exact (value_at _ x6 n t).trans (Finset.sum_congr rfl fun j _ => congrArg (fun a : EReal => x6 (ix2 n j) * a) (cols_at x0 x1 x2 x3 t j))

end Tile

theorem idx : ∀ t : Fin cfg0.N, win0_0.index t = ![t.val, 0] ∧ win0_1.index t = ![0, 0] ∧ win0_2.index t = ![t.val / 8, 0, 0] ∧ win0_3.index t = ![t.val / 8, 0, 0]
    ∧ win0_4.index t = ![0, 0] ∧ win0_5.index t = ![0, 0] ∧ win0_6.index t = ![0, 0]
    ∧ win0_12.index t = ![0, 0, t.val] ∧ win0_13.index t = ![t.val, 0] ∧ win0_14.index t = ![0, t.val] ∧ t.val < 32 :=
  (by decide +kernel : ∀ t : Fin grid0.N, _)

section Arrays
variable (m : (ℓ : Loc nD τ sig) → Buf (Elt Ideal) ℓ) (c : Dev nD) (t : Fin cfg0.N)

/-- The norm of a token over the arrays the call reads. -/
noncomputable def tok (n : Fin 16384) (j : Fin 1024) : EReal :=
  Spec.hidden (fun j => (V m c main_v0 : FVec Ideal S16384x1024 .f32) (ix2 n j)) (fun j => (V m c main_v34 : FVec Ideal S1x1024 .f32) (ix2 (0 : Fin 1) j))
    (fun j => (V m c main_v2 : FVec Ideal S4x1x1024 .f32) (ix3 (⟨n.val / 4096, by omega⟩ : Fin 4) (0 : Fin 1) j))
    (fun j => (V m c main_v1 : FVec Ideal S4x1x1024 .f32) (ix3 (⟨n.val / 4096, by omega⟩ : Fin 4) (0 : Fin 1) j)) j

theorem blk0 (u : Fin 512) (j : Fin 1024) (n : Fin 16384) (hn : n.val = 512 * t.val + u.val) :
    (iblk m c 0 t : FVec Ideal S512x1024 .f32) (ix2 u j) = (V m c main_v0 : FVec Ideal S16384x1024 .f32) (ix2 n j) := by
  blk_ext [iblk, idx t]
theorem blk1 : (iblk m c 1 t : FVec Ideal S1x1024 .f32) = V m c main_v34 := by blk_ext! [iblk, idx t]
theorem blk2 (j : Fin 1024) (b : Fin 4) (hb : b.val = t.val / 8) :
    (iblk m c 2 t : FVec Ideal S1x1x1024 .f32) (ix3 (0 : Fin 1) (0 : Fin 1) j) = (V m c main_v2 : FVec Ideal S4x1x1024 .f32) (ix3 b (0 : Fin 1) j) := by
  blk_ext [iblk, idx t]
theorem blk3 (j : Fin 1024) (b : Fin 4) (hb : b.val = t.val / 8) :
    (iblk m c 3 t : FVec Ideal S1x1x1024 .f32) (ix3 (0 : Fin 1) (0 : Fin 1) j) = (V m c main_v1 : FVec Ideal S4x1x1024 .f32) (ix3 b (0 : Fin 1) j) := by
  blk_ext [iblk, idx t]
theorem blk4 : (iblk m c 4 t : FVec Ideal S512x1024 .bf16) = V m c main_v6 := by blk_ext! [iblk, idx t]
theorem blk5 : (iblk m c 5 t : FVec Ideal S1024x256 .bf16) = V m c main_v11 := by blk_ext! [iblk, idx t]
theorem blk6 : (iblk m c 6 t : FVec Ideal S128x1024 .bf16) = V m c main_v14 := by blk_ext! [iblk, idx t]

theorem row_tok (u : Fin 512) (n : Fin 16384) (hn : n.val = 512 * t.val + u.val) :
    row (iblk m c 0 t) (iblk m c 1 t) (iblk m c 2 t) (iblk m c 3 t) u = tok m c n := by
  have hb : n.val / 4096 = t.val / 8 := by have := u.isLt; omega
  funext j
  unfold row tok
  rw [funext fun j => blk0 m c t u j n hn, blk1, funext fun j => blk2 m c t j (⟨n.val / 4096, by omega⟩ : Fin 4) hb, funext fun j => blk3 m c t j (⟨n.val / 4096, by omega⟩ : Fin 4) hb]

/-- The query weights the call reads. -/
noncomputable def wqA : FVec Ideal S512x1024 .bf16 := V m c main_v6

/-- The key weights the call reads. -/
noncomputable def wkA : FVec Ideal S1024x256 .bf16 := V m c main_v11

/-- The value weights the call reads. -/
noncomputable def wvA : FVec Ideal S128x1024 .bf16 := V m c main_v14

/-- The queries. -/
noncomputable def qArr : FVec Ideal S8x64x16384 .bf16 := fun i =>
  (∑ j : Fin 1024, wqA m c (ix2 (⟨(i 0).val * 64 + (i 1).val, by have h0 : (i 0).val < 8 := (i 0).isLt; have h1 : (i 1).val < 64 := (i 1).isLt; omega⟩ : Fin 512) j) * tok m c (i 2) j)
    * Ideal.ofBits .f32 0x3E000000#32

/-- The keys. -/
noncomputable def kArr : FVec Ideal S16384x256 .bf16 := fun i => ∑ j : Fin 1024, tok m c (i 0) j * wkA m c (ix2 j (i 1))

/-- The values. -/
noncomputable def vArr : FVec Ideal S128x16384 .bf16 := fun i => ∑ j : Fin 1024, wvA m c (ix2 (i 0) j) * tok m c (i 1) j

theorem q_point (y : S8x64x512.Idx) (i : S8x64x16384.Idx) (h0 : (i 0).val = (y 0).val) (h1 : (i 1).val = (y 1).val) (h2 : (i 2).val = 512 * t.val + (y 2).val) :
    (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y : EReal)
      = qArr m c i := by
  obtain ⟨u0, u1, u2, rfl⟩ : ∃ (u0 : Fin 8) (u1 : Fin 64) (u2 : Fin 512), y = ix3 u0 u1 u2 := ⟨y 0, y 1, y 2, by funext a; fin_cases a <;> rfl⟩
  obtain ⟨i0, i1, i2, rfl⟩ : ∃ (i0 : Fin 8) (i1 : Fin 64) (i2 : Fin 16384), i = ix3 i0 i1 i2 := ⟨i 0, i 1, i 2, by funext a; fin_cases a <;> rfl⟩
  obtain rfl : i0 = u0 := Fin.ext h0
  obtain rfl : i1 = u1 := Fin.ext h1
  refine (qtile_at _ _ _ _ _ _ _ _ _ _ _ _ i0 i1 u2).trans ?_
  rw [row_tok m c t u2 i2 h2, blk4]
  rfl

theorem k_point (y : S512x256.Idx) (i : S16384x256.Idx) (h0 : (i 0).val = 512 * t.val + (y 0).val) (h1 : (i 1).val = (y 1).val) :
    (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y : EReal)
      = kArr m c i := by
  obtain ⟨u0, u1, rfl⟩ : ∃ (u0 : Fin 512) (u1 : Fin 256), y = ix2 u0 u1 := ⟨y 0, y 1, by funext a; fin_cases a <;> rfl⟩
  obtain ⟨i0, i1, rfl⟩ : ∃ (i0 : Fin 16384) (i1 : Fin 256), i = ix2 i0 i1 := ⟨i 0, i 1, by funext a; fin_cases a <;> rfl⟩
  obtain rfl : i1 = u1 := Fin.ext h1
  refine (ktile_at _ _ _ _ _ _ _ _ _ _ _ _ u0 i1).trans ?_
  rw [row_tok m c t u0 i0 h0, blk5]
  rfl

theorem v_point (y : S128x512.Idx) (i : S128x16384.Idx) (h0 : (i 0).val = (y 0).val) (h1 : (i 1).val = 512 * t.val + (y 1).val) :
    (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y : EReal)
      = vArr m c i := by
  obtain ⟨u0, u1, rfl⟩ : ∃ (u0 : Fin 128) (u1 : Fin 512), y = ix2 u0 u1 := ⟨y 0, y 1, by funext a; fin_cases a <;> rfl⟩
  obtain ⟨i0, i1, rfl⟩ : ∃ (i0 : Fin 128) (i1 : Fin 16384), i = ix2 i0 i1 := ⟨i 0, i 1, by funext a; fin_cases a <;> rfl⟩
  obtain rfl : i0 = u0 := Fin.ext h0
  refine (vtile_at _ _ _ _ _ _ _ _ _ _ _ _ i0 u1).trans ?_
  rw [row_tok m c t u1 i1 h1, blk6]
  rfl

theorem q_final : (dats m 0 c).arrAt 12 cfg0.N = qArr m c := by
  refine (dats m 0 c).arrAt_eq_of_covers 12 _ (by decide +kernel) fun t _ y => ?_
  rw [after0_12]
  blk_simp
  exact q_point m c t y _ (by blk_simp [idx t]; try omega) (by blk_simp [idx t]; try omega) (by blk_simp [idx t]; try omega)

theorem k_final : (dats m 0 c).arrAt 13 cfg0.N = kArr m c := by
  refine (dats m 0 c).arrAt_eq_of_covers 13 _ (by decide +kernel) fun t _ y => ?_
  rw [after0_13]
  blk_simp
  exact k_point m c t y _ (by blk_simp [idx t]; try omega) (by blk_simp [idx t]; try omega)

theorem v_final : (dats m 0 c).arrAt 14 cfg0.N = vArr m c := by
  refine (dats m 0 c).arrAt_eq_of_covers 14 _ (by decide +kernel) fun t _ y => ?_
  rw [after0_14]
  blk_simp
  exact v_point m c t y _ (by blk_simp [idx t]; try omega) (by blk_simp [idx t]; try omega)

end Arrays

section Run
variable (m : (ℓ : Loc nD τ sig) → Buf (Elt Ideal) ℓ) (ρ : Dev nD → PrngReg)

/-- The run leaves the three arrays and its arguments. -/
theorem run : θ_run defs (onTc (τ := τ) (main (F := Ideal))) ⟨m, fun _ => 0, ρ⟩ fun r => ∀ c : Dev nD,
    r.2.mem ((c.tc : Thread nD τ).loc main_v35_0) = qArr m c
    ∧ r.2.mem ((c.tc : Thread nD τ).loc main_v35_1) = kArr m c
    ∧ r.2.mem ((c.tc : Thread nD τ).loc main_v35_2) = vArr m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun _ h c => ⟨((h.1 c).1 12).trans (q_final m c), ((h.1 c).1 13).trans (k_final m c), ((h.1 c).1 14).trans (v_final m c), h.2 c⟩)
    (θ_run_and (run_main m ρ) (unchanged m ρ))

end Run
end Cert.Kernel5Ideal.Swa
end
-- ==== Proof.SwaRead.lean ====
module

public import proofs.«01_k».proof.Proof.SwaIn
public import Idealize.ShloMosaic.Lib.KernelVsHost
public import Idealize.ShloMosaic.Lib.Claim
public import Idealize.ShloMosaic.Lib.StableHlo.RunRead

/-!
The window attention's queries, keys and values over the arguments.
-/

@[expose] public section
set_option maxHeartbeats 4000000
set_option maxRecDepth 16384
namespace Cert.Kernel5Ideal.Swa

open Idealize.ShloMosaic Idealize.ShloMosaic.TcCoe Idealize.ShloMosaic.Tactic
open Cert.Kernel5Ideal Cert.Kernel5Ideal.Gen

/-- The filling of the padded key lanes. -/
noncomputable def fill : FVec Ideal S_ .f32 := sitofp .f32 (constantI S_ 32 0#32)

theorem fill_eq (i) : (fill i : EReal) = 0 := by
  show ((((0#32 : BitVec 32).toInt : ℝ)) : EReal) = 0
  simp

/-- The key weights by head. -/
noncomputable def k3 (X : FVec Ideal S1x1024x4360 .f32) : FVec Ideal S1024x2x64 .f32 :=
  shapeCast S1024x2x64 (extractStridedSlice S1024x128 ![0, 512] (shapeCast S1024x4360 X shapeCasts_S1x1024x4360_S1024x4360) slices_S1024x4360_S1024x128_0_512) shapeCasts_S1024x128_S1024x2x64

/-- The key weights, each head padded. -/
noncomputable def wk (X : FVec Ideal S1x1024x4360 .f32) : FVec Ideal S1024x256 .bf16 :=
  truncf .bf16 (shapeCast S1024x256 (pad S1024x2x128 ![0, 0, 0] ![0, 0, 64] ![0, 0, 0] (k3 X) fill pads_S1024x2x64_S1024x2x128_000_000_0640 h_S_) shapeCasts_S1024x2x128_S1024x256) bitsLt_bf16_f32

theorem k3_at (X : FVec Ideal S1x1024x4360 .f32) (h : Fin 2) (d : Fin 64) (j : Fin 1024) :
    (k3 X (ix3 j h d) : EReal) = X (ix3 (0 : Fin 1) j (⟨512 + (h.val * 64 + d.val), by omega⟩ : Fin 4360)) := by
  pointwise [k3]

theorem wk_at (X : FVec Ideal S1x1024x4360 .f32) (h : Fin 2) (r : Fin 128) (j : Fin 1024) :
    (wk X (ix2 j (⟨h.val * 128 + r.val, by omega⟩ : Fin 256)) : EReal) = if r.val < 64 then X (ix3 (0 : Fin 1) j (⟨512 + (h.val * 64 + r.val), by omega⟩ : Fin 4360)) else 0 := by
  have e : (pad S1024x2x128 ![0, 0, 0] ![0, 0, 64] ![0, 0, 0] (k3 X) fill pads_S1024x2x64_S1024x2x128_000_000_0640 h_S_ (ix3 j h r) : EReal)
      = if r.val < 64 then X (ix3 (0 : Fin 1) j (⟨512 + (h.val * 64 + r.val), by omega⟩ : Fin 4360)) else 0 := by
    split
    · next hr => exact (pad_apply_of_inside ![0, 0, 0] ![0, 0, 64] ![0, 0, 0] _ fill _ _ (ix3 j h r) (ix3 j h (⟨r.val, hr⟩ : Fin 64)) (fun a => by fin_cases a <;> simp [ix3])).trans (k3_at X h _ j)
    · next hr => exact (pad_apply_of_not_inside (s := S1024x2x64) ![0, 0, 0] ![0, 0, 64] ![0, 0, 0] (k3 X) fill pads_S1024x2x64_S1024x2x128_000_000_0640 h_S_ (ix3 j h r) (2 : Fin 3) (fun hh => hr (by
        have h3 : (r.val - 0) / (0 + 1) < 64 := hh.2.2
        simpa using h3))).trans (fill_eq _)
  refine Eq.trans ?_ e
  unfold wk
  generalize pad S1024x2x128 ![0, 0, 0] ![0, 0, 64] ![0, 0, 0] (k3 X) fill pads_S1024x2x64_S1024x2x128_000_000_0640 h_S_ = Y
  pointwise

variable (m : (ℓ : Loc nD τ sig) → Buf (Elt Ideal) ℓ) (c : Dev nD)

theorem v0_eq : (V m c main_v0 : FVec Ideal S16384x1024 .f32) = shapeCast S16384x1024 ((m ((c.tc : Thread nD τ).loc main_arg0)) : FVec Ideal S4x4096x1024 .f32) shapeCasts_S4x4096x1024_S16384x1024 := by
  entry_read
  rfl

theorem v1_eq : (V m c main_v1 : FVec Ideal S4x1x1024 .f32) = shapeCast S4x1x1024 ((m ((c.tc : Thread nD τ).loc main_arg1)) : FVec Ideal S4x1024 .f32) shapeCasts_S4x1024_S4x1x1024 := by
  entry_read
  rfl

theorem v2_eq : (V m c main_v2 : FVec Ideal S4x1x1024 .f32) = shapeCast S4x1x1024 ((m ((c.tc : Thread nD τ).loc main_arg2)) : FVec Ideal S4x1024 .f32) shapeCasts_S4x1024_S4x1x1024 := by
  entry_read
  rfl

theorem v34_eq : (V m c main_v34 : FVec Ideal S1x1024 .f32) = shapeCast S1x1024 (shapeCast S1024 ((m ((c.tc : Thread nD τ).loc main_arg3)) : FVec Ideal S1x1024 .f32) shapeCasts_S1x1024_S1024) shapeCasts_S1024_S1x1024 := by
  entry_read
  rfl

/-- The query weights turned. -/
noncomputable def wq (X : FVec Ideal S1x1024x4360 .f32) : FVec Ideal S512x1024 .bf16 :=
  truncf .bf16 (transpose S512x1024 [1, 0] (extractStridedSlice S1024x512 ![0, 0] (shapeCast S1024x4360 X shapeCasts_S1x1024x4360_S1024x4360) slices_S1024x4360_S1024x512_0_0) transposes_S1024x512_S512x1024_1_0) bitsLt_bf16_f32

/-- The value weights turned. -/
noncomputable def wv (X : FVec Ideal S1x1024x4360 .f32) : FVec Ideal S128x1024 .bf16 :=
  truncf .bf16 (transpose S128x1024 [1, 0] (extractStridedSlice S1024x128 ![0, 640] (shapeCast S1024x4360 X shapeCasts_S1x1024x4360_S1024x4360) slices_S1024x4360_S1024x128_0_640) transposes_S1024x128_S128x1024_1_0) bitsLt_bf16_f32

theorem wqA_eq : wqA m c = wq (m ((c.tc : Thread nD τ).loc main_arg4)) := by
  show (V m c main_v6 : FVec Ideal S512x1024 .bf16) = _
  entry_read
  rfl

theorem wvA_eq : wvA m c = wv (m ((c.tc : Thread nD τ).loc main_arg4)) := by
  show (V m c main_v14 : FVec Ideal S128x1024 .bf16) = _
  entry_read
  rfl

theorem tokens_at (x : FVec Ideal S4x4096x1024 .f32) (b : Fin 4) (s : Fin 4096) (j : Fin 1024) :
    (shapeCast S16384x1024 x shapeCasts_S4x4096x1024_S16384x1024 (ix2 (⟨b.val * 4096 + s.val, by omega⟩ : Fin 16384) j) : EReal) = x (ix3 b s j) := by
  pointwise

theorem x_read (n : Fin 16384) (b : Fin 4) (s : Fin 4096) (hn : n.val = b.val * 4096 + s.val) (j : Fin 1024) :
    ((V m c main_v0 : FVec Ideal S16384x1024 .f32) (ix2 n j) : EReal) = ((m ((c.tc : Thread nD τ).loc main_arg0)) : FVec Ideal S4x4096x1024 .f32) (ix3 b s j) := by
  have e : n = (⟨b.val * 4096 + s.val, by omega⟩ : Fin 16384) := Fin.ext hn
  rw [v0_eq, e]
  exact tokens_at _ b s j

theorem sh_read (b : Fin 4) (j : Fin 1024) : ((V m c main_v1 : FVec Ideal S4x1x1024 .f32) (ix3 b (0 : Fin 1) j) : EReal) = ((m ((c.tc : Thread nD τ).loc main_arg1)) : FVec Ideal S4x1024 .f32) (ix2 b j) := by
  rw [v1_eq]
  pointwise

theorem sc_read (b : Fin 4) (j : Fin 1024) : ((V m c main_v2 : FVec Ideal S4x1x1024 .f32) (ix3 b (0 : Fin 1) j) : EReal) = ((m ((c.tc : Thread nD τ).loc main_arg2)) : FVec Ideal S4x1024 .f32) (ix2 b j) := by
  rw [v2_eq]
  pointwise

theorem g_read (j : Fin 1024) : ((V m c main_v34 : FVec Ideal S1x1024 .f32) (ix2 (0 : Fin 1) j) : EReal) = ((m ((c.tc : Thread nD τ).loc main_arg3)) : FVec Ideal S1x1024 .f32) (ix2 (0 : Fin 1) j) := by
  rw [v34_eq]
  pointwise

/-- The projection weights. -/
noncomputable def W : FVec Ideal S1x1024x4360 .f32 := (m ((c.tc : Thread nD τ).loc main_arg4))

theorem wq_read (n : Fin 512) (j : Fin 1024) : (wqA m c (ix2 n j) : EReal) = W m c (ix3 (0 : Fin 1) j (⟨n.val, by omega⟩ : Fin 4360)) := by
  have e : wqA m c = wq (W m c) := wqA_eq m c
  rw [e]
  pointwise [wq]

theorem wv_read (n : Fin 128) (j : Fin 1024) : (wvA m c (ix2 n j) : EReal) = W m c (ix3 (0 : Fin 1) j (⟨640 + n.val, by omega⟩ : Fin 4360)) := by
  have e : wvA m c = wv (W m c) := wvA_eq m c
  rw [e]
  pointwise [wv]

theorem wk_read : wkA m c = wk (W m c) := by
  show (V m c main_v11 : FVec Ideal S1024x256 .bf16) = _
  entry_read
  rfl

/-- A column of a token's projection over the arguments. -/
noncomputable def col (b : Fin 4) (s : Fin 4096) (n : Fin 4360) : EReal :=
  Spec.proj (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) b s n

theorem tok_sum (n : Fin 16384) (b : Fin 4) (s : Fin 4096) (hn : n.val = b.val * 4096 + s.val) (k : Fin 4360) :
    ∑ j : Fin 1024, tok m c n j * W m c (ix3 (0 : Fin 1) j k) = col m c b s k := by
  have hb : (⟨n.val / 4096, by omega⟩ : Fin 4) = b := Fin.ext (by show n.val / 4096 = b.val; omega)
  unfold tok col Spec.proj W
  rw [hb, funext (x_read m c n b s hn), funext (g_read m c), funext (sc_read m c b), funext (sh_read m c b)]

theorem q_at (n : Fin 16384) (b : Fin 4) (s : Fin 4096) (hn : n.val = b.val * 4096 + s.val) (h : Fin 8) (d : Fin 64) :
    (qArr m c (ix3 h d n) : EReal) = col m c b s (⟨h.val * 64 + d.val, by omega⟩ : Fin 4360) * Ideal.ofBits .f32 0x3E000000#32 := by
  rw [← tok_sum m c n b s hn]
  exact congrArg (fun a : EReal => a * Ideal.ofBits .f32 0x3E000000#32)
    (Finset.sum_congr rfl fun j _ => (mul_comm _ _).trans (congrArg (fun a : EReal => tok m c n j * a) (wq_read m c (⟨h.val * 64 + d.val, by omega⟩ : Fin 512) j)))

theorem v_at (n : Fin 16384) (b : Fin 4) (s : Fin 4096) (hn : n.val = b.val * 4096 + s.val) (r : Fin 128) :
    (vArr m c (ix2 r n) : EReal) = col m c b s (⟨640 + r.val, by omega⟩ : Fin 4360) := by
  rw [← tok_sum m c n b s hn]
  exact Finset.sum_congr rfl fun j _ => (mul_comm _ _).trans (congrArg (fun a : EReal => tok m c n j * a) (wv_read m c r j))

theorem k_at (n : Fin 16384) (b : Fin 4) (s : Fin 4096) (hn : n.val = b.val * 4096 + s.val) (h : Fin 2) (r : Fin 128) :
    (kArr m c (ix2 n (⟨h.val * 128 + r.val, by omega⟩ : Fin 256)) : EReal) = if r.val < 64 then col m c b s (⟨512 + (h.val * 64 + r.val), by omega⟩ : Fin 4360) else 0 := by
  have e : (kArr m c (ix2 n (⟨h.val * 128 + r.val, by omega⟩ : Fin 256)) : EReal)
      = ∑ j : Fin 1024, tok m c n j * (if r.val < 64 then (W m c (ix3 (0 : Fin 1) j (⟨512 + (h.val * 64 + r.val), by omega⟩ : Fin 4360)) : EReal) else 0) :=
    Finset.sum_congr rfl fun j _ => congrArg (fun a : EReal => tok m c n j * a) ((congrFun (wk_read m c) _).trans (wk_at _ h r j))
  rw [e]
  split
  · exact tok_sum m c n b s hn _
  · simp

end Cert.Kernel5Ideal.Swa
end
-- ==== Proof.SwaValue.lean ====
module

public import proofs.«01_k».proof.Defs
public import proofs.«01_k».proof.Proof.SwaRead
public import proofs.«01_k».proof.Proof.Gen.Kernel5
public import proofs.«01_k».proof.Proof.Gen.Kernel5.Frame
public import proofs.«01_k».proof.Proof.Gen.Kernel5Ideal
public import proofs.«01_k».proof.Proof.Gen.Reference5Ideal
public import proofs.«01_k».proof.Proof.Gen.Reference5Ideal.Run
public import Idealize.ShloMosaic.Lib.KernelVsHost
public import Idealize.ShloMosaic.Lib.Quiescent

/-!
The window attention's queries, keys and values: the reference at an index, the frames, and equal results.
-/

@[expose] public section
set_option maxHeartbeats 4000000
set_option maxRecDepth 16384

namespace Cert.Reference5Ideal.Swa

open Idealize.ShloMosaic Idealize.ShloMosaic.TcCoe Idealize.SL.Sem
open Cert.Reference5Ideal Cert.Reference5Ideal.Gen

/-- The modulated norm. -/
noncomputable def norm (x : FVec Ideal S4x4096x1024 .f32) (sh sc : FVec Ideal S4x1024 .f32) (g : FVec Ideal S1x1024 .f32) : FVec Ideal S4x4096x1024 .f32 :=
  addf
    (mulf
      (mulf
        (mulf x
          (broadcastInDim S4x4096x1024 ![0, 1, 2] bcast_S4x4096x1_S4x4096x1024_0_1_2
            (Host.rsqrt
              (addf
                (Host.divf
                  (broadcastInDim S4x4096x1 ![0, 1] bcast_S4x4096_S4x4096x1_0_1
                    (Host.reduceAdd (mulf x x) (constant S_ .f32 0x00000000#32) reducesTo_S4x4096x1024_S4x4096_d2 h_S_))
                  (broadcastInDim S4x4096x1 ![] bcast_S_S4x4096x1 (constant S_ .f32 0x44800000#32)))
                (broadcastInDim S4x4096x1 ![] bcast_S_S4x4096x1 (constant S_ .f32 0x358637BD#32))))))
        (broadcastInDim S4x4096x1024 ![0, 1, 2] bcast_S1x1x1024_S4x4096x1024_0_1_2
          (broadcastInDim S1x1x1024 ![2] bcast_S1024_S1x1x1024_2 (shapeCast S1024 g shapeCasts_S1x1024_S1024))))
      (broadcastInDim S4x4096x1024 ![0, 1, 2] bcast_S4x1x1024_S4x4096x1024_0_1_2
        (addf (broadcastInDim S4x1x1024 ![] bcast_S_S4x1x1024 (constant S_ .f32 0x3F800000#32))
          (broadcastInDim S4x1x1024 ![0, 2] bcast_S4x1024_S4x1x1024_0_2 sc))))
    (broadcastInDim S4x4096x1024 ![0, 1, 2] bcast_S4x1x1024_S4x4096x1024_0_1_2
      (broadcastInDim S4x1x1024 ![0, 2] bcast_S4x1024_S4x1x1024_0_2 sh))

/-- The columns of the window attention. -/
noncomputable def cols (h : FVec Ideal S4x4096x1024 .f32) (w : FVec Ideal S1x1024x4360 .f32) : FVec Ideal S4x4096x768 .f32 :=
  extractStridedSlice S4x4096x768 ![0, 0, 0]
    (Host.dotGeneral dot_S4x4096x1024_S1024x4360_S4x4096x4360_2_0_01_1_n_n none h (shapeCast S1024x4360 w shapeCasts_S1x1024x4360_S1024x4360)) slices_S4x4096x4360_S4x4096x768_0_0_0

/-- The queries. -/
noncomputable def q (p : FVec Ideal S4x4096x768 .f32) : FVec Ideal S8x64x16384 .bf16 :=
  truncf .bf16 (transpose S8x64x16384 [1, 2, 0]
    (shapeCast S16384x8x64 (mulf (extractStridedSlice S4x4096x512 ![0, 0, 0] p slices_S4x4096x768_S4x4096x512_0_0_0) (broadcastInDim S4x4096x512 ![] bcast_S_S4x4096x512 (constant S_ .f32 0x3E000000#32)))
      shapeCasts_S4x4096x512_S16384x8x64) transposes_S16384x8x64_S8x64x16384_1_2_0) bitsLt_bf16_f32

/-- The filling of the padded key lanes. -/
noncomputable def fill : FVec Ideal S_ .f32 := sitofp .f32 (constantI S_ 32 0#32)

/-- The keys by head. -/
noncomputable def k3 (p : FVec Ideal S4x4096x768 .f32) : FVec Ideal S16384x2x64 .f32 :=
  shapeCast S16384x2x64 (extractStridedSlice S4x4096x128 ![0, 0, 512] p slices_S4x4096x768_S4x4096x128_0_0_512) shapeCasts_S4x4096x128_S16384x2x64

/-- The keys, each head padded. -/
noncomputable def k (p : FVec Ideal S4x4096x768 .f32) : FVec Ideal S16384x256 .bf16 :=
  truncf .bf16 (shapeCast S16384x256 (pad S16384x2x128 ![0, 0, 0] ![0, 0, 64] ![0, 0, 0] (k3 p) fill pads_S16384x2x64_S16384x2x128_000_000_0640 h_S_) shapeCasts_S16384x2x128_S16384x256) bitsLt_bf16_f32

/-- The values. -/
noncomputable def v (p : FVec Ideal S4x4096x768 .f32) : FVec Ideal S128x16384 .bf16 :=
  truncf .bf16 (transpose S128x16384 [1, 0] (shapeCast S16384x128 (extractStridedSlice S4x4096x128 ![0, 0, 640] p slices_S4x4096x768_S4x4096x128_0_0_640) shapeCasts_S4x4096x128_S16384x128)
    transposes_S16384x128_S128x16384_1_0) bitsLt_bf16_f32

theorem norm_at (x : FVec Ideal S4x4096x1024 .f32) (sh sc : FVec Ideal S4x1024 .f32) (g : FVec Ideal S1x1024 .f32) (b : Fin 4) (s : Fin 4096) (j : Fin 1024) :
    (norm x sh sc g (ix3 b s j) : EReal)
      = Spec.hidden (fun j => x (ix3 b s j)) (fun j => g (ix2 (0 : Fin 1) j)) (fun j => sc (ix2 b j)) (fun j => sh (ix2 b j)) j := by
  pointwise [norm, Spec.hidden]

theorem cols_at (h : FVec Ideal S4x4096x1024 .f32) (w : FVec Ideal S1x1024x4360 .f32) (b : Fin 4) (s : Fin 4096) (n : Fin 768) :
    (cols h w (ix3 b s n) : EReal) = ∑ j : Fin 1024, h (ix3 b s j) * w (ix3 (0 : Fin 1) j (⟨n.val, by omega⟩ : Fin 4360)) := by
  pointwise [cols]

section At
variable (p : FVec Ideal S4x4096x768 .f32) (n : Fin 16384) (b : Fin 4) (s : Fin 4096) (hn : n.val = b.val * 4096 + s.val)
include hn

theorem q_at (h : Fin 8) (d : Fin 64) : (q p (ix3 h d n) : EReal) = p (ix3 b s (⟨h.val * 64 + d.val, by omega⟩ : Fin 768)) * Ideal.ofBits .f32 0x3E000000#32 := by
  have e : n = (⟨b.val * 4096 + s.val, by omega⟩ : Fin 16384) := Fin.ext hn
  rw [e]
  pointwise [q]

theorem k3_at (h : Fin 2) (d : Fin 64) : (k3 p (ix3 n h d) : EReal) = p (ix3 b s (⟨512 + (h.val * 64 + d.val), by omega⟩ : Fin 768)) := by
  have e : n = (⟨b.val * 4096 + s.val, by omega⟩ : Fin 16384) := Fin.ext hn
  rw [e]
  pointwise [k3]

theorem v_at (r : Fin 128) : (v p (ix2 r n) : EReal) = p (ix3 b s (⟨640 + r.val, by omega⟩ : Fin 768)) := by
  have e : n = (⟨b.val * 4096 + s.val, by omega⟩ : Fin 16384) := Fin.ext hn
  rw [e]
  pointwise [v]

theorem k_at (h : Fin 2) (r : Fin 128) :
    (k p (ix2 n (⟨h.val * 128 + r.val, by omega⟩ : Fin 256)) : EReal) = if hr : r.val < 64 then p (ix3 b s (⟨512 + (h.val * 64 + r.val), by omega⟩ : Fin 768)) else 0 := by
  have f0 : ∀ i, (fill i : EReal) = 0 := fun i => by
    show ((((0#32 : BitVec 32).toInt : ℝ)) : EReal) = 0
    simp
  have e : (pad S16384x2x128 ![0, 0, 0] ![0, 0, 64] ![0, 0, 0] (k3 p) fill pads_S16384x2x64_S16384x2x128_000_000_0640 h_S_ (ix3 n h r) : EReal)
      = if hr : r.val < 64 then p (ix3 b s (⟨512 + (h.val * 64 + r.val), by omega⟩ : Fin 768)) else 0 := by
    split
    · next hr => exact (pad_apply_of_inside ![0, 0, 0] ![0, 0, 64] ![0, 0, 0] _ fill _ _ (ix3 n h r) (ix3 n h (⟨r.val, hr⟩ : Fin 64)) (fun a => by fin_cases a <;> simp [ix3])).trans (k3_at p n b s hn h _)
    · next hr => exact (pad_apply_of_not_inside (s := S16384x2x64) ![0, 0, 0] ![0, 0, 64] ![0, 0, 0] (k3 p) fill pads_S16384x2x64_S16384x2x128_000_000_0640 h_S_ (ix3 n h r) (2 : Fin 3) (fun hh => hr (by
        have h3 : (r.val - 0) / (0 + 1) < 64 := hh.2.2
        simpa using h3))).trans (f0 _)
  refine Eq.trans ?_ e
  unfold k
  generalize pad S16384x2x128 ![0, 0, 0] ![0, 0, 64] ![0, 0, 0] (k3 p) fill pads_S16384x2x64_S16384x2x128_000_000_0640 h_S_ = Y
  pointwise

end At
end Cert.Reference5Ideal.Swa

namespace Cert.Proof

open Idealize.ShloMosaic Idealize.ShloMosaic.TcCoe Idealize.SL.Sem

/-- The window projection at machine floats runs, leaves its arguments and its semaphores. -/
theorem swa_frame_p : Cert.quiescent_Kernel5 (hKernel5 := Cert.Kernel5.Gen.facts) := fun m ρ _ => Cert.Kernel5.Gen.frame m ρ

/-- The window projection at the extended reals runs, leaves its arguments and its semaphores. -/
theorem swa_frame_pi : Cert.quiescent_Kernel5Ideal (hKernel5Ideal := Cert.Kernel5Ideal.Gen.facts) := fun m ρ _ => Cert.Kernel5Ideal.Gen.frame m ρ

/-- The reference of the window projection runs, leaves its arguments and its semaphores. -/
theorem swa_frame_ri : Cert.quiescent_Reference5Ideal (hReference5Ideal := Cert.Reference5Ideal.Gen.facts) := fun m g _ =>
  θ_run_and ((θ_run _ _ _).mono (fun _ h c => (h c).2.2.2) (Reference5Ideal.Value.run m g))
    ((θ_run _ _ _).mono (fun _ _ => sem_eq_zero_of_no_sems (sig := Cert.Reference5Ideal.sig) (by decide) _) (Reference5Ideal.Value.run m g))

/-- The idealized window projection is the window projection. -/
theorem swa_preserves : Cert.preserves_Kernel5_Kernel5Ideal := trivial

section Equal
variable (m : (ℓ : Loc Kernel5Ideal.nD Kernel5Ideal.τ Kernel5Ideal.sig) → Buf (Elt Ideal) ℓ) (c : Dev Kernel5Ideal.nD)

/-- The reference's columns over the kernel's arguments. -/
noncomputable def swaP : FVec Ideal Reference5Ideal.S4x4096x768 .f32 :=
  Reference5Ideal.Swa.cols (Reference5Ideal.Swa.norm (m ((c.tc : Thread Kernel5Ideal.nD Kernel5Ideal.τ).loc Kernel5Ideal.main_arg0)) (m ((c.tc : Thread Kernel5Ideal.nD Kernel5Ideal.τ).loc Kernel5Ideal.main_arg1))
    (m ((c.tc : Thread Kernel5Ideal.nD Kernel5Ideal.τ).loc Kernel5Ideal.main_arg2)) (m ((c.tc : Thread Kernel5Ideal.nD Kernel5Ideal.τ).loc Kernel5Ideal.main_arg3)))
    (m ((c.tc : Thread Kernel5Ideal.nD Kernel5Ideal.τ).loc Kernel5Ideal.main_arg4))

theorem swaP_at (b : Fin 4) (s : Fin 4096) (n : Fin 768) : (swaP m c (ix3 b s n) : EReal) = Kernel5Ideal.Swa.col m c b s (⟨n.val, by omega⟩ : Fin 4360) := by
  unfold swaP Kernel5Ideal.Swa.col Spec.proj
  rw [Reference5Ideal.Swa.cols_at, Finset.sum_congr rfl fun j _ => congrArg (fun a : EReal => a * _) (Reference5Ideal.Swa.norm_at _ _ _ _ b s j)]

theorem tok_parts (n : Fin 16384) : ∃ (b : Fin 4) (s : Fin 4096), n.val = b.val * 4096 + s.val :=
  ⟨⟨n.val / 4096, by omega⟩, ⟨n.val % 4096, by omega⟩, by show n.val = n.val / 4096 * 4096 + n.val % 4096; omega⟩

theorem swa_q : Reference5Ideal.Swa.q (swaP m c) = Kernel5Ideal.Swa.qArr m c := by
  funext i
  obtain ⟨h, d, n, rfl⟩ : ∃ (h : Fin 8) (d : Fin 64) (n : Fin 16384), i = ix3 h d n := ⟨i 0, i 1, i 2, by funext a; fin_cases a <;> rfl⟩
  obtain ⟨b, s, hn⟩ := tok_parts n
  refine (Reference5Ideal.Swa.q_at _ n b s hn h d).trans (Eq.trans ?_ (Kernel5Ideal.Swa.q_at m c n b s hn h d).symm)
  rw [swaP_at]

theorem swa_v : Reference5Ideal.Swa.v (swaP m c) = Kernel5Ideal.Swa.vArr m c := by
  funext i
  obtain ⟨r, n, rfl⟩ : ∃ (r : Fin 128) (n : Fin 16384), i = ix2 r n := ⟨i 0, i 1, by funext a; fin_cases a <;> rfl⟩
  obtain ⟨b, s, hn⟩ := tok_parts n
  exact (Reference5Ideal.Swa.v_at _ n b s hn r).trans ((swaP_at m c b s _).trans (Kernel5Ideal.Swa.v_at m c n b s hn r).symm)

theorem swa_k : Reference5Ideal.Swa.k (swaP m c) = Kernel5Ideal.Swa.kArr m c := by
  funext i
  obtain ⟨n, e, rfl⟩ : ∃ (n : Fin 16384) (e : Fin 256), i = ix2 n e := ⟨i 0, i 1, by funext a; fin_cases a <;> rfl⟩
  obtain ⟨b, s, hn⟩ := tok_parts n
  obtain ⟨h, r, he⟩ : ∃ (h : Fin 2) (r : Fin 128), e = (⟨h.val * 128 + r.val, by omega⟩ : Fin 256) :=
    ⟨⟨e.val / 128, by omega⟩, ⟨e.val % 128, by omega⟩, Fin.ext (by show e.val = e.val / 128 * 128 + e.val % 128; omega)⟩
  rw [he]
  refine (Reference5Ideal.Swa.k_at _ n b s hn h r).trans (Eq.trans ?_ (Kernel5Ideal.Swa.k_at m c n b s hn h r).symm)
  split
  · exact swaP_at m c b s _
  · rfl

end Equal

theorem swa_value : Cert.algebraic_Kernel5Ideal_Reference5Ideal (hKernel5Ideal := Cert.Kernel5Ideal.Gen.facts) (hReference5Ideal := Cert.Reference5Ideal.Gen.facts) := by
  intro m g m' g' _ hagree
  refine ⟨fun c => Kernel5Ideal.Swa.qArr m c, fun c => Kernel5Ideal.Swa.kArr m c, fun c => Kernel5Ideal.Swa.vArr m c, Kernel5Ideal.Swa.run m g,
    (θ_run _ _ _).mono (fun s h c => ?_) (Reference5Ideal.Value.run m' g')⟩
  obtain ⟨h0, h1, h2, ha⟩ := h c
  obtain ⟨a0, a1, a2, a3, a4⟩ := hagree c
  refine ⟨h0.trans (Eq.trans ?_ (swa_q m c)), h1.trans (Eq.trans ?_ (swa_k m c)), h2.trans (Eq.trans ?_ (swa_v m c)), ha⟩ <;>
  · rw [a0, a1, a2, a3, a4]
    rfl

end Cert.Proof
end
-- ==== Proof.lean ====
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Reference5Ideal
public import proofs.«01_k».proof.Proof.Gen.Reference5Ideal.Run
public import proofs.«01_k».proof.Proof.Frames
public import proofs.«01_k».proof.Proof.Value
public import proofs.«01_k».proof.Proof.MixValue
public import proofs.«01_k».proof.Proof.FinalValue
public import proofs.«01_k».proof.Proof.AdaValue
public import proofs.«01_k».proof.Proof.SwaValue

@[expose] public section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.Val.facts,
  frame_p, frame_pi, fun m g _ => frame_pi m g trivial, frame_ri, fun m g _ => frame_ri m g trivial, mix_frame_p, mix_frame_pi, mix_frame_ri,
  final_frame_p, final_frame_pi, final_frame_ri, ada_frame_p, ada_frame_pi, ada_frame_ri, swa_frame_p, swa_frame_pi, swa_frame_ri,
  preserves, value, mix_preserves, mix_value, final_preserves, final_value, ada_preserves, ada_value, swa_preserves, swa_value⟩

end Cert.Proof

end
